-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_AdaA (m : (ℓ : Loc Cert.AdaA.nD Cert.AdaA.τ Cert.AdaA.sig) → Buf (Elt Bits) ℓ) : Prop :=
  True

def Pre_AdaAIdeal (m : (ℓ : Loc Cert.AdaAIdeal.nD Cert.AdaAIdeal.τ Cert.AdaAIdeal.sig) → Buf (Elt Ideal) ℓ) : Prop :=
  True

def Pre_AdaARefIdeal (m : (ℓ : Loc Cert.AdaARefIdeal.nD Cert.AdaARefIdeal.τ Cert.AdaARefIdeal.sig) → Buf (Elt Ideal) ℓ) : Prop :=
  True

def Pre_AdaB (m : (ℓ : Loc Cert.AdaB.nD Cert.AdaB.τ Cert.AdaB.sig) → Buf (Elt Bits) ℓ) : Prop :=
  True

def Pre_AdaBIdeal (m : (ℓ : Loc Cert.AdaBIdeal.nD Cert.AdaBIdeal.τ Cert.AdaBIdeal.sig) → Buf (Elt Ideal) ℓ) : Prop :=
  True

def Pre_AdaBRefIdeal (m : (ℓ : Loc Cert.AdaBRefIdeal.nD Cert.AdaBRefIdeal.τ Cert.AdaBRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_route [hPre_finite_route : Cert.Pre_finite_route.Facts] (m : (ℓ : Loc Cert.RouteIdeal.nD Cert.RouteIdeal.τ Cert.RouteIdeal.sig) → Buf (Elt Ideal) ℓ) : Prop :=
  ∀ c : Dev Cert.RouteIdeal.nD,
    (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_route [hPre_finite_route : Cert.Pre_finite_route.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4)
      ∧ r.2.mem ((c.tc : Thread Cert.MixedRefIdeal.nD Cert.MixedRefIdeal.τ).loc Cert.MixedRefIdeal.main_arg5) = m ((c.tc : Thread Cert.MixedRefIdeal.nD Cert.MixedRefIdeal.τ).loc Cert.MixedRefIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5)
      ∧ r.2.mem ((c.tc : Thread Cert.Glu.nD Cert.Glu.τ).loc Cert.Glu.main_arg6) = m ((c.tc : Thread Cert.Glu.nD Cert.Glu.τ).loc Cert.Glu.main_arg6)
      ∧ r.2.mem ((c.tc : Thread Cert.Glu.nD Cert.Glu.τ).loc Cert.Glu.main_arg7) = m ((c.tc : Thread Cert.Glu.nD Cert.Glu.τ).loc Cert.Glu.main_arg7)
      ∧ r.2.mem ((c.tc : Thread Cert.Glu.nD Cert.Glu.τ).loc Cert.Glu.main_arg8) = m ((c.tc : Thread Cert.Glu.nD Cert.Glu.τ).loc Cert.Glu.main_arg8))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
      ∧ r.2.mem ((c.tc : Thread Cert.GluIdeal.nD Cert.GluIdeal.τ).loc Cert.GluIdeal.main_arg6) = m ((c.tc : Thread Cert.GluIdeal.nD Cert.GluIdeal.τ).loc Cert.GluIdeal.main_arg6)
      ∧ r.2.mem ((c.tc : Thread Cert.GluIdeal.nD Cert.GluIdeal.τ).loc Cert.GluIdeal.main_arg7) = m ((c.tc : Thread Cert.GluIdeal.nD Cert.GluIdeal.τ).loc Cert.GluIdeal.main_arg7)
      ∧ r.2.mem ((c.tc : Thread Cert.GluIdeal.nD Cert.GluIdeal.τ).loc Cert.GluIdeal.main_arg8) = m ((c.tc : Thread Cert.GluIdeal.nD Cert.GluIdeal.τ).loc Cert.GluIdeal.main_arg8))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5)
      ∧ r.2.mem ((c.tc : Thread Cert.GluRefIdeal.nD Cert.GluRefIdeal.τ).loc Cert.GluRefIdeal.main_arg6) = m ((c.tc : Thread Cert.GluRefIdeal.nD Cert.GluRefIdeal.τ).loc Cert.GluRefIdeal.main_arg6)
      ∧ r.2.mem ((c.tc : Thread Cert.GluRefIdeal.nD Cert.GluRefIdeal.τ).loc Cert.GluRefIdeal.main_arg7) = m ((c.tc : Thread Cert.GluRefIdeal.nD Cert.GluRefIdeal.τ).loc Cert.GluRefIdeal.main_arg7)
      ∧ r.2.mem ((c.tc : Thread Cert.GluRefIdeal.nD Cert.GluRefIdeal.τ).loc Cert.GluRefIdeal.main_arg8) = m ((c.tc : Thread Cert.GluRefIdeal.nD Cert.GluRefIdeal.τ).loc Cert.GluRefIdeal.main_arg8))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_AdaA [hAdaA : Cert.AdaA.Facts] : Prop :=
  ∀ (m : (ℓ : Loc Cert.AdaA.nD Cert.AdaA.τ Cert.AdaA.sig) → Buf (Elt Bits) ℓ) (g : Dev Cert.AdaA.nD → PrngReg), Pre_AdaA m →
    θ_run (Cert.AdaA.defs (F := Bits)) (onTc (τ := Cert.AdaA.τ) (Cert.AdaA.main (F := Bits))) ⟨m, fun _ => 0, g⟩ (fun r => (∀ c : Dev Cert.AdaA.nD,
      r.2.mem ((c.tc : Thread Cert.AdaA.nD Cert.AdaA.τ).loc Cert.AdaA.main_arg0) = m ((c.tc : Thread Cert.AdaA.nD Cert.AdaA.τ).loc Cert.AdaA.main_arg0)
      ∧ r.2.mem ((c.tc : Thread Cert.AdaA.nD Cert.AdaA.τ).loc Cert.AdaA.main_arg1) = m ((c.tc : Thread Cert.AdaA.nD Cert.AdaA.τ).loc Cert.AdaA.main_arg1)
      ∧ r.2.mem ((c.tc : Thread Cert.AdaA.nD Cert.AdaA.τ).loc Cert.AdaA.main_arg2) = m ((c.tc : Thread Cert.AdaA.nD Cert.AdaA.τ).loc Cert.AdaA.main_arg2))
      ∧ r.2.sem = fun _ => 0)

def quiescent_AdaAIdeal [hAdaAIdeal : Cert.AdaAIdeal.Facts] : Prop :=
  ∀ (m : (ℓ : Loc Cert.AdaAIdeal.nD Cert.AdaAIdeal.τ Cert.AdaAIdeal.sig) → Buf (Elt Ideal) ℓ) (g : Dev Cert.AdaAIdeal.nD → PrngReg), Pre_AdaAIdeal m →
    θ_run (Cert.AdaAIdeal.defs (F := Ideal)) (onTc (τ := Cert.AdaAIdeal.τ) (Cert.AdaAIdeal.main (F := Ideal))) ⟨m, fun _ => 0, g⟩ (fun r => (∀ c : Dev Cert.AdaAIdeal.nD,
      r.2.mem ((c.tc : Thread Cert.AdaAIdeal.nD Cert.AdaAIdeal.τ).loc Cert.AdaAIdeal.main_arg0) = m ((c.tc : Thread Cert.AdaAIdeal.nD Cert.AdaAIdeal.τ).loc Cert.AdaAIdeal.main_arg0)
      ∧ r.2.mem ((c.tc : Thread Cert.AdaAIdeal.nD Cert.AdaAIdeal.τ).loc Cert.AdaAIdeal.main_arg1) = m ((c.tc : Thread Cert.AdaAIdeal.nD Cert.AdaAIdeal.τ).loc Cert.AdaAIdeal.main_arg1)
      ∧ r.2.mem ((c.tc : Thread Cert.AdaAIdeal.nD Cert.AdaAIdeal.τ).loc Cert.AdaAIdeal.main_arg2) = m ((c.tc : Thread Cert.AdaAIdeal.nD Cert.AdaAIdeal.τ).loc Cert.AdaAIdeal.main_arg2))
      ∧ r.2.sem = fun _ => 0)

def quiescent_AdaARefIdeal [hAdaARefIdeal : Cert.AdaARefIdeal.Facts] : Prop :=
  ∀ (m : (ℓ : Loc Cert.AdaARefIdeal.nD Cert.AdaARefIdeal.τ Cert.AdaARefIdeal.sig) → Buf (Elt Ideal) ℓ) (g : Dev Cert.AdaARefIdeal.nD → PrngReg), Pre_AdaARefIdeal m →
    θ_run (Cert.AdaARefIdeal.defs (F := Ideal)) (onTc (τ := Cert.AdaARefIdeal.τ) (Cert.AdaARefIdeal.main (F := Ideal))) ⟨m, fun _ => 0, g⟩ (fun r => (∀ c : Dev Cert.AdaARefIdeal.nD,
      r.2.mem ((c.tc : Thread Cert.AdaARefIdeal.nD Cert.AdaARefIdeal.τ).loc Cert.AdaARefIdeal.main_arg0) = m ((c.tc : Thread Cert.AdaARefIdeal.nD Cert.AdaARefIdeal.τ).loc Cert.AdaARefIdeal.main_arg0)
      ∧ r.2.mem ((c.tc : Thread Cert.AdaARefIdeal.nD Cert.AdaARefIdeal.τ).loc Cert.AdaARefIdeal.main_arg1) = m ((c.tc : Thread Cert.AdaARefIdeal.nD Cert.AdaARefIdeal.τ).loc Cert.AdaARefIdeal.main_arg1)
      ∧ r.2.mem ((c.tc : Thread Cert.AdaARefIdeal.nD Cert.AdaARefIdeal.τ).loc Cert.AdaARefIdeal.main_arg2) = m ((c.tc : Thread Cert.AdaARefIdeal.nD Cert.AdaARefIdeal.τ).loc Cert.AdaARefIdeal.main_arg2))
      ∧ r.2.sem = fun _ => 0)

def quiescent_AdaB [hAdaB : Cert.AdaB.Facts] : Prop :=
  ∀ (m : (ℓ : Loc Cert.AdaB.nD Cert.AdaB.τ Cert.AdaB.sig) → Buf (Elt Bits) ℓ) (g : Dev Cert.AdaB.nD → PrngReg), Pre_AdaB m →
    θ_run (Cert.AdaB.defs (F := Bits)) (onTc (τ := Cert.AdaB.τ) (Cert.AdaB.main (F := Bits))) ⟨m, fun _ => 0, g⟩ (fun r => (∀ c : Dev Cert.AdaB.nD,
      r.2.mem ((c.tc : Thread Cert.AdaB.nD Cert.AdaB.τ).loc Cert.AdaB.main_arg0) = m ((c.tc : Thread Cert.AdaB.nD Cert.AdaB.τ).loc Cert.AdaB.main_arg0)
      ∧ r.2.mem ((c.tc : Thread Cert.AdaB.nD Cert.AdaB.τ).loc Cert.AdaB.main_arg1) = m ((c.tc : Thread Cert.AdaB.nD Cert.AdaB.τ).loc Cert.AdaB.main_arg1)
      ∧ r.2.mem ((c.tc : Thread Cert.AdaB.nD Cert.AdaB.τ).loc Cert.AdaB.main_arg2) = m ((c.tc : Thread Cert.AdaB.nD Cert.AdaB.τ).loc Cert.AdaB.main_arg2))
      ∧ r.2.sem = fun _ => 0)

def quiescent_AdaBIdeal [hAdaBIdeal : Cert.AdaBIdeal.Facts] : Prop :=
  ∀ (m : (ℓ : Loc Cert.AdaBIdeal.nD Cert.AdaBIdeal.τ Cert.AdaBIdeal.sig) → Buf (Elt Ideal) ℓ) (g : Dev Cert.AdaBIdeal.nD → PrngReg), Pre_AdaBIdeal m →
    θ_run (Cert.AdaBIdeal.defs (F := Ideal)) (onTc (τ := Cert.AdaBIdeal.τ) (Cert.AdaBIdeal.main (F := Ideal))) ⟨m, fun _ => 0, g⟩ (fun r => (∀ c : Dev Cert.AdaBIdeal.nD,
      r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
      ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
      ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ r.2.sem = fun _ => 0)

def quiescent_AdaBRefIdeal [hAdaBRefIdeal : Cert.AdaBRefIdeal.Facts] : Prop :=
  ∀ (m : (ℓ : Loc Cert.AdaBRefIdeal.nD Cert.AdaBRefIdeal.τ Cert.AdaBRefIdeal.sig) → Buf (Elt Ideal) ℓ) (g : Dev Cert.AdaBRefIdeal.nD → PrngReg), Pre_AdaBRefIdeal m →
    θ_run (Cert.AdaBRefIdeal.defs (F := Ideal)) (onTc (τ := Cert.AdaBRefIdeal.τ) (Cert.AdaBRefIdeal.main (F := Ideal))) ⟨m, fun _ => 0, g⟩ (fun r => (∀ c : Dev Cert.AdaBRefIdeal.nD,
      r.2.mem ((c.tc : Thread Cert.AdaBRefIdeal.nD Cert.AdaBRefIdeal.τ).loc Cert.AdaBRefIdeal.main_arg0) = m ((c.tc : Thread Cert.AdaBRefIdeal.nD Cert.AdaBRefIdeal.τ).loc Cert.AdaBRefIdeal.main_arg0)
      ∧ r.2.mem ((c.tc : Thread Cert.AdaBRefIdeal.nD Cert.AdaBRefIdeal.τ).loc Cert.AdaBRefIdeal.main_arg1) = m ((c.tc : Thread Cert.AdaBRefIdeal.nD Cert.AdaBRefIdeal.τ).loc Cert.AdaBRefIdeal.main_arg1)
      ∧ r.2.mem ((c.tc : Thread Cert.AdaBRefIdeal.nD Cert.AdaBRefIdeal.τ).loc Cert.AdaBRefIdeal.main_arg2) = m ((c.tc : Thread Cert.AdaBRefIdeal.nD Cert.AdaBRefIdeal.τ).loc Cert.AdaBRefIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_finite_route [hRouteIdeal : Cert.RouteIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_route m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_RouteRefIdeal_pre_finite_route [hRouteRefIdeal : Cert.RouteRefIdeal.Facts] [hPre_finite_route : Cert.Pre_finite_route.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_route m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)
      ∧ m' ((c.tc : Thread Cert.MixedRefIdeal.nD Cert.MixedRefIdeal.τ).loc Cert.MixedRefIdeal.main_arg3) = m ((c.tc : Thread Cert.MixedIdeal.nD Cert.MixedIdeal.τ).loc Cert.MixedIdeal.main_arg3)
      ∧ m' ((c.tc : Thread Cert.MixedRefIdeal.nD Cert.MixedRefIdeal.τ).loc Cert.MixedRefIdeal.main_arg4) = m ((c.tc : Thread Cert.MixedIdeal.nD Cert.MixedIdeal.τ).loc Cert.MixedIdeal.main_arg4)
      ∧ m' ((c.tc : Thread Cert.MixedRefIdeal.nD Cert.MixedRefIdeal.τ).loc Cert.MixedRefIdeal.main_arg5) = m ((c.tc : Thread Cert.MixedIdeal.nD Cert.MixedIdeal.τ).loc Cert.MixedIdeal.main_arg5)) →
    ∃ (v0 : (c : Dev Cert.MixedIdeal.nD) → Buf (Elt Ideal) ((c.tc : Thread Cert.MixedIdeal.nD Cert.MixedIdeal.τ).loc Cert.MixedIdeal.main_v9_0)) (v1 : (c : Dev Cert.MixedIdeal.nD) → Buf (Elt Ideal) ((c.tc : Thread Cert.MixedIdeal.nD Cert.MixedIdeal.τ).loc Cert.MixedIdeal.main_v9_1)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v9_0) = v0 c
          ∧ r.2.mem ((c.tc : Thread Cert.MixedIdeal.nD Cert.MixedIdeal.τ).loc Cert.MixedIdeal.main_v9_1) = v1 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v36) = v0 c
          ∧ r.2.mem ((c.tc : Thread Cert.MixedRefIdeal.nD Cert.MixedRefIdeal.τ).loc Cert.MixedRefIdeal.main_v47) = v1 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4)
          ∧ r.2.mem ((c.tc : Thread Cert.MixedRefIdeal.nD Cert.MixedRefIdeal.τ).loc Cert.MixedRefIdeal.main_arg5) = m' ((c.tc : Thread Cert.MixedRefIdeal.nD Cert.MixedRefIdeal.τ).loc Cert.MixedRefIdeal.main_arg5))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)
      ∧ m' ((c.tc : Thread Cert.GluRefIdeal.nD Cert.GluRefIdeal.τ).loc Cert.GluRefIdeal.main_arg5) = m ((c.tc : Thread Cert.GluIdeal.nD Cert.GluIdeal.τ).loc Cert.GluIdeal.main_arg5)
      ∧ m' ((c.tc : Thread Cert.GluRefIdeal.nD Cert.GluRefIdeal.τ).loc Cert.GluRefIdeal.main_arg6) = m ((c.tc : Thread Cert.GluIdeal.nD Cert.GluIdeal.τ).loc Cert.GluIdeal.main_arg6)
      ∧ m' ((c.tc : Thread Cert.GluRefIdeal.nD Cert.GluRefIdeal.τ).loc Cert.GluRefIdeal.main_arg7) = m ((c.tc : Thread Cert.GluIdeal.nD Cert.GluIdeal.τ).loc Cert.GluIdeal.main_arg7)
      ∧ m' ((c.tc : Thread Cert.GluRefIdeal.nD Cert.GluRefIdeal.τ).loc Cert.GluRefIdeal.main_arg8) = m ((c.tc : Thread Cert.GluIdeal.nD Cert.GluIdeal.τ).loc Cert.GluIdeal.main_arg8)) →
    ∃ (v0 : (c : Dev Cert.GluIdeal.nD) → Buf (Elt Ideal) ((c.tc : Thread Cert.GluIdeal.nD Cert.GluIdeal.τ).loc Cert.GluIdeal.main_v10_0)) (v1 : (c : Dev Cert.GluIdeal.nD) → Buf (Elt Ideal) ((c.tc : Thread Cert.GluIdeal.nD Cert.GluIdeal.τ).loc Cert.GluIdeal.main_v10_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v10_0) = v0 c
          ∧ r.2.mem ((c.tc : Thread Cert.GluIdeal.nD Cert.GluIdeal.τ).loc Cert.GluIdeal.main_v10_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
          ∧ r.2.mem ((c.tc : Thread Cert.GluIdeal.nD Cert.GluIdeal.τ).loc Cert.GluIdeal.main_arg6) = m ((c.tc : Thread Cert.GluIdeal.nD Cert.GluIdeal.τ).loc Cert.GluIdeal.main_arg6)
          ∧ r.2.mem ((c.tc : Thread Cert.GluIdeal.nD Cert.GluIdeal.τ).loc Cert.GluIdeal.main_arg7) = m ((c.tc : Thread Cert.GluIdeal.nD Cert.GluIdeal.τ).loc Cert.GluIdeal.main_arg7)
          ∧ r.2.mem ((c.tc : Thread Cert.GluIdeal.nD Cert.GluIdeal.τ).loc Cert.GluIdeal.main_arg8) = m ((c.tc : Thread Cert.GluIdeal.nD Cert.GluIdeal.τ).loc Cert.GluIdeal.main_arg8))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v160) = v0 c
          ∧ r.2.mem ((c.tc : Thread Cert.GluRefIdeal.nD Cert.GluRefIdeal.τ).loc Cert.GluRefIdeal.main_v162) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5)
          ∧ r.2.mem ((c.tc : Thread Cert.GluRefIdeal.nD Cert.GluRefIdeal.τ).loc Cert.GluRefIdeal.main_arg6) = m' ((c.tc : Thread Cert.GluRefIdeal.nD Cert.GluRefIdeal.τ).loc Cert.GluRefIdeal.main_arg6)
          ∧ r.2.mem ((c.tc : Thread Cert.GluRefIdeal.nD Cert.GluRefIdeal.τ).loc Cert.GluRefIdeal.main_arg7) = m' ((c.tc : Thread Cert.GluRefIdeal.nD Cert.GluRefIdeal.τ).loc Cert.GluRefIdeal.main_arg7)
          ∧ r.2.mem ((c.tc : Thread Cert.GluRefIdeal.nD Cert.GluRefIdeal.τ).loc Cert.GluRefIdeal.main_arg8) = m' ((c.tc : Thread Cert.GluRefIdeal.nD Cert.GluRefIdeal.τ).loc Cert.GluRefIdeal.main_arg8))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v7)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v7) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v36) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v7)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v7) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v75) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_AdaA_AdaAIdeal : Prop :=
  True

def algebraic_AdaAIdeal_AdaARefIdeal [hAdaAIdeal : Cert.AdaAIdeal.Facts] [hAdaARefIdeal : Cert.AdaARefIdeal.Facts] : Prop :=
  ∀ (m : (ℓ : Loc Cert.AdaAIdeal.nD Cert.AdaAIdeal.τ Cert.AdaAIdeal.sig) → Buf (Elt Ideal) ℓ) (g : Dev Cert.AdaAIdeal.nD → PrngReg)
    (m' : (ℓ : Loc Cert.AdaARefIdeal.nD Cert.AdaARefIdeal.τ Cert.AdaARefIdeal.sig) → Buf (Elt Ideal) ℓ) (g' : Dev Cert.AdaARefIdeal.nD → PrngReg), Pre_AdaAIdeal m →
    (∀ c : Dev Cert.AdaAIdeal.nD,
      m' ((c.tc : Thread Cert.AdaARefIdeal.nD Cert.AdaARefIdeal.τ).loc Cert.AdaARefIdeal.main_arg0) = m ((c.tc : Thread Cert.AdaAIdeal.nD Cert.AdaAIdeal.τ).loc Cert.AdaAIdeal.main_arg0)
      ∧ m' ((c.tc : Thread Cert.AdaARefIdeal.nD Cert.AdaARefIdeal.τ).loc Cert.AdaARefIdeal.main_arg1) = m ((c.tc : Thread Cert.AdaAIdeal.nD Cert.AdaAIdeal.τ).loc Cert.AdaAIdeal.main_arg1)
      ∧ m' ((c.tc : Thread Cert.AdaARefIdeal.nD Cert.AdaARefIdeal.τ).loc Cert.AdaARefIdeal.main_arg2) = m ((c.tc : Thread Cert.AdaAIdeal.nD Cert.AdaAIdeal.τ).loc Cert.AdaAIdeal.main_arg2)) →
    ∃ (v0 : (c : Dev Cert.AdaAIdeal.nD) → Buf (Elt Ideal) ((c.tc : Thread Cert.AdaAIdeal.nD Cert.AdaAIdeal.τ).loc Cert.AdaAIdeal.main_v1)),
      θ_run (Cert.AdaAIdeal.defs (F := Ideal)) (onTc (τ := Cert.AdaAIdeal.τ) (Cert.AdaAIdeal.main (F := Ideal))) ⟨m, fun _ => 0, g⟩ (fun r => ∀ c : Dev Cert.AdaAIdeal.nD,
          r.2.mem ((c.tc : Thread Cert.AdaAIdeal.nD Cert.AdaAIdeal.τ).loc Cert.AdaAIdeal.main_v1) = v0 c
          ∧ r.2.mem ((c.tc : Thread Cert.AdaAIdeal.nD Cert.AdaAIdeal.τ).loc Cert.AdaAIdeal.main_arg0) = m ((c.tc : Thread Cert.AdaAIdeal.nD Cert.AdaAIdeal.τ).loc Cert.AdaAIdeal.main_arg0)
          ∧ r.2.mem ((c.tc : Thread Cert.AdaAIdeal.nD Cert.AdaAIdeal.τ).loc Cert.AdaAIdeal.main_arg1) = m ((c.tc : Thread Cert.AdaAIdeal.nD Cert.AdaAIdeal.τ).loc Cert.AdaAIdeal.main_arg1)
          ∧ r.2.mem ((c.tc : Thread Cert.AdaAIdeal.nD Cert.AdaAIdeal.τ).loc Cert.AdaAIdeal.main_arg2) = m ((c.tc : Thread Cert.AdaAIdeal.nD Cert.AdaAIdeal.τ).loc Cert.AdaAIdeal.main_arg2))
      ∧ θ_run (Cert.AdaARefIdeal.defs (F := Ideal)) (onTc (τ := Cert.AdaARefIdeal.τ) (Cert.AdaARefIdeal.main (F := Ideal))) ⟨m', fun _ => 0, g'⟩ (fun r => ∀ c : Dev Cert.AdaARefIdeal.nD,
          r.2.mem ((c.tc : Thread Cert.AdaARefIdeal.nD Cert.AdaARefIdeal.τ).loc Cert.AdaARefIdeal.main_v8) = v0 c
          ∧ r.2.mem ((c.tc : Thread Cert.AdaARefIdeal.nD Cert.AdaARefIdeal.τ).loc Cert.AdaARefIdeal.main_arg0) = m' ((c.tc : Thread Cert.AdaARefIdeal.nD Cert.AdaARefIdeal.τ).loc Cert.AdaARefIdeal.main_arg0)
          ∧ r.2.mem ((c.tc : Thread Cert.AdaARefIdeal.nD Cert.AdaARefIdeal.τ).loc Cert.AdaARefIdeal.main_arg1) = m' ((c.tc : Thread Cert.AdaARefIdeal.nD Cert.AdaARefIdeal.τ).loc Cert.AdaARefIdeal.main_arg1)
          ∧ r.2.mem ((c.tc : Thread Cert.AdaARefIdeal.nD Cert.AdaARefIdeal.τ).loc Cert.AdaARefIdeal.main_arg2) = m' ((c.tc : Thread Cert.AdaARefIdeal.nD Cert.AdaARefIdeal.τ).loc Cert.AdaARefIdeal.main_arg2))

def preserves_AdaB_AdaBIdeal : Prop :=
  True

def algebraic_AdaBIdeal_AdaBRefIdeal [hAdaBIdeal : Cert.AdaBIdeal.Facts] [hAdaBRefIdeal : Cert.AdaBRefIdeal.Facts] : Prop :=
  ∀ (m : (ℓ : Loc Cert.AdaBIdeal.nD Cert.AdaBIdeal.τ Cert.AdaBIdeal.sig) → Buf (Elt Ideal) ℓ) (g : Dev Cert.AdaBIdeal.nD → PrngReg)
    (m' : (ℓ : Loc Cert.AdaBRefIdeal.nD Cert.AdaBRefIdeal.τ Cert.AdaBRefIdeal.sig) → Buf (Elt Ideal) ℓ) (g' : Dev Cert.AdaBRefIdeal.nD → PrngReg), Pre_AdaBIdeal m →
    (∀ c : Dev Cert.AdaBIdeal.nD,
      m' ((c.tc : Thread Cert.AdaBRefIdeal.nD Cert.AdaBRefIdeal.τ).loc Cert.AdaBRefIdeal.main_arg0) = m ((c.tc : Thread Cert.AdaBIdeal.nD Cert.AdaBIdeal.τ).loc Cert.AdaBIdeal.main_arg0)
      ∧ m' ((c.tc : Thread Cert.AdaBRefIdeal.nD Cert.AdaBRefIdeal.τ).loc Cert.AdaBRefIdeal.main_arg1) = m ((c.tc : Thread Cert.AdaBIdeal.nD Cert.AdaBIdeal.τ).loc Cert.AdaBIdeal.main_arg1)
      ∧ m' ((c.tc : Thread Cert.AdaBRefIdeal.nD Cert.AdaBRefIdeal.τ).loc Cert.AdaBRefIdeal.main_arg2) = m ((c.tc : Thread Cert.AdaBIdeal.nD Cert.AdaBIdeal.τ).loc Cert.AdaBIdeal.main_arg2)) →
    ∃ (v0 : (c : Dev Cert.AdaBIdeal.nD) → Buf (Elt Ideal) ((c.tc : Thread Cert.AdaBIdeal.nD Cert.AdaBIdeal.τ).loc Cert.AdaBIdeal.main_v1)),
      θ_run (Cert.AdaBIdeal.defs (F := Ideal)) (onTc (τ := Cert.AdaBIdeal.τ) (Cert.AdaBIdeal.main (F := Ideal))) ⟨m, fun _ => 0, g⟩ (fun r => ∀ c : Dev Cert.AdaBIdeal.nD,
          r.2.mem ((c.tc : Thread Cert.AdaBIdeal.nD Cert.AdaBIdeal.τ).loc Cert.AdaBIdeal.main_v1) = v0 c
          ∧ r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
          ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
          ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ θ_run (Cert.AdaBRefIdeal.defs (F := Ideal)) (onTc (τ := Cert.AdaBRefIdeal.τ) (Cert.AdaBRefIdeal.main (F := Ideal))) ⟨m', fun _ => 0, g'⟩ (fun r => ∀ c : Dev Cert.AdaBRefIdeal.nD,
          r.2.mem ((c.tc : Thread Cert.AdaBRefIdeal.nD Cert.AdaBRefIdeal.τ).loc Cert.AdaBRefIdeal.main_v8) = v0 c
          ∧ r.2.mem ((c.tc : Thread Cert.AdaBRefIdeal.nD Cert.AdaBRefIdeal.τ).loc Cert.AdaBRefIdeal.main_arg0) = m' ((c.tc : Thread Cert.AdaBRefIdeal.nD Cert.AdaBRefIdeal.τ).loc Cert.AdaBRefIdeal.main_arg0)
          ∧ r.2.mem ((c.tc : Thread Cert.AdaBRefIdeal.nD Cert.AdaBRefIdeal.τ).loc Cert.AdaBRefIdeal.main_arg1) = m' ((c.tc : Thread Cert.AdaBRefIdeal.nD Cert.AdaBRefIdeal.τ).loc Cert.AdaBRefIdeal.main_arg1)
          ∧ r.2.mem ((c.tc : Thread Cert.AdaBRefIdeal.nD Cert.AdaBRefIdeal.τ).loc Cert.AdaBRefIdeal.main_arg2) = m' ((c.tc : Thread Cert.AdaBRefIdeal.nD Cert.AdaBRefIdeal.τ).loc Cert.AdaBRefIdeal.main_arg2))

def preserves_Route_RouteIdeal : Prop :=
  True

def algebraic_RouteIdeal_RouteRefIdeal_pre_finite_route [hRouteIdeal : Cert.RouteIdeal.Facts] [hRouteRefIdeal : Cert.RouteRefIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_route m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v2_0)) (v1 : (c : Dev Cert.RouteIdeal.nD) → Buf (Elt Ideal) ((c.tc : Thread Cert.RouteIdeal.nD Cert.RouteIdeal.τ).loc Cert.RouteIdeal.main_v2_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v2_0) = v0 c
          ∧ r.2.mem ((c.tc : Thread Cert.RouteIdeal.nD Cert.RouteIdeal.τ).loc Cert.RouteIdeal.main_v2_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v36) = v0 c
          ∧ r.2.mem ((c.tc : Thread Cert.RouteRefIdeal.nD Cert.RouteRefIdeal.τ).loc Cert.RouteRefIdeal.main_v37) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def Claim : Prop :=
  ∃ (hKernel : Cert.Kernel.Facts) (hKernelIdeal : Cert.KernelIdeal.Facts) (hReferenceIdeal : Cert.ReferenceIdeal.Facts) (hMixed : Cert.Mixed.Facts) (hMixedIdeal : Cert.MixedIdeal.Facts) (hMixedRefIdeal : Cert.MixedRefIdeal.Facts) (hGlu : Cert.Glu.Facts) (hGluIdeal : Cert.GluIdeal.Facts) (hGluRefIdeal : Cert.GluRefIdeal.Facts) (hLast : Cert.Last.Facts) (hLastIdeal : Cert.LastIdeal.Facts) (hLastRefIdeal : Cert.LastRefIdeal.Facts) (hFirst : Cert.First.Facts) (hFirstIdeal : Cert.FirstIdeal.Facts) (hFirstRefIdeal : Cert.FirstRefIdeal.Facts) (hAdaA : Cert.AdaA.Facts) (hAdaAIdeal : Cert.AdaAIdeal.Facts) (hAdaARefIdeal : Cert.AdaARefIdeal.Facts) (hAdaB : Cert.AdaB.Facts) (hAdaBIdeal : Cert.AdaBIdeal.Facts) (hAdaBRefIdeal : Cert.AdaBRefIdeal.Facts) (hRoute : Cert.Route.Facts) (hRouteIdeal : Cert.RouteIdeal.Facts) (hRouteRefIdeal : Cert.RouteRefIdeal.Facts) (hPre_finite : Cert.Pre_finite.Facts) (hPre_finite_route : Cert.Pre_finite_route.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mixed (hMixed := hMixed)
    ∧ quiescent_MixedIdeal (hMixedIdeal := hMixedIdeal)
    ∧ quiescent_MixedRefIdeal (hMixedRefIdeal := hMixedRefIdeal)
    ∧ quiescent_Glu (hGlu := hGlu)
    ∧ quiescent_GluIdeal (hGluIdeal := hGluIdeal)
    ∧ quiescent_GluRefIdeal (hGluRefIdeal := hGluRefIdeal)
    ∧ quiescent_Last (hLast := hLast)
    ∧ quiescent_LastIdeal (hLastIdeal := hLastIdeal)
    ∧ quiescent_LastRefIdeal (hLastRefIdeal := hLastRefIdeal)
    ∧ quiescent_First (hFirst := hFirst)
    ∧ quiescent_FirstIdeal (hFirstIdeal := hFirstIdeal)
    ∧ quiescent_FirstRefIdeal (hFirstRefIdeal := hFirstRefIdeal)
    ∧ quiescent_AdaA (hAdaA := hAdaA)
    ∧ quiescent_AdaAIdeal (hAdaAIdeal := hAdaAIdeal)
    ∧ quiescent_AdaARefIdeal (hAdaARefIdeal := hAdaARefIdeal)
    ∧ quiescent_AdaB (hAdaB := hAdaB)
    ∧ quiescent_AdaBIdeal (hAdaBIdeal := hAdaBIdeal)
    ∧ quiescent_AdaBRefIdeal (hAdaBRefIdeal := hAdaBRefIdeal)
    ∧ quiescent_Route (hRoute := hRoute)
    ∧ quiescent_RouteIdeal (hRouteIdeal := hRouteIdeal)
    ∧ quiescent_RouteIdeal_pre_finite_route (hRouteIdeal := hRouteIdeal) (hPre_finite_route := hPre_finite_route)
    ∧ quiescent_RouteRefIdeal (hRouteRefIdeal := hRouteRefIdeal)
    ∧ quiescent_RouteRefIdeal_pre_finite_route (hRouteRefIdeal := hRouteRefIdeal) (hPre_finite_route := hPre_finite_route)
    ∧ preserves_Kernel_KernelIdeal
    ∧ algebraic_KernelIdeal_ReferenceIdeal_pre_finite (hKernelIdeal := hKernelIdeal) (hReferenceIdeal := hReferenceIdeal) (hPre_finite := hPre_finite)
    ∧ preserves_Mixed_MixedIdeal
    ∧ algebraic_MixedIdeal_MixedRefIdeal (hMixedIdeal := hMixedIdeal) (hMixedRefIdeal := hMixedRefIdeal)
    ∧ preserves_Glu_GluIdeal
    ∧ algebraic_GluIdeal_GluRefIdeal (hGluIdeal := hGluIdeal) (hGluRefIdeal := hGluRefIdeal)
    ∧ preserves_Last_LastIdeal
    ∧ algebraic_LastIdeal_LastRefIdeal (hLastIdeal := hLastIdeal) (hLastRefIdeal := hLastRefIdeal)
    ∧ preserves_First_FirstIdeal
    ∧ algebraic_FirstIdeal_FirstRefIdeal (hFirstIdeal := hFirstIdeal) (hFirstRefIdeal := hFirstRefIdeal)
    ∧ preserves_AdaA_AdaAIdeal
    ∧ algebraic_AdaAIdeal_AdaARefIdeal (hAdaAIdeal := hAdaAIdeal) (hAdaARefIdeal := hAdaARefIdeal)
    ∧ preserves_AdaB_AdaBIdeal
    ∧ algebraic_AdaBIdeal_AdaBRefIdeal (hAdaBIdeal := hAdaBIdeal) (hAdaBRefIdeal := hAdaBRefIdeal)
    ∧ preserves_Route_RouteIdeal
    ∧ algebraic_RouteIdeal_RouteRefIdeal_pre_finite_route (hRouteIdeal := hRouteIdeal) (hRouteRefIdeal := hRouteRefIdeal) (hPre_finite_route := hPre_finite_route)
-- ==== Pre_finite.lean ====
abbrev S16896x1024 : Shape := ⟨2, ![16896, 1024]⟩
abbrev S8x6x1024 : Shape := ⟨3, ![8, 6, 1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x2048 : Shape := ⟨2, ![256, 2048]⟩
abbrev S256x8x256 : Shape := ⟨3, ![256, 8, 256]⟩
abbrev S256x8x128 : Shape := ⟨3, ![256, 8, 128]⟩
abbrev S_ : Shape := ⟨0, ![]⟩
abbrev S3x2x1024 : Shape := ⟨3, ![3, 2, 1024]⟩

class Facts : Prop where
  shapeCasts_S256x2048_S256x8x256 : S256x2048.ShapeCasts S256x8x256
  slices_S256x8x256_S256x8x128_0_0_0 : S256x8x256.Slices ![0, 0, 0] S256x8x128
  bcast_S_S16896x1024 : S_.BroadcastsInDim S16896x1024 (![] : Fin 0 → Fin S16896x1024.rank)
  reducesTo_S16896x1024_S_d0_1 : S16896x1024.ReducesTo [0, 1] S_
  h_S_ : 0 < S_.numel
  slices_S8x6x1024_S3x2x1024_0_0_0 : S8x6x1024.Slices ![0, 0, 0] S3x2x1024
  bcast_S_S3x2x1024 : S_.BroadcastsInDim S3x2x1024 (![] : Fin 0 → Fin S3x2x1024.rank)
  reducesTo_S3x2x1024_S_d0_1_2 : S3x2x1024.ReducesTo [0, 1, 2] S_
  bcast_S_S1024x384 : S_.BroadcastsInDim S1024x384 (![] : Fin 0 → Fin S1024x384.rank)
  reducesTo_S1024x384_S_d0_1 : S1024x384.ReducesTo [0, 1] S_
  bcast_S_S384 : S_.BroadcastsInDim S384 (![] : Fin 0 → Fin S384.rank)
  reducesTo_S384_S_d0 : S384.ReducesTo [0] S_
  bcast_S_S384x1536 : S_.BroadcastsInDim S384x1536 (![] : Fin 0 → Fin S384x1536.rank)
  reducesTo_S384x1536_S_d0_1 : S384x1536.ReducesTo [0, 1] S_
  bcast_S_S1024x320 : S_.BroadcastsInDim S1024x320 (![] : Fin 0 → Fin S1024x320.rank)
  reducesTo_S1024x320_S_d0_1 : S1024x320.ReducesTo [0, 1] S_
  bcast_S_S256 : S_.BroadcastsInDim S256 (![] : Fin 0 → Fin S256.rank)
  reducesTo_S256_S_d0 : S256.ReducesTo [0] S_
  bcast_S_S256x8x128 : S_.BroadcastsInDim S256x8x128 (![] : Fin 0 → Fin S256x8x128.rank)
  reducesTo_S256x8x128_S_d0_1_2 : S256x8x128.ReducesTo [0, 1, 2] S_

variable [Facts]

def fn_part2 {F : FTy → Type} [FloatOps F] (main_v1 : FVec F S256x8x128 .f32) (main_v31 : IVec S_ 1) (main_v34 : IVec S256 1) : IVec S_ 1 :=
  let main_c_11 : IVec S_ 1 := constantI S_ 1 1#1
  let main_v35 : IVec S_ 1 := (fun x v => Host.reduce IntOp.andi x v reducesTo_S256_S_d0 h_S_) main_v34 main_c_11
  let main_v36 : IVec S_ 1 := andi main_v31 main_v35
  let main_v37 : FVec F S256x8x128 .f32 := Host.absf main_v1
  let main_cst_12 : FVec F S_ .f32 := constant S_ .f32 0x7F800000#32
  let main_v38 : FVec F S256x8x128 .f32 := broadcastInDim S256x8x128 ![] bcast_S_S256x8x128 main_cst_12
  let main_v39 : IVec S256x8x128 1 := cmpf .olt main_v37 main_v38
  let main_c_13 : IVec S_ 1 := constantI S_ 1 1#1
  let main_v40 : IVec S_ 1 := (fun x v => Host.reduce IntOp.andi x v reducesTo_S256x8x128_S_d0_1_2 h_S_) main_v39 main_c_13
  let main_v41 : IVec S_ 1 := andi main_v36 main_v40
  main_v41

def fn_part1 {F : FTy → Type} [FloatOps F] (main_arg4 : FVec F S384x1536 .f32) (main_arg5 : FVec F S1024x320 .f32) (main_arg6 : FVec F S256 .f32) (main_v1 : FVec F S256x8x128 .f32) (main_v16 : IVec S_ 1) (main_v17 : FVec F S384 .f32) : IVec S_ 1 :=
  let main_cst_4 : FVec F S_ .f32 := constant S_ .f32 0x7F800000#32
  let main_v18 : FVec F S384 .f32 := broadcastInDim S384 ![] bcast_S_S384 main_cst_4
  let main_v19 : IVec S384 1 := cmpf .olt main_v17 main_v18
  let main_c_5 : IVec S_ 1 := constantI S_ 1 1#1
  let main_v20 : IVec S_ 1 := (fun x v => Host.reduce IntOp.andi x v reducesTo_S384_S_d0 h_S_) main_v19 main_c_5
  let main_v21 : IVec S_ 1 := andi main_v16 main_v20
  let main_v22 : FVec F S384x1536 .f32 := Host.absf main_arg4
  let main_cst_6 : FVec F S_ .f32 := constant S_ .f32 0x7F800000#32
  let main_v23 : FVec F S384x1536 .f32 := broadcastInDim S384x1536 ![] bcast_S_S384x1536 main_cst_6
  let main_v24 : IVec S384x1536 1 := cmpf .olt main_v22 main_v23
  let main_c_7 : IVec S_ 1 := constantI S_ 1 1#1
  let main_v25 : IVec S_ 1 := (fun x v => Host.reduce IntOp.andi x v reducesTo_S384x1536_S_d0_1 h_S_) main_v24 main_c_7
  let main_v26 : IVec S_ 1 := andi main_v21 main_v25
  let main_v27 : FVec F S1024x320 .f32 := Host.absf main_arg5
  let main_cst_8 : FVec F S_ .f32 := constant S_ .f32 0x7F800000#32
  let main_v28 : FVec F S1024x320 .f32 := broadcastInDim S1024x320 ![] bcast_S_S1024x320 main_cst_8
  let main_v29 : IVec S1024x320 1 := cmpf .olt main_v27 main_v28
  let main_c_9 : IVec S_ 1 := constantI S_ 1 1#1
  let main_v30 : IVec S_ 1 := (fun x v => Host.reduce IntOp.andi x v reducesTo_S1024x320_S_d0_1 h_S_) main_v29 main_c_9
  let main_v31 : IVec S_ 1 := andi main_v26 main_v30
  let main_v32 : FVec F S256 .f32 := Host.absf main_arg6
  let main_cst_10 : FVec F S_ .f32 := constant S_ .f32 0x7F800000#32
  let main_v33 : FVec F S256 .f32 := broadcastInDim S256 ![] bcast_S_S256 main_cst_10
  let main_v34 : IVec S256 1 := cmpf .olt main_v32 main_v33
  fn_part2 (F := F) main_v1 main_v31 main_v34

def fn {F : FTy → Type} [FloatOps F] (main_arg0 : FVec F S16896x1024 .f32) (main_arg1 : FVec F S8x6x1024 .f32) (main_arg2 : FVec F S1024x384 .f32) (main_arg3 : FVec F S384 .f32) (main_arg4 : FVec F S384x1536 .f32) (main_arg5 : FVec F S1024x320 .f32) (main_arg6 : FVec F S256 .f32) (main_arg7 : FVec F S256x2048 .f32) : IVec S_ 1 :=
  let main_v0 : FVec F S256x8x256 .f32 := shapeCast S256x8x256 main_arg7 shapeCasts_S256x2048_S256x8x256
  let main_v1 : FVec F S256x8x128 .f32 := (extractStridedSlice S256x8x128 ![0, 0, 0] · slices_S256x8x256_S256x8x128_0_0_0) main_v0
  let main_v2 : FVec F S16896x1024 .f32 := Host.absf main_arg0
  let main_cst : FVec F S_ .f32 := constant S_ .f32 0x7F800000#32
  let main_v3 : FVec F S16896x1024 .f32 := broadcastInDim S16896x1024 ![] bcast_S_S16896x1024 main_cst
  let main_v4 : IVec S16896x1024 1 := cmpf .olt main_v2 main_v3
  let main_c : IVec S_ 1 := constantI S_ 1 1#1
  let main_v5 : IVec S_ 1 := (fun x v => Host.reduce IntOp.andi x v reducesTo_S16896x1024_S_d0_1 h_S_) main_v4 main_c
  let main_v6 : FVec F S3x2x1024 .f32 := (extractStridedSlice S3x2x1024 ![0, 0, 0] · slices_S8x6x1024_S3x2x1024_0_0_0) main_arg1
  let main_v7 : FVec F S3x2x1024 .f32 := Host.absf main_v6
  let main_cst_0 : FVec F S_ .f32 := constant S_ .f32 0x7F800000#32
  let main_v8 : FVec F S3x2x1024 .f32 := broadcastInDim S3x2x1024 ![] bcast_S_S3x2x1024 main_cst_0
  let main_v9 : IVec S3x2x1024 1 := cmpf .olt main_v7 main_v8
  let main_c_1 : IVec S_ 1 := constantI S_ 1 1#1
  let main_v10 : IVec S_ 1 := (fun x v => Host.reduce IntOp.andi x v reducesTo_S3x2x1024_S_d0_1_2 h_S_) main_v9 main_c_1
  let main_v11 : IVec S_ 1 := andi main_v5 main_v10
  let main_v12 : FVec F S1024x384 .f32 := Host.absf main_arg2
  let main_cst_2 : FVec F S_ .f32 := constant S_ .f32 0x7F800000#32
  let main_v13 : FVec F S1024x384 .f32 := broadcastInDim S1024x384 ![] bcast_S_S1024x384 main_cst_2
  let main_v14 : IVec S1024x384 1 := cmpf .olt main_v12 main_v13
  let main_c_3 : IVec S_ 1 := constantI S_ 1 1#1
  let main_v15 : IVec S_ 1 := (fun x v => Host.reduce IntOp.andi x v reducesTo_S1024x384_S_d0_1 h_S_) main_v14 main_c_3
  let main_v16 : IVec S_ 1 := andi main_v11 main_v15
  let main_v17 : FVec F S384 .f32 := Host.absf main_arg3
  fn_part1 (F := F) main_arg4 main_arg5 main_arg6 main_v1 main_v16 main_v17
-- ==== Pre_finite_route.lean ====
abbrev S16384x1024 : Shape := ⟨2, ![16384, 1024]⟩
abbrev S1024x1024 : Shape := ⟨2, ![1024, 1024]⟩
abbrev S8x2x128x64 : Shape := ⟨4, ![8, 2, 128, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x2x128x64 : S_.BroadcastsInDim S8x2x128x64 (![] : Fin 0 → Fin S8x2x128x64.rank)
  reducesTo_S8x2x128x64_S_d0_1_2_3 : S8x2x128x64.ReducesTo [0, 1, 2, 3] S_

variable [Facts]

def fn {F : FTy → Type} [FloatOps F] (main_arg0 : FVec F S16384x1024 .f32) (main_arg1 : FVec F S1024x1024 .f32) (main_arg2 : FVec F S8x2x128x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x2x128x64 .f32 := Host.absf main_arg2
  let main_cst_2 : FVec F S_ .f32 := constant S_ .f32 0x7F800000#32
  let main_v10 : FVec F S8x2x128x64 .f32 := broadcastInDim S8x2x128x64 ![] bcast_S_S8x2x128x64 main_cst_2
  let main_v11 : IVec S8x2x128x64 1 := cmpf .olt main_v9 main_v10
  let main_c_3 : IVec S_ 1 := constantI S_ 1 1#1
  let main_v12 : IVec S_ 1 := (fun x v => Host.reduce IntOp.andi x v reducesTo_S8x2x128x64_S_d0_1_2_3 h_S_) main_v11 main_c_3
  let main_v13 : IVec S_ 1 := andi main_v8 main_v12
  main_v13
-- ==== Kernel.lean ====
abbrev S16896x1024 : Shape := ⟨2, ![16896, 1024]⟩
abbrev S8x6x1024 : Shape := ⟨3, ![8, 6, 1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x2048 : Shape := ⟨2, ![256, 2048]⟩
abbrev S66 : Shape := ⟨1, ![66]⟩
abbrev S_ : Shape := ⟨0, ![]⟩
abbrev S66x1 : Shape := ⟨2, ![66, 1]⟩
abbrev S66x6x1024 : Shape := ⟨3, ![66, 6, 1024]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S256x32 : Shape := ⟨2, ![256, 32]⟩
abbrev S8448x32 : Shape := ⟨2, ![8448, 32]⟩
abbrev S8448x64 : Shape := ⟨2, ![8448, 64]⟩
abbrev S1x8448x1x64 : Shape := ⟨4, ![1, 8448, 1, 64]⟩
abbrev S1x8448x8x64 : Shape := ⟨4, ![1, 8448, 8, 64]⟩
abbrev S8448x512 : Shape := ⟨2, ![8448, 512]⟩
abbrev S1024x256 : Shape := ⟨2, ![1024, 256]⟩
abbrev S1024x64 : Shape := ⟨2, ![1024, 64]⟩
abbrev S256x8x256 : Shape := ⟨3, ![256, 8, 256]⟩
abbrev S256x8x128 : Shape := ⟨3, ![256, 8, 128]⟩
abbrev S256x1024 : Shape := ⟨2, ![256, 1024]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S1024x1x2x32 : Shape := ⟨4, ![1024, 1, 2, 32]⟩
abbrev S1x256 : Shape := ⟨2, ![1, 256]⟩
abbrev S1x384 : Shape := ⟨2, ![1, 384]⟩
abbrev S384x8x2x32 : Shape := ⟨4, ![384, 8, 2, 32]⟩
abbrev S2x8x8448x192 : Shape := ⟨4, ![2, 8, 8448, 192]⟩
abbrev S2x8x144x8448 : Shape := ⟨4, ![2, 8, 144, 8448]⟩
abbrev S1x6x1024 : Shape := ⟨3, ![1, 6, 1024]⟩
abbrev S256x64 : Shape := ⟨2, ![256, 64]⟩
abbrev S256x512 : Shape := ⟨2, ![256, 512]⟩
abbrev S1x8x256x192 : Shape := ⟨4, ![1, 8, 256, 192]⟩
abbrev S1x8x144x256 : Shape := ⟨4, ![1, 8, 144, 256]⟩
abbrev S1x1x1024 : Shape := ⟨3, ![1, 1, 1024]⟩
abbrev S1x1024 : Shape := ⟨2, ![1, 1024]⟩
abbrev S256x256 : Shape := ⟨2, ![256, 256]⟩
abbrev S256x1 : Shape := ⟨2, ![256, 1]⟩
abbrev S256x384 : Shape := ⟨2, ![256, 384]⟩
abbrev S256x128 : Shape := ⟨2, ![256, 128]⟩
abbrev S1x1x256x128 : Shape := ⟨4, ![1, 1, 256, 128]⟩
abbrev S1x1x256x64 : Shape := ⟨4, ![1, 1, 256, 64]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S2x8192x1024 : Shape := ⟨3, ![2, 8192, 1024]⟩
abbrev S1x1x256x192 : Shape := ⟨4, ![1, 1, 256, 192]⟩
abbrev S1x1x8448x192 : Shape := ⟨4, ![1, 1, 8448, 192]⟩
abbrev S1x1x144x8448 : Shape := ⟨4, ![1, 1, 144, 8448]⟩
abbrev S1x256x128 : Shape := ⟨3, ![1, 256, 128]⟩
abbrev S256x192 : Shape := ⟨2, ![256, 192]⟩
abbrev S144x256 : Shape := ⟨2, ![144, 256]⟩
abbrev S1x1x2816x192 : Shape := ⟨4, ![1, 1, 2816, 192]⟩
abbrev S2816x192 : Shape := ⟨2, ![2816, 192]⟩
abbrev S2816x256 : Shape := ⟨2, ![2816, 256]⟩
abbrev S1x1x144x2816 : Shape := ⟨4, ![1, 1, 144, 2816]⟩
abbrev S144x2816 : Shape := ⟨2, ![144, 2816]⟩

abbrev nBuf : Space → Nat
  | .hbm => 129
  | .vmem => 37
  | .smem => 0
  | _ => 0

abbrev hbmTy0_0 (i : Nat) : BufTy := match i % 128 with
  | 0 => ⟨S16896x1024, .f32⟩
  | 1 => ⟨S8x6x1024, .f32⟩
  | 2 => ⟨S1024x384, .f32⟩
  | 3 => ⟨S384, .f32⟩
  | 4 => ⟨S384x1536, .f32⟩
  | 5 => ⟨S1024x320, .f32⟩
  | 6 => ⟨S256, .f32⟩
  | 7 => ⟨S256x2048, .f32⟩
  | 8 => ⟨S66, .i32⟩
  | 9 => ⟨S66, .i1⟩
  | 10 => ⟨S_, .i32⟩
  | 11 => ⟨S66, .i32⟩
  | 12 => ⟨S66, .i32⟩
  | 13 => ⟨S66, .i32⟩
  | 14 => ⟨S66x1, .i32⟩
  | 15 => ⟨S66x6x1024, .f32⟩
  | 16 => ⟨S8192, .i32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .i32⟩
  | 26 => ⟨S_, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S8192, .i32⟩
  | 34 => ⟨S8192, .i32⟩
  | 35 => ⟨S_, .i32⟩
  | 36 => ⟨S8192, .i32⟩
  | 37 => ⟨S8192, .i1⟩
  | 38 => ⟨S8192, .i1⟩
  | 39 => ⟨S_, .i32⟩
  | 40 => ⟨S8192, .i32⟩
  | 41 => ⟨S8192, .i32⟩
  | 42 => ⟨S8192, .i32⟩
  | 43 => ⟨S8192, .f32⟩
  | 44 => ⟨S8192x1, .f32⟩
  | 45 => ⟨S1x16, .f32⟩
  | 46 => ⟨S8192x16, .f32⟩
  | 47 => ⟨S8192x16, .f32⟩
  | 48 => ⟨S8192x16, .f32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i1⟩
  | 60 => ⟨S_, .i32⟩
  | 61 => ⟨S8192, .i32⟩
  | 62 => ⟨S8192, .i1⟩
  | 63 => ⟨S_, .i32⟩
  | 64 => ⟨S_, .i1⟩
  | 65 => ⟨S8192, .i1⟩
  | 66 => ⟨S8192, .i1⟩
  | 67 => ⟨S8192, .i1⟩
  | 68 => ⟨S8192, .i32⟩
  | 69 => ⟨S8192, .i32⟩
  | 70 => ⟨S8192, .i32⟩
  | 71 => ⟨S8192, .f32⟩
  | 72 => ⟨S8192x1, .f32⟩
  | 73 => ⟨S1x16, .f32⟩
  | 74 => ⟨S8192x16, .f32⟩
  | 75 => ⟨S8192x16, .f32⟩
  | 76 => ⟨S8192x16, .f32⟩
  | 77 => ⟨S8192x32, .f32⟩
  | 78 => ⟨S_, .f32⟩
  | 79 => ⟨S256x32, .f32⟩
  | 80 => ⟨S8192x32, .f32⟩
  | 81 => ⟨S8448x32, .f32⟩
  | 82 => ⟨S_, .f32⟩
  | 83 => ⟨S256x32, .f32⟩
  | 84 => ⟨S8192x32, .f32⟩
  | 85 => ⟨S8448x32, .f32⟩
  | 86 => ⟨S8448x64, .f32⟩
  | 87 => ⟨S8448x32, .f32⟩
  | 88 => ⟨S8448x64, .f32⟩
  | 89 => ⟨S1x8448x1x64, .f32⟩
  | 90 => ⟨S1x8448x8x64, .f32⟩
  | 91 => ⟨S8448x512, .f32⟩
  | 92 => ⟨S1x8448x1x64, .f32⟩
  | 93 => ⟨S1x8448x8x64, .f32⟩
  | 94 => ⟨S8448x512, .f32⟩
  | 95 => ⟨S1024x256, .f32⟩
  | 96 => ⟨S1024x256, .bf16⟩
  | 97 => ⟨S1024x64, .f32⟩
  | 98 => ⟨S256x8x256, .f32⟩
  | 99 => ⟨S256x8x128, .f32⟩
  | 100 => ⟨S256x1024, .f32⟩
  | 101 => ⟨S256x1024, .bf16⟩
  | 102 => ⟨S256x8x128, .f32⟩
  | 103 => ⟨S256x1024, .f32⟩
  | 104 => ⟨S1024x256, .f32⟩
  | 105 => ⟨S1024x256, .bf16⟩
  | 106 => ⟨S384x8x192, .f32⟩
  | 107 => ⟨S384x8x128, .f32⟩
  | 108 => ⟨S384x1024, .f32⟩
  | 109 => ⟨S384x1024, .bf16⟩
  | 110 => ⟨S384x8x64, .f32⟩
  | 111 => ⟨S384x512, .f32⟩
  | 112 => ⟨S1024x64, .bf16⟩
  | 113 => ⟨S1024x1x2x32, .f32⟩
  | 114 => ⟨S1024x1x2x32, .f32⟩
  | 115 => ⟨S1024x64, .f32⟩
  | 116 => ⟨S1024x64, .bf16⟩
  | 117 => ⟨S1x256, .f32⟩
  | 118 => ⟨S1024x384, .bf16⟩
  | 119 => ⟨S1x384, .f32⟩
  | 120 => ⟨S384x512, .bf16⟩
  | 121 => ⟨S384x8x2x32, .f32⟩
  | 122 => ⟨S384x8x2x32, .f32⟩
  | 123 => ⟨S384x512, .f32⟩
  | 124 => ⟨S384x512, .bf16⟩
  | 125 => ⟨S2x8x8448x192, .bf16⟩
  | 126 => ⟨S2x8x144x8448, .bf16⟩
  | 127 => ⟨S2x8x8448x192, .bf16⟩
  | _ => ⟨S16896x1024, .f32⟩

abbrev hbmTy0_1 (i : Nat) : BufTy := match i % 128 with
  | 0 => ⟨S2x8192x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1024x256, .bf16⟩
  | .local _ .vmem, ⟨13, _⟩ => ⟨S1024x64, .bf16⟩
  | .local _ .vmem, ⟨14, _⟩ => ⟨S1024x64, .bf16⟩
  | .local _ .vmem, ⟨15, _⟩ => ⟨S1x256, .f32⟩
  | .local _ .vmem, ⟨16, _⟩ => ⟨S256x1024, .bf16⟩
  | .local _ .vmem, ⟨17, _⟩ => ⟨S1024x256, .bf16⟩
  | .local _ .vmem, ⟨18, _⟩ => ⟨S1024x384, .bf16⟩
  | .local _ .vmem, ⟨19, _⟩ => ⟨S1x384, .f32⟩
  | .local _ .vmem, ⟨20, _⟩ => ⟨S384x1024, .bf16⟩
  | .local _ .vmem, ⟨21, _⟩ => ⟨S384x512, .bf16⟩
  | .local _ .vmem, ⟨22, _⟩ => ⟨S384x512, .bf16⟩
  | .local _ .vmem, ⟨23, _⟩ => ⟨S1x8x256x192, .bf16⟩
  | .local _ .vmem, ⟨24, _⟩ => ⟨S1x8x256x192, .bf16⟩
  | .local _ .vmem, ⟨25, _⟩ => ⟨S1x8x144x256, .bf16⟩
  | .local _ .vmem, ⟨26, _⟩ => ⟨S1x8x144x256, .bf16⟩
  | .local _ .vmem, ⟨27, _⟩ => ⟨S1x8x256x192, .bf16⟩
  | .local _ .vmem, ⟨28, _⟩ => ⟨S1x8x256x192, .bf16⟩
  | .local _ .vmem, ⟨29, _⟩ => ⟨S1x1x256x192, .bf16⟩
  | .local _ .vmem, ⟨30, _⟩ => ⟨S1x1x256x192, .bf16⟩
  | .local _ .vmem, ⟨31, _⟩ => ⟨S1x1x8448x192, .bf16⟩
  | .local _ .vmem, ⟨32, _⟩ => ⟨S1x1x8448x192, .bf16⟩
  | .local _ .vmem, ⟨33, _⟩ => ⟨S1x1x144x8448, .bf16⟩
  | .local _ .vmem, ⟨34, _⟩ => ⟨S1x1x144x8448, .bf16⟩
  | .local _ .vmem, ⟨35, _⟩ => ⟨S1x256x128, .f32⟩
  | .local _ .vmem, ⟨36, _⟩ => ⟨S1x256x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_5 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_6 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72_0 : Ref sig .tc := ⟨.hbm, 125, rfl⟩
abbrev main_v72_1 : Ref sig .tc := ⟨.hbm, 126, rfl⟩
abbrev main_v72_2 : Ref sig .tc := ⟨.hbm, 127, rfl⟩
abbrev main_v73 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc1_sem0_0 : DmaSem sig := 29
abbrev cc1_sem0_1 : DmaSem sig := 30
abbrev cc1_sem1_0 : DmaSem sig := 31
abbrev cc1_sem1_1 : DmaSem sig := 32
abbrev cc1_sem2_0 : DmaSem sig := 33
abbrev cc1_sem2_1 : DmaSem sig := 34
abbrev cc1_sem3_0 : DmaSem sig := 35
abbrev cc1_sem3_1 : DmaSem sig := 36

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 4 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_19 (i : grid0.Coords) : Fin 4 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x8x256x192 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x144x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x256x192 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨3, ![2, 8, 32], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![arg0.toNat, arg1.toNat, v0.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1x256x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x8448x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x144x8448 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S16896x1024 : Shape := ⟨2, ![16896, 1024]⟩
abbrev S8x6x1024 : Shape := ⟨3, ![8, 6, 1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x2048 : Shape := ⟨2, ![256, 2048]⟩
abbrev S2x8448x1024 : Shape := ⟨3, ![2, 8448, 1024]⟩
abbrev S2x256x1024 : Shape := ⟨3, ![2, 256, 1024]⟩
abbrev S2x8192x1024 : Shape := ⟨3, ![2, 8192, 1024]⟩
abbrev S2x6x1024 : Shape := ⟨3, ![2, 6, 1024]⟩
abbrev S6x2x1024 : Shape := ⟨3, ![6, 2, 1024]⟩
abbrev S6x2x1x1024 : Shape := ⟨4, ![6, 2, 1, 1024]⟩
abbrev S1x6x1024 : Shape := ⟨3, ![1, 6, 1024]⟩
abbrev S6x1024 : Shape := ⟨2, ![6, 1024]⟩
abbrev S6x1x1x1024 : Shape := ⟨4, ![6, 1, 1, 1024]⟩
abbrev S1x2x1x1024 : Shape := ⟨4, ![1, 2, 1, 1024]⟩
abbrev S2x1x1024 : Shape := ⟨3, ![2, 1, 1024]⟩
abbrev S_ : Shape := ⟨0, ![]⟩
abbrev S1x1x1x1024 : Shape := ⟨4, ![1, 1, 1, 1024]⟩
abbrev S1x1x1024 : Shape := ⟨3, ![1, 1, 1024]⟩
abbrev S128 : Shape := ⟨1, ![128]⟩
abbrev S64 : Shape := ⟨1, ![64]⟩
abbrev S128x64 : Shape := ⟨2, ![128, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S2x256x320 : Shape := ⟨3, ![2, 256, 320]⟩
abbrev S2x256x256 : Shape := ⟨3, ![2, 256, 256]⟩
abbrev S2x256 : Shape := ⟨2, ![2, 256]⟩
abbrev S2x256x1 : Shape := ⟨3, ![2, 256, 1]⟩
abbrev S1x1x256 : Shape := ⟨3, ![1, 1, 256]⟩
abbrev S2x256x64 : Shape := ⟨3, ![2, 256, 64]⟩
abbrev S2x256x2048 : Shape := ⟨3, ![2, 256, 2048]⟩
abbrev S2x256x8x256 : Shape := ⟨4, ![2, 256, 8, 256]⟩
abbrev S2x256x8x128 : Shape := ⟨4, ![2, 256, 8, 128]⟩
abbrev S2x8192x320 : Shape := ⟨3, ![2, 8192, 320]⟩
abbrev S2x8192x256 : Shape := ⟨3, ![2, 8192, 256]⟩
abbrev S2x8192 : Shape := ⟨2, ![2, 8192]⟩
abbrev S2x8192x1 : Shape := ⟨3, ![2, 8192, 1]⟩
abbrev S2x8192x64 : Shape := ⟨3, ![2, 8192, 64]⟩
abbrev S1x8192x32 : Shape := ⟨3, ![1, 8192, 32]⟩
abbrev S2x8192x32 : Shape := ⟨3, ![2, 8192, 32]⟩
abbrev S2x8192x2048 : Shape := ⟨3, ![2, 8192, 2048]⟩
abbrev S2x8192x8x256 : Shape := ⟨4, ![2, 8192, 8, 256]⟩
abbrev S2x8192x8x128 : Shape := ⟨4, ![2, 8192, 8, 128]⟩
abbrev S2x8192x384 : Shape := ⟨3, ![2, 8192, 384]⟩
abbrev S1x1x384 : Shape := ⟨3, ![1, 1, 384]⟩
abbrev S2x8192x1536 : Shape := ⟨3, ![2, 8192, 1536]⟩
abbrev S2x8192x8x192 : Shape := ⟨4, ![2, 8192, 8, 192]⟩
abbrev S2x8192x8x64 : Shape := ⟨4, ![2, 8192, 8, 64]⟩
abbrev S1x8192x1x32 : Shape := ⟨4, ![1, 8192, 1, 32]⟩
abbrev S2x8192x8x32 : Shape := ⟨4, ![2, 8192, 8, 32]⟩
abbrev S2x8448x8x128 : Shape := ⟨4, ![2, 8448, 8, 128]⟩
abbrev S2x8448x64 : Shape := ⟨3, ![2, 8448, 64]⟩
abbrev S2x8x8192x8448 : Shape := ⟨4, ![2, 8, 8192, 8448]⟩
abbrev S2x8448x8192x8 : Shape := ⟨4, ![2, 8448, 8192, 8]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩

abbrev nBuf : Space → Nat
  | .hbm => 190
  | .vmem => 0
  | .smem => 0
  | _ => 0

abbrev hbmTy0_0 (i : Nat) : BufTy := match i % 128 with
  | 0 => ⟨S16896x1024, .f32⟩
  | 1 => ⟨S8x6x1024, .f32⟩
  | 2 => ⟨S1024x384, .f32⟩
  | 3 => ⟨S384, .f32⟩
  | 4 => ⟨S384x1536, .f32⟩
  | 5 => ⟨S1024x320, .f32⟩
  | 6 => ⟨S256, .f32⟩
  | 7 => ⟨S256x2048, .f32⟩
  | 8 => ⟨S2x8448x1024, .f32⟩
  | 9 => ⟨S2x256x1024, .f32⟩
  | 10 => ⟨S2x8192x1024, .f32⟩
  | 11 => ⟨S2x6x1024, .f32⟩
  | 12 => ⟨S6x2x1024, .f32⟩
  | 13 => ⟨S6x2x1x1024, .f32⟩
  | 14 => ⟨S1x6x1024, .f32⟩
  | 15 => ⟨S6x1024, .f32⟩
  | 16 => ⟨S6x1x1x1024, .f32⟩
  | 17 => ⟨S1x2x1x1024, .f32⟩
  | 18 => ⟨S2x1x1024, .f32⟩
  | 19 => ⟨S_, .f32⟩
  | 20 => ⟨S2x1x1024, .f32⟩
  | 21 => ⟨S2x1x1024, .f32⟩
  | 22 => ⟨S2x8192x1024, .f32⟩
  | 23 => ⟨S2x8192x1024, .f32⟩
  | 24 => ⟨S1x2x1x1024, .f32⟩
  | 25 => ⟨S2x1x1024, .f32⟩
  | 26 => ⟨S2x8192x1024, .f32⟩
  | 27 => ⟨S2x8192x1024, .f32⟩
  | 28 => ⟨S1x1x1x1024, .f32⟩
  | 29 => ⟨S1x1x1024, .f32⟩
  | 30 => ⟨S_, .f32⟩
  | 31 => ⟨S1x1x1024, .f32⟩
  | 32 => ⟨S1x1x1024, .f32⟩
  | 33 => ⟨S2x256x1024, .f32⟩
  | 34 => ⟨S2x256x1024, .f32⟩
  | 35 => ⟨S1x1x1x1024, .f32⟩
  | 36 => ⟨S1x1x1024, .f32⟩
  | 37 => ⟨S2x256x1024, .f32⟩
  | 38 => ⟨S2x256x1024, .f32⟩
  | 39 => ⟨S128, .f32⟩
  | 40 => ⟨S64, .f32⟩
  | 41 => ⟨S128x64, .f32⟩
  | 42 => ⟨S128x64, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S8192x1, .f32⟩
  | 52 => ⟨S1x16, .f32⟩
  | 53 => ⟨S8192x16, .f32⟩
  | 54 => ⟨S8192x16, .f32⟩
  | 55 => ⟨S8192x16, .f32⟩
  | 56 => ⟨S8192x1, .f32⟩
  | 57 => ⟨S1x16, .f32⟩
  | 58 => ⟨S8192x16, .f32⟩
  | 59 => ⟨S8192x16, .f32⟩
  | 60 => ⟨S8192x16, .f32⟩
  | 61 => ⟨S8192x32, .f32⟩
  | 62 => ⟨S8192x32, .f32⟩
  | 63 => ⟨S8192x32, .f32⟩
  | 64 => ⟨S2x256x320, .f32⟩
  | 65 => ⟨S2x256x256, .f32⟩
  | 66 => ⟨S2x256x256, .f32⟩
  | 67 => ⟨S_, .f32⟩
  | 68 => ⟨S2x256, .f32⟩
  | 69 => ⟨S2x256x1, .f32⟩
  | 70 => ⟨S_, .f32⟩
  | 71 => ⟨S2x256x1, .f32⟩
  | 72 => ⟨S2x256x1, .f32⟩
  | 73 => ⟨S_, .f32⟩
  | 74 => ⟨S2x256x1, .f32⟩
  | 75 => ⟨S2x256x1, .f32⟩
  | 76 => ⟨S2x256x1, .f32⟩
  | 77 => ⟨S2x256x256, .f32⟩
  | 78 => ⟨S2x256x256, .f32⟩
  | 79 => ⟨S1x1x256, .f32⟩
  | 80 => ⟨S2x256x256, .f32⟩
  | 81 => ⟨S2x256x256, .f32⟩
  | 82 => ⟨S2x256x64, .f32⟩
  | 83 => ⟨S2x256x2048, .f32⟩
  | 84 => ⟨S2x256x8x256, .f32⟩
  | 85 => ⟨S2x256x8x128, .f32⟩
  | 86 => ⟨S2x256x8x128, .f32⟩
  | 87 => ⟨S2x8192x320, .f32⟩
  | 88 => ⟨S2x8192x256, .f32⟩
  | 89 => ⟨S2x8192x256, .f32⟩
  | 90 => ⟨S_, .f32⟩
  | 91 => ⟨S2x8192, .f32⟩
  | 92 => ⟨S2x8192x1, .f32⟩
  | 93 => ⟨S_, .f32⟩
  | 94 => ⟨S2x8192x1, .f32⟩
  | 95 => ⟨S2x8192x1, .f32⟩
  | 96 => ⟨S_, .f32⟩
  | 97 => ⟨S2x8192x1, .f32⟩
  | 98 => ⟨S2x8192x1, .f32⟩
  | 99 => ⟨S2x8192x1, .f32⟩
  | 100 => ⟨S2x8192x256, .f32⟩
  | 101 => ⟨S2x8192x256, .f32⟩
  | 102 => ⟨S1x1x256, .f32⟩
  | 103 => ⟨S2x8192x256, .f32⟩
  | 104 => ⟨S2x8192x256, .f32⟩
  | 105 => ⟨S2x8192x64, .f32⟩
  | 106 => ⟨S1x8192x32, .f32⟩
  | 107 => ⟨S1x8192x32, .f32⟩
  | 108 => ⟨S2x8192x32, .f32⟩
  | 109 => ⟨S2x8192x32, .f32⟩
  | 110 => ⟨S2x8192x32, .f32⟩
  | 111 => ⟨S2x8192x32, .f32⟩
  | 112 => ⟨S2x8192x32, .f32⟩
  | 113 => ⟨S2x8192x32, .f32⟩
  | 114 => ⟨S2x8192x32, .f32⟩
  | 115 => ⟨S2x8192x32, .f32⟩
  | 116 => ⟨S2x8192x32, .f32⟩
  | 117 => ⟨S2x8192x32, .f32⟩
  | 118 => ⟨S2x8192x32, .f32⟩
  | 119 => ⟨S2x8192x32, .f32⟩
  | 120 => ⟨S2x8192x64, .f32⟩
  | 121 => ⟨S2x8192x2048, .f32⟩
  | 122 => ⟨S2x8192x8x256, .f32⟩
  | 123 => ⟨S2x8192x8x128, .f32⟩
  | 124 => ⟨S2x8192x8x128, .f32⟩
  | 125 => ⟨S2x8192x384, .f32⟩
  | 126 => ⟨S2x8192x384, .f32⟩
  | 127 => ⟨S_, .f32⟩
  | _ => ⟨S16896x1024, .f32⟩

abbrev hbmTy0_1 (i : Nat) : BufTy := match i % 128 with
  | 0 => ⟨S2x8192, .f32⟩
  | 1 => ⟨S2x8192x1, .f32⟩
  | 2 => ⟨S_, .f32⟩
  | 3 => ⟨S2x8192x1, .f32⟩
  | 4 => ⟨S2x8192x1, .f32⟩
  | 5 => ⟨S_, .f32⟩
  | 6 => ⟨S2x8192x1, .f32⟩
  | 7 => ⟨S2x8192x1, .f32⟩
  | 8 => ⟨S2x8192x1, .f32⟩
  | 9 => ⟨S2x8192x384, .f32⟩
  | 10 => ⟨S2x8192x384, .f32⟩
  | 11 => ⟨S1x1x384, .f32⟩
  | 12 => ⟨S2x8192x384, .f32⟩
  | 13 => ⟨S2x8192x384, .f32⟩
  | 14 => ⟨S2x8192x1536, .f32⟩
  | 15 => ⟨S2x8192x8x192, .f32⟩
  | 16 => ⟨S2x8192x8x128, .f32⟩
  | 17 => ⟨S2x8192x8x64, .f32⟩
  | 18 => ⟨S1x8192x1x32, .f32⟩
  | 19 => ⟨S1x8192x1x32, .f32⟩
  | 20 => ⟨S2x8192x8x32, .f32⟩
  | 21 => ⟨S2x8192x8x32, .f32⟩
  | 22 => ⟨S2x8192x8x32, .f32⟩
  | 23 => ⟨S2x8192x8x32, .f32⟩
  | 24 => ⟨S2x8192x8x32, .f32⟩
  | 25 => ⟨S2x8192x8x32, .f32⟩
  | 26 => ⟨S2x8192x8x32, .f32⟩
  | 27 => ⟨S2x8192x8x32, .f32⟩
  | 28 => ⟨S2x8192x8x32, .f32⟩
  | 29 => ⟨S2x8192x8x32, .f32⟩
  | 30 => ⟨S2x8192x8x32, .f32⟩
  | 31 => ⟨S2x8192x8x32, .f32⟩
  | 32 => ⟨S2x8192x8x64, .f32⟩
  | 33 => ⟨S2x8448x8x128, .f32⟩
  | 34 => ⟨S2x8448x64, .f32⟩
  | 35 => ⟨S2x8448x8x128, .f32⟩
  | 36 => ⟨S_, .f32⟩
  | 37 => ⟨S_, .f32⟩
  | 38 => ⟨S_, .f32⟩
  | 39 => ⟨S2x8x8192x8448, .f32⟩
  | 40 => ⟨S2x8448x8192x8, .f32⟩
  | 41 => ⟨S2x8x8192x8448, .f32⟩
  | 42 => ⟨S2x8x8192x8448, .f32⟩
  | 43 => ⟨S2x8x8192x8448, .f32⟩
  | 44 => ⟨S2x8x8192x8448, .f32⟩
  | 45 => ⟨S_, .f32⟩
  | 46 => ⟨S2x8x8192, .f32⟩
  | 47 => ⟨S_, .f32⟩
  | 48 => ⟨S2x8x8192, .f32⟩
  | 49 => ⟨S2x8x8192, .f32⟩
  | 50 => ⟨S2x8x8192x1, .f32⟩
  | 51 => ⟨S2x8x8192x8448, .f32⟩
  | 52 => ⟨S2x8x8192x8448, .f32⟩
  | 53 => ⟨S2x8x8192x8448, .f32⟩
  | 54 => ⟨S_, .f32⟩
  | 55 => ⟨S2x8x8192, .f32⟩
  | 56 => ⟨S2x8x8192x1, .f32⟩
  | 57 => ⟨S2x8x8192x8448, .f32⟩
  | 58 => ⟨S2x8x8192x8448, .f32⟩
  | 59 => ⟨S2x8x128x8192, .f32⟩
  | 60 => ⟨S2x8192x8x128, .f32⟩
  | 61 => ⟨S2x8192x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_v58 : Ref sig .tc := ⟨.hbm, 72, rfl⟩
abbrev main_cst_5 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_6 : Ref sig .tc := ⟨.hbm, 90, rfl⟩
abbrev main_v75 : Ref sig .tc := ⟨.hbm, 91, rfl⟩
abbrev main_v76 : Ref sig .tc := ⟨.hbm, 92, rfl⟩
abbrev main_cst_7 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_9 : Ref sig .tc := ⟨.hbm, 127, rfl⟩
abbrev main_v109 : Ref sig .tc := ⟨.hbm, 128, rfl⟩
abbrev main_v110 : Ref sig .tc := ⟨.hbm, 129, rfl⟩
abbrev main_cst_10 : Ref sig .tc := ⟨.hbm, 130, rfl⟩
abbrev main_v111 : Ref sig .tc := ⟨.hbm, 131, rfl⟩
abbrev main_v112 : Ref sig .tc := ⟨.hbm, 132, rfl⟩
abbrev main_cst_11 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_12 : Ref sig .tc := ⟨.hbm, 164, rfl⟩
abbrev main_cst_13 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_14 : Ref sig .tc := ⟨.hbm, 173, rfl⟩
abbrev main_v150 : Ref sig .tc := ⟨.hbm, 174, rfl⟩
abbrev main_cst_15 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_cst_16 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩

abbrev nD : Nat := 1
abbrev τ : Topo := Topo.v7x

variable {F : FTy → Type} [FloatOps F]
-- ==== Mixed.lean ====
abbrev S16384x1024 : Shape := ⟨2, ![16384, 1024]⟩
abbrev S2x8192x1024 : Shape := ⟨3, ![2, 8192, 1024]⟩
abbrev S8x6x1024 : Shape := ⟨3, ![8, 6, 1024]⟩
abbrev S1024x1024 : Shape := ⟨2, ![1024, 1024]⟩
abbrev S1024 : Shape := ⟨1, ![1024]⟩
abbrev S64 : Shape := ⟨1, ![64]⟩
abbrev S_ : Shape := ⟨0, ![]⟩
abbrev S64x1 : Shape := ⟨2, ![64, 1]⟩
abbrev S64x6x1024 : Shape := ⟨3, ![64, 6, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 20
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S8x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S64, .i32⟩
  | .hbm, ⟨7, _⟩ => ⟨S64, .i1⟩
  | .hbm, ⟨8, _⟩ => ⟨S16384x1024, .f32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x6x1024, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixedRefIdeal.lean ====
abbrev S16384x1024 : Shape := ⟨2, ![16384, 1024]⟩
abbrev S2x8192x1024 : Shape := ⟨3, ![2, 8192, 1024]⟩
abbrev S8x6x1024 : Shape := ⟨3, ![8, 6, 1024]⟩
abbrev S1024x1024 : Shape := ⟨2, ![1024, 1024]⟩
abbrev S1024 : Shape := ⟨1, ![1024]⟩
abbrev S2x6x1024 : Shape := ⟨3, ![2, 6, 1024]⟩
abbrev S6x2x1024 : Shape := ⟨3, ![6, 2, 1024]⟩
abbrev S6x2x1x1024 : Shape := ⟨4, ![6, 2, 1, 1024]⟩
abbrev S_ : Shape := ⟨0, ![]⟩
abbrev S1x2x1x1024 : Shape := ⟨4, ![1, 2, 1, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S8x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S2x6x1024, .f32⟩
  | .hbm, ⟨8, _⟩ => ⟨S6x2x1024, .f32⟩
  | .hbm, ⟨9, _⟩ => ⟨S6x2x1x1024, .f32⟩
  | .hbm, ⟨10, _⟩ => ⟨S_, .f32⟩
  | .hbm, ⟨11, _⟩ => ⟨S2x8192x1024, .f32⟩
  | .hbm, ⟨12, _⟩ => ⟨S2x8192x1024, .f32⟩
  | .hbm, ⟨13, _⟩ => ⟨S1x2x1x1024, .f32⟩
  | .hbm, ⟨14, _⟩ => ⟨S2x1x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S16384x1024, .f32⟩
  | .hbm, ⟨49, _⟩ => ⟨S1x2x1x1024, .f32⟩
  | .hbm, ⟨50, _⟩ => ⟨S2x1x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S2x8192x1024, .f32⟩
  | .hbm, ⟨55, _⟩ => ⟨S2x8192x1024, .f32⟩
  | .hbm, ⟨56, _⟩ => ⟨S1x2x1x1024, .f32⟩
  | .hbm, ⟨57, _⟩ => ⟨S2x1x1024, .f32⟩
  | .hbm, ⟨58, _⟩ => ⟨S2x8192x1024, .f32⟩
  | .hbm, ⟨59, _⟩ => ⟨S2x8192x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Glu.lean ====
abbrev S16896x1024 : Shape := ⟨2, ![16896, 1024]⟩
abbrev S8x6x1024 : Shape := ⟨3, ![8, 6, 1024]⟩
abbrev S1024 : Shape := ⟨1, ![1024]⟩
abbrev S1024x1024 : Shape := ⟨2, ![1024, 1024]⟩
abbrev S66 : Shape := ⟨1, ![66]⟩
abbrev S_ : Shape := ⟨0, ![]⟩
abbrev S66x1 : Shape := ⟨2, ![66, 1]⟩
abbrev S66x6x1024 : Shape := ⟨3, ![66, 6, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 24
  | .vmem => 17
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16896x1024, .f32⟩
  | .hbm, ⟨3, _⟩ => ⟨S8x6x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S66, .i32⟩
  | .hbm, ⟨10, _⟩ => ⟨S66, .i1⟩
  | .hbm, ⟨11, _⟩ => ⟨S_, .i32⟩
  | .hbm, ⟨12, _⟩ => ⟨S66, .i32⟩
  | .hbm, ⟨13, _⟩ => ⟨S66, .i32⟩
  | .hbm, ⟨14, _⟩ => ⟨S66, .i32⟩
  | .hbm, ⟨15, _⟩ => ⟨S66x1, .i32⟩
  | .hbm, ⟨16, _⟩ => ⟨S66x6x1024, .f32⟩
  | .hbm, ⟨17, _⟩ => ⟨S1x1024, .f32⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S16896x1024, .f32⟩
  | .hbm, ⟨23, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GluRefIdeal.lean ====
abbrev S16896x1024 : Shape := ⟨2, ![16896, 1024]⟩
abbrev S8x6x1024 : Shape := ⟨3, ![8, 6, 1024]⟩
abbrev S1024 : Shape := ⟨1, ![1024]⟩
abbrev S1024x1024 : Shape := ⟨2, ![1024, 1024]⟩
abbrev S2x8448x1024 : Shape := ⟨3, ![2, 8448, 1024]⟩
abbrev S2x6x1024 : Shape := ⟨3, ![2, 6, 1024]⟩
abbrev S6x2x1024 : Shape := ⟨3, ![6, 2, 1024]⟩
abbrev S6x2x1x1024 : Shape := ⟨4, ![6, 2, 1, 1024]⟩
abbrev S1x6x1024 : Shape := ⟨3, ![1, 6, 1024]⟩
abbrev S6x1024 : Shape := ⟨2, ![6, 1024]⟩
abbrev S6x1x1x1024 : Shape := ⟨4, ![6, 1, 1, 1024]⟩
abbrev S2x256x1024 : Shape := ⟨3, ![2, 256, 1024]⟩
abbrev S2x8192x1024 : Shape := ⟨3, ![2, 8192, 1024]⟩
abbrev S1x2x1x1024 : Shape := ⟨4, ![1, 2, 1, 1024]⟩
abbrev S2x1x1024 : Shape := ⟨3, ![2, 1, 1024]⟩
abbrev S_ : Shape := ⟨0, ![]⟩
abbrev S1x1x1x1024 : Shape := ⟨4, ![1, 1, 1, 1024]⟩
abbrev S1x1x1024 : Shape := ⟨3, ![1, 1, 1024]⟩
abbrev S2x8192 : Shape := ⟨2, ![2, 8192]⟩
abbrev S2x8192x1 : Shape := ⟨3, ![2, 8192, 1]⟩
abbrev S2x256 : Shape := ⟨2, ![2, 256]⟩
abbrev S2x256x1 : Shape := ⟨3, ![2, 256, 1]⟩

abbrev nBuf : Space → Nat
  | .hbm => 196
  | .vmem => 0
  | .smem => 0
  | _ => 0

abbrev hbmTy0_0 (i : Nat) : BufTy := match i % 128 with
  | 0 => ⟨S16896x1024, .f32⟩
  | 1 => ⟨S16896x1024, .f32⟩
  | 2 => ⟨S16896x1024, .f32⟩
  | 3 => ⟨S8x6x1024, .f32⟩
  | 4 => ⟨S1024, .f32⟩
  | 5 => ⟨S1024x1024, .f32⟩
  | 6 => ⟨S1024x1024, .f32⟩
  | 7 => ⟨S1024, .f32⟩
  | 8 => ⟨S1024, .f32⟩
  | 9 => ⟨S2x8448x1024, .f32⟩
  | 10 => ⟨S2x8448x1024, .f32⟩
  | 11 => ⟨S2x8448x1024, .f32⟩
  | 12 => ⟨S2x6x1024, .f32⟩
  | 13 => ⟨S6x2x1024, .f32⟩
  | 14 => ⟨S6x2x1x1024, .f32⟩
  | 15 => ⟨S1x6x1024, .f32⟩
  | 16 => ⟨S6x1024, .f32⟩
  | 17 => ⟨S6x1x1x1024, .f32⟩
  | 18 => ⟨S2x256x1024, .f32⟩
  | 19 => ⟨S2x8192x1024, .f32⟩
  | 20 => ⟨S1x2x1x1024, .f32⟩
  | 21 => ⟨S2x1x1024, .f32⟩
  | 22 => ⟨S_, .f32⟩
  | 23 => ⟨S2x1x1024, .f32⟩
  | 24 => ⟨S2x1x1024, .f32⟩
  | 25 => ⟨S2x8192x1024, .f32⟩
  | 26 => ⟨S2x8192x1024, .f32⟩
  | 27 => ⟨S1x2x1x1024, .f32⟩
  | 28 => ⟨S2x1x1024, .f32⟩
  | 29 => ⟨S2x8192x1024, .f32⟩
  | 30 => ⟨S2x8192x1024, .f32⟩
  | 31 => ⟨S1x1x1x1024, .f32⟩
  | 32 => ⟨S1x1x1024, .f32⟩
  | 33 => ⟨S_, .f32⟩
  | 34 => ⟨S1x1x1024, .f32⟩
  | 35 => ⟨S1x1x1024, .f32⟩
  | 36 => ⟨S2x256x1024, .f32⟩
  | 37 => ⟨S2x256x1024, .f32⟩
  | 38 => ⟨S1x1x1x1024, .f32⟩
  | 39 => ⟨S1x1x1024, .f32⟩
  | 40 => ⟨S2x256x1024, .f32⟩
  | 41 => ⟨S2x256x1024, .f32⟩
  | 42 => ⟨S2x8192x1024, .f32⟩
  | 43 => ⟨S2x8192x1024, .f32⟩
  | 44 => ⟨S2x8192x1024, .f32⟩
  | 45 => ⟨S1x1x1024, .f32⟩
  | 46 => ⟨S2x8192x1024, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S2x8192x1024, .f32⟩
  | 53 => ⟨S_, .f32⟩
  | 54 => ⟨S2x8192x1024, .f32⟩
  | 55 => ⟨S2x8192x1024, .f32⟩
  | 56 => ⟨S2x8192x1024, .f32⟩
  | 57 => ⟨S2x8192x1024, .f32⟩
  | 58 => ⟨S2x8192x1024, .f32⟩
  | 59 => ⟨S2x8192x1024, .f32⟩
  | 60 => ⟨S2x8192x1024, .f32⟩
  | 61 => ⟨S_, .f32⟩
  | 62 => ⟨S2x8192x1024, .f32⟩
  | 63 => ⟨S2x8192x1024, .f32⟩
  | 64 => ⟨S_, .f32⟩
  | 65 => ⟨S2x8192x1024, .f32⟩
  | 66 => ⟨S2x8192x1024, .f32⟩
  | 67 => ⟨S2x8192x1024, .f32⟩
  | 68 => ⟨S2x8192x1024, .f32⟩
  | 69 => ⟨S2x256x1024, .f32⟩
  | 70 => ⟨S2x256x1024, .f32⟩
  | 71 => ⟨S2x256x1024, .f32⟩
  | 72 => ⟨S1x1x1024, .f32⟩
  | 73 => ⟨S2x256x1024, .f32⟩
  | 74 => ⟨S2x256x1024, .f32⟩
  | 75 => ⟨S2x256x1024, .f32⟩
  | 76 => ⟨S_, .f32⟩
  | 77 => ⟨S2x256x1024, .f32⟩
  | 78 => ⟨S2x256x1024, .f32⟩
  | 79 => ⟨S2x256x1024, .f32⟩
  | 80 => ⟨S_, .f32⟩
  | 81 => ⟨S2x256x1024, .f32⟩
  | 82 => ⟨S2x256x1024, .f32⟩
  | 83 => ⟨S2x256x1024, .f32⟩
  | 84 => ⟨S2x256x1024, .f32⟩
  | 85 => ⟨S2x256x1024, .f32⟩
  | 86 => ⟨S2x256x1024, .f32⟩
  | 87 => ⟨S2x256x1024, .f32⟩
  | 88 => ⟨S_, .f32⟩
  | 89 => ⟨S2x256x1024, .f32⟩
  | 90 => ⟨S2x256x1024, .f32⟩
  | 91 => ⟨S_, .f32⟩
  | 92 => ⟨S2x256x1024, .f32⟩
  | 93 => ⟨S2x256x1024, .f32⟩
  | 94 => ⟨S2x256x1024, .f32⟩
  | 95 => ⟨S2x256x1024, .f32⟩
  | 96 => ⟨S_, .f32⟩
  | 97 => ⟨S2x8192x1024, .f32⟩
  | 98 => ⟨S2x8192x1024, .f32⟩
  | 99 => ⟨S1x2x1x1024, .f32⟩
  | 100 => ⟨S2x1x1024, .f32⟩
  | 101 => ⟨S2x8192x1024, .f32⟩
  | 102 => ⟨S2x8192x1024, .f32⟩
  | 103 => ⟨S2x8192x1024, .f32⟩
  | 104 => ⟨S_, .f32⟩
  | 105 => ⟨S2x8192, .f32⟩
  | 106 => ⟨S2x8192x1, .f32⟩
  | 107 => ⟨S_, .f32⟩
  | 108 => ⟨S2x8192x1, .f32⟩
  | 109 => ⟨S2x8192x1, .f32⟩
  | 110 => ⟨S2x8192x1024, .f32⟩
  | 111 => ⟨S2x8192x1024, .f32⟩
  | 112 => ⟨S2x8192x1024, .f32⟩
  | 113 => ⟨S_, .f32⟩
  | 114 => ⟨S2x8192, .f32⟩
  | 115 => ⟨S2x8192x1, .f32⟩
  | 116 => ⟨S_, .f32⟩
  | 117 => ⟨S2x8192x1, .f32⟩
  | 118 => ⟨S2x8192x1, .f32⟩
  | 119 => ⟨S2x8192x1024, .f32⟩
  | 120 => ⟨S2x8192x1024, .f32⟩
  | 121 => ⟨S_, .f32⟩
  | 122 => ⟨S2x8192x1, .f32⟩
  | 123 => ⟨S2x8192x1, .f32⟩
  | 124 => ⟨S2x8192x1, .f32⟩
  | 125 => ⟨S2x8192x1024, .f32⟩
  | 126 => ⟨S2x8192x1024, .f32⟩
  | 127 => ⟨S1x1x1024, .f32⟩
  | _ => ⟨S16896x1024, .f32⟩

abbrev hbmTy0_1 (i : Nat) : BufTy := match i % 128 with
  | 0 => ⟨S2x8192x1024, .f32⟩
  | 1 => ⟨S2x8192x1024, .f32⟩
  | 2 => ⟨S1x1x1024, .f32⟩
  | 3 => ⟨S2x8192x1024, .f32⟩
  | 4 => ⟨S2x8192x1024, .f32⟩
  | 5 => ⟨S_, .f32⟩
  | 6 => ⟨S2x256x1024, .f32⟩
  | 7 => ⟨S2x256x1024, .f32⟩
  | 8 => ⟨S1x1x1x1024, .f32⟩
  | 9 => ⟨S1x1x1024, .f32⟩
  | 10 => ⟨S2x256x1024, .f32⟩
  | 11 => ⟨S2x256x1024, .f32⟩
  | 12 => ⟨S2x256x1024, .f32⟩
  | 13 => ⟨S_, .f32⟩
  | 14 => ⟨S2x256, .f32⟩
  | 15 => ⟨S2x256x1, .f32⟩
  | 16 => ⟨S_, .f32⟩
  | 17 => ⟨S2x256x1, .f32⟩
  | 18 => ⟨S2x256x1, .f32⟩
  | 19 => ⟨S2x256x1024, .f32⟩
  | 20 => ⟨S2x256x1024, .f32⟩
  | 21 => ⟨S2x256x1024, .f32⟩
  | 22 => ⟨S_, .f32⟩
  | 23 => ⟨S2x256, .f32⟩
  | 24 => ⟨S2x256x1, .f32⟩
  | 25 => ⟨S_, .f32⟩
  | 26 => ⟨S2x256x1, .f32⟩
  | 27 => ⟨S2x256x1, .f32⟩
  | 28 => ⟨S2x256x1024, .f32⟩
  | 29 => ⟨S2x256x1024, .f32⟩
  | 30 => ⟨S_, .f32⟩
  | 31 => ⟨S2x256x1, .f32⟩
  | 32 => ⟨S2x256x1, .f32⟩
  | 33 => ⟨S2x256x1, .f32⟩
  | 34 => ⟨S2x256x1024, .f32⟩
  | 35 => ⟨S2x256x1024, .f32⟩
  | 36 => ⟨S1x1x1024, .f32⟩
  | 37 => ⟨S2x256x1024, .f32⟩
  | 38 => ⟨S2x256x1024, .f32⟩
  | 39 => ⟨S1x1x1024, .f32⟩
  | 40 => ⟨S2x256x1024, .f32⟩
  | 41 => ⟨S2x256x1024, .f32⟩
  | 42 => ⟨S1x2x1x1024, .f32⟩
  | 43 => ⟨S2x1x1024, .f32⟩
  | 44 => ⟨S_, .f32⟩
  | 45 => ⟨S2x1x1024, .f32⟩
  | 46 => ⟨S2x1x1024, .f32⟩
  | 47 => ⟨S2x8192x1024, .f32⟩
  | 48 => ⟨S2x8192x1024, .f32⟩
  | 49 => ⟨S1x2x1x1024, .f32⟩
  | 50 => ⟨S2x1x1024, .f32⟩
  | 51 => ⟨S2x8192x1024, .f32⟩
  | 52 => ⟨S2x8192x1024, .f32⟩
  | 53 => ⟨S1x1x1x1024, .f32⟩
  | 54 => ⟨S1x1x1024, .f32⟩
  | 55 => ⟨S_, .f32⟩
  | 56 => ⟨S1x1x1024, .f32⟩
  | 57 => ⟨S1x1x1024, .f32⟩
  | 58 => ⟨S2x256x1024, .f32⟩
  | 59 => ⟨S2x256x1024, .f32⟩
  | 60 => ⟨S1x1x1x1024, .f32⟩
  | 61 => ⟨S1x1x1024, .f32⟩
  | 62 => ⟨S2x256x1024, .f32⟩
  | 63 => ⟨S2x256x1024, .f32⟩
  | 64 => ⟨S2x8448x1024, .f32⟩
  | 65 => ⟨S16896x1024, .f32⟩
  | 66 => ⟨S2x8448x1024, .f32⟩
  | 67 => ⟨S16896x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_10 : Ref sig .tc := ⟨.hbm, 104, rfl⟩
abbrev main_v84 : Ref sig .tc := ⟨.hbm, 105, rfl⟩
abbrev main_v85 : Ref sig .tc := ⟨.hbm, 106, rfl⟩
abbrev main_cst_11 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_12 : Ref sig .tc := ⟨.hbm, 113, rfl⟩
abbrev main_v91 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_14 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_15 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_16 : Ref sig .tc := ⟨.hbm, 141, rfl⟩
abbrev main_v115 : Ref sig .tc := ⟨.hbm, 142, rfl⟩
abbrev main_v116 : Ref sig .tc := ⟨.hbm, 143, rfl⟩
abbrev main_cst_17 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_18 : Ref sig .tc := ⟨.hbm, 150, rfl⟩
abbrev main_v122 : Ref sig .tc := ⟨.hbm, 151, rfl⟩
abbrev main_v123 : Ref sig .tc := ⟨.hbm, 152, rfl⟩
abbrev main_cst_19 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_20 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_21 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_22 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩

abbrev nD : Nat := 1
abbrev τ : Topo := Topo.v7x

variable {F : FTy → Type} [FloatOps F]
-- ==== Last.lean ====
abbrev S16384x1024 : Shape := ⟨2, ![16384, 1024]⟩
abbrev S8x6x1024 : Shape := ⟨3, ![8, 6, 1024]⟩
abbrev S1024 : Shape := ⟨1, ![1024]⟩
abbrev S64 : Shape := ⟨1, ![64]⟩
abbrev S_ : Shape := ⟨0, ![]⟩
abbrev S64x1 : Shape := ⟨2, ![64, 1]⟩
abbrev S64x6x1024 : Shape := ⟨3, ![64, 6, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x6x1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S16384x1024 : Shape := ⟨2, ![16384, 1024]⟩
abbrev S8x6x1024 : Shape := ⟨3, ![8, 6, 1024]⟩
abbrev S1024 : Shape := ⟨1, ![1024]⟩
abbrev S2x8192x1024 : Shape := ⟨3, ![2, 8192, 1024]⟩
abbrev S2x6x1024 : Shape := ⟨3, ![2, 6, 1024]⟩
abbrev S6x2x1024 : Shape := ⟨3, ![6, 2, 1024]⟩
abbrev S6x2x1x1024 : Shape := ⟨4, ![6, 2, 1, 1024]⟩
abbrev S_ : Shape := ⟨0, ![]⟩
abbrev S1x2x1x1024 : Shape := ⟨4, ![1, 2, 1, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S2x8192x1024, .f32⟩
  | .hbm, ⟨6, _⟩ => ⟨S2x8192x1024, .f32⟩
  | .hbm, ⟨7, _⟩ => ⟨S2x6x1024, .f32⟩
  | .hbm, ⟨8, _⟩ => ⟨S6x2x1024, .f32⟩
  | .hbm, ⟨9, _⟩ => ⟨S6x2x1x1024, .f32⟩
  | .hbm, ⟨10, _⟩ => ⟨S_, .f32⟩
  | .hbm, ⟨11, _⟩ => ⟨S2x8192x1024, .f32⟩
  | .hbm, ⟨12, _⟩ => ⟨S2x8192x1024, .f32⟩
  | .hbm, ⟨13, _⟩ => ⟨S1x2x1x1024, .f32⟩
  | .hbm, ⟨14, _⟩ => ⟨S2x1x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== First.lean ====
abbrev S16896x1024 : Shape := ⟨2, ![16896, 1024]⟩
abbrev S8x6x1024 : Shape := ⟨3, ![8, 6, 1024]⟩
abbrev S1024 : Shape := ⟨1, ![1024]⟩
abbrev S66 : Shape := ⟨1, ![66]⟩
abbrev S_ : Shape := ⟨0, ![]⟩
abbrev S66x1 : Shape := ⟨2, ![66, 1]⟩
abbrev S66x6x1024 : Shape := ⟨3, ![66, 6, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 16
  | .vmem => 10
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S66, .i32⟩
  | .hbm, ⟨6, _⟩ => ⟨S66, .i1⟩
  | .hbm, ⟨7, _⟩ => ⟨S_, .i32⟩
  | .hbm, ⟨8, _⟩ => ⟨S66, .i32⟩
  | .hbm, ⟨9, _⟩ => ⟨S66, .i32⟩
  | .hbm, ⟨10, _⟩ => ⟨S66, .i32⟩
  | .hbm, ⟨11, _⟩ => ⟨S66x1, .i32⟩
  | .hbm, ⟨12, _⟩ => ⟨S66x6x1024, .f32⟩
  | .hbm, ⟨13, _⟩ => ⟨S1x1024, .f32⟩
  | .hbm, ⟨14, _⟩ => ⟨S1x1024, .f32⟩
  | .hbm, ⟨15, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FirstRefIdeal.lean ====
abbrev S16896x1024 : Shape := ⟨2, ![16896, 1024]⟩
abbrev S8x6x1024 : Shape := ⟨3, ![8, 6, 1024]⟩
abbrev S1024 : Shape := ⟨1, ![1024]⟩
abbrev S2x8448x1024 : Shape := ⟨3, ![2, 8448, 1024]⟩
abbrev S2x6x1024 : Shape := ⟨3, ![2, 6, 1024]⟩
abbrev S6x2x1024 : Shape := ⟨3, ![6, 2, 1024]⟩
abbrev S6x2x1x1024 : Shape := ⟨4, ![6, 2, 1, 1024]⟩
abbrev S1x6x1024 : Shape := ⟨3, ![1, 6, 1024]⟩
abbrev S6x1024 : Shape := ⟨2, ![6, 1024]⟩
abbrev S6x1x1x1024 : Shape := ⟨4, ![6, 1, 1, 1024]⟩
abbrev S2x8192x1024 : Shape := ⟨3, ![2, 8192, 1024]⟩
abbrev S_ : Shape := ⟨0, ![]⟩
abbrev S1x2x1x1024 : Shape := ⟨4, ![1, 2, 1, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x256x1024 : Shape := ⟨3, ![2, 256, 1024]⟩
abbrev S1x1x1x1024 : Shape := ⟨4, ![1, 1, 1, 1024]⟩
abbrev S2x256 : Shape := ⟨2, ![2, 256]⟩
abbrev S2x256x1 : Shape := ⟨3, ![2, 256, 1]⟩

abbrev nBuf : Space → Nat
  | .hbm => 93
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S2x8448x1024, .f32⟩
  | .hbm, ⟨6, _⟩ => ⟨S2x8448x1024, .f32⟩
  | .hbm, ⟨7, _⟩ => ⟨S2x6x1024, .f32⟩
  | .hbm, ⟨8, _⟩ => ⟨S6x2x1024, .f32⟩
  | .hbm, ⟨9, _⟩ => ⟨S6x2x1x1024, .f32⟩
  | .hbm, ⟨10, _⟩ => ⟨S1x6x1024, .f32⟩
  | .hbm, ⟨11, _⟩ => ⟨S6x1024, .f32⟩
  | .hbm, ⟨12, _⟩ => ⟨S6x1x1x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S1x2x1x1024, .f32⟩
  | .hbm, ⟨18, _⟩ => ⟨S2x1x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S2x256x1024, .f32⟩
  | .hbm, ⟨53, _⟩ => ⟨S_, .f32⟩
  | .hbm, ⟨54, _⟩ => ⟨S2x256x1024, .f32⟩
  | .hbm, ⟨55, _⟩ => ⟨S2x256x1024, .f32⟩
  | .hbm, ⟨56, _⟩ => ⟨S1x1x1x1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S2x256x1024, .f32⟩
  | .hbm, ⟨61, _⟩ => ⟨S2x256x1024, .f32⟩
  | .hbm, ⟨62, _⟩ => ⟨S_, .f32⟩
  | .hbm, ⟨63, _⟩ => ⟨S2x256, .f32⟩
  | .hbm, ⟨64, _⟩ => ⟨S2x256x1, .f32⟩
  | .hbm, ⟨65, _⟩ => ⟨S_, .f32⟩
  | .hbm, ⟨66, _⟩ => ⟨S2x256x1, .f32⟩
  | .hbm, ⟨67, _⟩ => ⟨S2x256x1, .f32⟩
  | .hbm, ⟨68, _⟩ => ⟨S2x256x1024, .f32⟩
  | .hbm, ⟨69, _⟩ => ⟨S2x256x1024, .f32⟩
  | .hbm, ⟨70, _⟩ => ⟨S2x256x1024, .f32⟩
  | .hbm, ⟨71, _⟩ => ⟨S_, .f32⟩
  | .hbm, ⟨72, _⟩ => ⟨S2x256, .f32⟩
  | .hbm, ⟨73, _⟩ => ⟨S2x256x1, .f32⟩
  | .hbm, ⟨74, _⟩ => ⟨S_, .f32⟩
  | .hbm, ⟨75, _⟩ => ⟨S2x256x1, .f32⟩
  | .hbm, ⟨76, _⟩ => ⟨S2x256x1, .f32⟩
  | .hbm, ⟨77, _⟩ => ⟨S2x256x1024, .f32⟩
  | .hbm, ⟨78, _⟩ => ⟨S2x256x1024, .f32⟩
  | .hbm, ⟨79, _⟩ => ⟨S_, .f32⟩
  | .hbm, ⟨80, _⟩ => ⟨S2x256x1, .f32⟩
  | .hbm, ⟨81, _⟩ => ⟨S2x256x1, .f32⟩
  | .hbm, ⟨82, _⟩ => ⟨S2x256x1, .f32⟩
  | .hbm, ⟨83, _⟩ => ⟨S2x256x1024, .f32⟩
  | .hbm, ⟨84, _⟩ => ⟨S2x256x1024, .f32⟩
  | .hbm, ⟨85, _⟩ => ⟨S1x1x1024, .f32⟩
  | .hbm, ⟨86, _⟩ => ⟨S2x256x1024, .f32⟩
  | .hbm, ⟨87, _⟩ => ⟨S2x256x1024, .f32⟩
  | .hbm, ⟨88, _⟩ => ⟨S1x1x1024, .f32⟩
  | .hbm, ⟨89, _⟩ => ⟨S2x256x1024, .f32⟩
  | .hbm, ⟨90, _⟩ => ⟨S2x256x1024, .f32⟩
  | .hbm, ⟨91, _⟩ => ⟨S2x8448x1024, .f32⟩
  | .hbm, ⟨92, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== AdaA.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S8x6144 : Shape := ⟨2, ![8, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaARefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== AdaB.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S8x6144 : Shape := ⟨2, ![8, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaBRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Route.lean ====
abbrev S16384x1024 : Shape := ⟨2, ![16384, 1024]⟩
abbrev S1024x1024 : Shape := ⟨2, ![1024, 1024]⟩
abbrev S8x2x128x64 : Shape := ⟨4, ![8, 2, 128, 64]⟩
abbrev S16x128x64 : Shape := ⟨3, ![16, 128, 64]⟩
abbrev S16384x128 : Shape := ⟨2, ![16384, 128]⟩
abbrev S256x1024 : Shape := ⟨2, ![256, 1024]⟩
abbrev S256x128 : Shape := ⟨2, ![256, 128]⟩
abbrev S1024x256 : Shape := ⟨2, ![1024, 256]⟩
abbrev S1x128x64 : Shape := ⟨3, ![1, 128, 64]⟩
abbrev S128x64 : Shape := ⟨2, ![128, 64]⟩
abbrev S64x256 : Shape := ⟨2, ![64, 256]⟩
abbrev S128x256 : Shape := ⟨2, ![128, 256]⟩
abbrev S256 : Shape := ⟨1, ![256]⟩
abbrev S1x256 : Shape := ⟨2, ![1, 256]⟩
abbrev S16x256 : Shape := ⟨2, ![16, 256]⟩
abbrev S8x256 : Shape := ⟨2, ![8, 256]⟩
abbrev S5x256 : Shape := ⟨2, ![5, 256]⟩
abbrev S4x256 : Shape := ⟨2, ![4, 256]⟩
abbrev S3x256 : Shape := ⟨2, ![3, 256]⟩
abbrev S2x256 : Shape := ⟨2, ![2, 256]⟩
abbrev S6x256 : Shape := ⟨2, ![6, 256]⟩
abbrev S56x256 : Shape := ⟨2, ![56, 256]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S8x2x128x64, .f32⟩
  | .hbm, ⟨3, _⟩ => ⟨S16x128x64, .f32⟩
  | .hbm, ⟨4, _⟩ => ⟨S1024x1024, .f32⟩
  | .hbm, ⟨5, _⟩ => ⟨S16384x128, .i32⟩
  | .hbm, ⟨6, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S16x128x64, .f32⟩
  | .local _ .vmem, ⟨4, _⟩ => ⟨S256x128, .i32⟩
  | .local _ .vmem, ⟨5, _⟩ => ⟨S256x128, .i32⟩
  | .local _ .vmem, ⟨6, _⟩ => ⟨S256x128, .f32⟩
  | .local _ .vmem, ⟨7, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouteRefIdeal.lean ====
abbrev S16384x1024 : Shape := ⟨2, ![16384, 1024]⟩
abbrev S1024x1024 : Shape := ⟨2, ![1024, 1024]⟩
abbrev S8x2x128x64 : Shape := ⟨4, ![8, 2, 128, 64]⟩
abbrev S16384x8x2x64 : Shape := ⟨4, ![16384, 8, 2, 64]⟩
abbrev S8x2x128x16384 : Shape := ⟨4, ![8, 2, 128, 16384]⟩
abbrev S16384x8x2x128 : Shape := ⟨4, ![16384, 8, 2, 128]⟩
abbrev S16384x8x2x16 : Shape := ⟨4, ![16384, 8, 2, 16]⟩
abbrev S16384x8x1x16 : Shape := ⟨4, ![16384, 8, 1, 16]⟩
abbrev S16384x8x16 : Shape := ⟨3, ![16384, 8, 16]⟩
abbrev S16384x8x16x1 : Shape := ⟨4, ![16384, 8, 16, 1]⟩
abbrev S16384x8x16x16 : Shape := ⟨4, ![16384, 8, 16, 16]⟩
abbrev S16384x8x256 : Shape := ⟨3, ![16384, 8, 256]⟩
abbrev S_ : Shape := ⟨0, ![]⟩
abbrev S1 : Shape := ⟨1, ![1]⟩
abbrev S1x1x1x1 : Shape := ⟨4, ![1, 1, 1, 1]⟩
abbrev S16384x8 : Shape := ⟨2, ![16384, 8]⟩
abbrev S16384x8x1 : Shape := ⟨3, ![16384, 8, 1]⟩
abbrev S16384x128 : Shape := ⟨2, ![16384, 128]⟩

abbrev nBuf : Space → Nat
  | .hbm => 129
  | .vmem => 0
  | .smem => 0
  | _ => 0

abbrev hbmTy0_0 (i : Nat) : BufTy := match i % 128 with
  | 0 => ⟨S16384x1024, .f32⟩
  | 1 => ⟨S1024x1024, .f32⟩
  | 2 => ⟨S8x2x128x64, .f32⟩
  | 3 => ⟨S16384x1024, .f32⟩
  | 4 => ⟨S16384x8x2x64, .f32⟩
  | 5 => ⟨S8x2x128x16384, .f32⟩
  | 6 => ⟨S16384x8x2x128, .f32⟩
  | 7 => ⟨S16384x8x2x16, .f32⟩
  | 8 => ⟨S16384x8x2x16, .i32⟩
  | 9 => ⟨S16384x8x1x16, .f32⟩
  | 10 => ⟨S16384x8x16, .f32⟩
  | 11 => ⟨S16384x8x16x1, .f32⟩
  | 12 => ⟨S16384x8x1x16, .f32⟩
  | 13 => ⟨S16384x8x16, .f32⟩
  | 14 => ⟨S16384x8x1x16, .f32⟩
  | 15 => ⟨S16384x8x16x16, .f32⟩
  | 16 => ⟨S16384x8x16x16, .f32⟩
  | 17 => ⟨S16384x8x16x16, .f32⟩
  | 18 => ⟨S16384x8x256, .f32⟩
  | 19 => ⟨S16384x8x16, .f32⟩
  | 20 => ⟨S16384x8x16, .i32⟩
  | 21 => ⟨S16384x8x1x16, .i32⟩
  | 22 => ⟨S16384x8x16, .i32⟩
  | 23 => ⟨S_, .i32⟩
  | 24 => ⟨S_, .i32⟩
  | 25 => ⟨S16384x8x16, .i32⟩
  | 26 => ⟨S16384x8x16, .i32⟩
  | 27 => ⟨S16384x8x16, .i32⟩
  | 28 => ⟨S_, .i32⟩
  | 29 => ⟨S16384x8x16, .i32⟩
  | 30 => ⟨S16384x8x16, .i1⟩
  | 31 => ⟨S16384x8x16, .i32⟩
  | 32 => ⟨S16384x8x16, .i32⟩
  | 33 => ⟨S_, .i32⟩
  | 34 => ⟨S16384x8x16, .i32⟩
  | 35 => ⟨S16384x8x16, .i1⟩
  | 36 => ⟨S16384x8x16, .i1⟩
  | 37 => ⟨S_, .i32⟩
  | 38 => ⟨S16384x8x16, .i32⟩
  | 39 => ⟨S16384x8x16, .i32⟩
  | 40 => ⟨S16384x8x16, .i32⟩
  | 41 => ⟨S_, .i32⟩
  | 42 => ⟨S16384x8x16, .i32⟩
  | 43 => ⟨S16384x8x16, .i1⟩
  | 44 => ⟨S_, .i32⟩
  | 45 => ⟨S16384x8x16, .i32⟩
  | 46 => ⟨S16384x8x16, .i32⟩
  | 47 => ⟨S16384x8x16, .i32⟩
  | 48 => ⟨S16384x8x16x1, .i32⟩
  | 49 => ⟨S1, .i32⟩
  | 50 => ⟨S_, .i32⟩
  | 51 => ⟨S16384x8x16x1, .i32⟩
  | 52 => ⟨S16384x8x16x1, .i1⟩
  | 53 => ⟨S1x1x1x1, .i32⟩
  | 54 => ⟨S16384x8x16x1, .i32⟩
  | 55 => ⟨S16384x8x16x1, .i1⟩
  | 56 => ⟨S16384x8x16x1, .i1⟩
  | 57 => ⟨S_, .i1⟩
  | 58 => ⟨S16384x8x16, .i1⟩
  | 59 => ⟨S16384x8x16, .i32⟩
  | 60 => ⟨S_, .i32⟩
  | 61 => ⟨S16384x8x16, .i32⟩
  | 62 => ⟨S16384x8x16, .i32⟩
  | 63 => ⟨S16384x8x1x16, .i32⟩
  | 64 => ⟨S16384x8x16, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S16384x8x16, .i32⟩
  | 72 => ⟨S16384x8x16, .i32⟩
  | 73 => ⟨S_, .i32⟩
  | 74 => ⟨S16384x8x16, .i32⟩
  | 75 => ⟨S16384x8x16, .i1⟩
  | 76 => ⟨S_, .i32⟩
  | 77 => ⟨S16384x8x16, .i32⟩
  | 78 => ⟨S16384x8x16, .i1⟩
  | 79 => ⟨S_, .i32⟩
  | 80 => ⟨S_, .i1⟩
  | 81 => ⟨S16384x8x16, .i1⟩
  | 82 => ⟨S16384x8x16, .i1⟩
  | 83 => ⟨S16384x8x16, .i1⟩
  | 84 => ⟨S16384x8x16, .i32⟩
  | 85 => ⟨S16384x8x16, .i32⟩
  | 86 => ⟨S16384x8x16, .i32⟩
  | 87 => ⟨S_, .i32⟩
  | 88 => ⟨S16384x8x16, .i32⟩
  | 89 => ⟨S16384x8x16, .i1⟩
  | 90 => ⟨S_, .i32⟩
  | 91 => ⟨S16384x8x16, .i32⟩
  | 92 => ⟨S16384x8x16, .i32⟩
  | 93 => ⟨S16384x8x16, .i32⟩
  | 94 => ⟨S16384x8x16x1, .i32⟩
  | 95 => ⟨S1, .i32⟩
  | 96 => ⟨S_, .i32⟩
  | 97 => ⟨S16384x8x16x1, .i32⟩
  | 98 => ⟨S16384x8x16x1, .i1⟩
  | 99 => ⟨S1x1x1x1, .i32⟩
  | 100 => ⟨S16384x8x16x1, .i32⟩
  | 101 => ⟨S16384x8x16x1, .i1⟩
  | 102 => ⟨S16384x8x16x1, .i1⟩
  | 103 => ⟨S_, .i1⟩
  | 104 => ⟨S16384x8x16, .i1⟩
  | 105 => ⟨S16384x8x16, .i32⟩
  | 106 => ⟨S_, .i32⟩
  | 107 => ⟨S16384x8x16, .i32⟩
  | 108 => ⟨S16384x8x16, .i32⟩
  | 109 => ⟨S_, .i32⟩
  | 110 => ⟨S16384x8x16, .i32⟩
  | 111 => ⟨S16384x8x16, .i32⟩
  | 112 => ⟨S16384x8x16, .i32⟩
  | 113 => ⟨S_, .f32⟩
  | 114 => ⟨S16384x8, .f32⟩
  | 115 => ⟨S_, .f32⟩
  | 116 => ⟨S16384x8, .f32⟩
  | 117 => ⟨S16384x8, .f32⟩
  | 118 => ⟨S16384x8x1, .f32⟩
  | 119 => ⟨S16384x8x16, .f32⟩
  | 120 => ⟨S16384x8x16, .f32⟩
  | 121 => ⟨S16384x8x16, .f32⟩
  | 122 => ⟨S_, .f32⟩
  | 123 => ⟨S16384x8, .f32⟩
  | 124 => ⟨S16384x8x1, .f32⟩
  | 125 => ⟨S16384x8x16, .f32⟩
  | 126 => ⟨S16384x8x16, .f32⟩
  | 127 => ⟨S16384x128, .i32⟩
  | _ => ⟨S16384x1024, .f32⟩

abbrev hbmTy0_1 (i : Nat) : BufTy := match i % 128 with
  | 0 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values_0 : Ref sig .tc := ⟨.hbm, 19, rfl⟩
abbrev main_indices_1 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v16 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_c_4 : Ref sig .tc := ⟨.hbm, 60, rfl⟩
abbrev main_call1_v14 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_c_2 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v20 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_c_4 : Ref sig .tc := ⟨.hbm, 106, rfl⟩
abbrev main_call3_v14 : Ref sig .tc := ⟨.hbm, 107, rfl⟩
abbrev main_v21 : Ref sig .tc := ⟨.hbm, 108, rfl⟩
abbrev main_c_3 : Ref sig .tc := ⟨.hbm, 109, rfl⟩
abbrev main_v22 : Ref sig .tc := ⟨.hbm, 110, rfl⟩
abbrev main_v23 : Ref sig .tc := ⟨.hbm, 111, rfl⟩
abbrev main_v24 : Ref sig .tc := ⟨.hbm, 112, rfl⟩
abbrev main_cst : Ref sig .tc := ⟨.hbm, 113, rfl⟩
abbrev main_v25 : Ref sig .tc := ⟨.hbm, 114, rfl⟩
abbrev main_cst_4 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_cst_5 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩

abbrev nD : Nat := 1
abbrev τ : Topo := Topo.v7x

variable {F : FTy → Type} [FloatOps F]
-- ==== Proof.KernelRun.lean ====
/- The whole run of the two-call program: every array of the main thread ends holding what the fold over its segments says. -/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

namespace Cert.Mla.Ker

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the machine owns of the pipelines' counters at launch, as the regions want it. -/
theorem tokens : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

set_option backward.isDefEq.respectTransparency.types false in
theorem run : θ_run defs (onTc (τ := τ) (main (F := F))) ⟨m, fun _ => 0, ρ⟩ fun r =>
    ∀ (c : Dev nD), ∀ b ∈ Pipeline.ucRefs τ sig, r.2.mem (((c : Thread nD τ)).1, b) = W7 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (tokens (F := F)); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- Read at one array of the main thread. -/
theorem ends (b : Ref sig .tc) (hb : (Proc.devRef (τ := τ) .tc b) ∈ Pipeline.ucRefs τ sig) (r : MemSt nD τ sig (Elt F))
    (h : ∀ (c : Dev nD), ∀ b ∈ Pipeline.ucRefs τ sig, r.mem (((c : Thread nD τ)).1, b) = W7 m ρ c b) (c : Dev nD) :
    r.mem ((c.tc : Thread nD τ).loc b) = W7 m ρ c (Proc.devRef .tc b) := h c _ hb

end Cert.Mla.Ker

end
-- ==== Proof.Spec.lean ====
/- The mixer's mathematics on plain functions: a linear layer, the root-mean-square norm, the rotation of a pair of halves,
   and the finite numbers among the extended reals. -/
module

public import Idealize.ShloMosaic.Lib.Pipeline.ValueKit
public import Idealize.ShloMosaic.Lib.Pointwise

@[expose] public section

noncomputable section

open Idealize.ShloMosaic

namespace Cert.Mla

/-- A row times a matrix. -/
def lin {k n : ℕ} (a : Fin k → EReal) (w : Fin k → Fin n → EReal) (j : Fin n) : EReal := ∑ e, a e * w e j

/-- The root-mean-square norm of a row of `N` entries. -/
def rms {k : ℕ} (N : EReal) (a g : Fin k → EReal) (j : Fin k) : EReal :=
  a j * Ideal.rsqrt (Ideal.div (∑ e, a e * a e) N + Ideal.ofBits .f32 897988541#32) * g j

/-- The other half's place. -/
def swp (i : Fin 64) : Fin 64 := ⟨(i.val + 32) % 64, by omega⟩

/-- The rotation, as the swapped halves times a signed table: `c` is the cosines twice, `s` the sines, negated first. -/
def rot (x c s : Fin 64 → EReal) (i : Fin 64) : EReal := x i * c i + x (swp i) * s i

/-- A finite number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.neg {x : EReal} (hx : Fin' x) : Fin' (-x) := by
  obtain ⟨a, rfl⟩ := hx; exact ⟨-a, (EReal.coe_neg a).symm⟩

theorem Fin'.one : Fin' 1 := ⟨1, rfl⟩

theorem Fin'.zero : Fin' 0 := ⟨0, rfl⟩

theorem Fin'.sum {ι : Type} [Fintype ι] {f : ι → EReal} (h : ∀ i, Fin' (f i)) : Fin' (∑ i, f i) := by
  choose g hg using h
  classical
  refine ⟨∑ i, g i, ?_⟩
  rw [show f = fun i => (g i : EReal) from funext hg]
  induction (Finset.univ : Finset ι) using Finset.induction_on with
  | empty => simp
  | insert a s ha ih => rw [Finset.sum_insert ha, Finset.sum_insert ha, EReal.coe_add, ih]

theorem Fin'.lin {k n : ℕ} {a : Fin k → EReal} {w : Fin k → Fin n → EReal} (ha : ∀ e, Fin' (a e)) {j : Fin n}
    (hw : ∀ e, Fin' (w e j)) : Fin' (Cert.Mla.lin a w j) := Fin'.sum fun e => (ha e).mul (hw e)

theorem eps_pos : ∃ r : ℝ, 0 < r ∧ Ideal.ofBits .f32 897988541#32 = (r : EReal) := by
  refine ⟨_, ?_, by simp [Ideal.ofBits, Ideal.ieee, -EReal.coe_mul]; rfl⟩
  norm_num

theorem Fin'.rms {k : ℕ} {N : ℝ} (hN : 0 < N) {a g : Fin k → EReal} (ha : ∀ e, Fin' (a e)) (hg : ∀ e, Fin' (g e))
    (j : Fin k) : Fin' (Cert.Mla.rms (N : EReal) a g j) := by
  obtain ⟨ε, hε, he⟩ := eps_pos
  refine ((ha j).mul ?_).mul (hg j)
  choose b hb using ha
  have hs : ∑ e, a e * a e = ((∑ e, b e * b e : ℝ) : EReal) := by
    simp only [hb, ← EReal.coe_mul]
    classical
    induction (Finset.univ : Finset (Fin k)) using Finset.induction_on with
    | empty => simp
    | insert a s ha ih => rw [Finset.sum_insert ha, Finset.sum_insert ha, EReal.coe_add, ih]
  have h0 : 0 ≤ ∑ e, b e * b e := Finset.sum_nonneg fun e _ => mul_self_nonneg _
  have hp : 0 < (∑ e, b e * b e) * (1 / N) + ε := by positivity
  rw [hs, Ideal.div_coe hN.ne', he, ← EReal.coe_mul, ← EReal.coe_add, Ideal.rsqrt_coe, if_neg (not_lt.mpr hp.le), if_neg hp.ne']
  exact ⟨_, rfl⟩

/-- The mixer's arguments, and the rotation's tables: the cosines twice and the signed sines of every row of a sequence. -/
structure Args where
  X : Fin 16896 → Fin 1024 → EReal
  M : Fin 8 → Fin 6 → Fin 1024 → EReal
  Wdq : Fin 1024 → Fin 384 → EReal
  qg : Fin 384 → EReal
  Wuq : Fin 384 → Fin 1536 → EReal
  Wdkv : Fin 1024 → Fin 320 → EReal
  kg : Fin 256 → EReal
  Wukv : Fin 256 → Fin 2048 → EReal
  C : Fin 8448 → Fin 64 → EReal
  S : Fin 8448 → Fin 64 → EReal

namespace Args
variable (p : Args)

/-- The row of the modulation that row `r` reads. -/
def modRow (r : Fin 16896) : Fin 8 := if r.val % 8448 < 256 then 2 else ⟨r.val / 8448, by omega⟩

/-- The first row of a tile of rows. -/
def tile (t : Fin 66) : Fin 16896 := ⟨t.val * 256, by omega⟩

/-- One of the modulation's first two parts. -/
def two (j : Fin 2) : Fin 6 := ⟨j.val, by omega⟩

/-- The columns: of the compressed keys and values, of the shared rotated key, of a head's keys, values and queries. -/
def cC (k : Fin 256) : Fin 320 := ⟨k.val, by omega⟩
def cR (k : Fin 64) : Fin 320 := ⟨256 + k.val, by omega⟩
def cK (h : Fin 8) (d : Fin 128) : Fin 2048 := ⟨h.val * 256 + d.val, by omega⟩
def cV (h : Fin 8) (d : Fin 128) : Fin 2048 := ⟨h.val * 256 + 128 + d.val, by omega⟩
def cN (h : Fin 8) (d : Fin 128) : Fin 1536 := ⟨h.val * 192 + d.val, by omega⟩
def cQ (h : Fin 8) (i : Fin 64) : Fin 1536 := ⟨h.val * 192 + 128 + i.val, by omega⟩

/-- The column of a head's entry, heads side by side. -/
def col (h : Fin 8) (d : Fin 128) : Fin 1024 := ⟨h.val * 128 + d.val, by omega⟩
def colR (h : Fin 8) (i : Fin 64) : Fin 512 := ⟨h.val * 64 + i.val, by omega⟩

/-- A row's place in its sequence. -/
def loc (r : Fin 16896) : Fin 8448 := ⟨r.val % 8448, by omega⟩

def m (r : Fin 16896) (e : Fin 1024) : EReal := p.X r e * (1 + p.M (modRow r) 1 e) + p.M (modRow r) 0 e

def ckv (r : Fin 16896) : Fin 256 → EReal :=
  rms (Ideal.ofBits FTy.f32 1132462080#32) (lin (p.m r) fun e (k : Fin 256) => p.Wdkv e (cC k)) p.kg

def kr (r : Fin 16896) : Fin 64 → EReal :=
  rot (lin (p.m r) fun e (k : Fin 64) => p.Wdkv e (cR k)) (p.C (loc r)) (p.S (loc r))

def kn (r : Fin 16896) (h : Fin 8) (d : Fin 128) : EReal := lin (p.ckv r) p.Wukv (cK h d)

def v (r : Fin 16896) (h : Fin 8) (d : Fin 128) : EReal := lin (p.ckv r) p.Wukv (cV h d)

def cq (r : Fin 16896) : Fin 384 → EReal := rms (Ideal.ofBits FTy.f32 1136656384#32) (lin (p.m r) p.Wdq) p.qg

def qn (r : Fin 16896) (h : Fin 8) (d : Fin 128) : EReal := lin (p.cq r) p.Wuq (cN h d)

def qr (r : Fin 16896) (h : Fin 8) : Fin 64 → EReal :=
  rot (fun i => lin (p.cq r) p.Wuq (cQ h i)) (p.C (loc r)) (p.S (loc r))

end Args

end Cert.Mla
-- ==== Proof.Tables.lean ====
/- The rotation's tables, as functions of a row's place in its sequence. -/
module

public import proofs.«01_k».proof.Proof.Spec

@[expose] public section

set_option maxRecDepth 16384
noncomputable section

open Idealize.ShloMosaic Idealize.ShloMosaic.TcCoe Idealize.SL.Sem

namespace Cert.Mla

/-- The floored quotient by `c`, as the program spells it. -/
def fdiv (x c : BitVec 32) : BitVec 32 :=
  Scalar.select
      (IntOp.andi
        (IntOp.cmpi CmpIPredicate.ne (if x = 0 then 0 else if BitVec.msb x = true then -1 else 1 : BitVec 32)
          (if c = 0 then 0 else if BitVec.msb c = true then -1 else 1 : BitVec 32))
        (IntOp.cmpi CmpIPredicate.ne (IntOp.remsi ArithUnit.host x c) 0#32))
      (IntOp.subi (IntOp.divsi ArithUnit.host x c) 1#32)
      (IntOp.divsi ArithUnit.host x c)

/-- The remainder by `c`, as the program spells it. -/
def fmod (x c : BitVec 32) : BitVec 32 :=
  Scalar.select
      (IntOp.andi
        (IntOp.cmpi CmpIPredicate.ne
          (IntOp.cmpi CmpIPredicate.slt
            (IntOp.remsi ArithUnit.host x (Scalar.select (IntOp.cmpi CmpIPredicate.eq c 0#32) (1#32) c)) 0#32)
          (IntOp.cmpi CmpIPredicate.slt (Scalar.select (IntOp.cmpi CmpIPredicate.eq c 0#32) (1#32) c) 0#32))
        (IntOp.cmpi CmpIPredicate.ne
          (IntOp.remsi ArithUnit.host x (Scalar.select (IntOp.cmpi CmpIPredicate.eq c 0#32) (1#32) c)) 0#32))
      (IntOp.addi (IntOp.remsi ArithUnit.host x (Scalar.select (IntOp.cmpi CmpIPredicate.eq c 0#32) (1#32) c))
        (Scalar.select (IntOp.cmpi CmpIPredicate.eq c 0#32) (1#32) c))
      (IntOp.remsi ArithUnit.host x (Scalar.select (IntOp.cmpi CmpIPredicate.eq c 0#32) (1#32) c))

theorem fdiv_eq : ∀ n : Fin 8192, fdiv (BitVec.ofNat 32 n.val) 64#32 = BitVec.ofNat 32 (n.val / 64) := by decide +kernel

theorem fmod_eq : ∀ n : Fin 8192, fmod (BitVec.ofNat 32 n.val) 64#32 = BitVec.ofNat 32 (n.val % 64) := by decide +kernel

def freq (i : Fin 16) : EReal :=
  Ideal.pow (Ideal.ofBits FTy.f32 1176256512#32)
    (Ideal.div (-(FloatOps.sitofp FTy.f32 (BitVec.ofNat 32 i.val) : Ideal FTy.f32)) (Ideal.ofBits FTy.f32 1098907648#32))

def angX (n : Fin 8192) (i : Fin 16) : EReal :=
  (FloatOps.sitofp FTy.f32 (fdiv (BitVec.ofNat 32 n.val) 64#32) : Ideal FTy.f32) * freq i

def angY (n : Fin 8192) (i : Fin 16) : EReal :=
  (FloatOps.sitofp FTy.f32 (fmod (BitVec.ofNat 32 n.val) 64#32) : Ideal FTy.f32) * freq i

def ang (n : Fin 8192) (f : Fin 32) : EReal :=
  if h : f.val < 16 then angX n ⟨f.val, h⟩ else angY n ⟨f.val - 16, by omega⟩

/-- The cosine and the sine a row's entry is turned by; the context's rows are not turned. -/
def cosT (l : Fin 8448) (f : Fin 32) : EReal := if h : l.val < 256 then 1 else Ideal.cos (ang ⟨l.val - 256, by omega⟩ f)
def sinT (l : Fin 8448) (f : Fin 32) : EReal := if h : l.val < 256 then 0 else Ideal.sin (ang ⟨l.val - 256, by omega⟩ f)

def tabC (l : Fin 8448) (i : Fin 64) : EReal :=
  if h : i.val < 32 then cosT l ⟨i.val, h⟩ else cosT l ⟨i.val - 32, by omega⟩
def tabS (l : Fin 8448) (i : Fin 64) : EReal :=
  if h : i.val < 32 then -sinT l ⟨i.val, h⟩ else sinT l ⟨i.val - 32, by omega⟩

theorem Fin'.sitofp (b : BitVec 32) : Fin' (FloatOps.sitofp FTy.f32 b : Ideal FTy.f32) := ⟨_, rfl⟩

theorem Fin'.freq (i : Fin 16) : Fin' (Cert.Mla.freq i) := by
  have h1 : Ideal.ofBits FTy.f32 1176256512#32 = ((10000 : ℝ) : EReal) := by
    simp [Ideal.ofBits, Ideal.ieee, -EReal.coe_mul]; norm_num
  have h2 : Ideal.ofBits FTy.f32 1098907648#32 = ((16 : ℝ) : EReal) := by
    simp [Ideal.ofBits, Ideal.ieee, -EReal.coe_mul]; norm_num
  obtain ⟨r, hr⟩ := (Fin'.sitofp (BitVec.ofNat 32 i.val)).neg
  unfold Cert.Mla.freq
  rw [h1, h2, hr, Ideal.div_coe (by norm_num), ← EReal.coe_mul]
  exact ⟨_, rfl⟩

theorem Fin'.ang (n : Fin 8192) (f : Fin 32) : Fin' (Cert.Mla.ang n f) := by
  unfold Cert.Mla.ang angX angY
  split
  · exact (Fin'.sitofp _).mul (Fin'.freq _)
  · exact (Fin'.sitofp _).mul (Fin'.freq _)

theorem Fin'.cosT (l : Fin 8448) (f : Fin 32) : Fin' (Cert.Mla.cosT l f) := by
  unfold Cert.Mla.cosT
  split
  · exact Fin'.one
  · obtain ⟨r, hr⟩ := Fin'.ang ⟨l.val - 256, by omega⟩ f
    rw [hr]; exact ⟨_, rfl⟩

theorem Fin'.sinT (l : Fin 8448) (f : Fin 32) : Fin' (Cert.Mla.sinT l f) := by
  unfold Cert.Mla.sinT
  split
  · exact Fin'.zero
  · obtain ⟨r, hr⟩ := Fin'.ang ⟨l.val - 256, by omega⟩ f
    rw [hr]; exact ⟨_, rfl⟩

theorem Fin'.tabC (l : Fin 8448) (i : Fin 64) : Fin' (Cert.Mla.tabC l i) := by
  unfold Cert.Mla.tabC; split <;> exact Fin'.cosT _ _

theorem Fin'.tabS (l : Fin 8448) (i : Fin 64) : Fin' (Cert.Mla.tabS l i) := by
  unfold Cert.Mla.tabS; split
  · exact (Fin'.sinT _ _).neg
  · exact Fin'.sinT _ _

/-- The sequence's place of a latent and of a context row. -/
def lat (n : Fin 8192) : Fin 8448 := ⟨256 + n.val, by omega⟩
def ctx (j : Fin 256) : Fin 8448 := ⟨j.val, by omega⟩

/-- The row of a sequence's place. -/
def row (b : Fin 2) (l : Fin 8448) : Fin 16896 := ⟨b.val * 8448 + l.val, by omega⟩

end Cert.Mla
-- ==== Proof.ProjPay.lean ====
/- The projection's program point: what the body leaves in its three output blocks, and the blocks' entries in closed form. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.Mla.Proj

open Cert.KernelIdeal Cert.KernelIdeal.Gen

variable (V : (c : Dev nD) → (b : Ref sig .tc) → Buf (Elt Ideal) ((c : Thread nD τ).loc b)) (c : Dev nD)

/-- The blocks point `t` reads. -/
def b0 (t : Fin cfg0.N) : FVec Ideal S256x1024 .f32 := iblk0 V c 0 t
def b1 (t : Fin cfg0.N) : FVec Ideal S1x6x1024 .f32 := iblk0 V c 1 t
def b2 (t : Fin cfg0.N) : FVec Ideal S256x64 .f32 := iblk0 V c 2 t
def b3 (t : Fin cfg0.N) : FVec Ideal S256x64 .f32 := iblk0 V c 3 t
def b4 (t : Fin cfg0.N) : FVec Ideal S256x512 .f32 := iblk0 V c 4 t
def b5 (t : Fin cfg0.N) : FVec Ideal S256x512 .f32 := iblk0 V c 5 t
def b6 (t : Fin cfg0.N) : FVec Ideal S1024x256 .bf16 := iblk0 V c 6 t
def b7 (t : Fin cfg0.N) : FVec Ideal S1024x64 .bf16 := iblk0 V c 7 t
def b8 (t : Fin cfg0.N) : FVec Ideal S1024x64 .bf16 := iblk0 V c 8 t
def b9 (t : Fin cfg0.N) : FVec Ideal S1x256 .f32 := iblk0 V c 9 t
def b10 (t : Fin cfg0.N) : FVec Ideal S256x1024 .bf16 := iblk0 V c 10 t
def b11 (t : Fin cfg0.N) : FVec Ideal S1024x256 .bf16 := iblk0 V c 11 t
def b12 (t : Fin cfg0.N) : FVec Ideal S1024x384 .bf16 := iblk0 V c 12 t
def b13 (t : Fin cfg0.N) : FVec Ideal S1x384 .f32 := iblk0 V c 13 t
def b14 (t : Fin cfg0.N) : FVec Ideal S384x1024 .bf16 := iblk0 V c 14 t
def b15 (t : Fin cfg0.N) : FVec Ideal S384x512 .bf16 := iblk0 V c 15 t
def b16 (t : Fin cfg0.N) : FVec Ideal S384x512 .bf16 := iblk0 V c 16 t

def mrow (t : Fin cfg0.N) : FVec Ideal S256x1024 .bf16 :=
  k0_pay4 (F := Ideal) (iblk0 V c 0 t) (View.ld (Val := Elt Ideal) (e' := .f32) (iblk0 V c 1 t) (Rect.unit ![0, 1, 0] ![1, 1, 1024] inb_S1x6x1024_S1x1x1024_0_1_0))
                (View.ld (Val := Elt Ideal) (e' := .f32) (iblk0 V c 1 t) (Rect.unit ![0, 0, 0] ![1, 1, 1024] inb_S1x6x1024_S1x1x1024_0_0_0))

def ckvB (t : Fin cfg0.N) : FVec Ideal S256x256 .bf16 :=
  k0_pay5 (F := Ideal) (iblk0 V c 0 t) (View.ld (Val := Elt Ideal) (e' := .f32) (iblk0 V c 1 t) (Rect.unit ![0, 1, 0] ![1, 1, 1024] inb_S1x6x1024_S1x1x1024_0_1_0))
                (View.ld (Val := Elt Ideal) (e' := .f32) (iblk0 V c 1 t) (Rect.unit ![0, 0, 0] ![1, 1, 1024] inb_S1x6x1024_S1x1x1024_0_0_0))
                (iblk0 V c 6 t) (iblk0 V c 9 t)

def krB (t : Fin cfg0.N) : FVec Ideal S256x64 .bf16 :=
  k0_pay7 (F := Ideal) (mrow V c t) (k0_pay6 (F := Ideal) (iblk0 V c 0 t) (View.ld (Val := Elt Ideal) (e' := .f32) (iblk0 V c 1 t) (Rect.unit ![0, 1, 0] ![1, 1, 1024] inb_S1x6x1024_S1x1x1024_0_1_0))
                (View.ld (Val := Elt Ideal) (e' := .f32) (iblk0 V c 1 t) (Rect.unit ![0, 0, 0] ![1, 1, 1024] inb_S1x6x1024_S1x1x1024_0_0_0))
                (iblk0 V c 7 t) (iblk0 V c 2 t))
              (iblk0 V c 8 t) (iblk0 V c 3 t)

def knB (t : Fin cfg0.N) : FVec Ideal S256x1024 .bf16 := k0_pay8 (F := Ideal) (ckvB V c t) (iblk0 V c 10 t)

def vB (t : Fin cfg0.N) : FVec Ideal S1024x256 .bf16 := k0_pay9 (F := Ideal) (ckvB V c t) (iblk0 V c 11 t)

def cqB (t : Fin cfg0.N) : FVec Ideal S256x384 .bf16 := k0_pay10 (F := Ideal) (mrow V c t) (iblk0 V c 12 t) (iblk0 V c 13 t)

def qnB (t : Fin cfg0.N) : FVec Ideal S256x1024 .bf16 :=
  k0_pay13 (F := Ideal) (k0_pay11 (F := Ideal) (mrow V c t) (iblk0 V c 12 t) (iblk0 V c 13 t) (iblk0 V c 14 t)) (k0_pay12 (F := Ideal))

def qrB (t : Fin cfg0.N) : FVec Ideal S256x512 .bf16 :=
  k0_pay14 (F := Ideal) (cqB V c t) (iblk0 V c 15 t) (iblk0 V c 4 t) (iblk0 V c 16 t) (iblk0 V c 5 t)

/-- A nope block and a rope block, side by side, head by head. -/
def joinK (a : FVec Ideal S256x1024 .bf16) (b : FVec Ideal S256x64 .bf16) (h : Fin 8) (r : Fin 256) (y : Fin 192) : EReal :=
  if hy : y.val < 128 then a (ix2 r ⟨h.val * 128 + y.val, by omega⟩) else b (ix2 r ⟨y.val - 128, by omega⟩)

def joinQ (a : FVec Ideal S256x1024 .bf16) (b : FVec Ideal S256x512 .bf16) (h : Fin 8) (r : Fin 256) (y : Fin 192) : EReal :=
  if hy : y.val < 128 then a (ix2 r ⟨h.val * 128 + y.val, by omega⟩) else b (ix2 r ⟨h.val * 64 + (y.val - 128), by omega⟩)

def joinV (a : FVec Ideal S1024x256 .bf16) (h : Fin 8) (d : Fin 144) (l : Fin 256) : EReal :=
  if hy : d.val < 128 then a (ix2 ⟨h.val * 128 + d.val, by omega⟩ l) else if d.val = 128 then 1 else 0

/-- The key block's stores, read back. -/
theorem canonK (A : FVec Ideal S256x1024 .bf16) (B : FVec Ideal S256x64 .bf16) (y : S1x8x256x192.Idx) :
    View.canon (Val := Elt Ideal) (e := .bf16) (s := S1x8x256x192) [⟨Rect.unit ![0, 7, 0, 128] ![1, 1, 256, 64] inb_S1x8x256x192_S1x1x256x64_0_7_0_128, k0_pay65 (F := Ideal) B⟩,
      ⟨Rect.unit ![0, 7, 0, 0] ![1, 1, 256, 128] inb_S1x8x256x192_S1x1x256x128_0_7_0_0, k0_pay64 (F := Ideal) A⟩,
      ⟨Rect.unit ![0, 6, 0, 128] ![1, 1, 256, 64] inb_S1x8x256x192_S1x1x256x64_0_6_0_128, k0_pay58 (F := Ideal) B⟩,
      ⟨Rect.unit ![0, 6, 0, 0] ![1, 1, 256, 128] inb_S1x8x256x192_S1x1x256x128_0_6_0_0, k0_pay57 (F := Ideal) A⟩,
      ⟨Rect.unit ![0, 5, 0, 128] ![1, 1, 256, 64] inb_S1x8x256x192_S1x1x256x64_0_5_0_128, k0_pay51 (F := Ideal) B⟩,
      ⟨Rect.unit ![0, 5, 0, 0] ![1, 1, 256, 128] inb_S1x8x256x192_S1x1x256x128_0_5_0_0, k0_pay50 (F := Ideal) A⟩,
      ⟨Rect.unit ![0, 4, 0, 128] ![1, 1, 256, 64] inb_S1x8x256x192_S1x1x256x64_0_4_0_128, k0_pay44 (F := Ideal) B⟩,
      ⟨Rect.unit ![0, 4, 0, 0] ![1, 1, 256, 128] inb_S1x8x256x192_S1x1x256x128_0_4_0_0, k0_pay43 (F := Ideal) A⟩,
      ⟨Rect.unit ![0, 3, 0, 128] ![1, 1, 256, 64] inb_S1x8x256x192_S1x1x256x64_0_3_0_128, k0_pay37 (F := Ideal) B⟩,
      ⟨Rect.unit ![0, 3, 0, 0] ![1, 1, 256, 128] inb_S1x8x256x192_S1x1x256x128_0_3_0_0, k0_pay36 (F := Ideal) A⟩,
      ⟨Rect.unit ![0, 2, 0, 128] ![1, 1, 256, 64] inb_S1x8x256x192_S1x1x256x64_0_2_0_128, k0_pay30 (F := Ideal) B⟩,
      ⟨Rect.unit ![0, 2, 0, 0] ![1, 1, 256, 128] inb_S1x8x256x192_S1x1x256x128_0_2_0_0, k0_pay29 (F := Ideal) A⟩,
      ⟨Rect.unit ![0, 1, 0, 128] ![1, 1, 256, 64] inb_S1x8x256x192_S1x1x256x64_0_1_0_128, k0_pay23 (F := Ideal) B⟩,
      ⟨Rect.unit ![0, 1, 0, 0] ![1, 1, 256, 128] inb_S1x8x256x192_S1x1x256x128_0_1_0_0, k0_pay22 (F := Ideal) A⟩,
      ⟨Rect.unit ![0, 0, 0, 128] ![1, 1, 256, 64] inb_S1x8x256x192_S1x1x256x64_0_0_0_128, k0_pay16 (F := Ideal) B⟩,
      ⟨Rect.unit ![0, 0, 0, 0] ![1, 1, 256, 128] inb_S1x8x256x192_S1x1x256x128_0_0_0_0, k0_pay15 (F := Ideal) A⟩] y = joinK A B (y 1) (y 2) (y 3) := by
  canon_tiles x h using View.cover_of_tiledBy _ ![1, 1, 256, 64] (by sl_kernel_rfl) y
  all_goals (open_payloads; pointwise [joinK]; split <;> first | (exfalso; omega) | blk_ext)

theorem canonQ (A : FVec Ideal S256x1024 .bf16) (B : FVec Ideal S256x512 .bf16) (y : S1x8x256x192.Idx) :
    View.canon (Val := Elt Ideal) (e := .bf16) (s := S1x8x256x192) [⟨Rect.unit ![0, 7, 0, 128] ![1, 1, 256, 64] inb_S1x8x256x192_S1x1x256x64_0_7_0_128, k0_pay3 (F := Ideal) B⟩,
      ⟨Rect.unit ![0, 7, 0, 0] ![1, 1, 256, 128] inb_S1x8x256x192_S1x1x256x128_0_7_0_0, k0_pay2 (F := Ideal) A⟩,
      ⟨Rect.unit ![0, 6, 0, 128] ![1, 1, 256, 64] inb_S1x8x256x192_S1x1x256x64_0_6_0_128, k0_pay63 (F := Ideal) B⟩,
      ⟨Rect.unit ![0, 6, 0, 0] ![1, 1, 256, 128] inb_S1x8x256x192_S1x1x256x128_0_6_0_0, k0_pay62 (F := Ideal) A⟩,
      ⟨Rect.unit ![0, 5, 0, 128] ![1, 1, 256, 64] inb_S1x8x256x192_S1x1x256x64_0_5_0_128, k0_pay56 (F := Ideal) B⟩,
      ⟨Rect.unit ![0, 5, 0, 0] ![1, 1, 256, 128] inb_S1x8x256x192_S1x1x256x128_0_5_0_0, k0_pay55 (F := Ideal) A⟩,
      ⟨Rect.unit ![0, 4, 0, 128] ![1, 1, 256, 64] inb_S1x8x256x192_S1x1x256x64_0_4_0_128, k0_pay49 (F := Ideal) B⟩,
      ⟨Rect.unit ![0, 4, 0, 0] ![1, 1, 256, 128] inb_S1x8x256x192_S1x1x256x128_0_4_0_0, k0_pay48 (F := Ideal) A⟩,
      ⟨Rect.unit ![0, 3, 0, 128] ![1, 1, 256, 64] inb_S1x8x256x192_S1x1x256x64_0_3_0_128, k0_pay42 (F := Ideal) B⟩,
      ⟨Rect.unit ![0, 3, 0, 0] ![1, 1, 256, 128] inb_S1x8x256x192_S1x1x256x128_0_3_0_0, k0_pay41 (F := Ideal) A⟩,
      ⟨Rect.unit ![0, 2, 0, 128] ![1, 1, 256, 64] inb_S1x8x256x192_S1x1x256x64_0_2_0_128, k0_pay35 (F := Ideal) B⟩,
      ⟨Rect.unit ![0, 2, 0, 0] ![1, 1, 256, 128] inb_S1x8x256x192_S1x1x256x128_0_2_0_0, k0_pay34 (F := Ideal) A⟩,
      ⟨Rect.unit ![0, 1, 0, 128] ![1, 1, 256, 64] inb_S1x8x256x192_S1x1x256x64_0_1_0_128, k0_pay28 (F := Ideal) B⟩,
      ⟨Rect.unit ![0, 1, 0, 0] ![1, 1, 256, 128] inb_S1x8x256x192_S1x1x256x128_0_1_0_0, k0_pay27 (F := Ideal) A⟩,
      ⟨Rect.unit ![0, 0, 0, 128] ![1, 1, 256, 64] inb_S1x8x256x192_S1x1x256x64_0_0_0_128, k0_pay21 (F := Ideal) B⟩,
      ⟨Rect.unit ![0, 0, 0, 0] ![1, 1, 256, 128] inb_S1x8x256x192_S1x1x256x128_0_0_0_0, k0_pay20 (F := Ideal) A⟩] y = joinQ A B (y 1) (y 2) (y 3) := by
  canon_tiles x h using View.cover_of_tiledBy _ ![1, 1, 256, 64] (by sl_kernel_rfl) y
  all_goals (open_payloads; pointwise [joinQ]; split <;> first | (exfalso; omega) | blk_ext)

theorem ones_at (d : ℕ) (h : d < 16) :
    (FloatOps.sitofp (F := Ideal) FTy.f32 (BitVec.setWidth 32 (IntOp.cmpi CmpIPredicate.eq (BitVec.ofNat 32 d) 0#32)) : EReal)
      = if d = 0 then 1 else 0 := by
  have hb : BitVec.setWidth 32 (IntOp.cmpi CmpIPredicate.eq (BitVec.ofNat 32 d) 0#32) = if d = 0 then 1#32 else 0#32 := by
    interval_cases d <;> rfl
  rw [hb]
  by_cases h0 : d = 0
  · rw [if_pos h0, if_pos h0]; show (((1#32 : BitVec 32).toInt : ℝ) : EReal) = 1; norm_num
  · rw [if_neg h0, if_neg h0]; show (((0#32 : BitVec 32).toInt : ℝ) : EReal) = 0; norm_num

theorem canonV (A : FVec Ideal S1024x256 .bf16) (y : S1x8x144x256.Idx) :
    View.canon (Val := Elt Ideal) (e := .bf16) (s := S1x8x144x256) [⟨Rect.unit ![0, 7, 128, 0] ![1, 1, 16, 256] inb_S1x8x144x256_S1x1x16x256_0_7_128_0, k0_pay1 (F := Ideal) (k0_pay67 (F := Ideal))⟩,
      ⟨Rect.unit ![0, 7, 0, 0] ![1, 1, 128, 256] inb_S1x8x144x256_S1x1x128x256_0_7_0_0, k0_pay66 (F := Ideal) A⟩,
      ⟨Rect.unit ![0, 6, 128, 0] ![1, 1, 16, 256] inb_S1x8x144x256_S1x1x16x256_0_6_128_0, k0_pay61 (F := Ideal) (k0_pay60 (F := Ideal))⟩,
      ⟨Rect.unit ![0, 6, 0, 0] ![1, 1, 128, 256] inb_S1x8x144x256_S1x1x128x256_0_6_0_0, k0_pay59 (F := Ideal) A⟩,
      ⟨Rect.unit ![0, 5, 128, 0] ![1, 1, 16, 256] inb_S1x8x144x256_S1x1x16x256_0_5_128_0, k0_pay54 (F := Ideal) (k0_pay53 (F := Ideal))⟩,
      ⟨Rect.unit ![0, 5, 0, 0] ![1, 1, 128, 256] inb_S1x8x144x256_S1x1x128x256_0_5_0_0, k0_pay52 (F := Ideal) A⟩,
      ⟨Rect.unit ![0, 4, 128, 0] ![1, 1, 16, 256] inb_S1x8x144x256_S1x1x16x256_0_4_128_0, k0_pay47 (F := Ideal) (k0_pay46 (F := Ideal))⟩,
      ⟨Rect.unit ![0, 4, 0, 0] ![1, 1, 128, 256] inb_S1x8x144x256_S1x1x128x256_0_4_0_0, k0_pay45 (F := Ideal) A⟩,
      ⟨Rect.unit ![0, 3, 128, 0] ![1, 1, 16, 256] inb_S1x8x144x256_S1x1x16x256_0_3_128_0, k0_pay40 (F := Ideal) (k0_pay39 (F := Ideal))⟩,
      ⟨Rect.unit ![0, 3, 0, 0] ![1, 1, 128, 256] inb_S1x8x144x256_S1x1x128x256_0_3_0_0, k0_pay38 (F := Ideal) A⟩,
      ⟨Rect.unit ![0, 2, 128, 0] ![1, 1, 16, 256] inb_S1x8x144x256_S1x1x16x256_0_2_128_0, k0_pay33 (F := Ideal) (k0_pay32 (F := Ideal))⟩,
      ⟨Rect.unit ![0, 2, 0, 0] ![1, 1, 128, 256] inb_S1x8x144x256_S1x1x128x256_0_2_0_0, k0_pay31 (F := Ideal) A⟩,
      ⟨Rect.unit ![0, 1, 128, 0] ![1, 1, 16, 256] inb_S1x8x144x256_S1x1x16x256_0_1_128_0, k0_pay26 (F := Ideal) (k0_pay25 (F := Ideal))⟩,
      ⟨Rect.unit ![0, 1, 0, 0] ![1, 1, 128, 256] inb_S1x8x144x256_S1x1x128x256_0_1_0_0, k0_pay24 (F := Ideal) A⟩,
      ⟨Rect.unit ![0, 0, 128, 0] ![1, 1, 16, 256] inb_S1x8x144x256_S1x1x16x256_0_0_128_0, k0_pay19 (F := Ideal) (k0_pay18)⟩,
      ⟨Rect.unit ![0, 0, 0, 0] ![1, 1, 128, 256] inb_S1x8x144x256_S1x1x128x256_0_0_0_0, k0_pay17 (F := Ideal) A⟩] y = joinV A (y 1) (y 2) (y 3) := by
  canon_tiles x h using View.cover_of_tiledBy _ ![1, 1, 16, 256] (by sl_kernel_rfl) y
  all_goals (open_payloads; pointwise [joinV]; try rw [ones_at _ (by omega)])
  all_goals (repeat' split)
  all_goals first | (exfalso; omega) | rfl | blk_ext

theorem point17 (t : Fin cfg0.N) (y : S1x8x256x192.Idx) : (outsAt0 V c t).1 y = joinK (knB V c t) (krB V c t) (y 1) (y 2) (y 3) := by
  unfold outsAt0; frame_out
  exact canonK (knB V c t) (krB V c t) y

theorem point18 (t : Fin cfg0.N) (y : S1x8x144x256.Idx) : (outsAt0 V c t).2.1 y = joinV (vB V c t) (y 1) (y 2) (y 3) := by
  unfold outsAt0; frame_out
  exact canonV (vB V c t) y

theorem point19 (t : Fin cfg0.N) (y : S1x8x256x192.Idx) : (outsAt0 V c t).2.2 y = joinQ (qnB V c t) (qrB V c t) (y 1) (y 2) (y 3) := by
  unfold outsAt0; frame_out
  exact canonQ (qnB V c t) (qrB V c t) y

theorem mrow_at (t : Fin cfg0.N) (r : Fin 256) (e : Fin 1024) :
    mrow V c t (ix2 r e) = b0 V c t (ix2 r e) * (1 + b1 V c t (ix3 0 1 e))
      + b1 V c t (ix3 0 0 e) := by
  pointwise [mrow, k0_pay4]
  rfl

theorem ckvB_at (t : Fin cfg0.N) (r : Fin 256) (j : Fin 256) :
    ckvB V c t (ix2 r j) = rms (Ideal.ofBits FTy.f32 1132462080#32)
      (lin (fun e : Fin 1024 => mrow V c t (ix2 r e)) (fun e (k : Fin 256) => b6 V c t (ix2 e k)))
      (fun k : Fin 256 => b9 V c t (ix2 0 k)) j := by
  pointwise [ckvB, k0_pay5]
  rfl

theorem cqB_at (t : Fin cfg0.N) (r : Fin 256) (j : Fin 384) :
    cqB V c t (ix2 r j) = rms (Ideal.ofBits FTy.f32 1136656384#32)
      (lin (fun e : Fin 1024 => mrow V c t (ix2 r e)) (fun e (k : Fin 384) => b12 V c t (ix2 e k)))
      (fun k : Fin 384 => b13 V c t (ix2 0 k)) j := by
  pointwise [cqB, k0_pay10]
  rfl

theorem knB_at (t : Fin cfg0.N) (r : Fin 256) (j : Fin 1024) :
    knB V c t (ix2 r j) = lin (fun k : Fin 256 => ckvB V c t (ix2 r k)) (fun k (j : Fin 1024) => b10 V c t (ix2 k j)) j := by
  pointwise [knB, k0_pay8]
  rfl

theorem vB_at (t : Fin cfg0.N) (j : Fin 1024) (l : Fin 256) :
    vB V c t (ix2 j l) = ∑ k : Fin 256, b11 V c t (ix2 j k) * ckvB V c t (ix2 l k) := by
  pointwise [vB, k0_pay9]
  rfl

theorem krB_at (t : Fin cfg0.N) (r : Fin 256) (i : Fin 64) :
    krB V c t (ix2 r i) = lin (fun e : Fin 1024 => mrow V c t (ix2 r e)) (fun e (k : Fin 64) => b7 V c t (ix2 e k)) i
        * b2 V c t (ix2 r i)
      + lin (fun e : Fin 1024 => mrow V c t (ix2 r e)) (fun e (k : Fin 64) => b8 V c t (ix2 e k)) i
        * b3 V c t (ix2 r i) := by
  pointwise [krB, k0_pay7, k0_pay6]
  rfl

/-- The score's scale times log₂ e. -/
def sl : EReal := (Named.named κ "scale_log2e" 1037384597#32 : Ideal .f32)

theorem sl_eq : sl = (((Real.sqrt 192)⁻¹ * (Real.log 2)⁻¹ : ℝ) : EReal) := by
  simp [sl, κ, Named.named]

theorem qnB_at (t : Fin cfg0.N) (r : Fin 256) (j : Fin 1024) :
    qnB V c t (ix2 r j) = lin (fun k : Fin 384 => cqB V c t (ix2 r k)) (fun k (j : Fin 1024) => b14 V c t (ix2 k j)) j * sl := by
  pointwise [qnB, k0_pay13, k0_pay11, k0_pay12]
  rfl

theorem qrB_at (t : Fin cfg0.N) (r : Fin 256) (j : Fin 512) :
    qrB V c t (ix2 r j) = (lin (fun k : Fin 384 => cqB V c t (ix2 r k)) (fun k (j : Fin 512) => b15 V c t (ix2 k j)) j
        * b4 V c t (ix2 r j)
      + lin (fun k : Fin 384 => cqB V c t (ix2 r k)) (fun k (j : Fin 512) => b16 V c t (ix2 k j)) j
        * b5 V c t (ix2 r j)) * sl := by
  pointwise [qrB, k0_pay14]
  rfl

end Cert.Mla.Proj
-- ==== Proof.Proj.lean ====
/- The projection region: the arrays of keys, values and queries it leaves, from what its inputs hold. -/
module

public import proofs.«01_k».proof.Proof.ProjPay

@[expose] public section

set_option maxRecDepth 16384
noncomputable section

open Idealize.ShloMosaic Idealize.ShloMosaic.TcCoe Idealize.SL.Sem
open Idealize.ShloMosaic.Pipeline (Dat)

namespace Cert.Mla.Proj

open Args Cert.KernelIdeal Cert.KernelIdeal.Gen

variable (V : (c : Dev nD) → (b : Ref sig .tc) → Buf (Elt Ideal) ((c : Thread nD τ).loc b)) (c : Dev nD)

/-- The arrays the region reads. -/
def w0 : FVec Ideal S16896x1024 .f32 := V c (Pipeline.arrRef spec0 0)
def w1 : FVec Ideal S66x6x1024 .f32 := V c (Pipeline.arrRef spec0 1)
def w2 : FVec Ideal S8448x64 .f32 := V c (Pipeline.arrRef spec0 2)
def w3 : FVec Ideal S8448x64 .f32 := V c (Pipeline.arrRef spec0 3)
def w4 : FVec Ideal S8448x512 .f32 := V c (Pipeline.arrRef spec0 4)
def w5 : FVec Ideal S8448x512 .f32 := V c (Pipeline.arrRef spec0 5)
def w6 : FVec Ideal S1024x256 .bf16 := V c (Pipeline.arrRef spec0 6)
def w7 : FVec Ideal S1024x64 .bf16 := V c (Pipeline.arrRef spec0 7)
def w8 : FVec Ideal S1024x64 .bf16 := V c (Pipeline.arrRef spec0 8)
def w9 : FVec Ideal S1x256 .f32 := V c (Pipeline.arrRef spec0 9)
def w10 : FVec Ideal S256x1024 .bf16 := V c (Pipeline.arrRef spec0 10)
def w11 : FVec Ideal S1024x256 .bf16 := V c (Pipeline.arrRef spec0 11)
def w12 : FVec Ideal S1024x384 .bf16 := V c (Pipeline.arrRef spec0 12)
def w13 : FVec Ideal S1x384 .f32 := V c (Pipeline.arrRef spec0 13)
def w14 : FVec Ideal S384x1024 .bf16 := V c (Pipeline.arrRef spec0 14)
def w15 : FVec Ideal S384x512 .bf16 := V c (Pipeline.arrRef spec0 15)
def w16 : FVec Ideal S384x512 .bf16 := V c (Pipeline.arrRef spec0 16)

/-- What the region's inputs hold. -/
structure Entry (p : Args) : Prop where
  h0 : ∀ r e, w0 V c (ix2 r e) = p.X r e
  h1 : ∀ t j e, w1 V c (ix3 t (two j) e) = p.M (modRow (tile t)) (two j) e
  h2 : ∀ l i, w2 V c (ix2 l i) = p.C l i
  h3 : ∀ l i, w3 V c (ix2 l i) = p.S l i
  h4 : ∀ l h i, w4 V c (ix2 l (colR h i)) = p.C l i
  h5 : ∀ l h i, w5 V c (ix2 l (colR h i)) = p.S l i
  h6 : ∀ e k, w6 V c (ix2 e k) = p.Wdkv e (cC k)
  h7 : ∀ e k, w7 V c (ix2 e k) = p.Wdkv e (cR k)
  h8 : ∀ e k, w8 V c (ix2 e k) = p.Wdkv e (cR (swp k))
  h9 : ∀ k, w9 V c (ix2 0 k) = p.kg k
  h10 : ∀ k h d, w10 V c (ix2 k (col h d)) = p.Wukv k (cK h d)
  h11 : ∀ h d k, w11 V c (ix2 (col h d) k) = p.Wukv k (cV h d)
  h12 : ∀ e k, w12 V c (ix2 e k) = p.Wdq e k
  h13 : ∀ k, w13 V c (ix2 0 k) = p.qg k
  h14 : ∀ k h d, w14 V c (ix2 k (col h d)) = p.Wuq k (cN h d)
  h15 : ∀ k h i, w15 V c (ix2 k (colR h i)) = p.Wuq k (cQ h i)
  h16 : ∀ k h i, w16 V c (ix2 k (colR h i)) = p.Wuq k (cQ h (swp i))

theorem idx0 : ∀ t : Fin cfg0.N, win0_0.index t = ![t.val, 0] ∧ win0_1.index t = ![t.val, 0, 0]
    ∧ win0_2.index t = ![t.val % 33, 0] ∧ win0_3.index t = ![t.val % 33, 0] ∧ win0_4.index t = ![t.val % 33, 0] ∧ win0_5.index t = ![t.val % 33, 0]
    ∧ win0_17.index t = ![t.val / 33, 0, t.val % 33, 0] ∧ win0_18.index t = ![t.val / 33, 0, 0, t.val % 33] ∧ win0_19.index t = ![t.val / 33, 0, t.val % 33, 0] :=
  (by decide +kernel : ∀ t : Fin grid0.N, _)

theorem idxW : ∀ t : Fin cfg0.N, win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

theorem b6_eq (t : Fin cfg0.N) (x : Fin 1024) (y : Fin 256) : b6 V c t (ix2 x y) = w6 V c (ix2 x y) := by
  obtain ⟨e, -⟩ := idxW t
  unfold b6 w6
  blk_ext [iblk0, e]

theorem b7_eq (t : Fin cfg0.N) (x : Fin 1024) (y : Fin 64) : b7 V c t (ix2 x y) = w7 V c (ix2 x y) := by
  obtain ⟨-, e, -⟩ := idxW t
  unfold b7 w7
  blk_ext [iblk0, e]

theorem b8_eq (t : Fin cfg0.N) (x : Fin 1024) (y : Fin 64) : b8 V c t (ix2 x y) = w8 V c (ix2 x y) := by
  obtain ⟨-, -, e, -⟩ := idxW t
  unfold b8 w8
  blk_ext [iblk0, e]

theorem b9_eq (t : Fin cfg0.N) (x : Fin 1) (y : Fin 256) : b9 V c t (ix2 x y) = w9 V c (ix2 x y) := by
  obtain ⟨-, -, -, e, -⟩ := idxW t
  unfold b9 w9
  blk_ext [iblk0, e]

theorem b10_eq (t : Fin cfg0.N) (x : Fin 256) (y : Fin 1024) : b10 V c t (ix2 x y) = w10 V c (ix2 x y) := by
  obtain ⟨-, -, -, -, e, -⟩ := idxW t
  unfold b10 w10
  blk_ext [iblk0, e]

theorem b11_eq (t : Fin cfg0.N) (x : Fin 1024) (y : Fin 256) : b11 V c t (ix2 x y) = w11 V c (ix2 x y) := by
  obtain ⟨-, -, -, -, -, e, -⟩ := idxW t
  unfold b11 w11
  blk_ext [iblk0, e]

theorem b12_eq (t : Fin cfg0.N) (x : Fin 1024) (y : Fin 384) : b12 V c t (ix2 x y) = w12 V c (ix2 x y) := by
  obtain ⟨-, -, -, -, -, -, e, -⟩ := idxW t
  unfold b12 w12
  blk_ext [iblk0, e]

theorem b13_eq (t : Fin cfg0.N) (x : Fin 1) (y : Fin 384) : b13 V c t (ix2 x y) = w13 V c (ix2 x y) := by
  obtain ⟨-, -, -, -, -, -, -, e, -⟩ := idxW t
  unfold b13 w13
  blk_ext [iblk0, e]

theorem b14_eq (t : Fin cfg0.N) (x : Fin 384) (y : Fin 1024) : b14 V c t (ix2 x y) = w14 V c (ix2 x y) := by
  obtain ⟨-, -, -, -, -, -, -, -, e, -⟩ := idxW t
  unfold b14 w14
  blk_ext [iblk0, e]

theorem b15_eq (t : Fin cfg0.N) (x : Fin 384) (y : Fin 512) : b15 V c t (ix2 x y) = w15 V c (ix2 x y) := by
  obtain ⟨-, -, -, -, -, -, -, -, -, e, -⟩ := idxW t
  unfold b15 w15
  blk_ext [iblk0, e]

theorem b16_eq (t : Fin cfg0.N) (x : Fin 384) (y : Fin 512) : b16 V c t (ix2 x y) = w16 V c (ix2 x y) := by
  obtain ⟨-, -, -, -, -, -, -, -, -, -, e⟩ := idxW t
  unfold b16 w16
  blk_ext [iblk0, e]

theorem b2_eq (t : Fin cfg0.N) (x : Fin 256) (y : Fin 64) (l : Fin 8448) (hl : l.val = t.val % 33 * 256 + x.val) :
    b2 V c t (ix2 x y) = w2 V c (ix2 l y) := by
  obtain ⟨-, -, e, -⟩ := idx0 t
  unfold b2 w2
  blk_ext [iblk0, e]

theorem b3_eq (t : Fin cfg0.N) (x : Fin 256) (y : Fin 64) (l : Fin 8448) (hl : l.val = t.val % 33 * 256 + x.val) :
    b3 V c t (ix2 x y) = w3 V c (ix2 l y) := by
  obtain ⟨-, -, -, e, -⟩ := idx0 t
  unfold b3 w3
  blk_ext [iblk0, e]

theorem b4_eq (t : Fin cfg0.N) (x : Fin 256) (y : Fin 512) (l : Fin 8448) (hl : l.val = t.val % 33 * 256 + x.val) :
    b4 V c t (ix2 x y) = w4 V c (ix2 l y) := by
  obtain ⟨-, -, -, -, e, -⟩ := idx0 t
  unfold b4 w4
  blk_ext [iblk0, e]

theorem b5_eq (t : Fin cfg0.N) (x : Fin 256) (y : Fin 512) (l : Fin 8448) (hl : l.val = t.val % 33 * 256 + x.val) :
    b5 V c t (ix2 x y) = w5 V c (ix2 l y) := by
  obtain ⟨-, -, -, -, -, e, -⟩ := idx0 t
  unfold b5 w5
  blk_ext [iblk0, e]

theorem b0_eq (t : Fin cfg0.N) (x : Fin 256) (y : Fin 1024) (r : Fin 16896) (hr : r.val = t.val * 256 + x.val) :
    b0 V c t (ix2 x y) = w0 V c (ix2 r y) := by
  obtain ⟨e, -⟩ := idx0 t
  unfold b0 w0
  blk_ext [iblk0, e]

theorem b1_eq (t : Fin cfg0.N) (j : Fin 6) (y : Fin 1024) (t' : Fin 66) (ht : t'.val = t.val) :
    b1 V c t (ix3 0 j y) = w1 V c (ix3 t' j y) := by
  obtain ⟨-, e, -⟩ := idx0 t
  unfold b1 w1
  blk_ext [iblk0, e]

variable (p : Args) (E : Entry V c p) (t : Fin cfg0.N) (R : Fin 16896) (r : Fin 256) (hR : R.val = t.val * 256 + r.val)

include E hR

theorem mrow_eq (e : Fin 1024) : mrow V c t (ix2 r e) = p.m R e := by
  rw [mrow_at]
  have ht : t.val < 66 := t.isLt
  have a1 : ∀ j : Fin 2, b1 V c t (ix3 0 (two j) e) = p.M (modRow R) (two j) e := by
    intro j
    have hm : modRow R = modRow (tile ⟨t.val, ht⟩) := by
      unfold modRow tile
      congr 1
      · apply propext; constructor <;> (intro h; simp only at *; omega)
      · congr 1; simp only; omega
    rw [hm, ← E.h1 ⟨t.val, ht⟩ j]; exact b1_eq V c t _ _ _ rfl
  exact congrArg₂ (· + ·) (congrArg₂ (· * ·) ((b0_eq V c t r e R hR).trans (E.h0 _ _)) (congrArg (1 + ·) (a1 1))) (a1 0)

theorem ckv_eq (k : Fin 256) : ckvB V c t (ix2 r k) = p.ckv R k := by
  rw [ckvB_at, show (fun e => mrow V c t (ix2 r e)) = p.m R from funext (mrow_eq V c p E t R r hR),
    show (fun e (k : Fin 256) => b6 V c t (ix2 e k)) = (fun e k => p.Wdkv e (cC k)) from
      funext fun e => funext fun k => (b6_eq V c t e k).trans (E.h6 e k),
    show (fun (k : Fin 256) => b9 V c t (ix2 0 k)) = p.kg from funext fun k => (b9_eq V c t 0 k).trans (E.h9 k)]
  rfl

theorem cq_eq (k : Fin 384) : cqB V c t (ix2 r k) = p.cq R k := by
  rw [cqB_at, show (fun e => mrow V c t (ix2 r e)) = p.m R from funext (mrow_eq V c p E t R r hR),
    show (fun e (k : Fin 384) => b12 V c t (ix2 e k)) = p.Wdq from
      funext fun e => funext fun k => (b12_eq V c t e k).trans (E.h12 e k),
    show (fun (k : Fin 384) => b13 V c t (ix2 0 k)) = p.qg from funext fun k => (b13_eq V c t 0 k).trans (E.h13 k)]
  rfl

theorem kn_eq (h : Fin 8) (d : Fin 128) : knB V c t (ix2 r (col h d)) = p.kn R h d := by
  rw [knB_at, show (fun k => ckvB V c t (ix2 r k)) = p.ckv R from funext (ckv_eq V c p E t R r hR)]
  exact Finset.sum_congr rfl fun k _ => congrArg _ ((b10_eq V c t _ _).trans (E.h10 k h d))

theorem v_eq (h : Fin 8) (d : Fin 128) : vB V c t (ix2 (col h d) r) = p.v R h d := by
  rw [vB_at]
  exact Finset.sum_congr rfl fun k _ => (mul_comm _ _).trans
    (congrArg₂ (· * ·) (ckv_eq V c p E t R r hR k) ((b11_eq V c t _ _).trans (E.h11 h d k)))

theorem kr_eq (i : Fin 64) : krB V c t (ix2 r i) = p.kr R i := by
  have hl : (loc R).val = t.val % 33 * 256 + r.val := by unfold loc; simp only; omega
  rw [krB_at, show (fun e => mrow V c t (ix2 r e)) = p.m R from funext (mrow_eq V c p E t R r hR)]
  exact congrArg₂ (· + ·)
    (congrArg₂ (· * ·) (Finset.sum_congr rfl fun e _ => congrArg _ ((b7_eq V c t _ _).trans (E.h7 e i)))
      ((b2_eq V c t r i _ hl).trans (E.h2 _ _)))
    (congrArg₂ (· * ·) (Finset.sum_congr rfl fun e _ => congrArg _ ((b8_eq V c t _ _).trans (E.h8 e i)))
      ((b3_eq V c t r i _ hl).trans (E.h3 _ _)))

theorem qn_eq (h : Fin 8) (d : Fin 128) : qnB V c t (ix2 r (col h d)) = p.qn R h d * sl := by
  rw [qnB_at, show (fun k => cqB V c t (ix2 r k)) = p.cq R from funext (cq_eq V c p E t R r hR)]
  exact congrArg (· * sl) (Finset.sum_congr rfl fun k _ => congrArg _ ((b14_eq V c t _ _).trans (E.h14 k h d)))

theorem qr_eq (h : Fin 8) (i : Fin 64) : qrB V c t (ix2 r (colR h i)) = p.qr R h i * sl := by
  have hl : (loc R).val = t.val % 33 * 256 + r.val := by unfold loc; simp only; omega
  rw [qrB_at, show (fun k => cqB V c t (ix2 r k)) = p.cq R from funext (cq_eq V c p E t R r hR)]
  exact congrArg (· * sl) (congrArg₂ (· + ·)
    (congrArg₂ (· * ·) (Finset.sum_congr rfl fun e _ => congrArg _ ((b15_eq V c t _ _).trans (E.h15 e h i)))
      ((b4_eq V c t r _ _ hl).trans (E.h4 _ h i)))
    (congrArg₂ (· * ·) (Finset.sum_congr rfl fun e _ => congrArg _ ((b16_eq V c t _ _).trans (E.h16 e h i)))
      ((b5_eq V c t r _ _ hl).trans (E.h5 _ h i))))

end Cert.Mla.Proj
-- ==== Proof.ProjFin.lean ====
/- The projection region's three arrays, whole. -/
module

public import proofs.«01_k».proof.Proof.Proj
public import proofs.«01_k».proof.Proof.Tables

@[expose] public section

set_option maxRecDepth 16384
noncomputable section

open Idealize.ShloMosaic Idealize.ShloMosaic.TcCoe Idealize.SL.Sem
open Idealize.ShloMosaic.Pipeline (Dat)

namespace Cert.Mla.Proj

open Args Cert.KernelIdeal Cert.KernelIdeal.Gen

variable (V : (c : Dev nD) → (b : Ref sig .tc) → Buf (Elt Ideal) ((c : Thread nD τ).loc b)) (c : Dev nD) (p : Args)

def Karr (b : Fin 2) (h : Fin 8) (l : Fin 8448) (y : Fin 192) : EReal :=
  if hy : y.val < 128 then p.kn (row b l) h ⟨y.val, hy⟩ else p.kr (row b l) ⟨y.val - 128, by omega⟩

def Qarr (b : Fin 2) (h : Fin 8) (l : Fin 8448) (y : Fin 192) : EReal :=
  (if hy : y.val < 128 then p.qn (row b l) h ⟨y.val, hy⟩ else p.qr (row b l) h ⟨y.val - 128, by omega⟩) * sl

def Varr (b : Fin 2) (h : Fin 8) (d : Fin 144) (l : Fin 8448) : EReal :=
  if hy : d.val < 128 then p.v (row b l) h ⟨d.val, hy⟩ else if d.val = 128 then 1 else 0

theorem pointK (E : Entry V c p) (t : Fin cfg0.N) (h : Fin 8) (r : Fin 256) (y : Fin 192) (b : Fin 2) (l : Fin 8448)
    (hb : b.val = t.val / 33) (hl : l.val = t.val % 33 * 256 + r.val) :
    joinK (knB V c t) (krB V c t) h r y = Karr p b h l y := by
  have ht : t.val < 66 := t.isLt
  have hR : (row b l).val = t.val * 256 + r.val := by unfold row; simp only; omega
  unfold joinK Karr
  split
  · exact kn_eq V c p E t _ r hR h ⟨y.val, by assumption⟩
  · exact kr_eq V c p E t _ r hR ⟨y.val - 128, by omega⟩

theorem pointQ (E : Entry V c p) (t : Fin cfg0.N) (h : Fin 8) (r : Fin 256) (y : Fin 192) (b : Fin 2) (l : Fin 8448)
    (hb : b.val = t.val / 33) (hl : l.val = t.val % 33 * 256 + r.val) :
    joinQ (qnB V c t) (qrB V c t) h r y = Qarr p b h l y := by
  have ht : t.val < 66 := t.isLt
  have hR : (row b l).val = t.val * 256 + r.val := by unfold row; simp only; omega
  unfold joinQ Qarr
  split
  · exact qn_eq V c p E t _ r hR h ⟨y.val, by assumption⟩
  · exact qr_eq V c p E t _ r hR h ⟨y.val - 128, by omega⟩

theorem pointV (E : Entry V c p) (t : Fin cfg0.N) (h : Fin 8) (r : Fin 256) (d : Fin 144) (b : Fin 2) (l : Fin 8448)
    (hb : b.val = t.val / 33) (hl : l.val = t.val % 33 * 256 + r.val) :
    joinV (vB V c t) h d r = Varr p b h d l := by
  have ht : t.val < 66 := t.isLt
  have hR : (row b l).val = t.val * 256 + r.val := by unfold row; simp only; omega
  unfold joinV Varr
  split
  · exact v_eq V c p E t _ r hR h ⟨d.val, by assumption⟩
  · rfl

theorem congr4 {a b d e : ℕ} (f : Fin a → Fin b → Fin d → Fin e → EReal) {i i' : Fin a} {j j' : Fin b} {k k' : Fin d} {l l' : Fin e}
    (hi : i.val = i'.val) (hj : j.val = j'.val) (hk : k.val = k'.val) (hl : l.val = l'.val) : f i j k l = f i' j' k' l' := by
  rw [Fin.ext hi, Fin.ext hj, Fin.ext hk, Fin.ext hl]

theorem finalK (E : Entry V c p) :
    (dat0 V c).arrAt 17 cfg0.N = fun i : S2x8x8448x192.Idx => Karr p (i 0) (i 1) (i 2) (i 3) := by
  refine (dat0 V c).arrAt_eq_of_covers 17 _ (by decide +kernel) fun t _ y => ?_
  blk_simp
  rw [after0_17]
  have ht : t.val < 66 := t.isLt
  obtain ⟨-, -, -, -, -, -, e, -⟩ := idx0 t
  have hy2 : (y 2).val < 256 := (y 2).isLt
  refine ((point17 V c t y).trans (pointK V c p E t _ _ _ ⟨t.val / 33, by omega⟩ ⟨t.val % 33 * 256 + (y 2).val, by omega⟩ rfl rfl)).trans ?_
  clear E
  apply congr4 (Karr p) <;> blk_simp [e]

theorem finalQ (E : Entry V c p) :
    (dat0 V c).arrAt 19 cfg0.N = fun i : S2x8x8448x192.Idx => Qarr p (i 0) (i 1) (i 2) (i 3) := by
  refine (dat0 V c).arrAt_eq_of_covers 19 _ (by decide +kernel) fun t _ y => ?_
  blk_simp
  rw [after0_19]
  have ht : t.val < 66 := t.isLt
  obtain ⟨-, -, -, -, -, -, -, -, e⟩ := idx0 t
  have hy2 : (y 2).val < 256 := (y 2).isLt
  refine ((point19 V c t y).trans (pointQ V c p E t _ _ _ ⟨t.val / 33, by omega⟩ ⟨t.val % 33 * 256 + (y 2).val, by omega⟩ rfl rfl)).trans ?_
  clear E
  apply congr4 (Qarr p) <;> blk_simp [e]

theorem finalV (E : Entry V c p) :
    (dat0 V c).arrAt 18 cfg0.N = fun i : S2x8x144x8448.Idx => Varr p (i 0) (i 1) (i 2) (i 3) := by
  refine (dat0 V c).arrAt_eq_of_covers 18 _ (by decide +kernel) fun t _ y => ?_
  blk_simp
  rw [after0_18]
  have ht : t.val < 66 := t.isLt
  obtain ⟨-, -, -, -, -, -, -, e, -⟩ := idx0 t
  have hy3 : (y 3).val < 256 := (y 3).isLt
  refine ((point18 V c t y).trans (pointV V c p E t _ _ _ ⟨t.val / 33, by omega⟩ ⟨t.val % 33 * 256 + (y 3).val, by omega⟩ rfl rfl)).trans ?_
  clear E
  apply congr4 (Varr p) <;> blk_simp [e]

end Cert.Mla.Proj
-- ==== Proof.HostVal.lean ====
/- What the host operations before the first region leave in the arrays it reads. -/
module

public import proofs.«01_k».proof.Proof.Tables
public import proofs.«01_k».proof.Proof.ProjFin
public import proofs.«01_k».proof.Proof.Gen.KernelIdeal.Launch
public import Idealize.ShloMosaic.Lib.StableHlo.RunRead
public import Idealize.ShloMosaic.Lib.Pointwise

@[expose] public section

set_option maxRecDepth 16384
noncomputable section

open Idealize.ShloMosaic Idealize.ShloMosaic.TcCoe Idealize.SL.Sem

namespace Cert.Mla.Host

open Args Cert.KernelIdeal Cert.KernelIdeal.Gen

variable (V : Valuation τ sig (Elt Ideal))

theorem gather_at (x : FVec Ideal S8x6x1024 .f32) (idx : IVec S66x1 32) (t : Fin 66) (j : Fin 6) (e : Fin 1024) (b : Fin 8)
    (hb : min (idx (ix2 t 0)).toInt.toNat 7 = b.val) :
    Host.gather gather_S8x6x1024_S66x1_S66x6x1024_12_0_n_n_0_1_161024 x idx (ix3 t j e) = x (ix3 b j e) := by
  unfold Host.gather
  refine congrArg x (funext fun a => Fin.ext ?_)
  match a with
  | ⟨0, _⟩ =>
    refine Eq.trans ?_ hb
    have hsi : gather_S8x6x1024_S66x1_S66x6x1024_12_0_n_n_0_1_161024.siIdx (ix3 t j e) ⟨0, by decide⟩ = ix2 t 0 := by
      funext b; refine Fin.ext ?_
      match b with
      | ⟨0, _⟩ => rfl
      | ⟨1, _⟩ => rfl
    rw [← hsi]
    rfl
  | ⟨1, _⟩ =>
    simp [GatherDims.operandIdx, GatherDims.start, GatherDims.batchCoord, GatherDims.offCoord]
    rw [dif_neg (by decide), dif_neg (by decide), if_pos (by decide)]
    rw [Nat.zero_add]
  | ⟨2, _⟩ =>
    simp [GatherDims.operandIdx, GatherDims.start, GatherDims.batchCoord, GatherDims.offCoord]
    rw [dif_neg (by decide), dif_neg (by decide), if_pos (by decide)]
    rw [Nat.zero_add]

theorem lit_row : ∀ t : Fin 66, min (lit0 t).toInt.toNat 7 = (modRow (tile t)).val := by decide +kernel

theorem r1 (t : Fin 66) (j : Fin 6) (e : Fin 1024) : (StableHlo.after (hostOps0 (F := Ideal)) V (Proc.devRef .tc main_v4) : FVec Ideal S66x6x1024 .f32) (ix3 t j e)
    = (V (Proc.devRef .tc main_arg1) : FVec Ideal S8x6x1024 .f32) (ix3 (modRow (tile t)) j e) := by
  after_reads_simp
  refine (gather_at _ _ t j e (modRow (tile t)) ?_)
  rw [← lit_row t]
  pointwise []
  rw [show S66.rowMajor (ix1 t) = t from Fin.ext ((by decide +kernel : ∀ t : Fin 66, (S66.rowMajor (ix1 t)).val = t.val) t)]

theorem s18 (n : Fin 8192) (i : Fin 16)
    (hf : ∀ f, (V (Proc.devRef .tc main_v11) : FVec Ideal S16 .f32) (ix1 f) = freq f)
    (hd : ∀ n, (V (Proc.devRef .tc main_v12) : IVec S8192 32) (ix1 n) = fdiv (BitVec.ofNat 32 n.val) 64#32) : (StableHlo.after (hostOps0_2 (F := Ideal)) V (Proc.devRef .tc main_v18) : FVec Ideal S8192x16 .f32) (ix2 n i)
    = angX n i := by
  after_reads_simp; pointwise [angX]
  simp only [hf, hd]
theorem s11 (i : Fin 16) : (StableHlo.after (hostOps0 (F := Ideal)) V (Proc.devRef .tc main_v11) : FVec Ideal S16 .f32) (ix1 i)
    = freq i := by
  after_reads_simp; pointwise [freq]
theorem s5 (i : Fin 8192) : (StableHlo.after (hostOps0 (F := Ideal)) V (Proc.devRef .tc main_v5) : IVec S8192 32) (ix1 i)
    = BitVec.ofNat 32 i.val := by
  after_reads_simp; pointwise []
theorem c3  : (StableHlo.after (hostOps0 (F := Ideal)) V (Proc.devRef .tc main_c_3) : IVec S_ 32) ix0
    = 64#32 := by
  after_reads_simp; pointwise []
theorem c4  : (StableHlo.after (hostOps0_2 (F := Ideal)) V (Proc.devRef .tc main_c_4) : IVec S_ 32) ix0
    = 64#32 := by
  after_reads_simp; pointwise []
theorem s12 (i : Fin 8192) (hi : (V (Proc.devRef .tc main_v5) : IVec S8192 32) (ix1 i) = BitVec.ofNat 32 i.val)
    (hc : (V (Proc.devRef .tc main_c_3) : IVec S_ 32) ix0 = 64#32) : (StableHlo.after (hostOps0_1 (F := Ideal)) V (Proc.devRef .tc main_v12) : IVec S8192 32) (ix1 i)
    = fdiv (BitVec.ofNat 32 i.val) 64#32 := by
  after_reads_simp
  simp only [StableHlo.TRef.ofBuf_toBuf, StableHlo.TRef.toBuf, StableHlo.TRef.ofBuf, cast_cast, cast_eq, id_eq]
  pointwise []
  rw [hi, hc]; rfl
theorem s19 (i : Fin 8192) (hi : (V (Proc.devRef .tc main_v5) : IVec S8192 32) (ix1 i) = BitVec.ofNat 32 i.val)
    (hc : (V (Proc.devRef .tc main_c_4) : IVec S_ 32) ix0 = 64#32) : (StableHlo.after (hostOps0_3 (F := Ideal)) V (Proc.devRef .tc main_v19) : IVec S8192 32) (ix1 i)
    = fmod (BitVec.ofNat 32 i.val) 64#32 := by
  after_reads_simp
  simp only [StableHlo.TRef.ofBuf_toBuf, StableHlo.TRef.toBuf, StableHlo.TRef.ofBuf, cast_cast, cast_eq, id_eq]
  pointwise []
  rw [hi, hc]; rfl

theorem r6 (e : Fin 1024) (k : Fin 256) : (StableHlo.after (hostOps0_4 (F := Ideal)) V (Proc.devRef .tc main_v43) : FVec Ideal S1024x256 .bf16) (ix2 e k)
    = (V (Proc.devRef .tc main_arg5) : FVec Ideal S1024x320 .f32) (ix2 e (cC k)) := by
  after_reads_simp; pointwise [cC]
theorem r7 (e : Fin 1024) (k : Fin 64) : (StableHlo.after (hostOps0_4 (F := Ideal)) V (Proc.devRef .tc main_v59) : FVec Ideal S1024x64 .bf16) (ix2 e k)
    = (V (Proc.devRef .tc main_arg5) : FVec Ideal S1024x320 .f32) (ix2 e (cR k)) := by
  after_reads_simp; pointwise [cR]
  all_goals blk_ext
theorem r8 (e : Fin 1024) (k : Fin 64) : (StableHlo.after (hostOps0_4 (F := Ideal)) V (Proc.devRef .tc main_v63) : FVec Ideal S1024x64 .bf16) (ix2 e k)
    = (V (Proc.devRef .tc main_arg5) : FVec Ideal S1024x320 .f32) (ix2 e (cR (swp k))) := by
  after_reads_simp; pointwise [cR, swp, Fin.rev]
  simp +decide only [↓reduceIte]
  refine congrArg _ (congrArg (ix2 _) (Fin.ext ?_))
  simp only
  omega
theorem r9 (k : Fin 256) : (StableHlo.after (hostOps0_4 (F := Ideal)) V (Proc.devRef .tc main_v64) : FVec Ideal S1x256 .f32) (ix2 0 k)
    = (V (Proc.devRef .tc main_arg6) : FVec Ideal S256 .f32) (ix1 k) := by
  after_reads_simp; pointwise []
  all_goals blk_ext
theorem r10 (k : Fin 256) (h : Fin 8) (d : Fin 128) : (StableHlo.after (hostOps0_4 (F := Ideal)) V (Proc.devRef .tc main_v48) : FVec Ideal S256x1024 .bf16) (ix2 k (col h d))
    = (V (Proc.devRef .tc main_arg7) : FVec Ideal S256x2048 .f32) (ix2 k (cK h d)) := by
  after_reads_simp; pointwise [col, cK]
  all_goals blk_ext
theorem r11 (k : Fin 256) (h : Fin 8) (d : Fin 128) : (StableHlo.after (hostOps0_4 (F := Ideal)) V (Proc.devRef .tc main_v52) : FVec Ideal S1024x256 .bf16) (ix2 (col h d) k)
    = (V (Proc.devRef .tc main_arg7) : FVec Ideal S256x2048 .f32) (ix2 k (cV h d)) := by
  after_reads_simp; pointwise [col, cV]
  all_goals blk_ext
theorem r12 (e : Fin 1024) (k : Fin 384) : (StableHlo.after (hostOps0_4 (F := Ideal)) V (Proc.devRef .tc main_v65) : FVec Ideal S1024x384 .bf16) (ix2 e k)
    = (V (Proc.devRef .tc main_arg2) : FVec Ideal S1024x384 .f32) (ix2 e k) := by
  after_reads_simp; pointwise []
  all_goals blk_ext
theorem r13 (k : Fin 384) : (StableHlo.after (hostOps0_4 (F := Ideal)) V (Proc.devRef .tc main_v66) : FVec Ideal S1x384 .f32) (ix2 0 k)
    = (V (Proc.devRef .tc main_arg3) : FVec Ideal S384 .f32) (ix1 k) := by
  after_reads_simp; pointwise []
  all_goals blk_ext
theorem r14 (k : Fin 384) (h : Fin 8) (d : Fin 128) : (StableHlo.after (hostOps0_4 (F := Ideal)) V (Proc.devRef .tc main_v56) : FVec Ideal S384x1024 .bf16) (ix2 k (col h d))
    = (V (Proc.devRef .tc main_arg4) : FVec Ideal S384x1536 .f32) (ix2 k (cN h d)) := by
  after_reads_simp; pointwise [col, cN]
  all_goals blk_ext
theorem r15 (k : Fin 384) (h : Fin 8) (i : Fin 64) : (StableHlo.after (hostOps0_4 (F := Ideal)) V (Proc.devRef .tc main_v67) : FVec Ideal S384x512 .bf16) (ix2 k (colR h i))
    = (V (Proc.devRef .tc main_arg4) : FVec Ideal S384x1536 .f32) (ix2 k (cQ h i)) := by
  after_reads_simp; pointwise [colR, cQ]
  all_goals blk_ext
theorem r16 (k : Fin 384) (h : Fin 8) (i : Fin 64) : (StableHlo.after (hostOps0_4 (F := Ideal)) V (Proc.devRef .tc main_v71) : FVec Ideal S384x512 .bf16) (ix2 k (colR h i))
    = (V (Proc.devRef .tc main_arg4) : FVec Ideal S384x1536 .f32) (ix2 k (cQ h (swp i))) := by
  after_reads_simp; pointwise [colR, cQ, swp, Fin.rev]
  simp +decide only [↓reduceIte]
  refine congrArg _ (congrArg (ix2 _) (Fin.ext ?_))
  simp only
  omega

theorem r2 (l : Fin 8448) (i : Fin 64)
    (hx : ∀ n f, (V (Proc.devRef .tc main_v18) : FVec Ideal S8192x16 .f32) (ix2 n f) = angX n f)
    (hf : ∀ f, (V (Proc.devRef .tc main_v11) : FVec Ideal S16 .f32) (ix1 f) = freq f)
    (hm : ∀ n, (V (Proc.devRef .tc main_v19) : IVec S8192 32) (ix1 n) = fmod (BitVec.ofNat 32 n.val) 64#32) : (StableHlo.after (hostOps0_4 (F := Ideal)) V (Proc.devRef .tc main_v33) : FVec Ideal S8448x64 .f32) (ix2 l i)
    = tabC l i := by
  after_reads_simp; pointwise [colR]; after_reads_simp; pointwise []; after_reads_simp; pointwise []
  unfold tabC cosT
  simp only [hx, hf, hm]
  rfl
theorem r3 (l : Fin 8448) (i : Fin 64)
    (hx : ∀ n f, (V (Proc.devRef .tc main_v18) : FVec Ideal S8192x16 .f32) (ix2 n f) = angX n f)
    (hf : ∀ f, (V (Proc.devRef .tc main_v11) : FVec Ideal S16 .f32) (ix1 f) = freq f)
    (hm : ∀ n, (V (Proc.devRef .tc main_v19) : IVec S8192 32) (ix1 n) = fmod (BitVec.ofNat 32 n.val) 64#32) : (StableHlo.after (hostOps0_4 (F := Ideal)) V (Proc.devRef .tc main_v35) : FVec Ideal S8448x64 .f32) (ix2 l i)
    = tabS l i := by
  after_reads_simp; pointwise [colR]; after_reads_simp; pointwise []; after_reads_simp; pointwise []
  unfold tabS sinT
  simp only [hx, hf, hm]
  rfl
theorem r4 (l : Fin 8448) (h : Fin 8) (i : Fin 64)
    (hx : ∀ n f, (V (Proc.devRef .tc main_v18) : FVec Ideal S8192x16 .f32) (ix2 n f) = angX n f)
    (hf : ∀ f, (V (Proc.devRef .tc main_v11) : FVec Ideal S16 .f32) (ix1 f) = freq f)
    (hm : ∀ n, (V (Proc.devRef .tc main_v19) : IVec S8192 32) (ix1 n) = fmod (BitVec.ofNat 32 n.val) 64#32) : (StableHlo.after (hostOps0_4 (F := Ideal)) V (Proc.devRef .tc main_v38) : FVec Ideal S8448x512 .f32) (ix2 l (colR h i))
    = tabC l i := by
  after_reads_simp; pointwise [colR]; after_reads_simp; pointwise []; after_reads_simp; pointwise []
  unfold tabC cosT
  simp only [hx, hf, hm]
  rfl
theorem r5 (l : Fin 8448) (h : Fin 8) (i : Fin 64)
    (hx : ∀ n f, (V (Proc.devRef .tc main_v18) : FVec Ideal S8192x16 .f32) (ix2 n f) = angX n f)
    (hf : ∀ f, (V (Proc.devRef .tc main_v11) : FVec Ideal S16 .f32) (ix1 f) = freq f)
    (hm : ∀ n, (V (Proc.devRef .tc main_v19) : IVec S8192 32) (ix1 n) = fmod (BitVec.ofNat 32 n.val) 64#32) : (StableHlo.after (hostOps0_4 (F := Ideal)) V (Proc.devRef .tc main_v41) : FVec Ideal S8448x512 .f32) (ix2 l (colR h i))
    = tabS l i := by
  after_reads_simp; pointwise [colR]; after_reads_simp; pointwise []; after_reads_simp; pointwise []; after_reads_simp; pointwise []
  unfold tabS sinT
  simp only [hx, hf, hm]
  rfl

section
variable (m : (ℓ : Loc nD τ sig) → Buf (Elt Ideal) ℓ) (ρ : Dev nD → PrngReg) (c : Dev nD)

/-- The mixer's arguments, read off the memory at launch. -/
def argsOf : Args where
  X r e := (m ((c : Thread nD τ).loc main_arg0) : FVec Ideal S16896x1024 .f32) (ix2 r e)
  M r j e := (m ((c : Thread nD τ).loc main_arg1) : FVec Ideal S8x6x1024 .f32) (ix3 r j e)
  Wdq e k := (m ((c : Thread nD τ).loc main_arg2) : FVec Ideal S1024x384 .f32) (ix2 e k)
  qg k := (m ((c : Thread nD τ).loc main_arg3) : FVec Ideal S384 .f32) (ix1 k)
  Wuq e k := (m ((c : Thread nD τ).loc main_arg4) : FVec Ideal S384x1536 .f32) (ix2 e k)
  Wdkv e k := (m ((c : Thread nD τ).loc main_arg5) : FVec Ideal S1024x320 .f32) (ix2 e k)
  kg k := (m ((c : Thread nD τ).loc main_arg6) : FVec Ideal S256 .f32) (ix1 k)
  Wukv e k := (m ((c : Thread nD τ).loc main_arg7) : FVec Ideal S256x2048 .f32) (ix2 e k)
  C := tabC
  S := tabS

theorem v11_at (f : Fin 16) : (W1 m ρ c (Proc.devRef .tc main_v11) : FVec Ideal S16 .f32) (ix1 f) = freq f := s11 _ f
theorem v5_at (n : Fin 8192) : (W1 m ρ c (Proc.devRef .tc main_v5) : IVec S8192 32) (ix1 n) = BitVec.ofNat 32 n.val := s5 _ n

theorem v12_at (n : Fin 8192) : (W2 m ρ c (Proc.devRef .tc main_v12) : IVec S8192 32) (ix1 n) = fdiv (BitVec.ofNat 32 n.val) 64#32 :=
  s12 _ n (v5_at m ρ c n) (c3 _)

theorem v11_2 : W2 m ρ c (Proc.devRef .tc main_v11) = W1 m ρ c (Proc.devRef .tc main_v11) := W2_of m ρ c _ (by decide +kernel)
theorem v11_3 : W3 m ρ c (Proc.devRef .tc main_v11) = W1 m ρ c (Proc.devRef .tc main_v11) :=
  (W3_of m ρ c _ (by decide +kernel)).trans (v11_2 m ρ c)
theorem v11_4 : W4 m ρ c (Proc.devRef .tc main_v11) = W1 m ρ c (Proc.devRef .tc main_v11) :=
  (W4_of m ρ c _ (by decide +kernel)).trans (v11_3 m ρ c)
theorem v5_3 : W3 m ρ c (Proc.devRef .tc main_v5) = W1 m ρ c (Proc.devRef .tc main_v5) :=
  (W3_of m ρ c _ (by decide +kernel)).trans (W2_of m ρ c _ (by decide +kernel))

theorem v18_at (n : Fin 8192) (f : Fin 16) : (W4 m ρ c (Proc.devRef .tc main_v18) : FVec Ideal S8192x16 .f32) (ix2 n f) = angX n f := by
  rw [W4_of m ρ c main_v18 (by decide +kernel)]
  exact s18 _ n f (fun f => (congrFun (v11_2 m ρ c) _).trans (v11_at m ρ c f)) (v12_at m ρ c)

theorem v19_at (n : Fin 8192) : (W4 m ρ c (Proc.devRef .tc main_v19) : IVec S8192 32) (ix1 n) = fmod (BitVec.ofNat 32 n.val) 64#32 :=
  s19 _ n ((congrFun (v5_3 m ρ c) _).trans (v5_at m ρ c n)) (c4 _)

theorem f4 (f : Fin 16) : (W4 m ρ c (Proc.devRef .tc main_v11) : FVec Ideal S16 .f32) (ix1 f) = freq f :=
  (congrFun (v11_4 m ρ c) _).trans (v11_at m ρ c f)

theorem arg_at {b : Ref sig .tc} (hb : b ∈ argRefs) : W4 m ρ c (Proc.devRef .tc b) = m ((c : Thread nD τ).loc b) := W4_args m ρ c b hb

open Cert.Mla.Proj in
theorem entry : Entry (V5 m ρ) c (argsOf m c) where
  h0 r e := congrFun (W5_args m ρ c main_arg0 (by decide +kernel)) (ix2 r e)
  h1 t j e := by
    have h : W5 m ρ c (Proc.devRef .tc main_v4) = W1 m ρ c (Proc.devRef .tc main_v4) :=
      (W5_of m ρ c _ (by decide +kernel)).trans ((W4_of m ρ c _ (by decide +kernel)).trans ((W3_of m ρ c _ (by decide +kernel)).trans
        (W2_of m ρ c _ (by decide +kernel))))
    exact (congrFun h _).trans (r1 (W0 m ρ c) t (two j) e)
  h2 l i := r2 _ l i (v18_at m ρ c) (f4 m ρ c) (v19_at m ρ c)
  h3 l i := r3 _ l i (v18_at m ρ c) (f4 m ρ c) (v19_at m ρ c)
  h4 l h i := r4 _ l h i (v18_at m ρ c) (f4 m ρ c) (v19_at m ρ c)
  h5 l h i := r5 _ l h i (v18_at m ρ c) (f4 m ρ c) (v19_at m ρ c)
  h6 e k := (r6 _ e k).trans (congrFun (arg_at m ρ c (b := main_arg5) (by decide +kernel)) _)
  h7 e k := (r7 _ e k).trans (congrFun (arg_at m ρ c (b := main_arg5) (by decide +kernel)) _)
  h8 e k := (r8 _ e k).trans (congrFun (arg_at m ρ c (b := main_arg5) (by decide +kernel)) _)
  h9 k := (r9 _ k).trans (congrFun (arg_at m ρ c (b := main_arg6) (by decide +kernel)) _)
  h10 k h d := (r10 _ k h d).trans (congrFun (arg_at m ρ c (b := main_arg7) (by decide +kernel)) _)
  h11 h d k := (r11 _ k h d).trans (congrFun (arg_at m ρ c (b := main_arg7) (by decide +kernel)) _)
  h12 e k := (r12 _ e k).trans (congrFun (arg_at m ρ c (b := main_arg2) (by decide +kernel)) _)
  h13 k := (r13 _ k).trans (congrFun (arg_at m ρ c (b := main_arg3) (by decide +kernel)) _)
  h14 k h d := (r14 _ k h d).trans (congrFun (arg_at m ρ c (b := main_arg4) (by decide +kernel)) _)
  h15 k h i := (r15 _ k h i).trans (congrFun (arg_at m ρ c (b := main_arg4) (by decide +kernel)) _)
  h16 k h i := (r16 _ k h i).trans (congrFun (arg_at m ρ c (b := main_arg4) (by decide +kernel)) _)

end

end Cert.Mla.Host
-- ==== Proof.Flash.lean ====
/- Softmax averages on the extended reals: sums scaled by a positive real, the running form of the average (a maximum and
   a scaled sum carried through three blocks of keys), and that both forms give one value. No program is mentioned here. -/
module

public import Idealize.ShloMosaic.PureOps.Ideal.Laws
public import Mathlib.Algebra.BigOperators.Fin

@[expose] public section

noncomputable section

namespace Cert.Mla

open Idealize.ShloMosaic

/-- A nonnegative real distributes over a finite sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

theorem sum_mul_coe {ι : Type} (s : Finset ι) (a : ℝ) (ha : 0 ≤ a) (f : ι → EReal) :
    (∑ i ∈ s, f i) * (a : EReal) = ∑ i ∈ s, f i * (a : EReal) := by
  rw [mul_comm, coe_mul_sum s a ha]; exact Finset.sum_congr rfl fun i _ => mul_comm _ _

/-- A sum of reals, read on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem exp2_sub (x y : ℝ) : Ideal.exp2 ((x : EReal) - (y : EReal)) = (((2 : ℝ) ^ (x - y) : ℝ) : EReal) := by
  rw [← EReal.coe_sub, Ideal.exp2_coe]; rfl

theorem exp_sub (x y : ℝ) : Ideal.exp ((x : EReal) - (y : EReal)) = ((Real.exp (x - y) : ℝ) : EReal) := by
  rw [← EReal.coe_sub, Ideal.exp_coe]

/-- One block of the running sum: what was carried at the maximum `m`, carried at the maximum `m'`. -/
theorem rescale {ι : Type} [Fintype ι] (m m' : ℝ) (t : ι → ℝ) (v : ι → EReal) :
    Ideal.exp2 ((m : EReal) - (m' : EReal)) * ∑ k, v k * (((2 : ℝ) ^ (t k - m) : ℝ) : EReal)
      = ∑ k, v k * (((2 : ℝ) ^ (t k - m') : ℝ) : EReal) := by
  rw [exp2_sub, coe_mul_sum _ _ (by positivity)]
  refine Finset.sum_congr rfl fun k _ => ?_
  rw [mul_comm, mul_assoc, ← EReal.coe_mul, ← Real.rpow_add (by norm_num)]
  congr 3; ring

/-- Three blocks of keys. -/
def acc1 {n : ℕ} (m₁ : EReal) (t : Fin n → EReal) (v : Fin n → EReal) : EReal :=
  Ideal.exp2 (⊥ - m₁) * 0 + ∑ k, v k * Ideal.exp2 (t k - m₁)

def accS {n : ℕ} (m m' : EReal) (a : EReal) (t : Fin n → EReal) (v : Fin n → EReal) : EReal :=
  Ideal.exp2 (m - m') * a + ∑ k, v k * Ideal.exp2 (t k - m')

theorem acc1_eq {n : ℕ} (m₁ : ℝ) (t : Fin n → ℝ) (v : Fin n → EReal) :
    acc1 m₁ (fun k => (t k : EReal)) v = ∑ k, v k * (((2 : ℝ) ^ (t k - m₁) : ℝ) : EReal) := by
  unfold acc1
  rw [mul_zero, zero_add]
  exact Finset.sum_congr rfl fun k _ => by rw [exp2_sub]

theorem accS_eq {n : ℕ} {ι : Type} [Fintype ι] (m m' : ℝ) (t₀ : ι → ℝ) (v₀ : ι → EReal) (t : Fin n → ℝ) (v : Fin n → EReal) :
    accS m m' (∑ k, v₀ k * (((2 : ℝ) ^ (t₀ k - m) : ℝ) : EReal)) (fun k => (t k : EReal)) v
      = (∑ k, v₀ k * (((2 : ℝ) ^ (t₀ k - m') : ℝ) : EReal)) + ∑ k, v k * (((2 : ℝ) ^ (t k - m') : ℝ) : EReal) := by
  unfold accS
  rw [rescale]
  congr 1

/-- The running sum over the three blocks is the sum over all keys at the last maximum. -/
theorem acc3_eq {n : ℕ} (m₁ m₂ m₃ : ℝ) (t : Fin 3 → Fin n → ℝ) (v : Fin 3 → Fin n → EReal) :
    accS m₂ m₃ (accS m₁ m₂ (acc1 m₁ (fun k => (t 0 k : EReal)) (v 0)) (fun k => (t 1 k : EReal)) (v 1))
        (fun k => (t 2 k : EReal)) (v 2)
      = ∑ c, ∑ k, v c k * (((2 : ℝ) ^ (t c k - m₃) : ℝ) : EReal) := by
  rw [acc1_eq, accS_eq]
  have h : ((∑ k, v 0 k * (((2 : ℝ) ^ (t 0 k - m₂) : ℝ) : EReal)) + ∑ k, v 1 k * (((2 : ℝ) ^ (t 1 k - m₂) : ℝ) : EReal))
      = ∑ p : Fin n ⊕ Fin n, (Sum.elim (v 0) (v 1) p) * (((2 : ℝ) ^ (Sum.elim (t 0) (t 1) p - m₂) : ℝ) : EReal) := by
    rw [Fintype.sum_sum_type]; rfl
  rw [h, accS_eq, Fintype.sum_sum_type, Fin.sum_univ_three]
  rfl

/-- The weight of key `j` among scores `x`. -/
def weight {ι : Type} [Fintype ι] (x : ι → ℝ) (j : ι) : ℝ := Real.exp (x j) / ∑ i, Real.exp (x i)

theorem weight_nonneg {ι : Type} [Fintype ι] (x : ι → ℝ) (j : ι) : 0 ≤ weight x j :=
  div_nonneg (Real.exp_pos _).le (Finset.sum_nonneg fun _ _ => (Real.exp_pos _).le)

theorem sum_exp_pos {ι : Type} [Fintype ι] [Nonempty ι] (x : ι → ℝ) : 0 < ∑ i, Real.exp (x i) :=
  Finset.sum_pos (fun _ _ => Real.exp_pos _) Finset.univ_nonempty

/-- The weights do not depend on what is subtracted from every score. -/
theorem weight_shift {ι : Type} [Fintype ι] [Nonempty ι] (x : ι → ℝ) (M : ℝ) (j : ι) :
    Real.exp (x j - M) * (1 / ∑ i, Real.exp (x i - M)) = weight x j := by
  have h : ∀ i, Real.exp (x i - M) = Real.exp (x i) * Real.exp (-M) := fun i => by
    rw [← Real.exp_add, sub_eq_add_neg]
  simp only [h, ← Finset.sum_mul]
  have h1 := (sum_exp_pos x).ne'
  have h2 := (Real.exp_pos (-M)).ne'
  unfold weight
  field_simp

/-- The average as the model states it: the scores less their maximum `M`, exponentiated, divided by their sum. -/
theorem softmax_avg {ι : Type} [Fintype ι] [Nonempty ι] (x : ι → ℝ) (v : ι → EReal) (M : ℝ) :
    ∑ j, v j * Ideal.div (Ideal.exp ((x j : EReal) - (M : EReal))) (∑ i, Ideal.exp ((x i : EReal) - (M : EReal)))
      = ∑ j, v j * ((weight x j : ℝ) : EReal) := by
  refine Finset.sum_congr rfl fun j _ => ?_
  have h : (∑ i, Ideal.exp ((x i : EReal) - (M : EReal))) = ((∑ i, Real.exp (x i - M) : ℝ) : EReal) := by
    rw [coe_sum]; exact Finset.sum_congr rfl fun i _ => exp_sub _ _
  rw [h, Ideal.div_coe (sum_exp_pos fun i => x i - M).ne', exp_sub, ← EReal.coe_mul, weight_shift]

/-- The average as the kernel computes it: scores `t` in base two, the sum divided at the end. -/
theorem flash_avg {ι : Type} [Fintype ι] [Nonempty ι] (x t : ι → ℝ) (ht : ∀ j, t j = x j * (Real.log 2)⁻¹) (v : ι → EReal)
    (M : ℝ) :
    Ideal.div (∑ j, v j * (((2 : ℝ) ^ (t j - M) : ℝ) : EReal)) (∑ j, 1 * (((2 : ℝ) ^ (t j - M) : ℝ) : EReal))
      = ∑ j, v j * ((weight x j : ℝ) : EReal) := by
  have hl : Real.log 2 ≠ 0 := (Real.log_pos (by norm_num)).ne'
  have h : ∀ j, (2 : ℝ) ^ (t j - M) = Real.exp (x j - Real.log 2 * M) := fun j => by
    rw [Real.rpow_def_of_pos (by norm_num), ht]; congr 1; field_simp
  simp only [h, one_mul, ← coe_sum]
  rw [Ideal.div_coe (sum_exp_pos fun i => x i - Real.log 2 * M).ne', sum_mul_coe _ _ (by
    have := (sum_exp_pos fun i => x i - Real.log 2 * M).le
    positivity)]
  refine Finset.sum_congr rfl fun j _ => ?_
  rw [mul_assoc, ← EReal.coe_mul, weight_shift]

/-- A fold of the maximum over reals, from a real, is a real. -/
theorem fold_max_real {ι : Type} (s : Finset ι) (f : ι → ℝ) (a : ℝ) :
    ∃ r : ℝ, s.fold max (a : EReal) (fun i => (f i : EReal)) = r := by
  classical
  induction s using Finset.induction_on with
  | empty => exact ⟨a, rfl⟩
  | insert i s hi ih =>
    obtain ⟨r, hr⟩ := ih
    exact ⟨max (f i) r, by rw [Finset.fold_insert hi, hr]; exact (EReal.coe_strictMono.monotone.map_max).symm⟩

theorem max_real (a b : ℝ) : max (a : EReal) (b : EReal) = ((max a b : ℝ) : EReal) :=
  (EReal.coe_strictMono.monotone.map_max).symm

/-- A fold of the maximum from −∞ over some reals, at least one, is a real. -/
theorem fold_max_bot {ι : Type} (s : Finset ι) (hs : s.Nonempty) (f : ι → ℝ) :
    ∃ r : ℝ, s.fold max (⊥ : EReal) (fun i => (f i : EReal)) = r := by
  classical
  obtain ⟨i, hi⟩ := hs
  obtain ⟨r, hr⟩ := fold_max_real (s.erase i) f (f i)
  refine ⟨r, ?_⟩
  rw [← Finset.insert_erase hi, Finset.fold_insert (Finset.notMem_erase i s), ← hr]
  generalize s.erase i = u
  induction u using Finset.induction_on with
  | empty => simp
  | insert j u hj ih => rw [Finset.fold_insert hj, Finset.fold_insert hj, ← ih, max_left_comm]

theorem ofBits_negInf : Ideal.ofBits .f32 4286578688#32 = ⊥ := by simp [Ideal.ofBits, Ideal.ieee]

end Cert.Mla

end
-- ==== Proof.AttPay.lean ====
/- The attention's program point: what the body leaves in its output block, as an average of the values weighted by the
   exponentials of the scores, and from it the whole array the region leaves. -/
module

public import proofs.«01_k».proof.Proof.Flash
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mla.Att

open Cert.KernelIdeal Cert.KernelIdeal.Gen

/-- One key's score in a chunk. -/
theorem pay4_at (v0 : FVec Ideal S1x1x256x192 .bf16) (v4 : FVec Ideal S1x1x2816x192 .bf16) (k : Fin 2816) (n : Fin 256) :
    k1_pay4 (F := Ideal) v0 v4 (ix2 k n) = ∑ x, v4 (ix4 0 0 k x) * v0 (ix4 0 0 n x) := by
  pointwise [k1_pay4, k1_pay2]

theorem pay5_at (v0 : FVec Ideal S1x1x256x192 .bf16) (v4 : FVec Ideal S1x1x2816x192 .bf16) (k : Fin 2816) (n : Fin 256) :
    k1_pay5 (F := Ideal) v0 v4 (ix2 k n) = ∑ x, v4 (ix4 0 0 k x) * v0 (ix4 0 0 n x) := by
  pointwise [k1_pay5, k1_pay2]

theorem pay8_at (v0 : FVec Ideal S1x1x256x192 .bf16) (v4 : FVec Ideal S1x1x2816x192 .bf16) (k : Fin 2816) (n : Fin 256) :
    k1_pay8 (F := Ideal) v0 v4 (ix2 k n) = ∑ x, v4 (ix4 0 0 k x) * v0 (ix4 0 0 n x) := by
  pointwise [k1_pay8, k1_pay2]

theorem pay6_at (v0 : FVec Ideal S1x1x256x192 .bf16) (v4 : FVec Ideal S1x1x2816x192 .bf16) (n : Fin 256) :
    k1_pay6 (F := Ideal) v0 v4 (ix2 0 n) = max (Ideal.ofBits .f32 4286578688#32) (Finset.fold max (Ideal.ofBits .f32 4286578688#32)
      (fun x => k1_pay4 (F := Ideal) v0 v4 (ix2 x n)) Finset.univ) := by
  pointwise [k1_pay6, k1_pay3]

theorem pay9_at (v0 : FVec Ideal S1x1x256x192 .bf16) (v4 : FVec Ideal S1x1x2816x192 .bf16) (n : Fin 256) :
    k1_pay9 (F := Ideal) v0 v4 (ix1 n) = Finset.fold max (Ideal.ofBits .f32 4286578688#32)
      (fun x => k1_pay5 (F := Ideal) v0 v4 (ix2 x n)) Finset.univ := by
  pointwise [k1_pay9]

theorem pay7_at (v0 : FVec Ideal S1x1x256x192 .bf16) (v4 : FVec Ideal S1x1x2816x192 .bf16) (v21 : FVec Ideal S1x1x144x2816 .bf16)
    (e : Fin 144) (n : Fin 256) :
    k1_pay7 (F := Ideal) v0 v4 v21 (ix2 e n)
      = Ideal.exp2 (Ideal.ofBits .f32 4286578688#32 - k1_pay6 (F := Ideal) v0 v4 (ix2 0 n)) * 0
        + ∑ x, v21 (ix4 0 0 e x) * Ideal.exp2 (k1_pay4 (F := Ideal) v0 v4 (ix2 x n) - k1_pay6 (F := Ideal) v0 v4 (ix2 0 n)) := by
  pointwise [k1_pay7]
  rfl

/-- The last two steps of the running sum for value row `e`, query `n`. -/
def acc (v9 : FVec Ideal S2816x256 .f32) (v12 : FVec Ideal S1x256 .f32) (v24 : FVec Ideal S144x256 .f32) (v27 : FVec Ideal S2816x256 .f32)
    (v28 : FVec Ideal S256 .f32) (v39 v54 : FVec Ideal S1x1x144x2816 .bf16) (n : Fin 256) (m2 m3 : EReal) (e : Fin 144) : EReal :=
  accS m2 m3 (accS (v12 (ix2 0 n)) m2 (v24 (ix2 e n)) (fun x => v9 (ix2 x n)) (fun x => v39 (ix4 0 0 e x)))
    (fun x => v27 (ix2 x n)) (fun x => v54 (ix4 0 0 e x))

def max2 (v12 : FVec Ideal S1x256 .f32) (v28 : FVec Ideal S256 .f32) (n : Fin 256) : EReal := max (v12 (ix2 0 n)) (v28 (ix1 n))

def max3 (v12 : FVec Ideal S1x256 .f32) (v27 : FVec Ideal S2816x256 .f32) (v28 : FVec Ideal S256 .f32) (n : Fin 256) : EReal :=
  max (max2 v12 v28 n) (Finset.fold max (Ideal.ofBits .f32 4286578688#32) (fun x => v27 (ix2 x n)) Finset.univ)

theorem pay1_at (v9 : FVec Ideal S2816x256 .f32) (v12 : FVec Ideal S1x256 .f32) (v24 : FVec Ideal S144x256 .f32) (v27 : FVec Ideal S2816x256 .f32)
    (v28 : FVec Ideal S256 .f32) (v39 v54 : FVec Ideal S1x1x144x2816 .bf16) (n : Fin 256) (d : Fin 128) :
    k1_pay1 (F := Ideal) v9 v12 v24 v27 v28 v39 v54 (ix3 0 n d)
      = Ideal.div (acc v9 v12 v24 v27 v28 v39 v54 n (max2 v12 v28 n) (max3 v12 v27 v28 n) ⟨d.val, by omega⟩)
          (acc v9 v12 v24 v27 v28 v39 v54 n (max2 v12 v28 n) (max3 v12 v27 v28 n) 128) := by
  pointwise [k1_pay1]
  rfl

/-- The body's value at query `n`, value column `d`: the running form over three chunks whose scores are the reals `t`. -/
theorem body_at (q : FVec Ideal S1x1x256x192 .bf16) (k : Fin 3 → FVec Ideal S1x1x2816x192 .bf16) (v : Fin 3 → FVec Ideal S1x1x144x2816 .bf16)
    (n : Fin 256) (d : Fin 128) (t : Fin 3 → Fin 2816 → ℝ)
    (h : ∀ c x, ∑ y, k c (ix4 0 0 x y) * q (ix4 0 0 n y) = (t c x : EReal)) :
    ∃ M : ℝ, k1_pay1 (F := Ideal) (k1_pay5 q (k 1)) (k1_pay6 q (k 0)) (k1_pay7 q (k 0) (v 0)) (k1_pay8 q (k 2)) (k1_pay9 q (k 1)) (v 1) (v 2) (ix3 0 n d)
      = Ideal.div (∑ c, ∑ x, v c (ix4 0 0 ⟨d.val, by omega⟩ x) * (((2 : ℝ) ^ (t c x - M) : ℝ) : EReal))
          (∑ c, ∑ x, v c (ix4 0 0 128 x) * (((2 : ℝ) ^ (t c x - M) : ℝ) : EReal)) := by
  have hne : (Finset.univ : Finset (Fin 2816)).Nonempty := Finset.univ_nonempty
  obtain ⟨r1, hr1⟩ := fold_max_bot Finset.univ hne (t 0)
  obtain ⟨r2, hr2⟩ := fold_max_bot Finset.univ hne (t 1)
  obtain ⟨r3, hr3⟩ := fold_max_bot Finset.univ hne (t 2)
  have h6 : k1_pay6 (F := Ideal) q (k 0) (ix2 0 n) = (r1 : EReal) := by
    rw [pay6_at, ofBits_negInf]; simp only [pay4_at, h]; rw [hr1, max_eq_right bot_le]
  have h9 : k1_pay9 (F := Ideal) q (k 1) (ix1 n) = (r2 : EReal) := by
    rw [pay9_at, ofBits_negInf]; simp only [pay5_at, h]; exact hr2
  have hm2 : max2 (k1_pay6 (F := Ideal) q (k 0)) (k1_pay9 q (k 1)) n = ((max r1 r2 : ℝ) : EReal) := by
    unfold max2; rw [h6, h9, max_real]
  have hm3 : max3 (k1_pay6 (F := Ideal) q (k 0)) (k1_pay8 q (k 2)) (k1_pay9 q (k 1)) n = ((max (max r1 r2) r3 : ℝ) : EReal) := by
    unfold max3; rw [hm2, ofBits_negInf]; simp only [pay8_at, h]; rw [hr3, max_real]
  refine ⟨max (max r1 r2) r3, ?_⟩
  rw [pay1_at, hm2, hm3]
  have hacc : ∀ e : Fin 144, acc (k1_pay5 (F := Ideal) q (k 1)) (k1_pay6 q (k 0)) (k1_pay7 q (k 0) (v 0)) (k1_pay8 q (k 2)) (k1_pay9 q (k 1)) (v 1) (v 2) n
      ((max r1 r2 : ℝ) : EReal) ((max (max r1 r2) r3 : ℝ) : EReal) e = ∑ c, ∑ x, v c (ix4 0 0 e x) * (((2 : ℝ) ^ (t c x - max (max r1 r2) r3) : ℝ) : EReal) := by
    intro e
    rw [← acc3_eq r1 (max r1 r2) (max (max r1 r2) r3) t (fun c x => v c (ix4 0 0 e x))]
    unfold acc
    rw [pay7_at, h6, ofBits_negInf]
    simp only [pay4_at, pay5_at, pay8_at, h]
    rfl
  rw [hacc, hacc]

end Cert.Mla.Att

end
-- ==== Proof.Att.lean ====
/- The attention's program point: what the body leaves in its output block, as an average of the values weighted by the
   exponentials of the scores, and from it the whole array the region leaves. -/
module

public import proofs.«01_k».proof.Proof.AttPay
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mla.Att

open Cert.KernelIdeal Cert.KernelIdeal.Gen

/-- The chunks, read out of the blocks. -/
def kchunk (x1 : FVec Ideal S1x1x8448x192 .bf16) : Fin 3 → FVec Ideal S1x1x2816x192 .bf16
  | 0 => View.ld (Val := Elt Ideal) (e' := .bf16) x1 r1_1
  | 1 => View.ld (Val := Elt Ideal) (e' := .bf16) x1 r1_2
  | 2 => View.ld (Val := Elt Ideal) (e' := .bf16) x1 r1_4

def vchunk (x2 : FVec Ideal S1x1x144x8448 .bf16) : Fin 3 → FVec Ideal S1x1x144x2816 .bf16
  | 0 => View.ld (Val := Elt Ideal) (e' := .bf16) x2 r1_3
  | 1 => View.ld (Val := Elt Ideal) (e' := .bf16) x2 r1_5
  | 2 => View.ld (Val := Elt Ideal) (e' := .bf16) x2 r1_6

theorem kchunk_at (x1 : FVec Ideal S1x1x8448x192 .bf16) (c : Fin 3) (x : Fin 2816) (y : Fin 192) :
    kchunk x1 c (ix4 0 0 x y) = x1 (ix4 0 0 ⟨c.val * 2816 + x.val, by omega⟩ y) := by
  match c with
  | 0 => show View.ld (Val := Elt Ideal) (e' := .bf16) x1 r1_1 _ = _; refine View.ld_unit_apply_of _ _ _ _ _ _ fun a => ?_; fin_cases a <;> simp [ix4]
  | 1 => show View.ld (Val := Elt Ideal) (e' := .bf16) x1 r1_2 _ = _; refine View.ld_unit_apply_of _ _ _ _ _ _ fun a => ?_; fin_cases a <;> simp [ix4]
  | 2 => show View.ld (Val := Elt Ideal) (e' := .bf16) x1 r1_4 _ = _; refine View.ld_unit_apply_of _ _ _ _ _ _ fun a => ?_; fin_cases a <;> simp [ix4]

theorem vchunk_at (x2 : FVec Ideal S1x1x144x8448 .bf16) (c : Fin 3) (e : Fin 144) (x : Fin 2816) :
    vchunk x2 c (ix4 0 0 e x) = x2 (ix4 0 0 e ⟨c.val * 2816 + x.val, by omega⟩) := by
  match c with
  | 0 => show View.ld (Val := Elt Ideal) (e' := .bf16) x2 r1_3 _ = _; refine View.ld_unit_apply_of _ _ _ _ _ _ fun a => ?_; fin_cases a <;> simp [ix4]
  | 1 => show View.ld (Val := Elt Ideal) (e' := .bf16) x2 r1_5 _ = _; refine View.ld_unit_apply_of _ _ _ _ _ _ fun a => ?_; fin_cases a <;> simp [ix4]
  | 2 => show View.ld (Val := Elt Ideal) (e' := .bf16) x2 r1_6 _ = _; refine View.ld_unit_apply_of _ _ _ _ _ _ fun a => ?_; fin_cases a <;> simp [ix4]

/-- The body's output block: an average of the values. -/
theorem out_at (x0 : FVec Ideal S1x1x256x192 .bf16) (x1 : FVec Ideal S1x1x8448x192 .bf16) (x2 : FVec Ideal S1x1x144x8448 .bf16)
    (n : Fin 256) (d : Fin 128) (x : Fin 8448 → ℝ)
    (h : ∀ j, ∑ y, x1 (ix4 0 0 j y) * x0 (ix4 0 0 n y) = ((x j * (Real.log 2)⁻¹ : ℝ) : EReal))
    (h1 : ∀ j, x2 (ix4 0 0 128 j) = 1) :
    out1_3 (F := Ideal) x0 x1 x2 (ix3 0 n d) = ∑ j, x2 (ix4 0 0 ⟨d.val, by omega⟩ j) * ((weight x j : ℝ) : EReal) := by
  obtain ⟨M, hM⟩ := body_at x0 (kchunk x1) (vchunk x2) n d
    (fun c k => x ⟨c.val * 2816 + k.val, by omega⟩ * (Real.log 2)⁻¹) (fun c k => by
      simp only [kchunk_at]; exact h _)
  have hout : out1_3 (F := Ideal) x0 x1 x2 (ix3 0 n d) = k1_pay1 (F := Ideal) (k1_pay5 x0 (kchunk x1 1)) (k1_pay6 x0 (kchunk x1 0))
      (k1_pay7 x0 (kchunk x1 0) (vchunk x2 0)) (k1_pay8 x0 (kchunk x1 2)) (k1_pay9 x0 (kchunk x1 1)) (vchunk x2 1) (vchunk x2 2) (ix3 0 n d) := by
    frame_out
    rfl
  rw [hout, hM, ← flash_avg x (fun j => x j * (Real.log 2)⁻¹) (fun _ => rfl) _ M]
  simp only [vchunk_at, h1]
  rw [Fin.sum_univ_tiles 3 2816 rfl, Fin.sum_univ_tiles 3 2816 rfl]

/-- A block coordinate of the four-axis arrays the region reads. -/
theorem idx1 (t : Fin grid1.N) :
    win1_0.index t 0 = win1_3.index t 0 ∧ win1_0.index t 1 = win1_3.index t 2 ∧ win1_0.index t 2 = win1_3.index t 1 + 1 ∧ win1_0.index t 3 = 0
    ∧ win1_1.index t 0 = win1_3.index t 0 ∧ win1_1.index t 1 = win1_3.index t 2 ∧ win1_1.index t 2 = 0 ∧ win1_1.index t 3 = 0
    ∧ win1_2.index t 0 = win1_3.index t 0 ∧ win1_2.index t 1 = win1_3.index t 2 ∧ win1_2.index t 2 = 0 ∧ win1_2.index t 3 = 0
    ∧ win1_3.index t 0 < 2 ∧ win1_3.index t 1 < 32 ∧ win1_3.index t 2 < 8 :=
  (by decide +kernel : ∀ t : Fin grid1.N,
    win1_0.index t 0 = win1_3.index t 0 ∧ win1_0.index t 1 = win1_3.index t 2 ∧ win1_0.index t 2 = win1_3.index t 1 + 1 ∧ win1_0.index t 3 = 0
    ∧ win1_1.index t 0 = win1_3.index t 0 ∧ win1_1.index t 1 = win1_3.index t 2 ∧ win1_1.index t 2 = 0 ∧ win1_1.index t 3 = 0
    ∧ win1_2.index t 0 = win1_3.index t 0 ∧ win1_2.index t 1 = win1_3.index t 2 ∧ win1_2.index t 2 = 0 ∧ win1_2.index t 3 = 0
    ∧ win1_3.index t 0 < 2 ∧ win1_3.index t 1 < 32 ∧ win1_3.index t 2 < 8) t

/-- One query's average of the values. -/
def avg (Vt : FVec Ideal S2x8x144x8448 .bf16) (x : Fin 2 → Fin 8 → Fin 8192 → Fin 8448 → ℝ) (b : Fin 2) (h : Fin 8) (n : Fin 8192) (d : Fin 128) : EReal :=
  ∑ j, Vt (ix4 b h ⟨d.val, by omega⟩ j) * ((weight (x b h n) j : ℝ) : EReal)

section
variable (V : (c : Dev nD) → (b : Ref sig .tc) → Buf (Elt Ideal) ((c : Thread nD τ).loc b)) (c : Dev nD)
variable (K : FVec Ideal S2x8x8448x192 .bf16) (Vt : FVec Ideal S2x8x144x8448 .bf16) (Q : FVec Ideal S2x8x8448x192 .bf16)

theorem kblk (hK : V c (Pipeline.arrRef spec1 1) = K) (t : Fin cfg1.N) (j : Fin 8448) (z : Fin 192) (b : Fin 2) (h : Fin 8)
    (hb : b.val = win1_3.index t 0) (hh : h.val = win1_3.index t 2) :
    (iblk1 V c 1 t : FVec Ideal S1x1x8448x192 .bf16) (ix4 0 0 j z) = K (ix4 b h j z) := by
  obtain ⟨e0, e1, e2, e3, e4, e5, e6, e7, -⟩ := idx1 t
  subst hK
  blk_ext [iblk1, e4, e5, e6, e7]

theorem qblk (hQ : V c (Pipeline.arrRef spec1 0) = Q) (t : Fin cfg1.N) (n : Fin 256) (z : Fin 192) (b : Fin 2) (h : Fin 8) (n' : Fin 8192)
    (hb : b.val = win1_3.index t 0) (hh : h.val = win1_3.index t 2) (hn : n'.val = win1_3.index t 1 * 256 + n.val) :
    (iblk1 V c 0 t : FVec Ideal S1x1x256x192 .bf16) (ix4 0 0 n z) = Q (ix4 b h ⟨256 + n'.val, by omega⟩ z) := by
  obtain ⟨e0, e1, e2, e3, -⟩ := idx1 t
  subst hQ
  blk_ext [iblk1, e0, e1, e2, e3]

theorem vblk (hV : V c (Pipeline.arrRef spec1 2) = Vt) (t : Fin cfg1.N) (e : Fin 144) (j : Fin 8448) (b : Fin 2) (h : Fin 8)
    (hb : b.val = win1_3.index t 0) (hh : h.val = win1_3.index t 2) :
    (iblk1 V c 2 t : FVec Ideal S1x1x144x8448 .bf16) (ix4 0 0 e j) = Vt (ix4 b h e j) := by
  obtain ⟨-, -, -, -, -, -, -, -, e8, e9, e10, e11, -⟩ := idx1 t
  subst hV
  blk_ext [iblk1, e8, e9, e10, e11]

theorem point (hK : V c (Pipeline.arrRef spec1 1) = K) (hV : V c (Pipeline.arrRef spec1 2) = Vt) (hQ : V c (Pipeline.arrRef spec1 0) = Q)
    (x : Fin 2 → Fin 8 → Fin 8192 → Fin 8448 → ℝ)
    (hx : ∀ b h n j, ∑ y, K (ix4 b h j y) * Q (ix4 b h ⟨256 + n.val, by omega⟩ y) = ((x b h n j * (Real.log 2)⁻¹ : ℝ) : EReal))
    (h1 : ∀ b h j, Vt (ix4 b h 128 j) = 1) (t : Fin cfg1.N) (n : Fin 256) (d : Fin 128) (b : Fin 2) (h : Fin 8) (n' : Fin 8192)
    (hb : b.val = win1_3.index t 0) (hh : h.val = win1_3.index t 2) (hn : n'.val = win1_3.index t 1 * 256 + n.val) :
    out1_3 (F := Ideal) (iblk1 V c 0 t) (iblk1 V c 1 t) (iblk1 V c 2 t) (ix3 0 n d) = avg Vt x b h n' d := by
  refine (out_at _ _ _ _ _ (x b h n') (fun j => ?_) (fun j => ?_)).trans ?_
  · rw [← hx]
    exact Finset.sum_congr rfl fun z _ => congrArg₂ _ (kblk V c K hK t j z b h hb hh) (qblk V c Q hQ t n z b h n' hb hh hn)
  · exact (vblk V c Vt hV t 128 j b h hb hh).trans (h1 b h j)
  · exact Finset.sum_congr rfl fun j _ => congrArg (· * _) (vblk V c Vt hV t _ j b h hb hh)

/-- The array the region leaves: every query's average of the values, over all keys. -/
theorem final (hK : V c (Pipeline.arrRef spec1 1) = K) (hV : V c (Pipeline.arrRef spec1 2) = Vt) (hQ : V c (Pipeline.arrRef spec1 0) = Q)
    (x : Fin 2 → Fin 8 → Fin 8192 → Fin 8448 → ℝ)
    (hx : ∀ b h n j, ∑ y, K (ix4 b h j y) * Q (ix4 b h ⟨256 + n.val, by omega⟩ y) = ((x b h n j * (Real.log 2)⁻¹ : ℝ) : EReal))
    (h1 : ∀ b h j, Vt (ix4 b h 128 j) = 1) :
    (dat1 V c).arrAt 3 cfg1.N = fun i : S2x8192x1024.Idx =>
      avg Vt x (i 0) ⟨(i 2).val / 128, by have := (i 2).isLt; simp at this; omega⟩ (i 1) ⟨(i 2).val % 128, by omega⟩ := by
  refine (dat1 V c).arrAt_eq_of_covers 3 _ (by decide +kernel) fun t _ y => ?_
  blk_simp
  rw [after1_3]
  obtain ⟨-, -, -, -, -, -, -, -, -, -, -, -, e12, e13, e14⟩ := idx1 t
  have hy1 : (y 1).val < 256 := (y 1).isLt
  have hy2 : (y 2).val < 128 := (y 2).isLt
  have hy : (y : S1x256x128.Idx) = ix3 0 ⟨(y 1).val, hy1⟩ ⟨(y 2).val, hy2⟩ := by blk_ext
  have hm : (win1_3.index t 2 * 128 + (y 2).val) % 128 = (y 2).val := by omega
  have hd : (win1_3.index t 2 * 128 + (y 2).val) / 128 = win1_3.index t 2 := by omega
  refine (congrArg _ hy).trans ((point V c K Vt Q hK hV hQ x hx h1 t _ _ ⟨win1_3.index t 0, e12⟩ ⟨win1_3.index t 2, e14⟩
    ⟨win1_3.index t 1 * 256 + (y 1).val, by omega⟩ rfl rfl rfl).trans ?_)
  clear hK hV hQ hx h1
  congr 1
  · apply Fin.ext; blk_simp
  · exact Fin.ext hd.symm
  · apply Fin.ext; blk_simp
  · exact Fin.ext hm.symm

end

end Cert.Mla.Att

end
-- ==== Proof.Score.lean ====
/- The scores as real numbers: of finite arguments every key and query is finite, and so is their product. -/
module

public import proofs.«01_k».proof.Proof.Flash
public import proofs.«01_k».proof.Proof.ProjFin

@[expose] public section

set_option maxRecDepth 16384

noncomputable section

open Idealize.ShloMosaic Idealize.ShloMosaic.TcCoe Idealize.SL.Sem

namespace Cert.Mla

open Args Proj

/-- The arguments the scores are made of are finite: the rows, the modulation's rows and parts that are read, every weight but the
    values' columns. -/
structure FinA (p : Args) : Prop where
  X : ∀ r e, Fin' (p.X r e)
  M : ∀ (r : Fin 8) (j : Fin 6) e, r.val < 3 → j.val < 2 → Fin' (p.M r j e)
  Wdq : ∀ e k, Fin' (p.Wdq e k)
  qg : ∀ k, Fin' (p.qg k)
  Wuq : ∀ e k, Fin' (p.Wuq e k)
  Wdkv : ∀ e k, Fin' (p.Wdkv e k)
  kg : ∀ k, Fin' (p.kg k)
  Wk : ∀ k h d, Fin' (p.Wukv k (cK h d))
  C : ∀ l i, Fin' (p.C l i)
  S : ∀ l i, Fin' (p.S l i)

theorem n256 : Ideal.ofBits FTy.f32 1132462080#32 = ((256 : ℝ) : EReal) := by
  simp [Ideal.ofBits, Ideal.ieee, -EReal.coe_mul]; norm_num

theorem n384 : Ideal.ofBits FTy.f32 1136656384#32 = ((384 : ℝ) : EReal) := by
  simp [Ideal.ofBits, Ideal.ieee, -EReal.coe_mul]; norm_num

theorem modRow_lt (r : Fin 16896) : (modRow r).val < 3 := by
  unfold modRow; split
  · decide
  · simp only; omega

theorem Fin'.rot {x c s : Fin 64 → EReal} (hx : ∀ i, Fin' (x i)) (hc : ∀ i, Fin' (c i)) (hs : ∀ i, Fin' (s i)) (i : Fin 64) :
    Fin' (Cert.Mla.rot x c s i) := ((hx i).mul (hc i)).add ((hx _).mul (hs i))

namespace FinA
variable {p : Args} (H : FinA p)
include H

theorem m (r : Fin 16896) (e : Fin 1024) : Fin' (p.m r e) :=
  ((H.X r e).mul (Fin'.one.add (H.M _ _ e (modRow_lt r) (by decide)))).add (H.M _ _ e (modRow_lt r) (by decide))

theorem ckv (r : Fin 16896) (k : Fin 256) : Fin' (p.ckv r k) := by
  unfold Args.ckv; rw [n256]
  exact Fin'.rms (by norm_num) (fun e => Fin'.lin (H.m r) fun _ => H.Wdkv _ _) H.kg k

theorem cq (r : Fin 16896) (k : Fin 384) : Fin' (p.cq r k) := by
  unfold Args.cq; rw [n384]
  exact Fin'.rms (by norm_num) (fun e => Fin'.lin (H.m r) fun _ => H.Wdq _ _) H.qg k

theorem kr (r : Fin 16896) (i : Fin 64) : Fin' (p.kr r i) :=
  Fin'.rot (fun i => Fin'.lin (H.m r) fun _ => H.Wdkv _ _) (H.C _) (H.S _) i

theorem kn (r : Fin 16896) (h : Fin 8) (d : Fin 128) : Fin' (p.kn r h d) := Fin'.lin (H.ckv r) fun _ => H.Wk _ _ _

theorem qn (r : Fin 16896) (h : Fin 8) (d : Fin 128) : Fin' (p.qn r h d) := Fin'.lin (H.cq r) fun _ => H.Wuq _ _

theorem qr (r : Fin 16896) (h : Fin 8) (i : Fin 64) : Fin' (p.qr r h i) :=
  Fin'.rot (fun i => Fin'.lin (H.cq r) fun _ => H.Wuq _ _) (H.C _) (H.S _) i

end FinA

/-- Key `l` against the query of latent `n`, in head `h` of sequence `b`, before the scale. -/
def score (p : Args) (b : Fin 2) (h : Fin 8) (n : Fin 8192) (l : Fin 8448) : EReal :=
  (∑ d, p.kn (row b l) h d * p.qn (row b (lat n)) h d) + ∑ i, p.kr (row b l) i * p.qr (row b (lat n)) h i

/-- The scaled score, a real number. -/
def xs (p : Args) (b : Fin 2) (h : Fin 8) (n : Fin 8192) (l : Fin 8448) : ℝ := (score p b h n l).toReal * (Real.sqrt 192)⁻¹

theorem score_real {p : Args} (H : FinA p) (b : Fin 2) (h : Fin 8) (n : Fin 8192) (l : Fin 8448) :
    score p b h n l = (((score p b h n l).toReal : ℝ) : EReal) := by
  have hf : Fin' (score p b h n l) :=
    (Fin'.sum fun d => (H.kn _ _ _).mul (H.qn _ _ _)).add (Fin'.sum fun i => (H.kr _ _).mul (H.qr _ _ _))
  obtain ⟨r, hr⟩ := hf
  rw [hr, EReal.toReal_coe]

theorem sum_real_mul {ι : Type} [Fintype ι] (f : ι → EReal) (hf : ∀ i, Fin' (f i)) (c : ℝ) :
    ∑ i, f i * (c : EReal) = (∑ i, f i) * (c : EReal) := by
  choose g hg using hf
  simp only [hg, ← EReal.coe_mul, ← coe_sum, Finset.sum_mul]

/-- The kernel's product of a key and a scaled query is the scaled score, in base two. -/
theorem key_query {p : Args} (H : FinA p) (b : Fin 2) (h : Fin 8) (n : Fin 8192) (l : Fin 8448) :
    ∑ y, Karr p b h l y * Qarr p b h (lat n) y = ((xs p b h n l * (Real.log 2)⁻¹ : ℝ) : EReal) := by
  have e : ∑ y : Fin (128 + 64), Karr p b h l y * Qarr p b h (lat n) y = score p b h n l * sl := by
    rw [Fin.sum_univ_add]
    have h1 : ∀ d : Fin 128, Karr p b h l (Fin.castAdd 64 d) * Qarr p b h (lat n) (Fin.castAdd 64 d) =
        p.kn (row b l) h d * p.qn (row b (lat n)) h d * sl := fun d => by
      unfold Karr Qarr
      rw [dif_pos (show (Fin.castAdd 64 d).val < 128 from d.isLt), dif_pos (show (Fin.castAdd 64 d).val < 128 from d.isLt), ← mul_assoc]
      rfl
    have h2 : ∀ i : Fin 64, Karr p b h l (Fin.natAdd 128 i) * Qarr p b h (lat n) (Fin.natAdd 128 i) =
        p.kr (row b l) i * p.qr (row b (lat n)) h i * sl := fun i => by
      have hv : (Fin.natAdd 128 i).val = 128 + i.val := rfl
      have hi : ∀ hp, (⟨(Fin.natAdd 128 i).val - 128, hp⟩ : Fin 64) = i := fun _ => Fin.ext (by simp only [hv]; omega)
      unfold Karr Qarr
      rw [dif_neg (by omega), dif_neg (by omega), ← mul_assoc, hi]
    rw [Finset.sum_congr rfl fun d _ => h1 d, Finset.sum_congr rfl fun i _ => h2 i, sl_eq,
      sum_real_mul _ (fun d => (H.kn _ _ _).mul (H.qn _ _ _)), sum_real_mul _ (fun i => (H.kr _ _).mul (H.qr _ _ _))]
    unfold score
    obtain ⟨r, hr⟩ : Fin' (∑ d, p.kn (row b l) h d * p.qn (row b (lat n)) h d) := Fin'.sum fun d => (H.kn _ _ _).mul (H.qn _ _ _)
    obtain ⟨s, hs⟩ : Fin' (∑ i, p.kr (row b l) i * p.qr (row b (lat n)) h i) := Fin'.sum fun i => (H.kr _ _).mul (H.qr _ _ _)
    rw [hr, hs, ← EReal.coe_mul, ← EReal.coe_mul, ← EReal.coe_add, ← EReal.coe_add, ← EReal.coe_mul, add_mul]
  refine e.trans ?_
  rw [score_real H, sl_eq, ← EReal.coe_mul]
  unfold xs
  congr 1
  ring

/-- The keys' order in the model, latents first, as places of the sequence, where the context comes first. -/
def plc (j : Fin 8448) : Fin 8448 := if h : j.val < 8192 then lat ⟨j.val, h⟩ else ctx ⟨j.val - 8192, by omega⟩

theorem plc_bij : Function.Bijective plc := by
  refine (Fintype.bijective_iff_injective_and_card plc).2 ⟨fun i j hij => ?_, rfl⟩
  have h := congrArg Fin.val hij
  unfold plc lat ctx at h
  apply Fin.ext
  split at h <;> split at h <;> simp only at h <;> omega

/-- An average over the keys in the model's order is the average over the places. -/
theorem avg_plc (x : Fin 8448 → ℝ) (v : Fin 8448 → EReal) :
    ∑ j, v (plc j) * ((weight (fun j => x (plc j)) j : ℝ) : EReal) = ∑ l, v l * ((weight x l : ℝ) : EReal) := by
  have hw : ∀ j, weight (fun j => x (plc j)) j = weight x (plc j) := fun j => by
    unfold weight
    rw [plc_bij.sum_comp fun l => Real.exp (x l)]
  simp only [hw]
  exact plc_bij.sum_comp fun l => v l * ((weight x l : ℝ) : EReal)

/-- The mixer's attended heads: of latent `n` in sequence `b`, head `h`, entry `d`. -/
def attended (p : Args) (b : Fin 2) (n : Fin 8192) (h : Fin 8) (d : Fin 128) : EReal :=
  ∑ l, p.v (row b l) h d * ((weight (xs p b h n) l : ℝ) : EReal)

end Cert.Mla

end
-- ==== Proof.KernelVal.lean ====
/- The two regions together: the array the program ends with, as a function of the arguments, and its run. -/
module

public import proofs.«01_k».proof.Proof.HostVal
public import proofs.«01_k».proof.Proof.Att
public import proofs.«01_k».proof.Proof.Score

@[expose] public section

set_option maxRecDepth 16384

noncomputable section

open Idealize.ShloMosaic Idealize.ShloMosaic.TcCoe Idealize.SL.Sem

namespace Cert.Mla.Ker

open Args Proj Host Cert.KernelIdeal Cert.KernelIdeal.Gen

section
variable (m : (ℓ : Loc nD τ sig) → Buf (Elt Ideal) ℓ) (ρ : Dev nD → PrngReg) (c : Dev nD)

theorem keys : V6 m ρ c (Pipeline.arrRef spec1 1) = fun i : S2x8x8448x192.Idx => Karr (argsOf m c) (i 0) (i 1) (i 2) (i 3) :=
  (W6_arr m ρ c 17).trans (finalK (V5 m ρ) c (argsOf m c) (entry m ρ c))

theorem values : V6 m ρ c (Pipeline.arrRef spec1 2) = fun i : S2x8x144x8448.Idx => Varr (argsOf m c) (i 0) (i 1) (i 2) (i 3) :=
  (W6_arr m ρ c 18).trans (finalV (V5 m ρ) c (argsOf m c) (entry m ρ c))

theorem queries : V6 m ρ c (Pipeline.arrRef spec1 0) = fun i : S2x8x8448x192.Idx => Qarr (argsOf m c) (i 0) (i 1) (i 2) (i 3) :=
  (W6_arr m ρ c 19).trans (finalQ (V5 m ρ) c (argsOf m c) (entry m ρ c))

theorem avg_eq (p : Args) (b : Fin 2) (n : Fin 8192) (h : Fin 8) (d : Fin 128) :
    Att.avg (fun i : S2x8x144x8448.Idx => Varr p (i 0) (i 1) (i 2) (i 3)) (xs p) b h n d = attended p b n h d := by
  unfold Att.avg attended
  refine Finset.sum_congr rfl fun l _ => congrArg (· * _) ?_
  show Varr p b h ⟨d.val, _⟩ l = _
  unfold Varr
  rw [dif_pos d.isLt]

/-- The result array: the attended heads, side by side. -/
theorem value (H : FinA (argsOf m c)) (b : Fin 2) (n : Fin 8192) (y : Fin 1024) :
    (W7 m ρ c (Proc.devRef .tc main_v73) : FVec Ideal S2x8192x1024 .f32) (ix3 b n y) =
      attended (argsOf m c) b n ⟨y.val / 128, by omega⟩ ⟨y.val % 128, by omega⟩ := by
  have e := (W7_arr m ρ c 3).trans (Att.final (V6 m ρ) c _ _ _ (keys m ρ c) (values m ρ c) (queries m ρ c) (xs (argsOf m c))
    (fun b h n j => key_query H b h n j) (fun b h j => by
      show Varr (argsOf m c) b h 128 j = 1
      unfold Varr
      rw [dif_neg (by decide), if_pos (by decide)]))
  exact (congrFun e (ix3 b n y)).trans (avg_eq _ _ _ _ _)

end

end Cert.Mla.Ker

end
-- ==== Proof.RefOps.lean ====
/- The reference's operations as lists, one list per step of the mathematics, and its run: every buffer ends holding what the
   lists leave in it. -/
module

public import proofs.«01_k».proof.ReferenceIdeal
public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

set_option maxRecDepth 16384

noncomputable section

open Idealize.ShloMosaic Idealize.ShloMosaic.TcCoe Idealize.SL.Sem

namespace Cert.Mla.Ref

open Cert.ReferenceIdeal Cert.ReferenceIdeal.Gen

variable {F : FTy → Type} [FloatOps F]

/-- The modulation of the two row groups. -/
abbrev opsMod : List (HloOp τ sig (Elt F)) :=
  [ StableHlo.reshape main_arg0 main_v0 (rfl : (.f32 : EltTy) = .f32) shapeCasts_S16896x1024_S2x8448x1024,
    StableHlo.unary main_v0 main_v1 ((extractStridedSlice S2x256x1024 ![0, 0, 0] · slices_S2x8448x1024_S2x256x1024_0_0_0) : (⟨S2x8448x1024, .f32⟩ : BufTy).Contents (Elt F) → (⟨S2x256x1024, .f32⟩ : BufTy).Contents (Elt F)),
    StableHlo.unary main_v0 main_v2 ((extractStridedSlice S2x8192x1024 ![0, 256, 0] · slices_S2x8448x1024_S2x8192x1024_0_256_0) : (⟨S2x8448x1024, .f32⟩ : BufTy).Contents (Elt F) → (⟨S2x8192x1024, .f32⟩ : BufTy).Contents (Elt F)),
    StableHlo.unary main_arg1 main_v3 ((extractStridedSlice S2x6x1024 ![0, 0, 0] · slices_S8x6x1024_S2x6x1024_0_0_0) : (⟨S8x6x1024, .f32⟩ : BufTy).Contents (Elt F) → (⟨S2x6x1024, .f32⟩ : BufTy).Contents (Elt F)),
    StableHlo.unary main_v3 main_v4 ((transpose S6x2x1024 [1, 0, 2] · transposes_S2x6x1024_S6x2x1024_1_0_2) : (⟨S2x6x1024, .f32⟩ : BufTy).Contents (Elt F) → (⟨S6x2x1024, .f32⟩ : BufTy).Contents (Elt F)),
    StableHlo.unary main_v4 main_v5 (broadcastInDim S6x2x1x1024 ![0, 1, 3] bcast_S6x2x1024_S6x2x1x1024_0_1_3 : (⟨S6x2x1024, .f32⟩ : BufTy).Contents (Elt F) → (⟨S6x2x1x1024, .f32⟩ : BufTy).Contents (Elt F)),
    StableHlo.unary main_arg1 main_v6 ((extractStridedSlice S1x6x1024 ![2, 0, 0] · slices_S8x6x1024_S1x6x1024_2_0_0) : (⟨S8x6x1024, .f32⟩ : BufTy).Contents (Elt F) → (⟨S1x6x1024, .f32⟩ : BufTy).Contents (Elt F)),
    StableHlo.reshape main_v6 main_v7 (rfl : (.f32 : EltTy) = .f32) shapeCasts_S1x6x1024_S6x1024,
    StableHlo.reshape main_v7 main_v8 (rfl : (.f32 : EltTy) = .f32) shapeCasts_S6x1024_S6x1x1x1024,
    StableHlo.unary main_v5 main_v9 ((extractStridedSlice S1x2x1x1024 ![1, 0, 0, 0] · slices_S6x2x1x1024_S1x2x1x1024_1_0_0_0) : (⟨S6x2x1x1024, .f32⟩ : BufTy).Contents (Elt F) → (⟨S1x2x1x1024, .f32⟩ : BufTy).Contents (Elt F)),
    StableHlo.reshape main_v9 main_v10 (rfl : (.f32 : EltTy) = .f32) shapeCasts_S1x2x1x1024_S2x1x1024,
    StableHlo.nullary main_cst (constant S_ .f32 0x3F800000#32),
    StableHlo.unary main_cst main_v11 (broadcastInDim S2x1x1024 ![] bcast_S_S2x1x1024 : (⟨S_, .f32⟩ : BufTy).Contents (Elt F) → (⟨S2x1x1024, .f32⟩ : BufTy).Contents (Elt F)),
    StableHlo.binary main_v11 main_v10 main_v12 (addf : (⟨S2x1x1024, .f32⟩ : BufTy).Contents (Elt F) → (⟨S2x1x1024, .f32⟩ : BufTy).Contents (Elt F) → (⟨S2x1x1024, .f32⟩ : BufTy).Contents (Elt F)),
    StableHlo.unary main_v12 main_v13 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    StableHlo.binary main_v2 main_v13 main_v14 (mulf : (⟨S2x8192x1024, .f32⟩ : BufTy).Contents (Elt F) → (⟨S2x8192x1024, .f32⟩ : BufTy).Contents (Elt F) → (⟨S2x8192x1024, .f32⟩ : BufTy).Contents (Elt F)),
    StableHlo.unary main_v5 main_v15 ((extractStridedSlice S1x2x1x1024 ![0, 0, 0, 0] · slices_S6x2x1x1024_S1x2x1x1024_0_0_0_0) : (⟨S6x2x1x1024, .f32⟩ : BufTy).Contents (Elt F) → (⟨S1x2x1x1024, .f32⟩ : BufTy).Contents (Elt F)),
    StableHlo.reshape main_v15 main_v16 (rfl : (.f32 : EltTy) = .f32) shapeCasts_S1x2x1x1024_S2x1x1024,
    StableHlo.unary main_v16 main_v17 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    StableHlo.binary main_v14 main_v17 main_v18 (addf : (⟨S2x8192x1024, .f32⟩ : BufTy).Contents (Elt F) → (⟨S2x8192x1024, .f32⟩ : BufTy).Contents (Elt F) → (⟨S2x8192x1024, .f32⟩ : BufTy).Contents (Elt F)),
    StableHlo.unary main_v8 main_v19 ((extractStridedSlice S1x1x1x1024 ![1, 0, 0, 0] · slices_S6x1x1x1024_S1x1x1x1024_1_0_0_0) : (⟨S6x1x1x1024, .f32⟩ : BufTy).Contents (Elt F) → (⟨S1x1x1x1024, .f32⟩ : BufTy).Contents (Elt F)),
    StableHlo.reshape main_v19 main_v20 (rfl : (.f32 : EltTy) = .f32) shapeCasts_S1x1x1x1024_S1x1x1024,
    StableHlo.nullary main_cst_0 (constant S_ .f32 0x3F800000#32),
    StableHlo.unary main_cst_0 main_v21 (broadcastInDim S1x1x1024 ![] bcast_S_S1x1x1024 : (⟨S_, .f32⟩ : BufTy).Contents (Elt F) → (⟨S1x1x1024, .f32⟩ : BufTy).Contents (Elt F)),
    StableHlo.binary main_v21 main_v20 main_v22 (addf : (⟨S1x1x1024, .f32⟩ : BufTy).Contents (Elt F) → (⟨S1x1x1024, .f32⟩ : BufTy).Contents (Elt F) → (⟨S1x1x1024, .f32⟩ : BufTy).Contents (Elt F)),
    StableHlo.unary main_v22 main_v23 (broadcastInDim S2x256x1024 ![0, 1, 2] bcast_S1x1x1024_S2x256x1024_0_1_2 : (⟨S1x1x1024, .f32⟩ : BufTy).Contents (Elt F) → (⟨S2x256x1024, .f32⟩ : BufTy).Contents (Elt F)),
    StableHlo.binary main_v1 main_v23 main_v24 (mulf : (⟨S2x256x1024, .f32⟩ : BufTy).Contents (Elt F) → (⟨S2x256x1024, .f32⟩ : BufTy).Contents (Elt F) → (⟨S2x256x1024, .f32⟩ : BufTy).Contents (Elt F)),
    StableHlo.unary main_v8 main_v25 ((extractStridedSlice S1x1x1x1024 ![0, 0, 0, 0] · slices_S6x1x1x1024_S1x1x1x1024_0_0_0_0) : (⟨S6x1x1x1024, .f32⟩ : BufTy).Contents (Elt F) → (⟨S1x1x1x1024, .f32⟩ : BufTy).Contents (Elt F)),
    StableHlo.reshape main_v25 main_v26 (rfl : (.f32 : EltTy) = .f32) shapeCasts_S1x1x1x1024_S1x1x1024,
    StableHlo.unary main_v26 main_v27 (broadcastInDim S2x256x1024 ![0, 1, 2] bcast_S1x1x1024_S2x256x1024_0_1_2 : (⟨S1x1x1024, .f32⟩ : BufTy).Contents (Elt F) → (⟨S2x256x1024, .f32⟩ : BufTy).Contents (Elt F)),
    StableHlo.binary main_v24 main_v27 main_v28 (addf : (⟨S2x256x1024, .f32⟩ : BufTy).Contents (Elt F) → (⟨S2x256x1024, .f32⟩ : BufTy).Contents (Elt F) → (⟨S2x256x1024, .f32⟩ : BufTy).Contents (Elt F)) ]

def opsMod_W : List (Ref sig .tc) := [main_v0, main_v1, main_v2, main_v3, main_v4, main_v5, main_v6, main_v7, main_v8, main_v9, main_v10, main_cst, main_v11, main_v12, main_v13, main_v14, main_v15, main_v16, main_v17, main_v18, main_v19, main_v20, main_cst_0, main_v21, main_v22, main_v23, main_v24, main_v25, main_v26, main_v27, main_v28]

theorem opsMod_writes : (opsMod : List (HloOp τ sig (Elt F))).map HloOp.writes = opsMod_W.map fun w => {Proc.devRef (τ := τ) .tc w} := rfl

/-- The rotary tables. -/
abbrev opsTab : List (HloOp τ sig (Elt F)) :=
  [ StableHlo.nullary main_v29 (sitofp .f32 (iotaInDim S128 32 0)),
    StableHlo.nullary main_v30 (sitofp .f32 (iotaInDim S64 32 0)),
    StableHlo.unary main_v29 main_v31 (broadcastInDim S128x64 ![0] bcast_S128_S128x64_0 : (⟨S128, .f32⟩ : BufTy).Contents (Elt F) → (⟨S128x64, .f32⟩ : BufTy).Contents (Elt F)),
    StableHlo.unary main_v30 main_v32 (broadcastInDim S128x64 ![1] bcast_S64_S128x64_1 : (⟨S64, .f32⟩ : BufTy).Contents (Elt F) → (⟨S128x64, .f32⟩ : BufTy).Contents (Elt F)),
    StableHlo.nullary main_v33 (sitofp .f32 (iotaInDim S16 32 0)),
    StableHlo.unary main_v33 main_v34 (Host.negf : (⟨S16, .f32⟩ : BufTy).Contents (Elt F) → (⟨S16, .f32⟩ : BufTy).Contents (Elt F)),
    StableHlo.nullary main_cst_1 (constant S_ .f32 0x41800000#32),
    StableHlo.unary main_cst_1 main_v35 (broadcastInDim S16 ![] bcast_S_S16 : (⟨S_, .f32⟩ : BufTy).Contents (Elt F) → (⟨S16, .f32⟩ : BufTy).Contents (Elt F)),
    StableHlo.binary main_v34 main_v35 main_v36 (Host.divf : (⟨S16, .f32⟩ : BufTy).Contents (Elt F) → (⟨S16, .f32⟩ : BufTy).Contents (Elt F) → (⟨S16, .f32⟩ : BufTy).Contents (Elt F)),
    StableHlo.nullary main_cst_2 (constant S_ .f32 0x461C4000#32),
    StableHlo.unary main_cst_2 main_v37 (broadcastInDim S16 ![] bcast_S_S16 : (⟨S_, .f32⟩ : BufTy).Contents (Elt F) → (⟨S16, .f32⟩ : BufTy).Contents (Elt F)),
    StableHlo.binary main_v37 main_v36 main_v38 (Host.powf : (⟨S16, .f32⟩ : BufTy).Contents (Elt F) → (⟨S16, .f32⟩ : BufTy).Contents (Elt F) → (⟨S16, .f32⟩ : BufTy).Contents (Elt F)),
    StableHlo.reshape main_v31 main_v39 (rfl : (.f32 : EltTy) = .f32) shapeCasts_S128x64_S8192x1,
    StableHlo.unary main_v38 main_v40 (broadcastInDim S1x16 ![1] bcast_S16_S1x16_1 : (⟨S16, .f32⟩ : BufTy).Contents (Elt F) → (⟨S1x16, .f32⟩ : BufTy).Contents (Elt F)),
    StableHlo.unary main_v39 main_v41 (broadcastInDim S8192x16 ![0, 1] bcast_S8192x1_S8192x16_0_1 : (⟨S8192x1, .f32⟩ : BufTy).Contents (Elt F) → (⟨S8192x16, .f32⟩ : BufTy).Contents (Elt F)),
    StableHlo.unary main_v40 main_v42 (broadcastInDim S8192x16 ![0, 1] bcast_S1x16_S8192x16_0_1 : (⟨S1x16, .f32⟩ : BufTy).Contents (Elt F) → (⟨S8192x16, .f32⟩ : BufTy).Contents (Elt F)),
    StableHlo.binary main_v41 main_v42 main_v43 (mulf : (⟨S8192x16, .f32⟩ : BufTy).Contents (Elt F) → (⟨S8192x16, .f32⟩ : BufTy).Contents (Elt F) → (⟨S8192x16, .f32⟩ : BufTy).Contents (Elt F)),
    StableHlo.reshape main_v32 main_v44 (rfl : (.f32 : EltTy) = .f32) shapeCasts_S128x64_S8192x1,
    StableHlo.unary main_v38 main_v45 (broadcastInDim S1x16 ![1] bcast_S16_S1x16_1 : (⟨S16, .f32⟩ : BufTy).Contents (Elt F) → (⟨S1x16, .f32⟩ : BufTy).Contents (Elt F)),
    StableHlo.unary main_v44 main_v46 (broadcastInDim S8192x16 ![0, 1] bcast_S8192x1_S8192x16_0_1 : (⟨S8192x1, .f32⟩ : BufTy).Contents (Elt F) → (⟨S8192x16, .f32⟩ : BufTy).Contents (Elt F)),
    StableHlo.unary main_v45 main_v47 (broadcastInDim S8192x16 ![0, 1] bcast_S1x16_S8192x16_0_1 : (⟨S1x16, .f32⟩ : BufTy).Contents (Elt F) → (⟨S8192x16, .f32⟩ : BufTy).Contents (Elt F)),
    StableHlo.binary main_v46 main_v47 main_v48 (mulf : (⟨S8192x16, .f32⟩ : BufTy).Contents (Elt F) → (⟨S8192x16, .f32⟩ : BufTy).Contents (Elt F) → (⟨S8192x16, .f32⟩ : BufTy).Contents (Elt F)),
    StableHlo.binary main_v43 main_v48 main_v49 ((fun a b => concatenate S8192x32 1 [⟨S8192x16, a⟩, ⟨S8192x16, b⟩] concatenates_S8192x16_S8192x16_S8192x32_d1) : (⟨S8192x16, .f32⟩ : BufTy).Contents (Elt F) → (⟨S8192x16, .f32⟩ : BufTy).Contents (Elt F) → (⟨S8192x32, .f32⟩ : BufTy).Contents (Elt F)),
    StableHlo.unary main_v49 main_v50 (Host.cos : (⟨S8192x32, .f32⟩ : BufTy).Contents (Elt F) → (⟨S8192x32, .f32⟩ : BufTy).Contents (Elt F)),
    StableHlo.unary main_v49 main_v51 (Host.sin : (⟨S8192x32, .f32⟩ : BufTy).Contents (Elt F) → (⟨S8192x32, .f32⟩ : BufTy).Contents (Elt F)) ]

def opsTab_W : List (Ref sig .tc) := [main_v29, main_v30, main_v31, main_v32, main_v33, main_v34, main_cst_1, main_v35, main_v36, main_cst_2, main_v37, main_v38, main_v39, main_v40, main_v41, main_v42, main_v43, main_v44, main_v45, main_v46, main_v47, main_v48, main_v49, main_v50, main_v51]

theorem opsTab_writes : (opsTab : List (HloOp τ sig (Elt F))).map HloOp.writes = opsTab_W.map fun w => {Proc.devRef (τ := τ) .tc w} := rfl

/-- Keys and values of the context rows. -/
abbrev opsCtx : List (HloOp τ sig (Elt F)) :=
  [ StableHlo.binary main_v28 main_arg5 main_v52 ((fun l r => Host.dotGeneral dot_S2x256x1024_S1024x320_S2x256x320_2_0_01_1_n_n none l r) : (⟨S2x256x1024, .f32⟩ : BufTy).Contents (Elt F) → (⟨S1024x320, .f32⟩ : BufTy).Contents (Elt F) → (⟨S2x256x320, .f32⟩ : BufTy).Contents (Elt F)),
    StableHlo.unary main_v52 main_v53 ((extractStridedSlice S2x256x256 ![0, 0, 0] · slices_S2x256x320_S2x256x256_0_0_0) : (⟨S2x256x320, .f32⟩ : BufTy).Contents (Elt F) → (⟨S2x256x256, .f32⟩ : BufTy).Contents (Elt F)),
    StableHlo.binary main_v53 main_v53 main_v54 (mulf : (⟨S2x256x256, .f32⟩ : BufTy).Contents (Elt F) → (⟨S2x256x256, .f32⟩ : BufTy).Contents (Elt F) → (⟨S2x256x256, .f32⟩ : BufTy).Contents (Elt F)),
    StableHlo.nullary main_cst_3 (constant S_ .f32 0x00000000#32),
    StableHlo.binary main_v54 main_cst_3 main_v55 ((fun x v => Host.reduceAdd x v reducesTo_S2x256x256_S2x256_d2 h_S_) : (⟨S2x256x256, .f32⟩ : BufTy).Contents (Elt F) → (⟨S_, .f32⟩ : BufTy).Contents (Elt F) → (⟨S2x256, .f32⟩ : BufTy).Contents (Elt F)),
    StableHlo.unary main_v55 main_v56 (broadcastInDim S2x256x1 ![0, 1] bcast_S2x256_S2x256x1_0_1 : (⟨S2x256, .f32⟩ : BufTy).Contents (Elt F) → (⟨S2x256x1, .f32⟩ : BufTy).Contents (Elt F)),
    StableHlo.nullary main_cst_4 (constant S_ .f32 0x43800000#32),
    StableHlo.unary main_cst_4 main_v57 (broadcastInDim S2x256x1 ![] bcast_S_S2x256x1 : (⟨S_, .f32⟩ : BufTy).Contents (Elt F) → (⟨S2x256x1, .f32⟩ : BufTy).Contents (Elt F)),
    StableHlo.binary main_v56 main_v57 main_v58 (Host.divf : (⟨S2x256x1, .f32⟩ : BufTy).Contents (Elt F) → (⟨S2x256x1, .f32⟩ : BufTy).Contents (Elt F) → (⟨S2x256x1, .f32⟩ : BufTy).Contents (Elt F)),
    StableHlo.nullary main_cst_5 (constant S_ .f32 0x358637BD#32),
    StableHlo.unary main_cst_5 main_v59 (broadcastInDim S2x256x1 ![] bcast_S_S2x256x1 : (⟨S_, .f32⟩ : BufTy).Contents (Elt F) → (⟨S2x256x1, .f32⟩ : BufTy).Contents (Elt F)),
    StableHlo.binary main_v58 main_v59 main_v60 (addf : (⟨S2x256x1, .f32⟩ : BufTy).Contents (Elt F) → (⟨S2x256x1, .f32⟩ : BufTy).Contents (Elt F) → (⟨S2x256x1, .f32⟩ : BufTy).Contents (Elt F)),
    StableHlo.unary main_v60 main_v61 (Host.rsqrt : (⟨S2x256x1, .f32⟩ : BufTy).Contents (Elt F) → (⟨S2x256x1, .f32⟩ : BufTy).Contents (Elt F)),
    StableHlo.unary main_v61 main_v62 (broadcastInDim S2x256x256 ![0, 1, 2] bcast_S2x256x1_S2x256x256_0_1_2 : (⟨S2x256x1, .f32⟩ : BufTy).Contents (Elt F) → (⟨S2x256x256, .f32⟩ : BufTy).Contents (Elt F)),
    StableHlo.binary main_v53 main_v62 main_v63 (mulf : (⟨S2x256x256, .f32⟩ : BufTy).Contents (Elt F) → (⟨S2x256x256, .f32⟩ : BufTy).Contents (Elt F) → (⟨S2x256x256, .f32⟩ : BufTy).Contents (Elt F)),
    StableHlo.unary main_arg6 main_v64 (broadcastInDim S1x1x256 ![2] bcast_S256_S1x1x256_2 : (⟨S256, .f32⟩ : BufTy).Contents (Elt F) → (⟨S1x1x256, .f32⟩ : BufTy).Contents (Elt F)),
    StableHlo.unary main_v64 main_v65 (broadcastInDim S2x256x256 ![0, 1, 2] bcast_S1x1x256_S2x256x256_0_1_2 : (⟨S1x1x256, .f32⟩ : BufTy).Contents (Elt F) → (⟨S2x256x256, .f32⟩ : BufTy).Contents (Elt F)),
    StableHlo.binary main_v63 main_v65 main_v66 (mulf : (⟨S2x256x256, .f32⟩ : BufTy).Contents (Elt F) → (⟨S2x256x256, .f32⟩ : BufTy).Contents (Elt F) → (⟨S2x256x256, .f32⟩ : BufTy).Contents (Elt F)),
    StableHlo.unary main_v52 main_v67 ((extractStridedSlice S2x256x64 ![0, 0, 256] · slices_S2x256x320_S2x256x64_0_0_256) : (⟨S2x256x320, .f32⟩ : BufTy).Contents (Elt F) → (⟨S2x256x64, .f32⟩ : BufTy).Contents (Elt F)),
    StableHlo.binary main_v66 main_arg7 main_v68 ((fun l r => Host.dotGeneral dot_S2x256x256_S256x2048_S2x256x2048_2_0_01_1_n_n none l r) : (⟨S2x256x256, .f32⟩ : BufTy).Contents (Elt F) → (⟨S256x2048, .f32⟩ : BufTy).Contents (Elt F) → (⟨S2x256x2048, .f32⟩ : BufTy).Contents (Elt F)),
    StableHlo.reshape main_v68 main_v69 (rfl : (.f32 : EltTy) = .f32) shapeCasts_S2x256x2048_S2x256x8x256,
    StableHlo.unary main_v69 main_v70 ((extractStridedSlice S2x256x8x128 ![0, 0, 0, 0] · slices_S2x256x8x256_S2x256x8x128_0_0_0_0) : (⟨S2x256x8x256, .f32⟩ : BufTy).Contents (Elt F) → (⟨S2x256x8x128, .f32⟩ : BufTy).Contents (Elt F)),
    StableHlo.unary main_v69 main_v71 ((extractStridedSlice S2x256x8x128 ![0, 0, 0, 128] · slices_S2x256x8x256_S2x256x8x128_0_0_0_128) : (⟨S2x256x8x256, .f32⟩ : BufTy).Contents (Elt F) → (⟨S2x256x8x128, .f32⟩ : BufTy).Contents (Elt F)) ]

def opsCtx_W : List (Ref sig .tc) := [main_v52, main_v53, main_v54, main_cst_3, main_v55, main_v56, main_cst_4, main_v57, main_v58, main_cst_5, main_v59, main_v60, main_v61, main_v62, main_v63, main_v64, main_v65, main_v66, main_v67, main_v68, main_v69, main_v70, main_v71]

theorem opsCtx_writes : (opsCtx : List (HloOp τ sig (Elt F))).map HloOp.writes = opsCtx_W.map fun w => {Proc.devRef (τ := τ) .tc w} := rfl

/-- Keys and values of the latent rows. -/
abbrev opsLat : List (HloOp τ sig (Elt F)) :=
  [ StableHlo.binary main_v18 main_arg5 main_v72 ((fun l r => Host.dotGeneral dot_S2x8192x1024_S1024x320_S2x8192x320_2_0_01_1_n_n none l r) : (⟨S2x8192x1024, .f32⟩ : BufTy).Contents (Elt F) → (⟨S1024x320, .f32⟩ : BufTy).Contents (Elt F) → (⟨S2x8192x320, .f32⟩ : BufTy).Contents (Elt F)),
    StableHlo.unary main_v72 main_v73 ((extractStridedSlice S2x8192x256 ![0, 0, 0] · slices_S2x8192x320_S2x8192x256_0_0_0) : (⟨S2x8192x320, .f32⟩ : BufTy).Contents (Elt F) → (⟨S2x8192x256, .f32⟩ : BufTy).Contents (Elt F)),
    StableHlo.binary main_v73 main_v73 main_v74 (mulf : (⟨S2x8192x256, .f32⟩ : BufTy).Contents (Elt F) → (⟨S2x8192x256, .f32⟩ : BufTy).Contents (Elt F) → (⟨S2x8192x256, .f32⟩ : BufTy).Contents (Elt F)),
    StableHlo.nullary main_cst_6 (constant S_ .f32 0x00000000#32),
    StableHlo.binary main_v74 main_cst_6 main_v75 ((fun x v => Host.reduceAdd x v reducesTo_S2x8192x256_S2x8192_d2 h_S_) : (⟨S2x8192x256, .f32⟩ : BufTy).Contents (Elt F) → (⟨S_, .f32⟩ : BufTy).Contents (Elt F) → (⟨S2x8192, .f32⟩ : BufTy).Contents (Elt F)),
    StableHlo.unary main_v75 main_v76 (broadcastInDim S2x8192x1 ![0, 1] bcast_S2x8192_S2x8192x1_0_1 : (⟨S2x8192, .f32⟩ : BufTy).Contents (Elt F) → (⟨S2x8192x1, .f32⟩ : BufTy).Contents (Elt F)),
    StableHlo.nullary main_cst_7 (constant S_ .f32 0x43800000#32),
    StableHlo.unary main_cst_7 main_v77 (broadcastInDim S2x8192x1 ![] bcast_S_S2x8192x1 : (⟨S_, .f32⟩ : BufTy).Contents (Elt F) → (⟨S2x8192x1, .f32⟩ : BufTy).Contents (Elt F)),
    StableHlo.binary main_v76 main_v77 main_v78 (Host.divf : (⟨S2x8192x1, .f32⟩ : BufTy).Contents (Elt F) → (⟨S2x8192x1, .f32⟩ : BufTy).Contents (Elt F) → (⟨S2x8192x1, .f32⟩ : BufTy).Contents (Elt F)),
    StableHlo.nullary main_cst_8 (constant S_ .f32 0x358637BD#32),
    StableHlo.unary main_cst_8 main_v79 (broadcastInDim S2x8192x1 ![] bcast_S_S2x8192x1 : (⟨S_, .f32⟩ : BufTy).Contents (Elt F) → (⟨S2x8192x1, .f32⟩ : BufTy).Contents (Elt F)),
    StableHlo.binary main_v78 main_v79 main_v80 (addf : (⟨S2x8192x1, .f32⟩ : BufTy).Contents (Elt F) → (⟨S2x8192x1, .f32⟩ : BufTy).Contents (Elt F) → (⟨S2x8192x1, .f32⟩ : BufTy).Contents (Elt F)),
    StableHlo.unary main_v80 main_v81 (Host.rsqrt : (⟨S2x8192x1, .f32⟩ : BufTy).Contents (Elt F) → (⟨S2x8192x1, .f32⟩ : BufTy).Contents (Elt F)),
    StableHlo.unary main_v81 main_v82 (broadcastInDim S2x8192x256 ![0, 1, 2] bcast_S2x8192x1_S2x8192x256_0_1_2 : (⟨S2x8192x1, .f32⟩ : BufTy).Contents (Elt F) → (⟨S2x8192x256, .f32⟩ : BufTy).Contents (Elt F)),
    StableHlo.binary main_v73 main_v82 main_v83 (mulf : (⟨S2x8192x256, .f32⟩ : BufTy).Contents (Elt F) → (⟨S2x8192x256, .f32⟩ : BufTy).Contents (Elt F) → (⟨S2x8192x256, .f32⟩ : BufTy).Contents (Elt F)),
    StableHlo.unary main_arg6 main_v84 (broadcastInDim S1x1x256 ![2] bcast_S256_S1x1x256_2 : (⟨S256, .f32⟩ : BufTy).Contents (Elt F) → (⟨S1x1x256, .f32⟩ : BufTy).Contents (Elt F)),
    StableHlo.unary main_v84 main_v85 (broadcastInDim S2x8192x256 ![0, 1, 2] bcast_S1x1x256_S2x8192x256_0_1_2 : (⟨S1x1x256, .f32⟩ : BufTy).Contents (Elt F) → (⟨S2x8192x256, .f32⟩ : BufTy).Contents (Elt F)),
    StableHlo.binary main_v83 main_v85 main_v86 (mulf : (⟨S2x8192x256, .f32⟩ : BufTy).Contents (Elt F) → (⟨S2x8192x256, .f32⟩ : BufTy).Contents (Elt F) → (⟨S2x8192x256, .f32⟩ : BufTy).Contents (Elt F)),
    StableHlo.unary main_v72 main_v87 ((extractStridedSlice S2x8192x64 ![0, 0, 256] · slices_S2x8192x320_S2x8192x64_0_0_256) : (⟨S2x8192x320, .f32⟩ : BufTy).Contents (Elt F) → (⟨S2x8192x64, .f32⟩ : BufTy).Contents (Elt F)),
    StableHlo.unary main_v50 main_v88 (broadcastInDim S1x8192x32 ![1, 2] bcast_S8192x32_S1x8192x32_1_2 : (⟨S8192x32, .f32⟩ : BufTy).Contents (Elt F) → (⟨S1x8192x32, .f32⟩ : BufTy).Contents (Elt F)),
    StableHlo.unary main_v51 main_v89 (broadcastInDim S1x8192x32 ![1, 2] bcast_S8192x32_S1x8192x32_1_2 : (⟨S8192x32, .f32⟩ : BufTy).Contents (Elt F) → (⟨S1x8192x32, .f32⟩ : BufTy).Contents (Elt F)),
    StableHlo.unary main_v87 main_v90 ((extractStridedSlice S2x8192x32 ![0, 0, 0] · slices_S2x8192x64_S2x8192x32_0_0_0) : (⟨S2x8192x64, .f32⟩ : BufTy).Contents (Elt F) → (⟨S2x8192x32, .f32⟩ : BufTy).Contents (Elt F)),
    StableHlo.unary main_v87 main_v91 ((extractStridedSlice S2x8192x32 ![0, 0, 32] · slices_S2x8192x64_S2x8192x32_0_0_32) : (⟨S2x8192x64, .f32⟩ : BufTy).Contents (Elt F) → (⟨S2x8192x32, .f32⟩ : BufTy).Contents (Elt F)),
    StableHlo.unary main_v88 main_v92 (broadcastInDim S2x8192x32 ![0, 1, 2] bcast_S1x8192x32_S2x8192x32_0_1_2 : (⟨S1x8192x32, .f32⟩ : BufTy).Contents (Elt F) → (⟨S2x8192x32, .f32⟩ : BufTy).Contents (Elt F)),
    StableHlo.binary main_v90 main_v92 main_v93 (mulf : (⟨S2x8192x32, .f32⟩ : BufTy).Contents (Elt F) → (⟨S2x8192x32, .f32⟩ : BufTy).Contents (Elt F) → (⟨S2x8192x32, .f32⟩ : BufTy).Contents (Elt F)),
    StableHlo.unary main_v89 main_v94 (broadcastInDim S2x8192x32 ![0, 1, 2] bcast_S1x8192x32_S2x8192x32_0_1_2 : (⟨S1x8192x32, .f32⟩ : BufTy).Contents (Elt F) → (⟨S2x8192x32, .f32⟩ : BufTy).Contents (Elt F)),
    StableHlo.binary main_v91 main_v94 main_v95 (mulf : (⟨S2x8192x32, .f32⟩ : BufTy).Contents (Elt F) → (⟨S2x8192x32, .f32⟩ : BufTy).Contents (Elt F) → (⟨S2x8192x32, .f32⟩ : BufTy).Contents (Elt F)),
    StableHlo.binary main_v93 main_v95 main_v96 (subf : (⟨S2x8192x32, .f32⟩ : BufTy).Contents (Elt F) → (⟨S2x8192x32, .f32⟩ : BufTy).Contents (Elt F) → (⟨S2x8192x32, .f32⟩ : BufTy).Contents (Elt F)),
    StableHlo.unary main_v88 main_v97 (broadcastInDim S2x8192x32 ![0, 1, 2] bcast_S1x8192x32_S2x8192x32_0_1_2 : (⟨S1x8192x32, .f32⟩ : BufTy).Contents (Elt F) → (⟨S2x8192x32, .f32⟩ : BufTy).Contents (Elt F)),
    StableHlo.binary main_v91 main_v97 main_v98 (mulf : (⟨S2x8192x32, .f32⟩ : BufTy).Contents (Elt F) → (⟨S2x8192x32, .f32⟩ : BufTy).Contents (Elt F) → (⟨S2x8192x32, .f32⟩ : BufTy).Contents (Elt F)),
    StableHlo.unary main_v89 main_v99 (broadcastInDim S2x8192x32 ![0, 1, 2] bcast_S1x8192x32_S2x8192x32_0_1_2 : (⟨S1x8192x32, .f32⟩ : BufTy).Contents (Elt F) → (⟨S2x8192x32, .f32⟩ : BufTy).Contents (Elt F)),
    StableHlo.binary main_v90 main_v99 main_v100 (mulf : (⟨S2x8192x32, .f32⟩ : BufTy).Contents (Elt F) → (⟨S2x8192x32, .f32⟩ : BufTy).Contents (Elt F) → (⟨S2x8192x32, .f32⟩ : BufTy).Contents (Elt F)),
    StableHlo.binary main_v98 main_v100 main_v101 (addf : (⟨S2x8192x32, .f32⟩ : BufTy).Contents (Elt F) → (⟨S2x8192x32, .f32⟩ : BufTy).Contents (Elt F) → (⟨S2x8192x32, .f32⟩ : BufTy).Contents (Elt F)),
    StableHlo.binary main_v96 main_v101 main_v102 ((fun a b => concatenate S2x8192x64 2 [⟨S2x8192x32, a⟩, ⟨S2x8192x32, b⟩] concatenates_S2x8192x32_S2x8192x32_S2x8192x64_d2) : (⟨S2x8192x32, .f32⟩ : BufTy).Contents (Elt F) → (⟨S2x8192x32, .f32⟩ : BufTy).Contents (Elt F) → (⟨S2x8192x64, .f32⟩ : BufTy).Contents (Elt F)),
    StableHlo.binary main_v86 main_arg7 main_v103 ((fun l r => Host.dotGeneral dot_S2x8192x256_S256x2048_S2x8192x2048_2_0_01_1_n_n none l r) : (⟨S2x8192x256, .f32⟩ : BufTy).Contents (Elt F) → (⟨S256x2048, .f32⟩ : BufTy).Contents (Elt F) → (⟨S2x8192x2048, .f32⟩ : BufTy).Contents (Elt F)),
    StableHlo.reshape main_v103 main_v104 (rfl : (.f32 : EltTy) = .f32) shapeCasts_S2x8192x2048_S2x8192x8x256,
    StableHlo.unary main_v104 main_v105 ((extractStridedSlice S2x8192x8x128 ![0, 0, 0, 0] · slices_S2x8192x8x256_S2x8192x8x128_0_0_0_0) : (⟨S2x8192x8x256, .f32⟩ : BufTy).Contents (Elt F) → (⟨S2x8192x8x128, .f32⟩ : BufTy).Contents (Elt F)),
    StableHlo.unary main_v104 main_v106 ((extractStridedSlice S2x8192x8x128 ![0, 0, 0, 128] · slices_S2x8192x8x256_S2x8192x8x128_0_0_0_128) : (⟨S2x8192x8x256, .f32⟩ : BufTy).Contents (Elt F) → (⟨S2x8192x8x128, .f32⟩ : BufTy).Contents (Elt F)) ]

def opsLat_W : List (Ref sig .tc) := [main_v72, main_v73, main_v74, main_cst_6, main_v75, main_v76, main_cst_7, main_v77, main_v78, main_cst_8, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106]

theorem opsLat_writes : (opsLat : List (HloOp τ sig (Elt F))).map HloOp.writes = opsLat_W.map fun w => {Proc.devRef (τ := τ) .tc w} := rfl

/-- Queries. -/
abbrev opsQry : List (HloOp τ sig (Elt F)) :=
  [ StableHlo.binary main_v18 main_arg2 main_v107 ((fun l r => Host.dotGeneral dot_S2x8192x1024_S1024x384_S2x8192x384_2_0_01_1_n_n none l r) : (⟨S2x8192x1024, .f32⟩ : BufTy).Contents (Elt F) → (⟨S1024x384, .f32⟩ : BufTy).Contents (Elt F) → (⟨S2x8192x384, .f32⟩ : BufTy).Contents (Elt F)),
    StableHlo.binary main_v107 main_v107 main_v108 (mulf : (⟨S2x8192x384, .f32⟩ : BufTy).Contents (Elt F) → (⟨S2x8192x384, .f32⟩ : BufTy).Contents (Elt F) → (⟨S2x8192x384, .f32⟩ : BufTy).Contents (Elt F)),
    StableHlo.nullary main_cst_9 (constant S_ .f32 0x00000000#32),
    StableHlo.binary main_v108 main_cst_9 main_v109 ((fun x v => Host.reduceAdd x v reducesTo_S2x8192x384_S2x8192_d2 h_S_) : (⟨S2x8192x384, .f32⟩ : BufTy).Contents (Elt F) → (⟨S_, .f32⟩ : BufTy).Contents (Elt F) → (⟨S2x8192, .f32⟩ : BufTy).Contents (Elt F)),
    StableHlo.unary main_v109 main_v110 (broadcastInDim S2x8192x1 ![0, 1] bcast_S2x8192_S2x8192x1_0_1 : (⟨S2x8192, .f32⟩ : BufTy).Contents (Elt F) → (⟨S2x8192x1, .f32⟩ : BufTy).Contents (Elt F)),
    StableHlo.nullary main_cst_10 (constant S_ .f32 0x43C00000#32),
    StableHlo.unary main_cst_10 main_v111 (broadcastInDim S2x8192x1 ![] bcast_S_S2x8192x1 : (⟨S_, .f32⟩ : BufTy).Contents (Elt F) → (⟨S2x8192x1, .f32⟩ : BufTy).Contents (Elt F)),
    StableHlo.binary main_v110 main_v111 main_v112 (Host.divf : (⟨S2x8192x1, .f32⟩ : BufTy).Contents (Elt F) → (⟨S2x8192x1, .f32⟩ : BufTy).Contents (Elt F) → (⟨S2x8192x1, .f32⟩ : BufTy).Contents (Elt F)),
    StableHlo.nullary main_cst_11 (constant S_ .f32 0x358637BD#32),
    StableHlo.unary main_cst_11 main_v113 (broadcastInDim S2x8192x1 ![] bcast_S_S2x8192x1 : (⟨S_, .f32⟩ : BufTy).Contents (Elt F) → (⟨S2x8192x1, .f32⟩ : BufTy).Contents (Elt F)),
    StableHlo.binary main_v112 main_v113 main_v114 (addf : (⟨S2x8192x1, .f32⟩ : BufTy).Contents (Elt F) → (⟨S2x8192x1, .f32⟩ : BufTy).Contents (Elt F) → (⟨S2x8192x1, .f32⟩ : BufTy).Contents (Elt F)),
    StableHlo.unary main_v114 main_v115 (Host.rsqrt : (⟨S2x8192x1, .f32⟩ : BufTy).Contents (Elt F) → (⟨S2x8192x1, .f32⟩ : BufTy).Contents (Elt F)),
    StableHlo.unary main_v115 main_v116 (broadcastInDim S2x8192x384 ![0, 1, 2] bcast_S2x8192x1_S2x8192x384_0_1_2 : (⟨S2x8192x1, .f32⟩ : BufTy).Contents (Elt F) → (⟨S2x8192x384, .f32⟩ : BufTy).Contents (Elt F)),
    StableHlo.binary main_v107 main_v116 main_v117 (mulf : (⟨S2x8192x384, .f32⟩ : BufTy).Contents (Elt F) → (⟨S2x8192x384, .f32⟩ : BufTy).Contents (Elt F) → (⟨S2x8192x384, .f32⟩ : BufTy).Contents (Elt F)),
    StableHlo.unary main_arg3 main_v118 (broadcastInDim S1x1x384 ![2] bcast_S384_S1x1x384_2 : (⟨S384, .f32⟩ : BufTy).Contents (Elt F) → (⟨S1x1x384, .f32⟩ : BufTy).Contents (Elt F)),
    StableHlo.unary main_v118 main_v119 (broadcastInDim S2x8192x384 ![0, 1, 2] bcast_S1x1x384_S2x8192x384_0_1_2 : (⟨S1x1x384, .f32⟩ : BufTy).Contents (Elt F) → (⟨S2x8192x384, .f32⟩ : BufTy).Contents (Elt F)),
    StableHlo.binary main_v117 main_v119 main_v120 (mulf : (⟨S2x8192x384, .f32⟩ : BufTy).Contents (Elt F) → (⟨S2x8192x384, .f32⟩ : BufTy).Contents (Elt F) → (⟨S2x8192x384, .f32⟩ : BufTy).Contents (Elt F)),
    StableHlo.binary main_v120 main_arg4 main_v121 ((fun l r => Host.dotGeneral dot_S2x8192x384_S384x1536_S2x8192x1536_2_0_01_1_n_n none l r) : (⟨S2x8192x384, .f32⟩ : BufTy).Contents (Elt F) → (⟨S384x1536, .f32⟩ : BufTy).Contents (Elt F) → (⟨S2x8192x1536, .f32⟩ : BufTy).Contents (Elt F)),
    StableHlo.reshape main_v121 main_v122 (rfl : (.f32 : EltTy) = .f32) shapeCasts_S2x8192x1536_S2x8192x8x192,
    StableHlo.unary main_v122 main_v123 ((extractStridedSlice S2x8192x8x128 ![0, 0, 0, 0] · slices_S2x8192x8x192_S2x8192x8x128_0_0_0_0) : (⟨S2x8192x8x192, .f32⟩ : BufTy).Contents (Elt F) → (⟨S2x8192x8x128, .f32⟩ : BufTy).Contents (Elt F)),
    StableHlo.unary main_v122 main_v124 ((extractStridedSlice S2x8192x8x64 ![0, 0, 0, 128] · slices_S2x8192x8x192_S2x8192x8x64_0_0_0_128) : (⟨S2x8192x8x192, .f32⟩ : BufTy).Contents (Elt F) → (⟨S2x8192x8x64, .f32⟩ : BufTy).Contents (Elt F)),
    StableHlo.unary main_v50 main_v125 (broadcastInDim S1x8192x1x32 ![1, 3] bcast_S8192x32_S1x8192x1x32_1_3 : (⟨S8192x32, .f32⟩ : BufTy).Contents (Elt F) → (⟨S1x8192x1x32, .f32⟩ : BufTy).Contents (Elt F)),
    StableHlo.unary main_v51 main_v126 (broadcastInDim S1x8192x1x32 ![1, 3] bcast_S8192x32_S1x8192x1x32_1_3 : (⟨S8192x32, .f32⟩ : BufTy).Contents (Elt F) → (⟨S1x8192x1x32, .f32⟩ : BufTy).Contents (Elt F)),
    StableHlo.unary main_v124 main_v127 ((extractStridedSlice S2x8192x8x32 ![0, 0, 0, 0] · slices_S2x8192x8x64_S2x8192x8x32_0_0_0_0) : (⟨S2x8192x8x64, .f32⟩ : BufTy).Contents (Elt F) → (⟨S2x8192x8x32, .f32⟩ : BufTy).Contents (Elt F)),
    StableHlo.unary main_v124 main_v128 ((extractStridedSlice S2x8192x8x32 ![0, 0, 0, 32] · slices_S2x8192x8x64_S2x8192x8x32_0_0_0_32) : (⟨S2x8192x8x64, .f32⟩ : BufTy).Contents (Elt F) → (⟨S2x8192x8x32, .f32⟩ : BufTy).Contents (Elt F)),
    StableHlo.unary main_v125 main_v129 (broadcastInDim S2x8192x8x32 ![0, 1, 2, 3] bcast_S1x8192x1x32_S2x8192x8x32_0_1_2_3 : (⟨S1x8192x1x32, .f32⟩ : BufTy).Contents (Elt F) → (⟨S2x8192x8x32, .f32⟩ : BufTy).Contents (Elt F)),
    StableHlo.binary main_v127 main_v129 main_v130 (mulf : (⟨S2x8192x8x32, .f32⟩ : BufTy).Contents (Elt F) → (⟨S2x8192x8x32, .f32⟩ : BufTy).Contents (Elt F) → (⟨S2x8192x8x32, .f32⟩ : BufTy).Contents (Elt F)),
    StableHlo.unary main_v126 main_v131 (broadcastInDim S2x8192x8x32 ![0, 1, 2, 3] bcast_S1x8192x1x32_S2x8192x8x32_0_1_2_3 : (⟨S1x8192x1x32, .f32⟩ : BufTy).Contents (Elt F) → (⟨S2x8192x8x32, .f32⟩ : BufTy).Contents (Elt F)),
    StableHlo.binary main_v128 main_v131 main_v132 (mulf : (⟨S2x8192x8x32, .f32⟩ : BufTy).Contents (Elt F) → (⟨S2x8192x8x32, .f32⟩ : BufTy).Contents (Elt F) → (⟨S2x8192x8x32, .f32⟩ : BufTy).Contents (Elt F)),
    StableHlo.binary main_v130 main_v132 main_v133 (subf : (⟨S2x8192x8x32, .f32⟩ : BufTy).Contents (Elt F) → (⟨S2x8192x8x32, .f32⟩ : BufTy).Contents (Elt F) → (⟨S2x8192x8x32, .f32⟩ : BufTy).Contents (Elt F)),
    StableHlo.unary main_v125 main_v134 (broadcastInDim S2x8192x8x32 ![0, 1, 2, 3] bcast_S1x8192x1x32_S2x8192x8x32_0_1_2_3 : (⟨S1x8192x1x32, .f32⟩ : BufTy).Contents (Elt F) → (⟨S2x8192x8x32, .f32⟩ : BufTy).Contents (Elt F)),
    StableHlo.binary main_v128 main_v134 main_v135 (mulf : (⟨S2x8192x8x32, .f32⟩ : BufTy).Contents (Elt F) → (⟨S2x8192x8x32, .f32⟩ : BufTy).Contents (Elt F) → (⟨S2x8192x8x32, .f32⟩ : BufTy).Contents (Elt F)),
    StableHlo.unary main_v126 main_v136 (broadcastInDim S2x8192x8x32 ![0, 1, 2, 3] bcast_S1x8192x1x32_S2x8192x8x32_0_1_2_3 : (⟨S1x8192x1x32, .f32⟩ : BufTy).Contents (Elt F) → (⟨S2x8192x8x32, .f32⟩ : BufTy).Contents (Elt F)),
    StableHlo.binary main_v127 main_v136 main_v137 (mulf : (⟨S2x8192x8x32, .f32⟩ : BufTy).Contents (Elt F) → (⟨S2x8192x8x32, .f32⟩ : BufTy).Contents (Elt F) → (⟨S2x8192x8x32, .f32⟩ : BufTy).Contents (Elt F)),
    StableHlo.binary main_v135 main_v137 main_v138 (addf : (⟨S2x8192x8x32, .f32⟩ : BufTy).Contents (Elt F) → (⟨S2x8192x8x32, .f32⟩ : BufTy).Contents (Elt F) → (⟨S2x8192x8x32, .f32⟩ : BufTy).Contents (Elt F)),
    StableHlo.binary main_v133 main_v138 main_v139 ((fun a b => concatenate S2x8192x8x64 3 [⟨S2x8192x8x32, a⟩, ⟨S2x8192x8x32, b⟩] concatenates_S2x8192x8x32_S2x8192x8x32_S2x8192x8x64_d3) : (⟨S2x8192x8x32, .f32⟩ : BufTy).Contents (Elt F) → (⟨S2x8192x8x32, .f32⟩ : BufTy).Contents (Elt F) → (⟨S2x8192x8x64, .f32⟩ : BufTy).Contents (Elt F)) ]

def opsQry_W : List (Ref sig .tc) := [main_v107, main_v108, main_cst_9, main_v109, main_v110, main_cst_10, main_v111, main_v112, main_cst_11, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139]

theorem opsQry_writes : (opsQry : List (HloOp τ sig (Elt F))).map HloOp.writes = opsQry_W.map fun w => {Proc.devRef (τ := τ) .tc w} := rfl

/-- Scores. -/
abbrev opsScore : List (HloOp τ sig (Elt F)) :=
  [ StableHlo.binary main_v105 main_v70 main_v140 ((fun a b => concatenate S2x8448x8x128 1 [⟨S2x8192x8x128, a⟩, ⟨S2x256x8x128, b⟩] concatenates_S2x8192x8x128_S2x256x8x128_S2x8448x8x128_d1) : (⟨S2x8192x8x128, .f32⟩ : BufTy).Contents (Elt F) → (⟨S2x256x8x128, .f32⟩ : BufTy).Contents (Elt F) → (⟨S2x8448x8x128, .f32⟩ : BufTy).Contents (Elt F)),
    StableHlo.binary main_v102 main_v67 main_v141 ((fun a b => concatenate S2x8448x64 1 [⟨S2x8192x64, a⟩, ⟨S2x256x64, b⟩] concatenates_S2x8192x64_S2x256x64_S2x8448x64_d1) : (⟨S2x8192x64, .f32⟩ : BufTy).Contents (Elt F) → (⟨S2x256x64, .f32⟩ : BufTy).Contents (Elt F) → (⟨S2x8448x64, .f32⟩ : BufTy).Contents (Elt F)),
    StableHlo.binary main_v106 main_v71 main_v142 ((fun a b => concatenate S2x8448x8x128 1 [⟨S2x8192x8x128, a⟩, ⟨S2x256x8x128, b⟩] concatenates_S2x8192x8x128_S2x256x8x128_S2x8448x8x128_d1) : (⟨S2x8192x8x128, .f32⟩ : BufTy).Contents (Elt F) → (⟨S2x256x8x128, .f32⟩ : BufTy).Contents (Elt F) → (⟨S2x8448x8x128, .f32⟩ : BufTy).Contents (Elt F)),
    StableHlo.nullary main_cst_12 (constant S_ .f32 0x43400000#32),
    StableHlo.nullary main_cst_13 (constant S_ .f32 0xBF000000#32),
    StableHlo.binary main_cst_12 main_cst_13 main_v143 (Host.powf : (⟨S_, .f32⟩ : BufTy).Contents (Elt F) → (⟨S_, .f32⟩ : BufTy).Contents (Elt F) → (⟨S_, .f32⟩ : BufTy).Contents (Elt F)),
    StableHlo.binary main_v123 main_v140 main_v144 ((fun l r => Host.dotGeneral dot_S2x8192x8x128_S2x8448x8x128_S2x8x8192x8448_3_3_1_1_02_02 none l r) : (⟨S2x8192x8x128, .f32⟩ : BufTy).Contents (Elt F) → (⟨S2x8448x8x128, .f32⟩ : BufTy).Contents (Elt F) → (⟨S2x8x8192x8448, .f32⟩ : BufTy).Contents (Elt F)),
    StableHlo.binary main_v141 main_v139 main_v145 ((fun l r => Host.dotGeneral dot_S2x8448x64_S2x8192x8x64_S2x8448x8192x8_2_3_1_12_0_0 none l r) : (⟨S2x8448x64, .f32⟩ : BufTy).Contents (Elt F) → (⟨S2x8192x8x64, .f32⟩ : BufTy).Contents (Elt F) → (⟨S2x8448x8192x8, .f32⟩ : BufTy).Contents (Elt F)),
    StableHlo.unary main_v145 main_v146 ((transpose S2x8x8192x8448 [0, 3, 2, 1] · transposes_S2x8448x8192x8_S2x8x8192x8448_0_3_2_1) : (⟨S2x8448x8192x8, .f32⟩ : BufTy).Contents (Elt F) → (⟨S2x8x8192x8448, .f32⟩ : BufTy).Contents (Elt F)),
    StableHlo.binary main_v144 main_v146 main_v147 (addf : (⟨S2x8x8192x8448, .f32⟩ : BufTy).Contents (Elt F) → (⟨S2x8x8192x8448, .f32⟩ : BufTy).Contents (Elt F) → (⟨S2x8x8192x8448, .f32⟩ : BufTy).Contents (Elt F)),
    StableHlo.unary main_v143 main_v148 (broadcastInDim S2x8x8192x8448 ![] bcast_S_S2x8x8192x8448 : (⟨S_, .f32⟩ : BufTy).Contents (Elt F) → (⟨S2x8x8192x8448, .f32⟩ : BufTy).Contents (Elt F)),
    StableHlo.binary main_v147 main_v148 main_v149 (mulf : (⟨S2x8x8192x8448, .f32⟩ : BufTy).Contents (Elt F) → (⟨S2x8x8192x8448, .f32⟩ : BufTy).Contents (Elt F) → (⟨S2x8x8192x8448, .f32⟩ : BufTy).Contents (Elt F)) ]

def opsScore_W : List (Ref sig .tc) := [main_v140, main_v141, main_v142, main_cst_12, main_cst_13, main_v143, main_v144, main_v145, main_v146, main_v147, main_v148, main_v149]

theorem opsScore_writes : (opsScore : List (HloOp τ sig (Elt F))).map HloOp.writes = opsScore_W.map fun w => {Proc.devRef (τ := τ) .tc w} := rfl

/-- Their maxima. -/
abbrev opsMax : List (HloOp τ sig (Elt F)) :=
  [ StableHlo.nullary main_cst_14 (constant S_ .f32 0xFF800000#32),
    StableHlo.binary main_v149 main_cst_14 main_v150 ((fun x v => Host.reduce FloatOps.maximumf x v reducesTo_S2x8x8192x8448_S2x8x8192_d3 h_S_) : (⟨S2x8x8192x8448, .f32⟩ : BufTy).Contents (Elt F) → (⟨S_, .f32⟩ : BufTy).Contents (Elt F) → (⟨S2x8x8192, .f32⟩ : BufTy).Contents (Elt F)),
    StableHlo.nullary main_cst_15 (constant S_ .f32 0xFF800000#32),
    StableHlo.unary main_cst_15 main_v151 (broadcastInDim S2x8x8192 ![] bcast_S_S2x8x8192 : (⟨S_, .f32⟩ : BufTy).Contents (Elt F) → (⟨S2x8x8192, .f32⟩ : BufTy).Contents (Elt F)),
    StableHlo.binary main_v151 main_v150 main_v152 (maximumf : (⟨S2x8x8192, .f32⟩ : BufTy).Contents (Elt F) → (⟨S2x8x8192, .f32⟩ : BufTy).Contents (Elt F) → (⟨S2x8x8192, .f32⟩ : BufTy).Contents (Elt F)) ]

def opsMax_W : List (Ref sig .tc) := [main_cst_14, main_v150, main_cst_15, main_v151, main_v152]

theorem opsMax_writes : (opsMax : List (HloOp τ sig (Elt F))).map HloOp.writes = opsMax_W.map fun w => {Proc.devRef (τ := τ) .tc w} := rfl

/-- The weighted averages. -/
abbrev opsAvg : List (HloOp τ sig (Elt F)) :=
  [ StableHlo.unary main_v152 main_v153 (broadcastInDim S2x8x8192x1 ![0, 1, 2] bcast_S2x8x8192_S2x8x8192x1_0_1_2 : (⟨S2x8x8192, .f32⟩ : BufTy).Contents (Elt F) → (⟨S2x8x8192x1, .f32⟩ : BufTy).Contents (Elt F)),
    StableHlo.unary main_v153 main_v154 (broadcastInDim S2x8x8192x8448 ![0, 1, 2, 3] bcast_S2x8x8192x1_S2x8x8192x8448_0_1_2_3 : (⟨S2x8x8192x1, .f32⟩ : BufTy).Contents (Elt F) → (⟨S2x8x8192x8448, .f32⟩ : BufTy).Contents (Elt F)),
    StableHlo.binary main_v149 main_v154 main_v155 (subf : (⟨S2x8x8192x8448, .f32⟩ : BufTy).Contents (Elt F) → (⟨S2x8x8192x8448, .f32⟩ : BufTy).Contents (Elt F) → (⟨S2x8x8192x8448, .f32⟩ : BufTy).Contents (Elt F)),
    StableHlo.unary main_v155 main_v156 (Host.exp : (⟨S2x8x8192x8448, .f32⟩ : BufTy).Contents (Elt F) → (⟨S2x8x8192x8448, .f32⟩ : BufTy).Contents (Elt F)),
    StableHlo.nullary main_cst_16 (constant S_ .f32 0x00000000#32),
    StableHlo.binary main_v156 main_cst_16 main_v157 ((fun x v => Host.reduceAdd x v reducesTo_S2x8x8192x8448_S2x8x8192_d3 h_S_) : (⟨S2x8x8192x8448, .f32⟩ : BufTy).Contents (Elt F) → (⟨S_, .f32⟩ : BufTy).Contents (Elt F) → (⟨S2x8x8192, .f32⟩ : BufTy).Contents (Elt F)),
    StableHlo.unary main_v157 main_v158 (broadcastInDim S2x8x8192x1 ![0, 1, 2] bcast_S2x8x8192_S2x8x8192x1_0_1_2 : (⟨S2x8x8192, .f32⟩ : BufTy).Contents (Elt F) → (⟨S2x8x8192x1, .f32⟩ : BufTy).Contents (Elt F)),
    StableHlo.unary main_v158 main_v159 (broadcastInDim S2x8x8192x8448 ![0, 1, 2, 3] bcast_S2x8x8192x1_S2x8x8192x8448_0_1_2_3 : (⟨S2x8x8192x1, .f32⟩ : BufTy).Contents (Elt F) → (⟨S2x8x8192x8448, .f32⟩ : BufTy).Contents (Elt F)),
    StableHlo.binary main_v156 main_v159 main_v160 (Host.divf : (⟨S2x8x8192x8448, .f32⟩ : BufTy).Contents (Elt F) → (⟨S2x8x8192x8448, .f32⟩ : BufTy).Contents (Elt F) → (⟨S2x8x8192x8448, .f32⟩ : BufTy).Contents (Elt F)),
    StableHlo.binary main_v142 main_v160 main_v161 ((fun l r => Host.dotGeneral dot_S2x8448x8x128_S2x8x8192x8448_S2x8x128x8192_1_3_3_2_02_01 none l r) : (⟨S2x8448x8x128, .f32⟩ : BufTy).Contents (Elt F) → (⟨S2x8x8192x8448, .f32⟩ : BufTy).Contents (Elt F) → (⟨S2x8x128x8192, .f32⟩ : BufTy).Contents (Elt F)),
    StableHlo.unary main_v161 main_v162 ((transpose S2x8192x8x128 [0, 3, 1, 2] · transposes_S2x8x128x8192_S2x8192x8x128_0_3_1_2) : (⟨S2x8x128x8192, .f32⟩ : BufTy).Contents (Elt F) → (⟨S2x8192x8x128, .f32⟩ : BufTy).Contents (Elt F)),
    StableHlo.reshape main_v162 main_v163 (rfl : (.f32 : EltTy) = .f32) shapeCasts_S2x8192x8x128_S2x8192x1024 ]

def opsAvg_W : List (Ref sig .tc) := [main_v153, main_v154, main_v155, main_v156, main_cst_16, main_v157, main_v158, main_v159, main_v160, main_v161, main_v162, main_v163]

theorem opsAvg_writes : (opsAvg : List (HloOp τ sig (Elt F))).map HloOp.writes = opsAvg_W.map fun w => {Proc.devRef (τ := τ) .tc w} := rfl

end Cert.Mla.Ref

end
-- ==== Proof.RefRun.lean ====
/- The run of the reference: every buffer ends holding what its operations, in eight lists, leave in it. -/
module

public import proofs.«01_k».proof.Proof.RefOps

@[expose] public section

set_option maxRecDepth 16384

noncomputable section

open Idealize.ShloMosaic Idealize.ShloMosaic.TcCoe Idealize.SL.Sem

namespace Cert.Mla.Ref

open Cert.ReferenceIdeal Cert.ReferenceIdeal.Gen

variable {F : FTy → Type} [FloatOps F]

abbrev opsAll : List (HloOp τ sig (Elt F)) := opsMod ++ (opsTab ++ (opsCtx ++ (opsLat ++ (opsQry ++ (opsScore ++ (opsMax ++ opsAvg))))))

set_option maxHeartbeats 2000000 in
theorem main_isSeq : ∀ d, StableHlo.IsSeq (main (F := F) d) opsAll := by
  hlo_seq

theorem opsAll_fresh : ∀ op ∈ (opsAll : List (HloOp τ sig (Elt F))), op.fresh = ∅ := by
  refine List.forall_iff_forall_mem.1 ?_
  simp only [opsAll, List.cons_append, List.nil_append, List.Forall]
  repeat' constructor

theorem opsAll_sub : (opsAll : List (HloOp τ sig (Elt F))).Forall fun op => op.bufs ⊆ StableHlo.tcRefs τ sig := by
  simp

theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = StableHlo.after opsAll (StableHlo.launchContents m d) (Proc.devRef .tc b) :=
  StableHlo.run_hlo _ _ main_isSeq (by decide) (by decide) opsAll_sub opsAll_fresh m ρ

abbrev opsAll_W : List (Ref sig .tc) := opsMod_W ++ (opsTab_W ++ (opsCtx_W ++ (opsLat_W ++ (opsQry_W ++ (opsScore_W ++ (opsMax_W ++ opsAvg_W))))))

theorem opsAll_writes : (opsAll : List (HloOp τ sig (Elt F))).map HloOp.writes = opsAll_W.map fun w => {Proc.devRef (τ := τ) .tc w} := by
  simp only [opsAll, opsAll_W, List.map_append, opsMod_writes, opsTab_writes, opsCtx_writes, opsLat_writes, opsQry_writes, opsScore_writes, opsMax_writes, opsAvg_writes]

/-- A buffer no operation writes keeps its contents. -/
theorem kept {b : Ref sig .tc} (hb : b ∉ opsAll_W) (V : Valuation τ sig (Elt F)) :
    StableHlo.after opsAll V (Proc.devRef .tc b) = V (Proc.devRef .tc b) := StableHlo.after_unwritten opsAll_W opsAll_writes hb V

theorem sem_zero (s : MemSt nD τ sig (Elt F)) : s.sem = fun _ => 0 := sem_eq_zero_of_no_sems (by decide) s

end Cert.Mla.Ref

end
-- ==== Proof.RefReads.lean ====
/- What each list of the reference's operations leaves in the buffers the next ones read, entry by entry. -/
module

public import proofs.«01_k».proof.Proof.RefRun
public import proofs.«01_k».proof.Proof.Tables
public import proofs.«01_k».proof.Proof.Flash
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem

namespace Cert.Mla.Ref

open Args Cert.ReferenceIdeal Cert.ReferenceIdeal.Gen

variable (V : Valuation τ sig (Elt Ideal))

set_option maxRecDepth 200000 in
theorem m18 (b : Fin 2) (n : Fin 8192) (e : Fin 1024) :
    (StableHlo.after (opsMod (F := Ideal)) V (Proc.devRef .tc main_v18) : FVec Ideal S2x8192x1024 .f32) (ix3 b n e)
    = (show FVec Ideal S16896x1024 .f32 from V (Proc.devRef .tc main_arg0)) (ix2 (row b (lat n)) e) * ((1:EReal) + (show FVec Ideal S8x6x1024 .f32 from V (Proc.devRef .tc main_arg1)) (ix3 ⟨b.val, by omega⟩ 1 e)) + (show FVec Ideal S8x6x1024 .f32 from V (Proc.devRef .tc main_arg1)) (ix3 ⟨b.val, by omega⟩ 0 e) := by
  after_reads_simp; pointwise [row, lat]; first | done | rfl

set_option maxRecDepth 200000 in
theorem m28 (b : Fin 2) (n : Fin 256) (e : Fin 1024) :
    (StableHlo.after (opsMod (F := Ideal)) V (Proc.devRef .tc main_v28) : FVec Ideal S2x256x1024 .f32) (ix3 b n e)
    = (show FVec Ideal S16896x1024 .f32 from V (Proc.devRef .tc main_arg0)) (ix2 (row b (ctx n)) e) * ((1:EReal) + (show FVec Ideal S8x6x1024 .f32 from V (Proc.devRef .tc main_arg1)) (ix3 2 1 e)) + (show FVec Ideal S8x6x1024 .f32 from V (Proc.devRef .tc main_arg1)) (ix3 2 0 e) := by
  after_reads_simp; pointwise [row, ctx]; first | done | rfl

theorem t50 (n : Fin 8192) (f : Fin 32) :
    (StableHlo.after (opsTab (F := Ideal)) V (Proc.devRef .tc main_v50) : FVec Ideal S8192x32 .f32) (ix2 n f) = Ideal.cos (ang n f) := by
  after_reads_simp; pointwise []; after_reads_simp; pointwise []
  unfold ang angX angY
  rw [fdiv_eq, fmod_eq]
  rfl

theorem t51 (n : Fin 8192) (f : Fin 32) :
    (StableHlo.after (opsTab (F := Ideal)) V (Proc.devRef .tc main_v51) : FVec Ideal S8192x32 .f32) (ix2 n f) = Ideal.sin (ang n f) := by
  after_reads_simp; pointwise []; after_reads_simp; pointwise []
  unfold ang angX angY
  rw [fdiv_eq, fmod_eq]
  rfl

theorem ckr (b : Fin 2) (n : Fin 256) (i : Fin 64) :
    (StableHlo.after (opsCtx (F := Ideal)) V (Proc.devRef .tc main_v67) : FVec Ideal S2x256x64 .f32) (ix3 b n i) = (lin (fun e => (V (Proc.devRef .tc main_v28) : FVec Ideal S2x256x1024 .f32) (ix3 b n e)) fun e (k : Fin 64) => (V (Proc.devRef .tc main_arg5) : FVec Ideal S1024x320 .f32) (ix2 e (cR k))) i := by
  after_reads_simp; pointwise [lin, cR]
  first | done | rfl

theorem ckn (b : Fin 2) (n : Fin 256) (h : Fin 8) (d : Fin 128) :
    (StableHlo.after (opsCtx (F := Ideal)) V (Proc.devRef .tc main_v70) : FVec Ideal S2x256x8x128 .f32) (ix4 b n h d) =
      lin (rms (Ideal.ofBits FTy.f32 1132462080#32) (lin (fun e => (V (Proc.devRef .tc main_v28) : FVec Ideal S2x256x1024 .f32) (ix3 b n e)) fun e (k : Fin 256) => (V (Proc.devRef .tc main_arg5) : FVec Ideal S1024x320 .f32) (ix2 e (cC k))) (fun k => (V (Proc.devRef .tc main_arg6) : FVec Ideal S256 .f32) (ix1 k))) (fun k j => (V (Proc.devRef .tc main_arg7) : FVec Ideal S256x2048 .f32) (ix2 k j)) (cK h d) := by
  after_reads_simp; pointwise [lin, rms, cC, cK]
  first | done | rfl

theorem cv (b : Fin 2) (n : Fin 256) (h : Fin 8) (d : Fin 128) :
    (StableHlo.after (opsCtx (F := Ideal)) V (Proc.devRef .tc main_v71) : FVec Ideal S2x256x8x128 .f32) (ix4 b n h d) =
      lin (rms (Ideal.ofBits FTy.f32 1132462080#32) (lin (fun e => (V (Proc.devRef .tc main_v28) : FVec Ideal S2x256x1024 .f32) (ix3 b n e)) fun e (k : Fin 256) => (V (Proc.devRef .tc main_arg5) : FVec Ideal S1024x320 .f32) (ix2 e (cC k))) (fun k => (V (Proc.devRef .tc main_arg6) : FVec Ideal S256 .f32) (ix1 k))) (fun k j => (V (Proc.devRef .tc main_arg7) : FVec Ideal S256x2048 .f32) (ix2 k j)) (cV h d) := by
  after_reads_simp; pointwise [lin, rms, cC, cV]
  first | done | rfl | (simp only [Nat.add_assoc]; done)

theorem lkn (b : Fin 2) (n : Fin 8192) (h : Fin 8) (d : Fin 128) :
    (StableHlo.after (opsLat (F := Ideal)) V (Proc.devRef .tc main_v105) : FVec Ideal S2x8192x8x128 .f32) (ix4 b n h d) =
      lin (rms (Ideal.ofBits FTy.f32 1132462080#32) (lin (fun e => (V (Proc.devRef .tc main_v18) : FVec Ideal S2x8192x1024 .f32) (ix3 b n e)) fun e (k : Fin 256) => (V (Proc.devRef .tc main_arg5) : FVec Ideal S1024x320 .f32) (ix2 e (cC k))) (fun k => (V (Proc.devRef .tc main_arg6) : FVec Ideal S256 .f32) (ix1 k))) (fun k j => (V (Proc.devRef .tc main_arg7) : FVec Ideal S256x2048 .f32) (ix2 k j)) (cK h d) := by
  after_reads_simp; pointwise [lin, rms, cC, cK]
  first | done | rfl

theorem lv (b : Fin 2) (n : Fin 8192) (h : Fin 8) (d : Fin 128) :
    (StableHlo.after (opsLat (F := Ideal)) V (Proc.devRef .tc main_v106) : FVec Ideal S2x8192x8x128 .f32) (ix4 b n h d) =
      lin (rms (Ideal.ofBits FTy.f32 1132462080#32) (lin (fun e => (V (Proc.devRef .tc main_v18) : FVec Ideal S2x8192x1024 .f32) (ix3 b n e)) fun e (k : Fin 256) => (V (Proc.devRef .tc main_arg5) : FVec Ideal S1024x320 .f32) (ix2 e (cC k))) (fun k => (V (Proc.devRef .tc main_arg6) : FVec Ideal S256 .f32) (ix1 k))) (fun k j => (V (Proc.devRef .tc main_arg7) : FVec Ideal S256x2048 .f32) (ix2 k j)) (cV h d) := by
  after_reads_simp; pointwise [lin, rms, cC, cV]
  first | done | rfl | (simp only [Nat.add_assoc]; done)

theorem qqn (b : Fin 2) (n : Fin 8192) (h : Fin 8) (d : Fin 128) :
    (StableHlo.after (opsQry (F := Ideal)) V (Proc.devRef .tc main_v123) : FVec Ideal S2x8192x8x128 .f32) (ix4 b n h d) = lin (rms (Ideal.ofBits FTy.f32 1136656384#32) (lin (fun e => (V (Proc.devRef .tc main_v18) : FVec Ideal S2x8192x1024 .f32) (ix3 b n e)) fun e k => (V (Proc.devRef .tc main_arg2) : FVec Ideal S1024x384 .f32) (ix2 e k)) (fun k => (V (Proc.devRef .tc main_arg3) : FVec Ideal S384 .f32) (ix1 k))) (fun k j => (V (Proc.devRef .tc main_arg4) : FVec Ideal S384x1536 .f32) (ix2 k j)) (cN h d) := by
  after_reads_simp; pointwise [lin, rms, cN]
  first | done | rfl

theorem lkr (b : Fin 2) (n : Fin 8192) (i : Fin 64) :
    (StableHlo.after (opsLat (F := Ideal)) V (Proc.devRef .tc main_v102) : FVec Ideal S2x8192x64 .f32) (ix3 b n i) = (if h : i.val < 32 then
      (lin (fun e => (V (Proc.devRef .tc main_v18) : FVec Ideal S2x8192x1024 .f32) (ix3 b n e)) fun e (k : Fin 64) => (V (Proc.devRef .tc main_arg5) : FVec Ideal S1024x320 .f32) (ix2 e (cR k))) i * (V (Proc.devRef .tc main_v50) : FVec Ideal S8192x32 .f32) (ix2 n ⟨i.val, h⟩) - (lin (fun e => (V (Proc.devRef .tc main_v18) : FVec Ideal S2x8192x1024 .f32) (ix3 b n e)) fun e (k : Fin 64) => (V (Proc.devRef .tc main_arg5) : FVec Ideal S1024x320 .f32) (ix2 e (cR k))) (swp i) * (V (Proc.devRef .tc main_v51) : FVec Ideal S8192x32 .f32) (ix2 n ⟨i.val, h⟩)
    else (lin (fun e => (V (Proc.devRef .tc main_v18) : FVec Ideal S2x8192x1024 .f32) (ix3 b n e)) fun e (k : Fin 64) => (V (Proc.devRef .tc main_arg5) : FVec Ideal S1024x320 .f32) (ix2 e (cR k))) i * (V (Proc.devRef .tc main_v50) : FVec Ideal S8192x32 .f32) (ix2 n ⟨i.val - 32, by omega⟩) + (lin (fun e => (V (Proc.devRef .tc main_v18) : FVec Ideal S2x8192x1024 .f32) (ix3 b n e)) fun e (k : Fin 64) => (V (Proc.devRef .tc main_arg5) : FVec Ideal S1024x320 .f32) (ix2 e (cR k))) (swp i) * (V (Proc.devRef .tc main_v51) : FVec Ideal S8192x32 .f32) (ix2 n ⟨i.val - 32, by omega⟩) : EReal) := by
  after_reads_simp; pointwise []
  have e1 : ∀ hp, (⟨256 + i.val, hp⟩ : Fin 320) = cR i := fun _ => rfl
  split
  · rename_i hi
    have e2 : ∀ hp, (⟨256 + (32 + i.val), hp⟩ : Fin 320) = cR (swp i) := fun _ => Fin.ext (by unfold cR swp; simp only; omega)
    simp only [e1, e2, lin]
  · rename_i hi
    have e2 : ∀ hp, (⟨256 + (32 + (i.val - 32)), hp⟩ : Fin 320) = cR i := fun _ => Fin.ext (by unfold cR; simp only; omega)
    have e3 : ∀ hp, (⟨256 + (i.val - 32), hp⟩ : Fin 320) = cR (swp i) := fun _ => Fin.ext (by unfold cR swp; simp only; omega)
    simp only [e2, e3, lin]

theorem qqr (b : Fin 2) (n : Fin 8192) (h : Fin 8) (i : Fin 64) :
    (StableHlo.after (opsQry (F := Ideal)) V (Proc.devRef .tc main_v139) : FVec Ideal S2x8192x8x64 .f32) (ix4 b n h i) = (if hi : i.val < 32 then
      lin (rms (Ideal.ofBits FTy.f32 1136656384#32) (lin (fun e => (V (Proc.devRef .tc main_v18) : FVec Ideal S2x8192x1024 .f32) (ix3 b n e)) fun e k => (V (Proc.devRef .tc main_arg2) : FVec Ideal S1024x384 .f32) (ix2 e k)) (fun k => (V (Proc.devRef .tc main_arg3) : FVec Ideal S384 .f32) (ix1 k))) (fun k j => (V (Proc.devRef .tc main_arg4) : FVec Ideal S384x1536 .f32) (ix2 k j)) (cQ h i) * (V (Proc.devRef .tc main_v50) : FVec Ideal S8192x32 .f32) (ix2 n ⟨i.val, hi⟩)
        - lin (rms (Ideal.ofBits FTy.f32 1136656384#32) (lin (fun e => (V (Proc.devRef .tc main_v18) : FVec Ideal S2x8192x1024 .f32) (ix3 b n e)) fun e k => (V (Proc.devRef .tc main_arg2) : FVec Ideal S1024x384 .f32) (ix2 e k)) (fun k => (V (Proc.devRef .tc main_arg3) : FVec Ideal S384 .f32) (ix1 k))) (fun k j => (V (Proc.devRef .tc main_arg4) : FVec Ideal S384x1536 .f32) (ix2 k j)) (cQ h (swp i)) * (V (Proc.devRef .tc main_v51) : FVec Ideal S8192x32 .f32) (ix2 n ⟨i.val, hi⟩)
    else lin (rms (Ideal.ofBits FTy.f32 1136656384#32) (lin (fun e => (V (Proc.devRef .tc main_v18) : FVec Ideal S2x8192x1024 .f32) (ix3 b n e)) fun e k => (V (Proc.devRef .tc main_arg2) : FVec Ideal S1024x384 .f32) (ix2 e k)) (fun k => (V (Proc.devRef .tc main_arg3) : FVec Ideal S384 .f32) (ix1 k))) (fun k j => (V (Proc.devRef .tc main_arg4) : FVec Ideal S384x1536 .f32) (ix2 k j)) (cQ h i) * (V (Proc.devRef .tc main_v50) : FVec Ideal S8192x32 .f32) (ix2 n ⟨i.val - 32, by omega⟩)
        + lin (rms (Ideal.ofBits FTy.f32 1136656384#32) (lin (fun e => (V (Proc.devRef .tc main_v18) : FVec Ideal S2x8192x1024 .f32) (ix3 b n e)) fun e k => (V (Proc.devRef .tc main_arg2) : FVec Ideal S1024x384 .f32) (ix2 e k)) (fun k => (V (Proc.devRef .tc main_arg3) : FVec Ideal S384 .f32) (ix1 k))) (fun k j => (V (Proc.devRef .tc main_arg4) : FVec Ideal S384x1536 .f32) (ix2 k j)) (cQ h (swp i)) * (V (Proc.devRef .tc main_v51) : FVec Ideal S8192x32 .f32) (ix2 n ⟨i.val - 32, by omega⟩) : EReal) := by
  after_reads_simp; pointwise []
  split
  · rename_i hi
    have e1 : ∀ hp, (⟨h.val * 192 + (128 + i.val), hp⟩ : Fin 1536) = cQ h i := fun _ => Fin.ext (by unfold cQ; simp only; omega)
    have e2 : ∀ hp, (⟨h.val * 192 + (128 + (32 + i.val)), hp⟩ : Fin 1536) = cQ h (swp i) := fun _ => Fin.ext (by unfold cQ swp; simp only; omega)
    simp only [e1, e2, lin, rms]
  · rename_i hi
    have e2 : ∀ hp, (⟨h.val * 192 + (128 + (32 + (i.val - 32))), hp⟩ : Fin 1536) = cQ h i := fun _ => Fin.ext (by unfold cQ; simp only; omega)
    have e3 : ∀ hp, (⟨h.val * 192 + (128 + (i.val - 32)), hp⟩ : Fin 1536) = cQ h (swp i) := fun _ => Fin.ext (by unfold cQ swp; simp only; omega)
    simp only [e2, e3, lin, rms]

theorem s142 (b : Fin 2) (j : Fin 8448) (h : Fin 8) (d : Fin 128) :
    (StableHlo.after (opsScore (F := Ideal)) V (Proc.devRef .tc main_v142) : FVec Ideal S2x8448x8x128 .f32) (ix4 b j h d) =
      (if hj : j.val < 8192 then (show FVec Ideal S2x8192x8x128 .f32 from V (Proc.devRef .tc main_v106)) (ix4 b ⟨j.val, hj⟩ h d)
       else (show FVec Ideal S2x256x8x128 .f32 from V (Proc.devRef .tc main_v71)) (ix4 b ⟨j.val - 8192, by omega⟩ h d) : EReal) := by
  after_reads_simp; pointwise []

theorem s149 (b : Fin 2) (h : Fin 8) (n : Fin 8192) (j : Fin 8448) :
    (StableHlo.after (opsScore (F := Ideal)) V (Proc.devRef .tc main_v149) : FVec Ideal S2x8x8192x8448 .f32) (ix4 b h n j) =
      ((∑ x, (show FVec Ideal S2x8192x8x128 .f32 from V (Proc.devRef .tc main_v123)) (ix4 b n h x) *
          (if hj : j.val < 8192 then (show FVec Ideal S2x8192x8x128 .f32 from V (Proc.devRef .tc main_v105)) (ix4 b ⟨j.val, hj⟩ h x)
           else (show FVec Ideal S2x256x8x128 .f32 from V (Proc.devRef .tc main_v70)) (ix4 b ⟨j.val - 8192, by omega⟩ h x))) +
        ∑ x, (if hj : j.val < 8192 then (show FVec Ideal S2x8192x64 .f32 from V (Proc.devRef .tc main_v102)) (ix3 b ⟨j.val, hj⟩ x)
           else (show FVec Ideal S2x256x64 .f32 from V (Proc.devRef .tc main_v67)) (ix3 b ⟨j.val - 8192, by omega⟩ x)) *
          (show FVec Ideal S2x8192x8x64 .f32 from V (Proc.devRef .tc main_v139)) (ix4 b n h x) : EReal) *
      Ideal.pow (Ideal.ofBits .f32 0x43400000#32) (Ideal.ofBits .f32 0xBF000000#32) := by
  after_reads_simp; pointwise []; after_reads_simp

theorem fin_max {s t u : Shape} {a : Fin s.rank} (x : FVec Ideal s .f32) (hx : ∀ i, Fin' (x i)) (h' : s.ReducesTo [a] t)
    (h : s.Reduces [a] t) (hp : 0 < s.size a) (init : FVec Ideal u .f32) (hi : ∀ i, init i = (⊥ : EReal)) (hu : 0 < u.numel)
    (c : FVec Ideal t .f32) (hc : ∀ i, c i = (⊥ : EReal)) (j : t.Idx) :
    Fin' (maximumf c (Host.reduce FloatOps.maximumf x init h' hu) j) := by
  have e : maximumf c (Host.reduce FloatOps.maximumf x init h' hu) j = max (c j : EReal) (Host.reduce FloatOps.maximumf x init h' hu j) := rfl
  choose y hy using hx
  rw [e, hc, Host.reduce_eq_fold_single _ _ _ h' h, hi]
  obtain ⟨r, hr⟩ := fold_max_bot Finset.univ ⟨⟨0, hp⟩, Finset.mem_univ _⟩ (fun k => y (h.lift j k))
  refine ⟨r, ?_⟩
  rw [← hr]
  refine (max_eq_right bot_le).trans ?_
  have e2 : (x ∘ h.lift j) = fun k => ((y (h.lift j k) : ℝ) : EReal) := funext fun k => hy _
  rw [e2]
  rfl

theorem o152 (hx : ∀ i, Fin' ((show FVec Ideal S2x8x8192x8448 .f32 from V (Proc.devRef .tc main_v149)) i)) (j : S2x8x8192.Idx) :
    Fin' ((StableHlo.after (opsMax (F := Ideal)) V (Proc.devRef .tc main_v152) : FVec Ideal S2x8x8192 .f32) j) := by
  after_reads_simp
  exact fin_max _ hx _ (by decide) (by decide) _ (fun _ => ofBits_negInf) _ _ (fun _ => ofBits_negInf) j

theorem o163 (b : Fin 2) (n : Fin 8192) (y : Fin 1024) :
    (StableHlo.after (opsAvg (F := Ideal)) V (Proc.devRef .tc main_v163) : FVec Ideal S2x8192x1024 .f32) (ix3 b n y) =
    (∑ j, (show FVec Ideal S2x8448x8x128 .f32 from V (Proc.devRef .tc main_v142)) (ix4 b j ⟨y.val / 128, by omega⟩ ⟨y.val % 128, by omega⟩) *
      Ideal.div (Ideal.exp ((show FVec Ideal S2x8x8192x8448 .f32 from V (Proc.devRef .tc main_v149)) (ix4 b ⟨y.val / 128, by omega⟩ n j) - (show FVec Ideal S2x8x8192 .f32 from V (Proc.devRef .tc main_v152)) (ix3 b ⟨y.val / 128, by omega⟩ n)))
       (∑ i, Ideal.exp ((show FVec Ideal S2x8x8192x8448 .f32 from V (Proc.devRef .tc main_v149)) (ix4 b ⟨y.val / 128, by omega⟩ n i) - (show FVec Ideal S2x8x8192 .f32 from V (Proc.devRef .tc main_v152)) (ix3 b ⟨y.val / 128, by omega⟩ n))) : EReal) := by
  after_reads_simp; pointwise []

end Cert.Mla.Ref

end
-- ==== Proof.RefVal.lean ====
/- The reference as one function of its arguments: the lists read one after another. -/
module

public import proofs.«01_k».proof.Proof.Score
public import proofs.«01_k».proof.Proof.RefReads

@[expose] public section

set_option maxRecDepth 16384

noncomputable section

open Idealize.ShloMosaic Idealize.ShloMosaic.TcCoe Idealize.SL.Sem

namespace Cert.Mla.Ref

open Args Cert.ReferenceIdeal Cert.ReferenceIdeal.Gen

variable (V : Valuation τ sig (Elt Ideal))

def U1 : Valuation τ sig (Elt Ideal) := StableHlo.after (opsMod (F := Ideal)) V
def U2 : Valuation τ sig (Elt Ideal) := StableHlo.after (opsTab (F := Ideal)) (U1 V)
def U3 : Valuation τ sig (Elt Ideal) := StableHlo.after (opsCtx (F := Ideal)) (U2 V)
def U4 : Valuation τ sig (Elt Ideal) := StableHlo.after (opsLat (F := Ideal)) (U3 V)
def U5 : Valuation τ sig (Elt Ideal) := StableHlo.after (opsQry (F := Ideal)) (U4 V)
def U6 : Valuation τ sig (Elt Ideal) := StableHlo.after (opsScore (F := Ideal)) (U5 V)
def U7 : Valuation τ sig (Elt Ideal) := StableHlo.after (opsMax (F := Ideal)) (U6 V)

theorem keep1 {b : Ref sig .tc} (h : b ∉ opsMod_W) : U1 V (Proc.devRef .tc b) = V (Proc.devRef .tc b) :=
  StableHlo.after_unwritten opsMod_W opsMod_writes h _

theorem keep2 {b : Ref sig .tc} (h : b ∉ opsTab_W) : U2 V (Proc.devRef .tc b) = U1 V (Proc.devRef .tc b) :=
  StableHlo.after_unwritten opsTab_W opsTab_writes h _

theorem keep3 {b : Ref sig .tc} (h : b ∉ opsCtx_W) : U3 V (Proc.devRef .tc b) = U2 V (Proc.devRef .tc b) :=
  StableHlo.after_unwritten opsCtx_W opsCtx_writes h _

theorem keep4 {b : Ref sig .tc} (h : b ∉ opsLat_W) : U4 V (Proc.devRef .tc b) = U3 V (Proc.devRef .tc b) :=
  StableHlo.after_unwritten opsLat_W opsLat_writes h _

theorem keep5 {b : Ref sig .tc} (h : b ∉ opsQry_W) : U5 V (Proc.devRef .tc b) = U4 V (Proc.devRef .tc b) :=
  StableHlo.after_unwritten opsQry_W opsQry_writes h _

theorem keep6 {b : Ref sig .tc} (h : b ∉ opsScore_W) : U6 V (Proc.devRef .tc b) = U5 V (Proc.devRef .tc b) :=
  StableHlo.after_unwritten opsScore_W opsScore_writes h _

theorem keep7 {b : Ref sig .tc} (h : b ∉ opsMax_W) : U7 V (Proc.devRef .tc b) = U6 V (Proc.devRef .tc b) :=
  StableHlo.after_unwritten opsMax_W opsMax_writes h _

theorem after_all : StableHlo.after (opsAll (F := Ideal)) V = StableHlo.after (opsAvg (F := Ideal)) (U7 V) := by
  simp only [opsAll, StableHlo.after_append]; rfl

/-- The arguments, and the rotation's tables. -/
def argsV : Args where
  X r e := (V (Proc.devRef .tc main_arg0) : FVec Ideal S16896x1024 .f32) (ix2 r e)
  M r j e := (V (Proc.devRef .tc main_arg1) : FVec Ideal S8x6x1024 .f32) (ix3 r j e)
  Wdq e k := (V (Proc.devRef .tc main_arg2) : FVec Ideal S1024x384 .f32) (ix2 e k)
  qg k := (V (Proc.devRef .tc main_arg3) : FVec Ideal S384 .f32) (ix1 k)
  Wuq e k := (V (Proc.devRef .tc main_arg4) : FVec Ideal S384x1536 .f32) (ix2 e k)
  Wdkv e k := (V (Proc.devRef .tc main_arg5) : FVec Ideal S1024x320 .f32) (ix2 e k)
  kg k := (V (Proc.devRef .tc main_arg6) : FVec Ideal S256 .f32) (ix1 k)
  Wukv e k := (V (Proc.devRef .tc main_arg7) : FVec Ideal S256x2048 .f32) (ix2 e k)
  C := tabC
  S := tabS

theorem loc_row (b : Fin 2) (l : Fin 8448) : loc (row b l) = l := Fin.ext (by unfold loc row; simp only; omega)

theorem mod_lat (b : Fin 2) (n : Fin 8192) : modRow (row b (lat n)) = ⟨b.val, by omega⟩ := by
  unfold modRow row lat
  rw [if_neg (by simp only; omega)]
  exact Fin.ext (by simp only; omega)

theorem mod_ctx (b : Fin 2) (n : Fin 256) : modRow (row b (ctx n)) = 2 := by
  unfold modRow row ctx
  rw [if_pos (by simp only; omega)]

theorem m_lat (b : Fin 2) (n : Fin 8192) :
    (fun e => (U1 V (Proc.devRef .tc main_v18) : FVec Ideal S2x8192x1024 .f32) (ix3 b n e)) = (argsV V).m (row b (lat n)) := by
  funext e
  unfold Args.m
  rw [mod_lat]
  exact m18 V b n e

theorem m_ctx (b : Fin 2) (n : Fin 256) :
    (fun e => (U1 V (Proc.devRef .tc main_v28) : FVec Ideal S2x256x1024 .f32) (ix3 b n e)) = (argsV V).m (row b (ctx n)) := by
  funext e
  unfold Args.m
  rw [mod_ctx]
  exact m28 V b n e

/-- The rotation by halves is the rotation by the signed table, at a latent's place. -/
theorem rot_lat (A : Fin 64 → EReal) (n : Fin 8192) (i : Fin 64) (c s : Fin 32 → EReal) (hc : ∀ f, c f = Ideal.cos (ang n f))
    (hs : ∀ f, s f = Ideal.sin (ang n f)) :
    (if h : i.val < 32 then A i * c ⟨i.val, h⟩ - A (swp i) * s ⟨i.val, h⟩
      else A i * c ⟨i.val - 32, by omega⟩ + A (swp i) * s ⟨i.val - 32, by omega⟩) = rot A (tabC (lat n)) (tabS (lat n)) i := by
  have hl : ¬ (lat n).val < 256 := by unfold lat; simp only; omega
  have hn : ∀ hp, (⟨(lat n).val - 256, hp⟩ : Fin 8192) = n := fun _ => Fin.ext (by unfold lat; simp only; omega)
  have hcT : ∀ f, cosT (lat n) f = c f := fun f => by unfold cosT; rw [dif_neg hl, hn, hc]
  have hsT : ∀ f, sinT (lat n) f = s f := fun f => by unfold sinT; rw [dif_neg hl, hn, hs]
  unfold rot tabC tabS
  split
  · rw [hcT, hsT, sub_eq_add_neg, mul_neg]
  · rw [hcT, hsT]

/-- At a context row's place nothing turns. -/
theorem rot_ctx (A : Fin 64 → EReal) (n : Fin 256) (i : Fin 64) : rot A (tabC (ctx n)) (tabS (ctx n)) i = A i := by
  have hl : (ctx n).val < 256 := n.isLt
  have hcT : ∀ f, cosT (ctx n) f = 1 := fun f => by unfold cosT; rw [dif_pos hl]
  have hsT : ∀ f, sinT (ctx n) f = 0 := fun f => by unfold sinT; rw [dif_pos hl]
  unfold rot tabC tabS
  split <;> simp only [hcT, hsT, mul_one, neg_zero, mul_zero, add_zero]

theorem arg5_2 : U2 V (Proc.devRef .tc main_arg5) = V (Proc.devRef .tc main_arg5) := (keep2 V (by decide)).trans (keep1 V (by decide))
theorem arg6_2 : U2 V (Proc.devRef .tc main_arg6) = V (Proc.devRef .tc main_arg6) := (keep2 V (by decide)).trans (keep1 V (by decide))
theorem arg7_2 : U2 V (Proc.devRef .tc main_arg7) = V (Proc.devRef .tc main_arg7) := (keep2 V (by decide)).trans (keep1 V (by decide))
theorem arg5_3 : U3 V (Proc.devRef .tc main_arg5) = V (Proc.devRef .tc main_arg5) := (keep3 V (by decide)).trans ((keep2 V (by decide)).trans (keep1 V (by decide)))
theorem arg6_3 : U3 V (Proc.devRef .tc main_arg6) = V (Proc.devRef .tc main_arg6) := (keep3 V (by decide)).trans ((keep2 V (by decide)).trans (keep1 V (by decide)))
theorem arg7_3 : U3 V (Proc.devRef .tc main_arg7) = V (Proc.devRef .tc main_arg7) := (keep3 V (by decide)).trans ((keep2 V (by decide)).trans (keep1 V (by decide)))
theorem arg2_4 : U4 V (Proc.devRef .tc main_arg2) = V (Proc.devRef .tc main_arg2) := (keep4 V (by decide)).trans ((keep3 V (by decide)).trans ((keep2 V (by decide)).trans (keep1 V (by decide))))
theorem arg3_4 : U4 V (Proc.devRef .tc main_arg3) = V (Proc.devRef .tc main_arg3) := (keep4 V (by decide)).trans ((keep3 V (by decide)).trans ((keep2 V (by decide)).trans (keep1 V (by decide))))
theorem arg4_4 : U4 V (Proc.devRef .tc main_arg4) = V (Proc.devRef .tc main_arg4) := (keep4 V (by decide)).trans ((keep3 V (by decide)).trans ((keep2 V (by decide)).trans (keep1 V (by decide))))
theorem v28_2 : U2 V (Proc.devRef .tc main_v28) = U1 V (Proc.devRef .tc main_v28) := keep2 V (by decide)
theorem v18_3 : U3 V (Proc.devRef .tc main_v18) = U1 V (Proc.devRef .tc main_v18) := (keep3 V (by decide)).trans (keep2 V (by decide))
theorem v18_4 : U4 V (Proc.devRef .tc main_v18) = U1 V (Proc.devRef .tc main_v18) := (keep4 V (by decide)).trans ((keep3 V (by decide)).trans (keep2 V (by decide)))
theorem v50_3 : U3 V (Proc.devRef .tc main_v50) = U2 V (Proc.devRef .tc main_v50) := keep3 V (by decide)
theorem v51_3 : U3 V (Proc.devRef .tc main_v51) = U2 V (Proc.devRef .tc main_v51) := keep3 V (by decide)
theorem v50_4 : U4 V (Proc.devRef .tc main_v50) = U2 V (Proc.devRef .tc main_v50) := (keep4 V (by decide)).trans (keep3 V (by decide))
theorem v51_4 : U4 V (Proc.devRef .tc main_v51) = U2 V (Proc.devRef .tc main_v51) := (keep4 V (by decide)).trans (keep3 V (by decide))
theorem v67_5 : U5 V (Proc.devRef .tc main_v67) = U3 V (Proc.devRef .tc main_v67) := (keep5 V (by decide)).trans (keep4 V (by decide))
theorem v70_5 : U5 V (Proc.devRef .tc main_v70) = U3 V (Proc.devRef .tc main_v70) := (keep5 V (by decide)).trans (keep4 V (by decide))
theorem v71_5 : U5 V (Proc.devRef .tc main_v71) = U3 V (Proc.devRef .tc main_v71) := (keep5 V (by decide)).trans (keep4 V (by decide))
theorem v102_5 : U5 V (Proc.devRef .tc main_v102) = U4 V (Proc.devRef .tc main_v102) := keep5 V (by decide)
theorem v105_5 : U5 V (Proc.devRef .tc main_v105) = U4 V (Proc.devRef .tc main_v105) := keep5 V (by decide)
theorem v106_5 : U5 V (Proc.devRef .tc main_v106) = U4 V (Proc.devRef .tc main_v106) := keep5 V (by decide)
theorem v142_7 : U7 V (Proc.devRef .tc main_v142) = U6 V (Proc.devRef .tc main_v142) := keep7 V (by decide)
theorem v149_7 : U7 V (Proc.devRef .tc main_v149) = U6 V (Proc.devRef .tc main_v149) := keep7 V (by decide)

theorem kr_ctx (b : Fin 2) (n : Fin 256) (i : Fin 64) :
    (U5 V (Proc.devRef .tc main_v67) : FVec Ideal S2x256x64 .f32) (ix3 b n i) = (argsV V).kr (row b (ctx n)) i := by
  rw [v67_5]
  refine (ckr (U2 V) b n i).trans ?_
  rw [arg5_2, v28_2, m_ctx]
  unfold Args.kr
  rw [loc_row]
  exact (rot_ctx _ n i).symm

theorem kn_ctx (b : Fin 2) (n : Fin 256) (h : Fin 8) (d : Fin 128) :
    (U5 V (Proc.devRef .tc main_v70) : FVec Ideal S2x256x8x128 .f32) (ix4 b n h d) = (argsV V).kn (row b (ctx n)) h d := by
  rw [v70_5]
  refine (ckn (U2 V) b n h d).trans ?_
  rw [arg5_2, arg6_2, arg7_2, v28_2, m_ctx]
  rfl

theorem v_ctx (b : Fin 2) (n : Fin 256) (h : Fin 8) (d : Fin 128) :
    (U5 V (Proc.devRef .tc main_v71) : FVec Ideal S2x256x8x128 .f32) (ix4 b n h d) = (argsV V).v (row b (ctx n)) h d := by
  rw [v71_5]
  refine (cv (U2 V) b n h d).trans ?_
  rw [arg5_2, arg6_2, arg7_2, v28_2, m_ctx]
  rfl

theorem kn_lat (b : Fin 2) (n : Fin 8192) (h : Fin 8) (d : Fin 128) :
    (U5 V (Proc.devRef .tc main_v105) : FVec Ideal S2x8192x8x128 .f32) (ix4 b n h d) = (argsV V).kn (row b (lat n)) h d := by
  rw [v105_5]
  refine (lkn (U3 V) b n h d).trans ?_
  rw [arg5_3, arg6_3, arg7_3, v18_3, m_lat]
  rfl

theorem v_lat (b : Fin 2) (n : Fin 8192) (h : Fin 8) (d : Fin 128) :
    (U5 V (Proc.devRef .tc main_v106) : FVec Ideal S2x8192x8x128 .f32) (ix4 b n h d) = (argsV V).v (row b (lat n)) h d := by
  rw [v106_5]
  refine (lv (U3 V) b n h d).trans ?_
  rw [arg5_3, arg6_3, arg7_3, v18_3, m_lat]
  rfl

theorem kr_lat (b : Fin 2) (n : Fin 8192) (i : Fin 64) :
    (U5 V (Proc.devRef .tc main_v102) : FVec Ideal S2x8192x64 .f32) (ix3 b n i) = (argsV V).kr (row b (lat n)) i := by
  rw [v102_5]
  refine (lkr (U3 V) b n i).trans ?_
  rw [arg5_3, v18_3, v50_3, v51_3, m_lat]
  unfold Args.kr
  rw [loc_row]
  exact rot_lat _ n i (fun f => (U2 V (Proc.devRef .tc main_v50) : FVec Ideal S8192x32 .f32) (ix2 n f))
    (fun f => (U2 V (Proc.devRef .tc main_v51) : FVec Ideal S8192x32 .f32) (ix2 n f)) (fun f => t50 (U1 V) n f) (fun f => t51 (U1 V) n f)

theorem qn_lat (b : Fin 2) (n : Fin 8192) (h : Fin 8) (d : Fin 128) :
    (U5 V (Proc.devRef .tc main_v123) : FVec Ideal S2x8192x8x128 .f32) (ix4 b n h d) = (argsV V).qn (row b (lat n)) h d := by
  refine (qqn (U4 V) b n h d).trans ?_
  rw [arg2_4, arg3_4, arg4_4, v18_4, m_lat]
  rfl

theorem qr_lat (b : Fin 2) (n : Fin 8192) (h : Fin 8) (i : Fin 64) :
    (U5 V (Proc.devRef .tc main_v139) : FVec Ideal S2x8192x8x64 .f32) (ix4 b n h i) = (argsV V).qr (row b (lat n)) h i := by
  refine (qqr (U4 V) b n h i).trans ?_
  rw [arg2_4, arg3_4, arg4_4, v18_4, v50_4, v51_4, m_lat]
  unfold Args.qr
  rw [loc_row]
  exact rot_lat (fun i => lin ((argsV V).cq (row b (lat n))) (argsV V).Wuq (cQ h i)) n i
    (fun f => (U2 V (Proc.devRef .tc main_v50) : FVec Ideal S8192x32 .f32) (ix2 n f))
    (fun f => (U2 V (Proc.devRef .tc main_v51) : FVec Ideal S8192x32 .f32) (ix2 n f)) (fun f => t50 (U1 V) n f) (fun f => t51 (U1 V) n f)

/-- The values, in the model's order of keys. -/
theorem val_at (b : Fin 2) (j : Fin 8448) (h : Fin 8) (d : Fin 128) :
    (U7 V (Proc.devRef .tc main_v142) : FVec Ideal S2x8448x8x128 .f32) (ix4 b j h d) = (argsV V).v (row b (plc j)) h d := by
  rw [v142_7]
  refine (s142 (U5 V) b j h d).trans ?_
  unfold plc
  split
  · exact v_lat V b _ h d
  · exact v_ctx V b _ h d

/-- The scale: 192 to the power of minus one half. -/
theorem scale_eq : Ideal.pow (Ideal.ofBits .f32 0x43400000#32) (Ideal.ofBits .f32 0xBF000000#32) = (((Real.sqrt 192)⁻¹ : ℝ) : EReal) := by
  have h1 : Ideal.ofBits .f32 0x43400000#32 = ((192 : ℝ) : EReal) := by
    simp [Ideal.ofBits, Ideal.ieee, -EReal.coe_mul]; norm_num
  have h2 : Ideal.ofBits .f32 0xBF000000#32 = ((-(1 / 2) : ℝ) : EReal) := by
    simp [Ideal.ofBits, Ideal.ieee, -EReal.coe_mul]; norm_num
  rw [h1, h2, Ideal.pow_coe_coe]
  congr 1
  show (192 : ℝ) ^ (-(1 / 2) : ℝ) = _
  rw [Real.rpow_neg (by norm_num), ← Real.sqrt_eq_rpow]

theorem key_at (b : Fin 2) (j : Fin 8448) (h : Fin 8) (x : Fin 128) :
    (if hj : j.val < 8192 then (U5 V (Proc.devRef .tc main_v105) : FVec Ideal S2x8192x8x128 .f32) (ix4 b ⟨j.val, hj⟩ h x)
      else (U5 V (Proc.devRef .tc main_v70) : FVec Ideal S2x256x8x128 .f32) (ix4 b ⟨j.val - 8192, by omega⟩ h x) : EReal)
      = (argsV V).kn (row b (plc j)) h x := by
  unfold plc
  split
  · exact kn_lat V b _ h x
  · exact kn_ctx V b _ h x

theorem rotkey_at (b : Fin 2) (j : Fin 8448) (x : Fin 64) :
    (if hj : j.val < 8192 then (U5 V (Proc.devRef .tc main_v102) : FVec Ideal S2x8192x64 .f32) (ix3 b ⟨j.val, hj⟩ x)
      else (U5 V (Proc.devRef .tc main_v67) : FVec Ideal S2x256x64 .f32) (ix3 b ⟨j.val - 8192, by omega⟩ x) : EReal)
      = (argsV V).kr (row b (plc j)) x := by
  unfold plc
  split
  · exact kr_lat V b _ x
  · exact kr_ctx V b _ x

theorem comb {q k q' k' : Fin 128 → EReal} {r s r' s' : Fin 64 → EReal} {t t' : EReal} (hq : ∀ x, q x = q' x) (hk : ∀ x, k x = k' x)
    (hr : ∀ x, r x = r' x) (hs : ∀ x, s x = s' x) (ht : t = t') :
    ((∑ x, q x * k x) + ∑ x, r x * s x) * t = ((∑ x, k' x * q' x) + ∑ x, r' x * s' x) * t' := by
  simp only [hq, hk, hr, hs, ht, mul_comm (q' _)]

theorem score_at (H : FinA (argsV V)) (b : Fin 2) (h : Fin 8) (n : Fin 8192) (j : Fin 8448) :
    (U6 V (Proc.devRef .tc main_v149) : FVec Ideal S2x8x8192x8448 .f32) (ix4 b h n j) = ((xs (argsV V) b h n (plc j) : ℝ) : EReal) := by
  have e := score_real H b h n (plc j)
  unfold xs
  rw [EReal.coe_mul, ← e]
  exact (s149 (U5 V) b h n j).trans (comb (fun x => qn_lat V b n h x) (fun x => key_at V b j h x) (fun x => rotkey_at V b j x)
    (fun x => qr_lat V b n h x) scale_eq)

theorem avg_comb {v v' e : Fin 8448 → EReal} {x : Fin 8448 → ℝ} {M' : EReal} {M : ℝ} (hM : M' = (M : EReal)) (hv : ∀ j, v j = v' j)
    (he : ∀ j, e j = ((x j : ℝ) : EReal)) :
    ∑ j, v j * Ideal.div (Ideal.exp (e j - M')) (∑ i, Ideal.exp (e i - M')) = ∑ j, v' j * ((weight x j : ℝ) : EReal) := by
  simp only [hM, hv, he]
  exact softmax_avg x v' M

theorem max_at (H : FinA (argsV V)) (i : S2x8x8192.Idx) : Fin' ((U7 V (Proc.devRef .tc main_v152) : FVec Ideal S2x8x8192 .f32) i) :=
  o152 (U6 V) (fun i => by
    rw [eq_ix4 i]
    exact ⟨_, score_at V H _ _ _ _⟩) i

/-- The reference's result: the attended heads, side by side. -/
theorem out (H : FinA (argsV V)) (b : Fin 2) (n : Fin 8192) (y : Fin 1024) :
    (StableHlo.after (opsAll (F := Ideal)) V (Proc.devRef .tc main_v163) : FVec Ideal S2x8192x1024 .f32) (ix3 b n y) =
      attended (argsV V) b n ⟨y.val / 128, by omega⟩ ⟨y.val % 128, by omega⟩ := by
  rw [after_all]
  obtain ⟨M, hM⟩ := max_at V H (ix3 b ⟨y.val / 128, by omega⟩ n)
  refine (o163 (U7 V) b n y).trans ((avg_comb hM (fun j => val_at V b j _ _) fun j =>
    (congrFun (v149_7 V) _).trans (score_at V H b _ n j)).trans ?_)
  exact avg_plc (xs (argsV V) b ⟨y.val / 128, by omega⟩ n) (fun l => (argsV V).v (row b l) ⟨y.val / 128, by omega⟩ ⟨y.val % 128, by omega⟩)

end Cert.Mla.Ref

end
-- ==== Proof.PreFin.lean ====
/- The precondition, read: every argument entry the scores are made of is a real number. -/
module

public import proofs.«01_k».proof.Pre_finite
public import proofs.«01_k».proof.Proof.Spec
public import Idealize.ShloMosaic.Lib.ReduceAll
public import Idealize.ShloMosaic.Lib.Affine
public import Idealize.ShloMosaic.Lib.Pointwise

@[expose] public section

set_option maxRecDepth 16384

noncomputable section

open Idealize.ShloMosaic Idealize.ShloMosaic.TcCoe Idealize.SL.Sem

namespace Cert.Mla.Pre

open Cert.Pre_finite

/-- The side conditions the precondition states. -/
theorem facts : Cert.Pre_finite.Facts := by constructor <;> decide

theorem fin_of (x : EReal) (h : max x (-x) < ⊤) : Fin' x := by
  have h1 : x < ⊤ := lt_of_le_of_lt (le_max_left _ _) h
  have h2 : -x < ⊤ := lt_of_le_of_lt (le_max_right _ _) h
  induction x using EReal.rec with
  | bot => simp at h2
  | coe r => exact ⟨r, rfl⟩
  | top => simp at h1

theorem top_eq : Ideal.ofBits .f32 0x7F800000#32 = (⊤ : EReal) := by simp [Ideal.ofBits, Ideal.ieee]

theorem lt_of_cmp (x y : EReal) (h : Ideal.cmp .olt x y = 1#1) : x < y := by
  unfold Ideal.cmp at h
  by_contra hn
  simp [hn] at h

/-- An array whose absolute values are all below infinity is finite. -/
theorem all_fin {s t u : Shape} {axes : List (Fin s.rank)} [Subsingleton t.Idx] (x : FVec Ideal s .f32)
    (hb : S_.BroadcastsInDim s (![] : Fin 0 → Fin s.rank)) (init : u.Idx → BitVec 1) (h : s.ReducesTo axes t) (hu : 0 < u.numel) (j : t.Idx)
    (e : Host.reduce IntOp.andi (cmpf .olt (Host.absf x) (broadcastInDim s ![] hb (constant S_ .f32 0x7F800000#32))) init h hu j = 1#1)
    (i : s.Idx) : Fin' (x i) := by
  have e1 := Host.reduce_andi_all _ init h hu j e i
  have e2 : Ideal.cmp .olt (max (x i : EReal) (-(x i))) (Ideal.ofBits .f32 0x7F800000#32) = 1#1 := e1
  rw [top_eq] at e2
  exact fin_of _ (lt_of_cmp _ _ e2)

instance : Subsingleton S_.Idx := ⟨fun a b => funext fun i => i.elim0⟩

theorem and_left {a b : IVec S_ 1} {j : S_.Idx} (h : andi a b j = 1#1) : a j = 1#1 := (IntOp.andi_eq_one.1 h).1
theorem and_right {a b : IVec S_ 1} {j : S_.Idx} (h : andi a b j = 1#1) : b j = 1#1 := (IntOp.andi_eq_one.1 h).2

theorem decode [Cert.Pre_finite.Facts] (a0 : FVec Ideal S16896x1024 .f32) (a1 : FVec Ideal S8x6x1024 .f32) (a2 : FVec Ideal S1024x384 .f32)
    (a3 : FVec Ideal S384 .f32) (a4 : FVec Ideal S384x1536 .f32) (a5 : FVec Ideal S1024x320 .f32) (a6 : FVec Ideal S256 .f32)
    (a7 : FVec Ideal S256x2048 .f32) (H : fn a0 a1 a2 a3 a4 a5 a6 a7 = fun _ => 1#1) :
    (∀ i, Fin' (a0 i)) ∧ (∀ i j e, i.val < 3 → j.val < 2 → Fin' (a1 (ix3 i j e))) ∧ (∀ i, Fin' (a2 i)) ∧ (∀ i, Fin' (a3 i)) ∧
      (∀ i, Fin' (a4 i)) ∧ (∀ i, Fin' (a5 i)) ∧ (∀ i, Fin' (a6 i)) ∧
      ∀ k (h : Fin 8) (d : Fin 128), Fin' (a7 (ix2 k ⟨h.val * 256 + d.val, by omega⟩)) := by
  have h := congrFun H ix0
  dsimp only [fn, fn_part1, fn_part2] at h
  have e7 := all_fin _ _ _ _ _ _ (and_right h); replace h := and_left h
  have e6 := all_fin _ _ _ _ _ _ (and_right h); replace h := and_left h
  have e5 := all_fin _ _ _ _ _ _ (and_right h); replace h := and_left h
  have e4 := all_fin _ _ _ _ _ _ (and_right h); replace h := and_left h
  have e3 := all_fin _ _ _ _ _ _ (and_right h); replace h := and_left h
  have e2 := all_fin _ _ _ _ _ _ (and_right h); replace h := and_left h
  have e1 := all_fin _ _ _ _ _ _ (and_right h)
  have e0 := all_fin _ _ _ _ _ _ (and_left h)
  refine ⟨e0, fun i j e hi hj => ?_, e2, e3, e4, e5, e6, fun k h d => ?_⟩
  · have := e1 (ix3 ⟨i.val, hi⟩ ⟨j.val, hj⟩ e)
    pointwise [] at this
    exact this
  · have := e7 (ix3 k h d)
    pointwise [] at this
    exact this

end Cert.Mla.Pre

end
-- ==== Proof.Norm.lean ====
/- The rest of a layer after its mixer, in closed form: the residual with its norm, and the channel mixer's modulated input. -/
module

public import Idealize.ShloMosaic.Lib.Pointwise

@[expose] public section

noncomputable section

open Idealize.ShloMosaic

namespace Cert.Mla.Norm

/-- The width of a row, the norm's small addend, and the weight of the residual, as the programs hold them. -/
def width : EReal := Ideal.ofBits FTy.f32 1149239296#32
def eps : EReal := Ideal.ofBits FTy.f32 925353388#32
def keep : EReal := Ideal.ofBits FTy.f32 1068827891#32

def mean (x : Fin 1024 → EReal) : EReal := Ideal.div (∑ k, x k) width

/-- The norm of a row. -/
def lnorm (x g b : Fin 1024 → EReal) (e : Fin 1024) : EReal :=
  (x e - mean x) * Ideal.rsqrt (mean (fun k => (x k - mean x) * (x k - mean x)) + eps) * g e + b e

/-- A row times a matrix. -/
def times (z : Fin 1024 → EReal) (w : Fin 1024 → Fin 1024 → EReal) (e : Fin 1024) : EReal := ∑ k, z k * w k e

/-- The residual: `h` the layer's input row, `M` its modulation, `o` the mixer's output row. -/
def resid (h : Fin 1024 → EReal) (M : Fin 6 → Fin 1024 → EReal) (o g b : Fin 1024 → EReal) (e : Fin 1024) : EReal :=
  lnorm (fun k => keep * h k + M 2 k * o k) g b e

/-- The channel mixer's input row. -/
def next (h : Fin 1024 → EReal) (M : Fin 6 → Fin 1024 → EReal) (o g b : Fin 1024 → EReal) (e : Fin 1024) : EReal :=
  resid h M o g b e * (1 + M 4 e) + M 3 e

/-- The activation's two constants, as the programs hold them. -/
def half : EReal := Ideal.ofBits FTy.f32 0x3F000000#32
def root : EReal := Ideal.ofBits FTy.f32 0x3F3504F3#32

/-- The activation. -/
def act (x : EReal) : EReal := half * x * (1 + Ideal.erf (x * root))

/-- The state space mixer's row before its gate: `y` and `y'` the readouts of its two directions, `d` its skip weights. -/
def pre (h : Fin 1024 → EReal) (M : Fin 6 → Fin 1024 → EReal) (y y' d : Fin 1024 → EReal) (e : Fin 1024) : EReal :=
  y e + y' e + d e * (h e * (1 + M 1 e) + M 0 e)

/-- The gate over a row. -/
def gate (x : Fin 1024 → EReal) (w : Fin 1024 → Fin 1024 → EReal) (e : Fin 1024) : EReal :=
  act (x e) * Ideal.logistic (times (fun k => act (x k)) w e)

/-- The state space mixer's output row. -/
def mixed (h : Fin 1024 → EReal) (M : Fin 6 → Fin 1024 → EReal) (y y' d : Fin 1024 → EReal) (wg wo : Fin 1024 → Fin 1024 → EReal) : Fin 1024 → EReal :=
  times (gate (pre h M y y' d) wg) wo

/-- The modulation's row that a row of the inputs takes: the context's own for the first tile of each half. -/
def row (R : Fin 16896) : Fin 8 := ⟨if R.val % 8448 < 256 then 2 else R.val / 8448, by split <;> omega⟩

end Cert.Mla.Norm

end
-- ==== Proof.MixPay.lean ====
/- The residual step after the attention: one program point of the kernel. -/
module

public import proofs.«01_k».proof.Proof.Norm
public import proofs.«01_k».proof.Proof.Gen.MixedIdeal.Value
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.Mix

open Norm Cert.MixedIdeal Cert.MixedIdeal.Gen

theorem pay2_at (h z : FVec Ideal S256x1024 .f32) (w : FVec Ideal S1024x1024 .bf16) (gt : FVec Ideal S1x1x1024 .f32) (lg lb : FVec Ideal S1x1024 .f32)
    (r : Fin 256) (e : Fin 1024) : k0_pay2 (F := Ideal) h z w gt lg lb (ix2 r e) =
      lnorm (fun k => keep * h (ix2 r k) + gt (ix3 0 0 k) * times (fun j => z (ix2 r j)) (fun j k => w (ix2 j k)) k)
        (fun k => lg (ix2 0 k)) (fun k => lb (ix2 0 k)) e := by
  unfold k0_pay2
  pointwise []
  rfl

theorem pay1_at (y : FVec Ideal S256x1024 .f32) (s t : FVec Ideal S1x1x1024 .f32)
    (r : Fin 256) (e : Fin 1024) : k0_pay1 (F := Ideal) y s t (ix2 r e) = y (ix2 r e) * (1 + s (ix3 0 0 e)) + t (ix3 0 0 e) := by
  unfold k0_pay1
  pointwise []

theorem out6_at (h z : FVec Ideal S256x1024 .f32) (M : FVec Ideal S1x6x1024 .f32) (w : FVec Ideal S1024x1024 .bf16) (lg lb : FVec Ideal S1x1024 .f32)
    (r : Fin 256) (e : Fin 1024) : out0_6 (F := Ideal) h z M w lg lb (ix2 r e) =
      resid (fun k => h (ix2 r k)) (fun j k => M (ix3 0 j k)) (times (fun j => z (ix2 r j)) (fun j k => w (ix2 j k)))
        (fun k => lg (ix2 0 k)) (fun k => lb (ix2 0 k)) e := by
  unfold resid
  frame_out
  unfold k0_pay3
  pointwise [pay2_at]

theorem out7_at (h z : FVec Ideal S256x1024 .f32) (M : FVec Ideal S1x6x1024 .f32) (w : FVec Ideal S1024x1024 .bf16) (lg lb : FVec Ideal S1x1024 .f32)
    (r : Fin 256) (e : Fin 1024) : out0_7 (F := Ideal) h z M w lg lb (ix2 r e) =
      next (fun k => h (ix2 r k)) (fun j k => M (ix3 0 j k)) (times (fun j => z (ix2 r j)) (fun j k => w (ix2 j k)))
        (fun k => lg (ix2 0 k)) (fun k => lb (ix2 0 k)) e := by
  unfold next resid
  frame_out
  unfold k0_pay3
  pointwise [pay1_at, pay2_at]

theorem gather_at (x : FVec Ideal S8x6x1024 .f32) (idx : IVec S64x1 32) (t : Fin 64) (j : Fin 6) (e : Fin 1024) (b : Fin 8)
    (hb : min (idx (ix2 t 0)).toInt.toNat 7 = b.val) :
    Host.gather gather_S8x6x1024_S64x1_S64x6x1024_12_0_n_n_0_1_161024 x idx (ix3 t j e) = x (ix3 b j e) := by
  unfold Host.gather
  refine congrArg x (funext fun a => Fin.ext ?_)
  match a with
  | ⟨0, _⟩ =>
    refine Eq.trans ?_ hb
    have hsi : gather_S8x6x1024_S64x1_S64x6x1024_12_0_n_n_0_1_161024.siIdx (ix3 t j e) ⟨0, by decide⟩ = ix2 t 0 := by
      funext b; refine Fin.ext ?_
      match b with
      | ⟨0, _⟩ => rfl
      | ⟨1, _⟩ => rfl
    rw [← hsi]
    rfl
  | ⟨1, _⟩ =>
    simp [GatherDims.operandIdx, GatherDims.start, GatherDims.batchCoord, GatherDims.offCoord]
    rw [dif_neg (by decide), dif_neg (by decide), if_pos (by decide)]
    rw [Nat.zero_add]
  | ⟨2, _⟩ =>
    simp [GatherDims.operandIdx, GatherDims.start, GatherDims.batchCoord, GatherDims.offCoord]
    rw [dif_neg (by decide), dif_neg (by decide), if_pos (by decide)]
    rw [Nat.zero_add]

theorem lit_row : ∀ t : Fin 64, min (lit0 t).toInt.toNat 7 = t.val / 32 := by decide +kernel

section
variable (V : Valuation τ sig (Elt Ideal))

theorem a1 (r : Fin 16384) (k : Fin 1024) : (StableHlo.after (hostOps0 (F := Ideal)) V (Proc.devRef .tc main_v0) : FVec Ideal S16384x1024 .f32) (ix2 r k)
    = (V (Proc.devRef .tc main_arg1) : FVec Ideal S2x8192x1024 .f32) (ix3 ⟨r.val / 8192, by omega⟩ ⟨r.val % 8192, by omega⟩ k) := by
  after_reads_simp; pointwise []

theorem a2 (t : Fin 64) (j : Fin 6) (e : Fin 1024) : (StableHlo.after (hostOps0 (F := Ideal)) V (Proc.devRef .tc main_v5) : FVec Ideal S64x6x1024 .f32) (ix3 t j e)
    = (V (Proc.devRef .tc main_arg2) : FVec Ideal S8x6x1024 .f32) (ix3 ⟨t.val / 32, by omega⟩ j e) := by
  after_reads_simp
  refine (gather_at _ _ t j e ⟨t.val / 32, by omega⟩ ?_)
  refine Eq.trans ?_ (lit_row t)
  pointwise []
  rw [show S64.rowMajor (ix1 t) = t from Fin.ext ((by decide +kernel : ∀ t : Fin 64, (S64.rowMajor (ix1 t)).val = t.val) t)]

theorem a3 (j k : Fin 1024) : (StableHlo.after (hostOps0 (F := Ideal)) V (Proc.devRef .tc main_v6) : FVec Ideal S1024x1024 .bf16) (ix2 j k)
    = (V (Proc.devRef .tc main_arg3) : FVec Ideal S1024x1024 .f32) (ix2 j k) := by
  after_reads_simp; pointwise []

theorem a4 (k : Fin 1024) : (StableHlo.after (hostOps0 (F := Ideal)) V (Proc.devRef .tc main_v7) : FVec Ideal S1x1024 .f32) (ix2 0 k)
    = (V (Proc.devRef .tc main_arg4) : FVec Ideal S1024 .f32) (ix1 k) := by
  after_reads_simp; pointwise []
  all_goals blk_ext

theorem a5 (k : Fin 1024) : (StableHlo.after (hostOps0 (F := Ideal)) V (Proc.devRef .tc main_v8) : FVec Ideal S1x1024 .f32) (ix2 0 k)
    = (V (Proc.devRef .tc main_arg5) : FVec Ideal S1024 .f32) (ix1 k) := by
  after_reads_simp; pointwise []
  all_goals blk_ext

end

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![t.val, 0, 0] ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, _)

section
variable (t : Fin cfg0.N) (r : Fin 256) (R : Fin 16384) (hR : R.val = t.val * 256 + r.val) (k : Fin 1024)
include hR

theorem b0 : (iblk m c 0 t : FVec Ideal S256x1024 .f32) (ix2 r k) = (m ((c : Thread nD τ).loc main_arg0) : FVec Ideal S16384x1024 .f32) (ix2 R k) := by
  obtain ⟨e, -⟩ := idx t
  refine Eq.trans ?_ (congrFun (V_main_arg0 m c) (ix2 R k))
  blk_ext [iblk, e]

theorem b1 : (iblk m c 1 t : FVec Ideal S256x1024 .f32) (ix2 r k) =
    (m ((c : Thread nD τ).loc main_arg1) : FVec Ideal S2x8192x1024 .f32) (ix3 ⟨R.val / 8192, by omega⟩ ⟨R.val % 8192, by omega⟩ k) := by
  obtain ⟨-, e, -⟩ := idx t
  refine Eq.trans ?_ (a1 (fun b => m (c, b)) R k)
  blk_ext [iblk, e]

theorem b2 (j : Fin 6) : (iblk m c 2 t : FVec Ideal S1x6x1024 .f32) (ix3 0 j k) =
    (m ((c : Thread nD τ).loc main_arg2) : FVec Ideal S8x6x1024 .f32) (ix3 ⟨R.val / 8192, by omega⟩ j k) := by
  obtain ⟨-, -, e, -⟩ := idx t
  have ht : t.val < 64 := t.isLt
  have hq : (⟨R.val / 8192, by omega⟩ : Fin 8) = ⟨t.val / 32, by omega⟩ := Fin.ext (by simp only; omega)
  rw [hq]
  refine Eq.trans ?_ (a2 (fun b => m (c, b)) ⟨t.val, ht⟩ j k)
  blk_ext [iblk, e]

end

theorem b3 (t : Fin cfg0.N) (j k : Fin 1024) : (iblk m c 3 t : FVec Ideal S1024x1024 .bf16) (ix2 j k) =
    (m ((c : Thread nD τ).loc main_arg3) : FVec Ideal S1024x1024 .f32) (ix2 j k) := by
  obtain ⟨-, -, -, e, -⟩ := idx t
  refine Eq.trans ?_ (a3 (fun b => m (c, b)) j k)
  blk_ext [iblk, e]

theorem b4 (t : Fin cfg0.N) (k : Fin 1024) : (iblk m c 4 t : FVec Ideal S1x1024 .f32) (ix2 0 k) =
    (m ((c : Thread nD τ).loc main_arg4) : FVec Ideal S1024 .f32) (ix1 k) := by
  obtain ⟨-, -, -, -, e, -⟩ := idx t
  refine Eq.trans ?_ (a4 (fun b => m (c, b)) k)
  blk_ext [iblk, e]

theorem b5 (t : Fin cfg0.N) (k : Fin 1024) : (iblk m c 5 t : FVec Ideal S1x1024 .f32) (ix2 0 k) =
    (m ((c : Thread nD τ).loc main_arg5) : FVec Ideal S1024 .f32) (ix1 k) := by
  obtain ⟨-, -, -, -, -, e, -⟩ := idx t
  refine Eq.trans ?_ (a5 (fun b => m (c, b)) k)
  blk_ext [iblk, e]

end Cert.Mla.Mix

end
-- ==== Proof.MixRef.lean ====
/- The residual step after the attention, as the reference has it. -/
module

public import proofs.«01_k».proof.Proof.Norm
public import proofs.«01_k».proof.Proof.Gen.MixedRefIdeal.Read

@[expose] public section

set_option maxRecDepth 16384
noncomputable section

open Idealize.ShloMosaic Idealize.ShloMosaic.TcCoe Idealize.SL.Sem

namespace Cert.Mla.MixRef

open Norm Cert.MixedRefIdeal Cert.MixedRefIdeal.Gen Cert.MixedRefIdeal.Read

variable (h : FVec Ideal S16384x1024 .f32) (z : FVec Ideal S2x8192x1024 .f32) (M : FVec Ideal S8x6x1024 .f32) (w : FVec Ideal S1024x1024 .f32)
  (g b : FVec Ideal S1024 .f32)

theorem v11_at (q : Fin 2) (n : Fin 8192) (e : Fin 1024) : val_main_v11 (F := Ideal) h z M w (ix3 q n e) =
    keep * h (ix2 ⟨q.val * 8192 + n.val, by omega⟩ e) + M (ix3 ⟨q.val, by omega⟩ 2 e) * times (fun j => z (ix3 q n j)) (fun j k => w (ix2 j k)) e := by
  unfold val_main_v11 val_main_v10 val_main_v9 val_main_v8 val_main_v7 val_main_v6 val_main_v5 val_main_v4 val_main_v3 val_main_v2 val_main_v1 val_main_v0 val_main_cst
  pointwise []
  rfl

theorem v35_at (q : Fin 2) (n : Fin 8192) (e : Fin 1024) : val_main_v35 (F := Ideal) h z M w g b (ix3 q n e) =
    lnorm (fun k => val_main_v11 (F := Ideal) h z M w (ix3 q n k)) (fun k => g (ix1 k)) (fun k => b (ix1 k)) e := by
  unfold val_main_v35 val_main_v34 val_main_v33 val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v15 val_main_v14 val_main_v13 val_main_v12
    val_main_cst_0 val_main_cst_1 val_main_cst_2 val_main_cst_3 val_main_cst_4
  pointwise []
  rfl

/-- The residual's row. -/
def H (r : Fin 16384) : Fin 1024 → EReal :=
  resid (fun k => h (ix2 r k)) (fun j k => M (ix3 ⟨r.val / 8192, by omega⟩ j k))
    (times (fun j => z (ix3 ⟨r.val / 8192, by omega⟩ ⟨r.val % 8192, by omega⟩ j)) (fun j k => w (ix2 j k))) (fun k => g (ix1 k)) (fun k => b (ix1 k))

/-- The channel mixer's input row. -/
def T (r : Fin 16384) : Fin 1024 → EReal :=
  next (fun k => h (ix2 r k)) (fun j k => M (ix3 ⟨r.val / 8192, by omega⟩ j k))
    (times (fun j => z (ix3 ⟨r.val / 8192, by omega⟩ ⟨r.val % 8192, by omega⟩ j)) (fun j k => w (ix2 j k))) (fun k => g (ix1 k)) (fun k => b (ix1 k))

theorem v35_row (r : Fin 16384) (e : Fin 1024) :
    val_main_v35 (F := Ideal) h z M w g b (ix3 ⟨r.val / 8192, by omega⟩ ⟨r.val % 8192, by omega⟩ e) = H h z M w g b r e := by
  rw [v35_at]
  unfold H resid
  congr 1
  funext k
  rw [v11_at]
  have hr : (⟨r.val / 8192 * 8192 + r.val % 8192, by omega⟩ : Fin 16384) = r := Fin.ext (by simp only; omega)
  simp only [hr]

theorem v36_eq : val_main_v36 (F := Ideal) h z M w g b = fun i => H h z M w g b (i 0) (i 1) := by
  refine funext fun i => ?_
  rw [eq_ix2 (n0 := 16384) (n1 := 1024) i]
  refine Eq.trans ?_ (v35_row h z M w g b (i 0) (i 1))
  unfold val_main_v36
  generalize val_main_v35 (F := Ideal) h z M w g b = y
  pointwise []

theorem v46_at (q : Fin 2) (n : Fin 8192) (e : Fin 1024) : val_main_v46 (F := Ideal) h z M w g b (ix3 q n e) =
    val_main_v35 (F := Ideal) h z M w g b (ix3 q n e) * (1 + M (ix3 ⟨q.val, by omega⟩ 4 e)) + M (ix3 ⟨q.val, by omega⟩ 3 e) := by
  unfold val_main_v46 val_main_v45 val_main_v44 val_main_v43 val_main_v42 val_main_v41 val_main_v40 val_main_v39 val_main_v38 val_main_v37 val_main_cst_5 val_main_v3 val_main_v2 val_main_v1
  generalize val_main_v35 (F := Ideal) h z M w g b = y
  pointwise []

theorem v47_eq : val_main_v47 (F := Ideal) h z M w g b = fun i => T h z M w g b (i 0) (i 1) := by
  refine funext fun i => ?_
  rw [eq_ix2 (n0 := 16384) (n1 := 1024) i]
  refine Eq.trans ?_ ((v46_at h z M w g b ⟨(i 0).val / 8192, by have := (i 0).isLt; simp at this; omega⟩ ⟨(i 0).val % 8192, by omega⟩ (i 1)).trans ?_)
  · unfold val_main_v47
    generalize val_main_v46 (F := Ideal) h z M w g b = y
    pointwise []
  · exact congrArg (fun s => s * _ + _) (v35_row h z M w g b (i 0) (i 1))

end Cert.Mla.MixRef

end
-- ==== Proof.MixVal.lean ====
/- The residual step after the attention: the kernel's two arrays are the reference's, and the claims about the two programs. -/
module

public import proofs.«01_k».proof.Defs
public import proofs.«01_k».proof.Proof.MixPay
public import proofs.«01_k».proof.Proof.MixRef
public import proofs.«01_k».proof.Proof.Gen.Mixed
public import proofs.«01_k».proof.Proof.Gen.Mixed.Frame
public import proofs.«01_k».proof.Proof.Gen.MixedIdeal
public import proofs.«01_k».proof.Proof.Gen.MixedRefIdeal
public import Idealize.ShloMosaic.Lib.Claim
public import Idealize.ShloMosaic.Adequacy
public import Idealize.ShloMosaic.Init

@[expose] public section

set_option maxRecDepth 16384
noncomputable section

open Idealize.ShloMosaic Idealize.ShloMosaic.TcCoe Idealize.SL.Sem
open Idealize.ShloMosaic.Pipeline (Dat)

namespace Cert.Mla.Mix

open Norm Cert.MixedIdeal Cert.MixedIdeal.Gen

variable (m : (ℓ : Loc nD τ sig) → Buf (Elt Ideal) ℓ) (c : Dev nD)

abbrev arg0 : FVec Ideal S16384x1024 .f32 := m ((c : Thread nD τ).loc main_arg0)
abbrev arg1 : FVec Ideal S2x8192x1024 .f32 := m ((c : Thread nD τ).loc main_arg1)
abbrev arg2 : FVec Ideal S8x6x1024 .f32 := m ((c : Thread nD τ).loc main_arg2)
abbrev arg3 : FVec Ideal S1024x1024 .f32 := m ((c : Thread nD τ).loc main_arg3)
abbrev arg4 : FVec Ideal S1024 .f32 := m ((c : Thread nD τ).loc main_arg4)
abbrev arg5 : FVec Ideal S1024 .f32 := m ((c : Thread nD τ).loc main_arg5)

theorem point6 (t : Fin cfg0.N) (r : Fin 256) (e : Fin 1024) (R : Fin 16384) (hR : R.val = t.val * 256 + r.val) :
    out0_6 (F := Ideal) (iblk m c 0 t) (iblk m c 1 t) (iblk m c 2 t) (iblk m c 3 t) (iblk m c 4 t) (iblk m c 5 t) (ix2 r e) =
      MixRef.H (arg0 m c) (arg1 m c) (arg2 m c) (arg3 m c) (arg4 m c) (arg5 m c) R e := by
  refine (out6_at _ _ _ _ _ _ r e).trans ?_
  unfold MixRef.H
  rw [funext (b0 m c t r R hR), funext (b1 m c t r R hR), funext fun j => funext fun k => b2 m c t r R hR k j,
    funext fun j => funext fun k => b3 m c t j k, funext (b4 m c t), funext (b5 m c t)]

theorem point7 (t : Fin cfg0.N) (r : Fin 256) (e : Fin 1024) (R : Fin 16384) (hR : R.val = t.val * 256 + r.val) :
    out0_7 (F := Ideal) (iblk m c 0 t) (iblk m c 1 t) (iblk m c 2 t) (iblk m c 3 t) (iblk m c 4 t) (iblk m c 5 t) (ix2 r e) =
      MixRef.T (arg0 m c) (arg1 m c) (arg2 m c) (arg3 m c) (arg4 m c) (arg5 m c) R e := by
  refine (out7_at _ _ _ _ _ _ r e).trans ?_
  unfold MixRef.T
  rw [funext (b0 m c t r R hR), funext (b1 m c t r R hR), funext fun j => funext fun k => b2 m c t r R hR k j,
    funext fun j => funext fun k => b3 m c t j k, funext (b4 m c t), funext (b5 m c t)]

theorem congr2 {a b : ℕ} (f : Fin a → Fin b → EReal) {i i' : Fin a} {j j' : Fin b} (hi : i.val = i'.val) (hj : j.val = j'.val) : f i j = f i' j' := by
  rw [Fin.ext hi, Fin.ext hj]

theorem final6 : (dats m 0 c).arrAt 6 cfg0.N = fun i : S16384x1024.Idx =>
    MixRef.H (arg0 m c) (arg1 m c) (arg2 m c) (arg3 m c) (arg4 m c) (arg5 m c) (i 0) (i 1) := by
  refine (dats m 0 c).arrAt_eq_of_covers 6 _ (by decide +kernel) fun t _ y => ?_
  blk_simp
  rw [after0_6]
  have ht : t.val < 64 := t.isLt
  obtain ⟨-, -, -, -, -, -, e, -⟩ := idx t
  have hy0 : (y 0).val < 256 := (y 0).isLt
  have hy1 : (y 1).val < 1024 := (y 1).isLt
  have hy : (y : S256x1024.Idx) = ix2 ⟨(y 0).val, hy0⟩ ⟨(y 1).val, hy1⟩ := by blk_ext
  refine (congrArg _ hy).trans ((point6 m c t _ _ ⟨t.val * 256 + (y 0).val, by omega⟩ rfl).trans ?_)
  apply congr2 (MixRef.H (arg0 m c) (arg1 m c) (arg2 m c) (arg3 m c) (arg4 m c) (arg5 m c)) <;> blk_simp [e]

theorem final7 : (dats m 0 c).arrAt 7 cfg0.N = fun i : S16384x1024.Idx =>
    MixRef.T (arg0 m c) (arg1 m c) (arg2 m c) (arg3 m c) (arg4 m c) (arg5 m c) (i 0) (i 1) := by
  refine (dats m 0 c).arrAt_eq_of_covers 7 _ (by decide +kernel) fun t _ y => ?_
  blk_simp
  rw [after0_7]
  have ht : t.val < 64 := t.isLt
  obtain ⟨-, -, -, -, -, -, -, e⟩ := idx t
  have hy0 : (y 0).val < 256 := (y 0).isLt
  have hy1 : (y 1).val < 1024 := (y 1).isLt
  have hy : (y : S256x1024.Idx) = ix2 ⟨(y 0).val, hy0⟩ ⟨(y 1).val, hy1⟩ := by blk_ext
  refine (congrArg _ hy).trans ((point7 m c t _ _ ⟨t.val * 256 + (y 0).val, by omega⟩ rfl).trans ?_)
  apply congr2 (MixRef.T (arg0 m c) (arg1 m c) (arg2 m c) (arg3 m c) (arg4 m c) (arg5 m c)) <;> blk_simp [e]

theorem frame_P : Cert.quiescent_Mixed := fun m g _ => Cert.Mixed.Gen.frame m g

theorem frame_PI : Cert.quiescent_MixedIdeal := fun m g _ => Cert.MixedIdeal.Gen.frame m g

theorem frame_RI : Cert.quiescent_MixedRefIdeal := by
  intro m g _
  run_from Cert.MixedRefIdeal.Value.run m g
  · exact fun c => ⟨trivial, trivial, trivial, trivial, trivial, trivial⟩
  · exact sem_eq_zero_of_no_sems (by decide) _

theorem preserves : Cert.preserves_Mixed_MixedIdeal := by
  trivial

theorem algebraic : Cert.algebraic_MixedIdeal_MixedRefIdeal := by
  pair_intro
  · run_from Cert.MixedIdeal.Gen.run_main m g
  · run_from Cert.MixedRefIdeal.Value.run m' g'
    · obtain ⟨h0, h1, h2, h3, h4, h5⟩ := hagree c
      refine (Cert.MixedRefIdeal.Read.val_main_v36_eq m' c).trans ?_
      rw [h0, h1, h2, h3, h4, h5]
      exact (MixRef.v36_eq _ _ _ _ _ _).trans (final6 m c).symm
    · obtain ⟨h0, h1, h2, h3, h4, h5⟩ := hagree c
      refine (Cert.MixedRefIdeal.Read.val_main_v47_eq m' c).trans ?_
      rw [h0, h1, h2, h3, h4, h5]
      exact (MixRef.v47_eq _ _ _ _ _ _).trans (final7 m c).symm

end Cert.Mla.Mix

end
-- ==== Proof.GluPay.lean ====
/- The residual step after the state space mixer: one program point of the kernel. -/
module

public import proofs.«01_k».proof.Proof.Norm
public import proofs.«01_k».proof.Proof.Gen.GluIdeal.Value
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.Glu

open Norm Cert.GluIdeal Cert.GluIdeal.Gen

theorem pay3_at (h : FVec Ideal S256x1024 .f32) (s t : FVec Ideal S1x1x1024 .f32) (y y' : FVec Ideal S256x1024 .f32) (d : FVec Ideal S1x1024 .f32)
    (w : FVec Ideal S1024x1024 .bf16) (r : Fin 256) (e : Fin 1024) : k0_pay3 (F := Ideal) h s t y y' d w (ix2 r e) =
      gate (fun k => y (ix2 r k) + y' (ix2 r k) + d (ix2 0 k) * (h (ix2 r k) * (1 + s (ix3 0 0 k)) + t (ix3 0 0 k))) (fun j k => w (ix2 j k)) e := by
  unfold k0_pay3
  pointwise []
  rfl

theorem pay4_at (h : FVec Ideal S256x1024 .f32) (w : FVec Ideal S1024x1024 .bf16) (z : FVec Ideal S256x1024 .bf16) (gt : FVec Ideal S1x1x1024 .f32) (lg lb : FVec Ideal S1x1024 .f32)
    (r : Fin 256) (e : Fin 1024) : k0_pay4 (F := Ideal) h w z gt lg lb (ix2 r e) =
      lnorm (fun k => keep * h (ix2 r k) + gt (ix3 0 0 k) * times (fun j => z (ix2 r j)) (fun j k => w (ix2 j k)) k)
        (fun k => lg (ix2 0 k)) (fun k => lb (ix2 0 k)) e := by
  unfold k0_pay4
  pointwise []
  rfl

theorem pay5_at (h : FVec Ideal S256x1024 .f32) (w : FVec Ideal S1024x1024 .bf16) (z : FVec Ideal S256x1024 .bf16) (gt : FVec Ideal S1x1x1024 .f32) (lg lb : FVec Ideal S1x1024 .f32)
    (s : FVec Ideal S1x1x1024 .f32) (r : Fin 256) (e : Fin 1024) : k0_pay5 (F := Ideal) h w z gt lg lb s (ix2 r e) =
      k0_pay4 (F := Ideal) h w z gt lg lb (ix2 r e) * (1 + s (ix3 0 0 e)) := by
  unfold k0_pay5
  generalize k0_pay4 (F := Ideal) h w z gt lg lb = y
  pointwise []

theorem pay1_at (y : FVec Ideal S256x1024 .f32) (t : FVec Ideal S1x1x1024 .f32)
    (r : Fin 256) (e : Fin 1024) : k0_pay1 (F := Ideal) y t (ix2 r e) = y (ix2 r e) + t (ix3 0 0 e) := by
  unfold k0_pay1
  pointwise []

theorem pay2_at (w : FVec Ideal S1024x1024 .bf16) (r : Fin 1024) (e : Fin 1024) : k0_pay2 (F := Ideal) w (ix2 r e) = w (ix2 r e) := by
  unfold k0_pay2
  pointwise []

section
variable (h y y' : FVec Ideal S256x1024 .f32) (M : FVec Ideal S1x6x1024 .f32) (d : FVec Ideal S1x1024 .f32) (wg wo : FVec Ideal S1024x1024 .bf16)
  (lg lb : FVec Ideal S1x1024 .f32) (r : Fin 256) (e : Fin 1024)

theorem out9_at : out0_9 (F := Ideal) h y y' M d wg wo lg lb (ix2 r e) =
      resid (fun k => h (ix2 r k)) (fun j k => M (ix3 0 j k))
        (mixed (fun k => h (ix2 r k)) (fun j k => M (ix3 0 j k)) (fun k => y (ix2 r k)) (fun k => y' (ix2 r k)) (fun k => d (ix2 0 k))
          (fun j k => wg (ix2 j k)) (fun j k => wo (ix2 j k)))
        (fun k => lg (ix2 0 k)) (fun k => lb (ix2 0 k)) e := by
  unfold resid mixed pre
  frame_out
  unfold k0_pay6 k0_pay7
  pointwise [pay4_at, pay3_at, pay2_at]

theorem out10_at : out0_10 (F := Ideal) h y y' M d wg wo lg lb (ix2 r e) =
      next (fun k => h (ix2 r k)) (fun j k => M (ix3 0 j k))
        (mixed (fun k => h (ix2 r k)) (fun j k => M (ix3 0 j k)) (fun k => y (ix2 r k)) (fun k => y' (ix2 r k)) (fun k => d (ix2 0 k))
          (fun j k => wg (ix2 j k)) (fun j k => wo (ix2 j k)))
        (fun k => lg (ix2 0 k)) (fun k => lb (ix2 0 k)) e := by
  unfold next resid mixed pre
  frame_out
  unfold k0_pay6 k0_pay7
  pointwise [pay1_at, pay5_at, pay4_at, pay3_at, pay2_at]

end

theorem gather_at (x : FVec Ideal S8x6x1024 .f32) (idx : IVec S66x1 32) (t : Fin 66) (j : Fin 6) (e : Fin 1024) (b : Fin 8)
    (hb : min (idx (ix2 t 0)).toInt.toNat 7 = b.val) :
    Host.gather gather_S8x6x1024_S66x1_S66x6x1024_12_0_n_n_0_1_161024 x idx (ix3 t j e) = x (ix3 b j e) := by
  unfold Host.gather
  refine congrArg x (funext fun a => Fin.ext ?_)
  match a with
  | ⟨0, _⟩ =>
    refine Eq.trans ?_ hb
    have hsi : gather_S8x6x1024_S66x1_S66x6x1024_12_0_n_n_0_1_161024.siIdx (ix3 t j e) ⟨0, by decide⟩ = ix2 t 0 := by
      funext b; refine Fin.ext ?_
      match b with
      | ⟨0, _⟩ => rfl
      | ⟨1, _⟩ => rfl
    rw [← hsi]
    rfl
  | ⟨1, _⟩ =>
    simp [GatherDims.operandIdx, GatherDims.start, GatherDims.batchCoord, GatherDims.offCoord]
    rw [dif_neg (by decide), dif_neg (by decide), if_pos (by decide)]
    rw [Nat.zero_add]
  | ⟨2, _⟩ =>
    simp [GatherDims.operandIdx, GatherDims.start, GatherDims.batchCoord, GatherDims.offCoord]
    rw [dif_neg (by decide), dif_neg (by decide), if_pos (by decide)]
    rw [Nat.zero_add]

theorem lit_row : ∀ t : Fin 66, min (lit0 t).toInt.toNat 7 = if t.val % 33 = 0 then 2 else t.val / 33 := by decide +kernel

section
variable (V : Valuation τ sig (Elt Ideal))

theorem a3 (t : Fin 66) (j : Fin 6) (e : Fin 1024) (b : Fin 8) (hb : b.val = if t.val % 33 = 0 then 2 else t.val / 33) :
    (StableHlo.after (hostOps0 (F := Ideal)) V (Proc.devRef .tc main_v4) : FVec Ideal S66x6x1024 .f32) (ix3 t j e)
    = (V (Proc.devRef .tc main_arg3) : FVec Ideal S8x6x1024 .f32) (ix3 b j e) := by
  after_reads_simp
  refine (gather_at _ _ t j e b ?_)
  refine Eq.trans ?_ ((lit_row t).trans hb.symm)
  pointwise []
  rw [show S66.rowMajor (ix1 t) = t from Fin.ext ((by decide +kernel : ∀ t : Fin 66, (S66.rowMajor (ix1 t)).val = t.val) t)]

theorem a4 (k : Fin 1024) : (StableHlo.after (hostOps0 (F := Ideal)) V (Proc.devRef .tc main_v5) : FVec Ideal S1x1024 .f32) (ix2 0 k)
    = (V (Proc.devRef .tc main_arg4) : FVec Ideal S1024 .f32) (ix1 k) := by
  after_reads_simp; pointwise []
  all_goals blk_ext

theorem a5 (j k : Fin 1024) : (StableHlo.after (hostOps0 (F := Ideal)) V (Proc.devRef .tc main_v6) : FVec Ideal S1024x1024 .bf16) (ix2 j k)
    = (V (Proc.devRef .tc main_arg5) : FVec Ideal S1024x1024 .f32) (ix2 j k) := by
  after_reads_simp; pointwise []

theorem a6 (j k : Fin 1024) : (StableHlo.after (hostOps0 (F := Ideal)) V (Proc.devRef .tc main_v7) : FVec Ideal S1024x1024 .bf16) (ix2 j k)
    = (V (Proc.devRef .tc main_arg6) : FVec Ideal S1024x1024 .f32) (ix2 j k) := by
  after_reads_simp; pointwise []

theorem a7 (k : Fin 1024) : (StableHlo.after (hostOps0 (F := Ideal)) V (Proc.devRef .tc main_v8) : FVec Ideal S1x1024 .f32) (ix2 0 k)
    = (V (Proc.devRef .tc main_arg7) : FVec Ideal S1024 .f32) (ix1 k) := by
  after_reads_simp; pointwise []
  all_goals blk_ext

theorem a8 (k : Fin 1024) : (StableHlo.after (hostOps0 (F := Ideal)) V (Proc.devRef .tc main_v9) : FVec Ideal S1x1024 .f32) (ix2 0 k)
    = (V (Proc.devRef .tc main_arg8) : FVec Ideal S1024 .f32) (ix1 k) := by
  after_reads_simp; pointwise []
  all_goals blk_ext

end

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0]
    ∧ win0_3.index t = ![t.val, 0, 0]) ∧ (win0_4.index t = ![0, 0] ∧ win0_5.index t = ![0, 0] ∧ win0_6.index t = ![0, 0]
    ∧ win0_7.index t = ![0, 0] ∧ win0_8.index t = ![0, 0]) ∧ win0_9.index t = ![t.val, 0] ∧ win0_10.index t = ![t.val, 0] :=
  (by decide +kernel : ∀ t : Fin grid0.N, _)

section
variable (t : Fin cfg0.N) (r : Fin 256) (R : Fin 16896) (hR : R.val = t.val * 256 + r.val) (k : Fin 1024)
include hR

theorem b0 : (iblk m c 0 t : FVec Ideal S256x1024 .f32) (ix2 r k) = (m ((c : Thread nD τ).loc main_arg0) : FVec Ideal S16896x1024 .f32) (ix2 R k) := by
  obtain ⟨⟨e, -⟩, -⟩ := idx t
  refine Eq.trans ?_ (congrFun (V_main_arg0 m c) (ix2 R k))
  blk_ext [iblk, e]

theorem b1 : (iblk m c 1 t : FVec Ideal S256x1024 .f32) (ix2 r k) = (m ((c : Thread nD τ).loc main_arg1) : FVec Ideal S16896x1024 .f32) (ix2 R k) := by
  obtain ⟨⟨-, e, -⟩, -⟩ := idx t
  refine Eq.trans ?_ (congrFun (V_main_arg1 m c) (ix2 R k))
  blk_ext [iblk, e]

theorem b2 : (iblk m c 2 t : FVec Ideal S256x1024 .f32) (ix2 r k) = (m ((c : Thread nD τ).loc main_arg2) : FVec Ideal S16896x1024 .f32) (ix2 R k) := by
  obtain ⟨⟨-, -, e, -⟩, -⟩ := idx t
  refine Eq.trans ?_ (congrFun (V_main_arg2 m c) (ix2 R k))
  blk_ext [iblk, e]

theorem b3 (j : Fin 6) : (iblk m c 3 t : FVec Ideal S1x6x1024 .f32) (ix3 0 j k) =
    (m ((c : Thread nD τ).loc main_arg3) : FVec Ideal S8x6x1024 .f32) (ix3 (row R) j k) := by
  obtain ⟨⟨-, -, -, e⟩, -⟩ := idx t
  have ht : t.val < 66 := t.isLt
  have hq : (row R).val = if t.val % 33 = 0 then 2 else t.val / 33 := by
    unfold row
    simp only
    split <;> split <;> omega
  refine Eq.trans ?_ (a3 (fun b => m (c, b)) ⟨t.val, ht⟩ j k _ hq)
  blk_ext [iblk, e]

end

theorem b4 (t : Fin cfg0.N) (k : Fin 1024) : (iblk m c 4 t : FVec Ideal S1x1024 .f32) (ix2 0 k) =
    (m ((c : Thread nD τ).loc main_arg4) : FVec Ideal S1024 .f32) (ix1 k) := by
  obtain ⟨-, ⟨e, -⟩, -⟩ := idx t
  refine Eq.trans ?_ (a4 (fun b => m (c, b)) k)
  blk_ext [iblk, e]

theorem b5 (t : Fin cfg0.N) (j k : Fin 1024) : (iblk m c 5 t : FVec Ideal S1024x1024 .bf16) (ix2 j k) =
    (m ((c : Thread nD τ).loc main_arg5) : FVec Ideal S1024x1024 .f32) (ix2 j k) := by
  obtain ⟨-, ⟨-, e, -⟩, -⟩ := idx t
  refine Eq.trans ?_ (a5 (fun b => m (c, b)) j k)
  blk_ext [iblk, e]

theorem b6 (t : Fin cfg0.N) (j k : Fin 1024) : (iblk m c 6 t : FVec Ideal S1024x1024 .bf16) (ix2 j k) =
    (m ((c : Thread nD τ).loc main_arg6) : FVec Ideal S1024x1024 .f32) (ix2 j k) := by
  obtain ⟨-, ⟨-, -, e, -⟩, -⟩ := idx t
  refine Eq.trans ?_ (a6 (fun b => m (c, b)) j k)
  blk_ext [iblk, e]

theorem b7 (t : Fin cfg0.N) (k : Fin 1024) : (iblk m c 7 t : FVec Ideal S1x1024 .f32) (ix2 0 k) =
    (m ((c : Thread nD τ).loc main_arg7) : FVec Ideal S1024 .f32) (ix1 k) := by
  obtain ⟨-, ⟨-, -, -, e, -⟩, -⟩ := idx t
  refine Eq.trans ?_ (a7 (fun b => m (c, b)) k)
  blk_ext [iblk, e]

theorem b8 (t : Fin cfg0.N) (k : Fin 1024) : (iblk m c 8 t : FVec Ideal S1x1024 .f32) (ix2 0 k) =
    (m ((c : Thread nD τ).loc main_arg8) : FVec Ideal S1024 .f32) (ix1 k) := by
  obtain ⟨-, ⟨-, -, -, -, e⟩, -⟩ := idx t
  refine Eq.trans ?_ (a8 (fun b => m (c, b)) k)
  blk_ext [iblk, e]

end Cert.Mla.Glu

end
-- ==== Proof.GluRef.lean ====
/- The residual step after the state space mixer, as the reference has it. -/
module

public import proofs.«01_k».proof.Proof.Norm
public import proofs.«01_k».proof.Proof.Gen.GluRefIdeal.Read

@[expose] public section

set_option maxRecDepth 16384
noncomputable section

open Idealize.ShloMosaic Idealize.ShloMosaic.TcCoe Idealize.SL.Sem

namespace Cert.Mla.GluRef

open Norm Cert.GluRefIdeal Cert.GluRefIdeal.Gen Cert.GluRefIdeal.Read

variable (x0 x1 x2 : FVec Ideal S16896x1024 .f32) (x3 : FVec Ideal S8x6x1024 .f32) (x4 : FVec Ideal S1024 .f32) (x5 x6 : FVec Ideal S1024x1024 .f32)
  (x7 x8 : FVec Ideal S1024 .f32)

/-- The activation as the reference has it. -/
theorem act_eq (x : EReal) : half * x * Ideal.erfc (-x * root) = act x := by
  rw [neg_mul, Ideal.erfc_neg]; rfl

section lat
variable (q : Fin 2) (n : Fin 8192) (e : Fin 1024)

theorem v20_at : val_main_v20 (F := Ideal) x0 x3 (ix3 q n e) = x0 (ix2 ⟨q.val * 8448 + (256 + n.val), by omega⟩ e) * (1 + x3 (ix3 ⟨q.val, by omega⟩ 1 e)) + x3 (ix3 ⟨q.val, by omega⟩ 0 e) := by
  unfold val_main_v20 val_main_v19 val_main_v18 val_main_v17 val_main_v16 val_main_v15 val_main_v14 val_main_v13 val_main_cst val_main_v12 val_main_v11 val_main_v10 val_main_v5 val_main_v4 val_main_v3 val_main_v0
  pointwise []
  try rfl

theorem v37_at : val_main_v37 (F := Ideal) x0 x1 x2 x3 x4 (ix3 q n e) =
    pre (fun k => x0 (ix2 ⟨q.val * 8448 + (256 + n.val), by omega⟩ k)) (fun j k => x3 (ix3 ⟨q.val, by omega⟩ j k)) (fun k => x1 (ix2 ⟨q.val * 8448 + (256 + n.val), by omega⟩ k)) (fun k => x2 (ix2 ⟨q.val * 8448 + (256 + n.val), by omega⟩ k)) (fun k => x4 (ix1 k)) e := by
  refine Eq.trans ?_ (congrArg (fun s => x1 (ix2 ⟨q.val * 8448 + (256 + n.val), by omega⟩ e) + x2 (ix2 ⟨q.val * 8448 + (256 + n.val), by omega⟩ e) + x4 (ix1 e) * s) (v20_at x0 x3 q n e))
  unfold val_main_v37 val_main_v36 val_main_v35 val_main_v34 val_main_v33 val_main_v32 val_main_v31 val_main_v2 val_main_v1
  generalize val_main_v20 (F := Ideal) x0 x3 = y20
  pointwise []
  try rfl

theorem v44_at : val_main_v44 (F := Ideal) x0 x1 x2 x3 x4 (ix3 q n e) = act (val_main_v37 (F := Ideal) x0 x1 x2 x3 x4 (ix3 q n e)) := by
  refine Eq.trans ?_ (act_eq _)
  unfold val_main_v44 val_main_v43 val_main_v42 val_main_v41 val_main_cst_2 val_main_v40 val_main_v39 val_main_v38 val_main_cst_1
  generalize val_main_v37 (F := Ideal) x0 x1 x2 x3 x4 = y37
  pointwise []
  try rfl

theorem v52_at : val_main_v52 (F := Ideal) x0 x1 x2 x3 x4 x5 (ix3 q n e) = gate (fun k => val_main_v37 (F := Ideal) x0 x1 x2 x3 x4 (ix3 q n k)) (fun j k => x5 (ix2 j k)) e := by
  unfold gate
  simp only [← v44_at]
  unfold val_main_v52 val_main_v51 val_main_v50 val_main_cst_4 val_main_v49 val_main_v48 val_main_cst_3 val_main_v47 val_main_v46 val_main_v45
  generalize val_main_v44 (F := Ideal) x0 x1 x2 x3 x4 = y44
  pointwise []
  try rfl

theorem v53_at : val_main_v53 (F := Ideal) x0 x1 x2 x3 x4 x5 x6 (ix3 q n e) =
    mixed (fun k => x0 (ix2 ⟨q.val * 8448 + (256 + n.val), by omega⟩ k)) (fun j k => x3 (ix3 ⟨q.val, by omega⟩ j k)) (fun k => x1 (ix2 ⟨q.val * 8448 + (256 + n.val), by omega⟩ k)) (fun k => x2 (ix2 ⟨q.val * 8448 + (256 + n.val), by omega⟩ k)) (fun k => x4 (ix1 k))
      (fun j k => x5 (ix2 j k)) (fun j k => x6 (ix2 j k)) e := by
  unfold mixed
  refine Eq.trans (b := times (fun j => val_main_v52 (F := Ideal) x0 x1 x2 x3 x4 x5 (ix3 q n j)) (fun j k => x6 (ix2 j k)) e) ?_ ?_
  · unfold val_main_v53
    generalize val_main_v52 (F := Ideal) x0 x1 x2 x3 x4 x5 = y52
    pointwise []
    try rfl
  · congr 1
    funext k
    rw [v52_at]
    congr 1
    funext i
    exact v37_at x0 x1 x2 x3 x4 q n i

theorem v83_at : val_main_v83 (F := Ideal) x0 x1 x2 x3 x4 x5 x6 (ix3 q n e) =
    keep * x0 (ix2 ⟨q.val * 8448 + (256 + n.val), by omega⟩ e) + x3 (ix3 ⟨q.val, by omega⟩ 2 e) * val_main_v53 (F := Ideal) x0 x1 x2 x3 x4 x5 x6 (ix3 q n e) := by
  unfold val_main_v83 val_main_v82 val_main_v81 val_main_v80 val_main_v79 val_main_v78 val_main_v77 val_main_cst_9 val_main_v10 val_main_v5 val_main_v4 val_main_v3 val_main_v0
  generalize val_main_v53 (F := Ideal) x0 x1 x2 x3 x4 x5 x6 = y53
  pointwise []
  try rfl

theorem v107_at : val_main_v107 (F := Ideal) x0 x1 x2 x3 x4 x5 x6 x7 x8 (ix3 q n e) =
    lnorm (fun k => val_main_v83 (F := Ideal) x0 x1 x2 x3 x4 x5 x6 (ix3 q n k)) (fun k => x7 (ix1 k)) (fun k => x8 (ix1 k)) e := by
  unfold val_main_v107 val_main_v106 val_main_v105 val_main_v104 val_main_v103 val_main_v102 val_main_v101 val_main_v100 val_main_v99 val_main_v98 val_main_v97 val_main_cst_14 val_main_v96 val_main_v95 val_main_v94 val_main_v93 val_main_cst_13 val_main_v92 val_main_v91 val_main_cst_12 val_main_v90 val_main_v89 val_main_v88 val_main_v87 val_main_v86 val_main_cst_11 val_main_v85 val_main_v84 val_main_cst_10
  generalize val_main_v83 (F := Ideal) x0 x1 x2 x3 x4 x5 x6 = y83
  pointwise []
  try rfl

theorem v148_at : val_main_v148 (F := Ideal) x0 x1 x2 x3 x4 x5 x6 x7 x8 (ix3 q n e) =
    val_main_v107 (F := Ideal) x0 x1 x2 x3 x4 x5 x6 x7 x8 (ix3 q n e) * (1 + x3 (ix3 ⟨q.val, by omega⟩ 4 e)) + x3 (ix3 ⟨q.val, by omega⟩ 3 e) := by
  unfold val_main_v148 val_main_v147 val_main_v146 val_main_v145 val_main_v144 val_main_v143 val_main_v142 val_main_v141 val_main_cst_21 val_main_v140 val_main_v139 val_main_v5 val_main_v4 val_main_v3
  generalize val_main_v107 (F := Ideal) x0 x1 x2 x3 x4 x5 x6 x7 x8 = y107
  pointwise []
  try rfl

theorem lat_row : val_main_v107 (F := Ideal) x0 x1 x2 x3 x4 x5 x6 x7 x8 (ix3 q n e) =
    resid (fun k => x0 (ix2 ⟨q.val * 8448 + (256 + n.val), by omega⟩ k)) (fun j k => x3 (ix3 ⟨q.val, by omega⟩ j k))
      (mixed (fun k => x0 (ix2 ⟨q.val * 8448 + (256 + n.val), by omega⟩ k)) (fun j k => x3 (ix3 ⟨q.val, by omega⟩ j k)) (fun k => x1 (ix2 ⟨q.val * 8448 + (256 + n.val), by omega⟩ k)) (fun k => x2 (ix2 ⟨q.val * 8448 + (256 + n.val), by omega⟩ k)) (fun k => x4 (ix1 k))
        (fun j k => x5 (ix2 j k)) (fun j k => x6 (ix2 j k))) (fun k => x7 (ix1 k)) (fun k => x8 (ix1 k)) e := by
  rw [v107_at]
  unfold resid
  congr 1
  funext k
  rw [v83_at, v53_at]

end lat

section ctx
variable (q : Fin 2) (n : Fin 256) (e : Fin 1024)

theorem v30_at : val_main_v30 (F := Ideal) x0 x3 (ix3 q n e) = x0 (ix2 ⟨q.val * 8448 + n.val, by omega⟩ e) * (1 + x3 (ix3 2 1 e)) + x3 (ix3 2 0 e) := by
  unfold val_main_v30 val_main_v29 val_main_v28 val_main_v27 val_main_v26 val_main_v25 val_main_v24 val_main_v23 val_main_cst_0 val_main_v22 val_main_v21 val_main_v9 val_main_v8 val_main_v7 val_main_v6 val_main_v0
  pointwise []
  try rfl

theorem v60_at : val_main_v60 (F := Ideal) x0 x1 x2 x3 x4 (ix3 q n e) =
    pre (fun k => x0 (ix2 ⟨q.val * 8448 + n.val, by omega⟩ k)) (fun j k => x3 (ix3 2 j k)) (fun k => x1 (ix2 ⟨q.val * 8448 + n.val, by omega⟩ k)) (fun k => x2 (ix2 ⟨q.val * 8448 + n.val, by omega⟩ k)) (fun k => x4 (ix1 k)) e := by
  refine Eq.trans ?_ (congrArg (fun s => x1 (ix2 ⟨q.val * 8448 + n.val, by omega⟩ e) + x2 (ix2 ⟨q.val * 8448 + n.val, by omega⟩ e) + x4 (ix1 e) * s) (v30_at x0 x3 q n e))
  unfold val_main_v60 val_main_v59 val_main_v58 val_main_v57 val_main_v56 val_main_v55 val_main_v54 val_main_v2 val_main_v1
  generalize val_main_v30 (F := Ideal) x0 x3 = y30
  pointwise []
  try rfl

theorem v67_at : val_main_v67 (F := Ideal) x0 x1 x2 x3 x4 (ix3 q n e) = act (val_main_v60 (F := Ideal) x0 x1 x2 x3 x4 (ix3 q n e)) := by
  refine Eq.trans ?_ (act_eq _)
  unfold val_main_v67 val_main_v66 val_main_v65 val_main_v64 val_main_cst_6 val_main_v63 val_main_v62 val_main_v61 val_main_cst_5
  generalize val_main_v60 (F := Ideal) x0 x1 x2 x3 x4 = y60
  pointwise []
  try rfl

theorem v75_at : val_main_v75 (F := Ideal) x0 x1 x2 x3 x4 x5 (ix3 q n e) = gate (fun k => val_main_v60 (F := Ideal) x0 x1 x2 x3 x4 (ix3 q n k)) (fun j k => x5 (ix2 j k)) e := by
  unfold gate
  simp only [← v67_at]
  unfold val_main_v75 val_main_v74 val_main_v73 val_main_cst_8 val_main_v72 val_main_v71 val_main_cst_7 val_main_v70 val_main_v69 val_main_v68
  generalize val_main_v67 (F := Ideal) x0 x1 x2 x3 x4 = y67
  pointwise []
  try rfl

theorem v76_at : val_main_v76 (F := Ideal) x0 x1 x2 x3 x4 x5 x6 (ix3 q n e) =
    mixed (fun k => x0 (ix2 ⟨q.val * 8448 + n.val, by omega⟩ k)) (fun j k => x3 (ix3 2 j k)) (fun k => x1 (ix2 ⟨q.val * 8448 + n.val, by omega⟩ k)) (fun k => x2 (ix2 ⟨q.val * 8448 + n.val, by omega⟩ k)) (fun k => x4 (ix1 k))
      (fun j k => x5 (ix2 j k)) (fun j k => x6 (ix2 j k)) e := by
  unfold mixed
  refine Eq.trans (b := times (fun j => val_main_v75 (F := Ideal) x0 x1 x2 x3 x4 x5 (ix3 q n j)) (fun j k => x6 (ix2 j k)) e) ?_ ?_
  · unfold val_main_v76
    generalize val_main_v75 (F := Ideal) x0 x1 x2 x3 x4 x5 = y75
    pointwise []
    try rfl
  · congr 1
    funext k
    rw [v75_at]
    congr 1
    funext i
    exact v60_at x0 x1 x2 x3 x4 q n i

theorem v114_at : val_main_v114 (F := Ideal) x0 x1 x2 x3 x4 x5 x6 (ix3 q n e) =
    keep * x0 (ix2 ⟨q.val * 8448 + n.val, by omega⟩ e) + x3 (ix3 2 2 e) * val_main_v76 (F := Ideal) x0 x1 x2 x3 x4 x5 x6 (ix3 q n e) := by
  unfold val_main_v114 val_main_v113 val_main_v112 val_main_v111 val_main_v110 val_main_v109 val_main_v108 val_main_cst_15 val_main_v9 val_main_v8 val_main_v7 val_main_v6 val_main_v0
  generalize val_main_v76 (F := Ideal) x0 x1 x2 x3 x4 x5 x6 = y76
  pointwise []
  try rfl

theorem v138_at : val_main_v138 (F := Ideal) x0 x1 x2 x3 x4 x5 x6 x7 x8 (ix3 q n e) =
    lnorm (fun k => val_main_v114 (F := Ideal) x0 x1 x2 x3 x4 x5 x6 (ix3 q n k)) (fun k => x7 (ix1 k)) (fun k => x8 (ix1 k)) e := by
  unfold val_main_v138 val_main_v137 val_main_v136 val_main_v135 val_main_v134 val_main_v133 val_main_v132 val_main_v131 val_main_v130 val_main_v129 val_main_v128 val_main_cst_20 val_main_v127 val_main_v126 val_main_v125 val_main_v124 val_main_cst_19 val_main_v123 val_main_v122 val_main_cst_18 val_main_v121 val_main_v120 val_main_v119 val_main_v118 val_main_v117 val_main_cst_17 val_main_v116 val_main_v115 val_main_cst_16
  generalize val_main_v114 (F := Ideal) x0 x1 x2 x3 x4 x5 x6 = y114
  pointwise []
  try rfl

theorem v158_at : val_main_v158 (F := Ideal) x0 x1 x2 x3 x4 x5 x6 x7 x8 (ix3 q n e) =
    val_main_v138 (F := Ideal) x0 x1 x2 x3 x4 x5 x6 x7 x8 (ix3 q n e) * (1 + x3 (ix3 2 4 e)) + x3 (ix3 2 3 e) := by
  unfold val_main_v158 val_main_v157 val_main_v156 val_main_v155 val_main_v154 val_main_v153 val_main_v152 val_main_v151 val_main_cst_22 val_main_v150 val_main_v149 val_main_v8 val_main_v7 val_main_v6
  generalize val_main_v138 (F := Ideal) x0 x1 x2 x3 x4 x5 x6 x7 x8 = y138
  pointwise []
  try rfl

theorem ctx_row : val_main_v138 (F := Ideal) x0 x1 x2 x3 x4 x5 x6 x7 x8 (ix3 q n e) =
    resid (fun k => x0 (ix2 ⟨q.val * 8448 + n.val, by omega⟩ k)) (fun j k => x3 (ix3 2 j k))
      (mixed (fun k => x0 (ix2 ⟨q.val * 8448 + n.val, by omega⟩ k)) (fun j k => x3 (ix3 2 j k)) (fun k => x1 (ix2 ⟨q.val * 8448 + n.val, by omega⟩ k)) (fun k => x2 (ix2 ⟨q.val * 8448 + n.val, by omega⟩ k)) (fun k => x4 (ix1 k))
        (fun j k => x5 (ix2 j k)) (fun j k => x6 (ix2 j k))) (fun k => x7 (ix1 k)) (fun k => x8 (ix1 k)) e := by
  rw [v138_at]
  unfold resid
  congr 1
  funext k
  rw [v114_at, v76_at]

end ctx

/-- The residual's row. -/
def H (R : Fin 16896) : Fin 1024 → EReal :=
  resid (fun k => x0 (ix2 R k)) (fun j k => x3 (ix3 (row R) j k))
    (mixed (fun k => x0 (ix2 R k)) (fun j k => x3 (ix3 (row R) j k)) (fun k => x1 (ix2 R k)) (fun k => x2 (ix2 R k)) (fun k => x4 (ix1 k))
      (fun j k => x5 (ix2 j k)) (fun j k => x6 (ix2 j k))) (fun k => x7 (ix1 k)) (fun k => x8 (ix1 k))

/-- The channel mixer's input row. -/
def T (R : Fin 16896) : Fin 1024 → EReal :=
  next (fun k => x0 (ix2 R k)) (fun j k => x3 (ix3 (row R) j k))
    (mixed (fun k => x0 (ix2 R k)) (fun j k => x3 (ix3 (row R) j k)) (fun k => x1 (ix2 R k)) (fun k => x2 (ix2 R k)) (fun k => x4 (ix1 k))
      (fun j k => x5 (ix2 j k)) (fun j k => x6 (ix2 j k))) (fun k => x7 (ix1 k)) (fun k => x8 (ix1 k))

theorem lat_H (q : Fin 2) (n : Fin 8192) (e : Fin 1024) (R : Fin 16896) (hR : R.val = q.val * 8448 + (256 + n.val)) :
    val_main_v107 (F := Ideal) x0 x1 x2 x3 x4 x5 x6 x7 x8 (ix3 q n e) = H x0 x1 x2 x3 x4 x5 x6 x7 x8 R e := by
  have h1 : (⟨q.val * 8448 + (256 + n.val), by omega⟩ : Fin 16896) = R := Fin.ext hR.symm
  have h2 : row R = ⟨q.val, by omega⟩ := Fin.ext (by unfold row; simp only; rw [if_neg (by omega)]; omega)
  unfold H
  rw [lat_row, h2]
  simp only [h1]

theorem ctx_H (q : Fin 2) (n : Fin 256) (e : Fin 1024) (R : Fin 16896) (hR : R.val = q.val * 8448 + n.val) :
    val_main_v138 (F := Ideal) x0 x1 x2 x3 x4 x5 x6 x7 x8 (ix3 q n e) = H x0 x1 x2 x3 x4 x5 x6 x7 x8 R e := by
  have h1 : (⟨q.val * 8448 + n.val, by omega⟩ : Fin 16896) = R := Fin.ext hR.symm
  have h2 : row R = 2 := Fin.ext (by unfold row; simp only; rw [if_pos (by omega)]; rfl)
  unfold H
  rw [ctx_row, h2]
  simp only [h1]

theorem lat_T (q : Fin 2) (n : Fin 8192) (e : Fin 1024) (R : Fin 16896) (hR : R.val = q.val * 8448 + (256 + n.val)) :
    val_main_v148 (F := Ideal) x0 x1 x2 x3 x4 x5 x6 x7 x8 (ix3 q n e) = T x0 x1 x2 x3 x4 x5 x6 x7 x8 R e := by
  have h2 : row R = ⟨q.val, by omega⟩ := Fin.ext (by unfold row; simp only; rw [if_neg (by omega)]; omega)
  rw [v148_at, lat_H x0 x1 x2 x3 x4 x5 x6 x7 x8 q n e R hR]
  unfold T H next
  rw [h2]

theorem ctx_T (q : Fin 2) (n : Fin 256) (e : Fin 1024) (R : Fin 16896) (hR : R.val = q.val * 8448 + n.val) :
    val_main_v158 (F := Ideal) x0 x1 x2 x3 x4 x5 x6 x7 x8 (ix3 q n e) = T x0 x1 x2 x3 x4 x5 x6 x7 x8 R e := by
  have h2 : row R = 2 := Fin.ext (by unfold row; simp only; rw [if_pos (by omega)]; rfl)
  rw [v158_at, ctx_H x0 x1 x2 x3 x4 x5 x6 x7 x8 q n e R hR]
  unfold T H next
  rw [h2]

theorem v160_eq : val_main_v160 (F := Ideal) x0 x1 x2 x3 x4 x5 x6 x7 x8 = fun i => H x0 x1 x2 x3 x4 x5 x6 x7 x8 (i 0) (i 1) := by
  refine funext fun i => ?_
  rw [eq_ix2 (n0 := 16896) (n1 := 1024) i]
  have hi : (i 0).val < 16896 := (i 0).isLt
  refine Eq.trans (b := val_main_v159 (F := Ideal) x0 x1 x2 x3 x4 x5 x6 x7 x8 (ix3 ⟨(i 0).val / 8448, by omega⟩ ⟨(i 0).val % 8448, by omega⟩ (i 1))) ?_ ?_
  · unfold val_main_v160
    generalize val_main_v159 (F := Ideal) x0 x1 x2 x3 x4 x5 x6 x7 x8 = y
    pointwise []
  · by_cases hc : (i 0).val % 8448 < 256
    · refine Eq.trans ?_ (ctx_H x0 x1 x2 x3 x4 x5 x6 x7 x8 ⟨(i 0).val / 8448, by omega⟩ ⟨(i 0).val % 8448, hc⟩ (i 1) (i 0) (by simp only; omega))
      unfold val_main_v159
      generalize val_main_v138 (F := Ideal) x0 x1 x2 x3 x4 x5 x6 x7 x8 = y
      generalize val_main_v107 (F := Ideal) x0 x1 x2 x3 x4 x5 x6 x7 x8 = z
      pointwise [hc]
    · refine Eq.trans ?_ (lat_H x0 x1 x2 x3 x4 x5 x6 x7 x8 ⟨(i 0).val / 8448, by omega⟩ ⟨(i 0).val % 8448 - 256, by omega⟩ (i 1) (i 0) (by simp only; omega))
      unfold val_main_v159
      generalize val_main_v138 (F := Ideal) x0 x1 x2 x3 x4 x5 x6 x7 x8 = y
      generalize val_main_v107 (F := Ideal) x0 x1 x2 x3 x4 x5 x6 x7 x8 = z
      pointwise [hc]

theorem v162_eq : val_main_v162 (F := Ideal) x0 x1 x2 x3 x4 x5 x6 x7 x8 = fun i => T x0 x1 x2 x3 x4 x5 x6 x7 x8 (i 0) (i 1) := by
  refine funext fun i => ?_
  rw [eq_ix2 (n0 := 16896) (n1 := 1024) i]
  have hi : (i 0).val < 16896 := (i 0).isLt
  refine Eq.trans (b := val_main_v161 (F := Ideal) x0 x1 x2 x3 x4 x5 x6 x7 x8 (ix3 ⟨(i 0).val / 8448, by omega⟩ ⟨(i 0).val % 8448, by omega⟩ (i 1))) ?_ ?_
  · unfold val_main_v162
    generalize val_main_v161 (F := Ideal) x0 x1 x2 x3 x4 x5 x6 x7 x8 = y
    pointwise []
  · by_cases hc : (i 0).val % 8448 < 256
    · refine Eq.trans ?_ (ctx_T x0 x1 x2 x3 x4 x5 x6 x7 x8 ⟨(i 0).val / 8448, by omega⟩ ⟨(i 0).val % 8448, hc⟩ (i 1) (i 0) (by simp only; omega))
      unfold val_main_v161
      generalize val_main_v158 (F := Ideal) x0 x1 x2 x3 x4 x5 x6 x7 x8 = y
      generalize val_main_v148 (F := Ideal) x0 x1 x2 x3 x4 x5 x6 x7 x8 = z
      pointwise [hc]
    · refine Eq.trans ?_ (lat_T x0 x1 x2 x3 x4 x5 x6 x7 x8 ⟨(i 0).val / 8448, by omega⟩ ⟨(i 0).val % 8448 - 256, by omega⟩ (i 1) (i 0) (by simp only; omega))
      unfold val_main_v161
      generalize val_main_v158 (F := Ideal) x0 x1 x2 x3 x4 x5 x6 x7 x8 = y
      generalize val_main_v148 (F := Ideal) x0 x1 x2 x3 x4 x5 x6 x7 x8 = z
      pointwise [hc]

end Cert.Mla.GluRef

end
-- ==== Proof.GluVal.lean ====
/- The residual step after the state space mixer: the kernel's two arrays are the reference's, and the claims about the two programs. -/
module

public import proofs.«01_k».proof.Defs
public import proofs.«01_k».proof.Proof.GluPay
public import proofs.«01_k».proof.Proof.GluRef
public import proofs.«01_k».proof.Proof.Gen.Glu
public import proofs.«01_k».proof.Proof.Gen.Glu.Frame
public import proofs.«01_k».proof.Proof.Gen.GluIdeal
public import proofs.«01_k».proof.Proof.Gen.GluRefIdeal
public import Idealize.ShloMosaic.Lib.Claim
public import Idealize.ShloMosaic.Adequacy
public import Idealize.ShloMosaic.Init

@[expose] public section

set_option maxRecDepth 16384
noncomputable section

open Idealize.ShloMosaic Idealize.ShloMosaic.TcCoe Idealize.SL.Sem
open Idealize.ShloMosaic.Pipeline (Dat)

namespace Cert.Mla.Glu

open Norm Cert.GluIdeal Cert.GluIdeal.Gen

variable (m : (ℓ : Loc nD τ sig) → Buf (Elt Ideal) ℓ) (c : Dev nD)

abbrev arg0 : FVec Ideal S16896x1024 .f32 := m ((c : Thread nD τ).loc main_arg0)
abbrev arg1 : FVec Ideal S16896x1024 .f32 := m ((c : Thread nD τ).loc main_arg1)
abbrev arg2 : FVec Ideal S16896x1024 .f32 := m ((c : Thread nD τ).loc main_arg2)
abbrev arg3 : FVec Ideal S8x6x1024 .f32 := m ((c : Thread nD τ).loc main_arg3)
abbrev arg4 : FVec Ideal S1024 .f32 := m ((c : Thread nD τ).loc main_arg4)
abbrev arg5 : FVec Ideal S1024x1024 .f32 := m ((c : Thread nD τ).loc main_arg5)
abbrev arg6 : FVec Ideal S1024x1024 .f32 := m ((c : Thread nD τ).loc main_arg6)
abbrev arg7 : FVec Ideal S1024 .f32 := m ((c : Thread nD τ).loc main_arg7)
abbrev arg8 : FVec Ideal S1024 .f32 := m ((c : Thread nD τ).loc main_arg8)

theorem point9 (t : Fin cfg0.N) (r : Fin 256) (e : Fin 1024) (R : Fin 16896) (hR : R.val = t.val * 256 + r.val) :
    out0_9 (F := Ideal) (iblk m c 0 t) (iblk m c 1 t) (iblk m c 2 t) (iblk m c 3 t) (iblk m c 4 t) (iblk m c 5 t) (iblk m c 6 t) (iblk m c 7 t) (iblk m c 8 t) (ix2 r e) = GluRef.H (arg0 m c) (arg1 m c) (arg2 m c) (arg3 m c) (arg4 m c) (arg5 m c) (arg6 m c) (arg7 m c) (arg8 m c) R e := by
  refine (out9_at _ _ _ _ _ _ _ _ _ r e).trans ?_
  unfold GluRef.H
  rw [funext (b0 m c t r R hR), funext (b1 m c t r R hR), funext (b2 m c t r R hR), funext fun j => funext fun k => b3 m c t r R hR k j,
    funext (b4 m c t), funext fun j => funext fun k => b5 m c t j k, funext fun j => funext fun k => b6 m c t j k, funext (b7 m c t), funext (b8 m c t)]

theorem point10 (t : Fin cfg0.N) (r : Fin 256) (e : Fin 1024) (R : Fin 16896) (hR : R.val = t.val * 256 + r.val) :
    out0_10 (F := Ideal) (iblk m c 0 t) (iblk m c 1 t) (iblk m c 2 t) (iblk m c 3 t) (iblk m c 4 t) (iblk m c 5 t) (iblk m c 6 t) (iblk m c 7 t) (iblk m c 8 t) (ix2 r e) = GluRef.T (arg0 m c) (arg1 m c) (arg2 m c) (arg3 m c) (arg4 m c) (arg5 m c) (arg6 m c) (arg7 m c) (arg8 m c) R e := by
  refine (out10_at _ _ _ _ _ _ _ _ _ r e).trans ?_
  unfold GluRef.T
  rw [funext (b0 m c t r R hR), funext (b1 m c t r R hR), funext (b2 m c t r R hR), funext fun j => funext fun k => b3 m c t r R hR k j,
    funext (b4 m c t), funext fun j => funext fun k => b5 m c t j k, funext fun j => funext fun k => b6 m c t j k, funext (b7 m c t), funext (b8 m c t)]

theorem congr2 {a b : ℕ} (f : Fin a → Fin b → EReal) {i i' : Fin a} {j j' : Fin b} (hi : i.val = i'.val) (hj : j.val = j'.val) : f i j = f i' j' := by
  rw [Fin.ext hi, Fin.ext hj]

theorem final9 : (dats m 0 c).arrAt 9 cfg0.N = fun i : S16896x1024.Idx => GluRef.H (arg0 m c) (arg1 m c) (arg2 m c) (arg3 m c) (arg4 m c) (arg5 m c) (arg6 m c) (arg7 m c) (arg8 m c) (i 0) (i 1) := by
  refine (dats m 0 c).arrAt_eq_of_covers 9 _ (by decide +kernel) fun t _ y => ?_
  blk_simp
  rw [after0_9]
  have ht : t.val < 66 := t.isLt
  obtain ⟨-, -, e, -⟩ := idx t
  have hy0 : (y 0).val < 256 := (y 0).isLt
  have hy1 : (y 1).val < 1024 := (y 1).isLt
  have hy : (y : S256x1024.Idx) = ix2 ⟨(y 0).val, hy0⟩ ⟨(y 1).val, hy1⟩ := by blk_ext
  refine (congrArg _ hy).trans ((point9 m c t _ _ ⟨t.val * 256 + (y 0).val, by omega⟩ rfl).trans ?_)
  apply congr2 (GluRef.H (arg0 m c) (arg1 m c) (arg2 m c) (arg3 m c) (arg4 m c) (arg5 m c) (arg6 m c) (arg7 m c) (arg8 m c)) <;> blk_simp [e]

theorem final10 : (dats m 0 c).arrAt 10 cfg0.N = fun i : S16896x1024.Idx => GluRef.T (arg0 m c) (arg1 m c) (arg2 m c) (arg3 m c) (arg4 m c) (arg5 m c) (arg6 m c) (arg7 m c) (arg8 m c) (i 0) (i 1) := by
  refine (dats m 0 c).arrAt_eq_of_covers 10 _ (by decide +kernel) fun t _ y => ?_
  blk_simp
  rw [after0_10]
  have ht : t.val < 66 := t.isLt
  obtain ⟨-, -, -, e⟩ := idx t
  have hy0 : (y 0).val < 256 := (y 0).isLt
  have hy1 : (y 1).val < 1024 := (y 1).isLt
  have hy : (y : S256x1024.Idx) = ix2 ⟨(y 0).val, hy0⟩ ⟨(y 1).val, hy1⟩ := by blk_ext
  refine (congrArg _ hy).trans ((point10 m c t _ _ ⟨t.val * 256 + (y 0).val, by omega⟩ rfl).trans ?_)
  apply congr2 (GluRef.T (arg0 m c) (arg1 m c) (arg2 m c) (arg3 m c) (arg4 m c) (arg5 m c) (arg6 m c) (arg7 m c) (arg8 m c)) <;> blk_simp [e]

theorem frame_P : Cert.quiescent_Glu := fun m g _ => Cert.Glu.Gen.frame m g

theorem frame_PI : Cert.quiescent_GluIdeal := fun m g _ => Cert.GluIdeal.Gen.frame m g

theorem frame_RI : Cert.quiescent_GluRefIdeal := by
  intro m g _
  run_from Cert.GluRefIdeal.Value.run m g
  · exact fun c => ⟨trivial, trivial, trivial, trivial, trivial, trivial, trivial, trivial, trivial⟩
  · exact sem_eq_zero_of_no_sems (by decide) _

theorem preserves : Cert.preserves_Glu_GluIdeal := by
  trivial

theorem algebraic : Cert.algebraic_GluIdeal_GluRefIdeal := by
  pair_intro
  · run_from Cert.GluIdeal.Gen.run_main m g
  · run_from Cert.GluRefIdeal.Value.run m' g'
    · obtain ⟨h0, h1, h2, h3, h4, h5, h6, h7, h8⟩ := hagree c
      refine (Cert.GluRefIdeal.Read.val_main_v160_eq _).trans ?_
      refine Eq.trans ?_ ((GluRef.v160_eq _ _ _ _ _ _ _ _ _).trans (final9 m c).symm)
      rw [show arg0 m c = _ from h0.symm, show arg1 m c = _ from h1.symm, show arg2 m c = _ from h2.symm, show arg3 m c = _ from h3.symm, show arg4 m c = _ from h4.symm,
        show arg5 m c = _ from h5.symm, show arg6 m c = _ from h6.symm, show arg7 m c = _ from h7.symm, show arg8 m c = _ from h8.symm]
    · obtain ⟨h0, h1, h2, h3, h4, h5, h6, h7, h8⟩ := hagree c
      refine (Cert.GluRefIdeal.Read.val_main_v162_eq _).trans ?_
      refine Eq.trans ?_ ((GluRef.v162_eq _ _ _ _ _ _ _ _ _).trans (final10 m c).symm)
      rw [show arg0 m c = _ from h0.symm, show arg1 m c = _ from h1.symm, show arg2 m c = _ from h2.symm, show arg3 m c = _ from h3.symm, show arg4 m c = _ from h4.symm,
        show arg5 m c = _ from h5.symm, show arg6 m c = _ from h6.symm, show arg7 m c = _ from h7.symm, show arg8 m c = _ from h8.symm]

end Cert.Mla.Glu

end
-- ==== Proof.LastPay.lean ====
/- The step after the last layer's channel mixer: one program point of the kernel. -/
module

public import proofs.«01_k».proof.Proof.Norm
public import proofs.«01_k».proof.Proof.Gen.LastIdeal.Value
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.Last

open Norm Cert.LastIdeal Cert.LastIdeal.Gen

theorem pay1_at (h : FVec Ideal S256x1024 .f32) (gt : FVec Ideal S1x1x1024 .f32) (f : FVec Ideal S256x1024 .f32) (lg lb : FVec Ideal S1x1024 .f32)
    (r : Fin 256) (e : Fin 1024) : k0_pay1 (F := Ideal) h gt f lg lb (ix2 r e) =
      lnorm (fun k => keep * h (ix2 r k) + gt (ix3 0 0 k) * f (ix2 r k)) (fun k => lg (ix2 0 k)) (fun k => lb (ix2 0 k)) e := by
  unfold k0_pay1
  pointwise []
  rfl

theorem out5_at (h f : FVec Ideal S256x1024 .f32) (M : FVec Ideal S1x6x1024 .f32) (lg lb : FVec Ideal S1x1024 .f32)
    (r : Fin 256) (e : Fin 1024) : out0_5 (F := Ideal) h f M lg lb (ix2 r e) =
      lnorm (fun k => keep * h (ix2 r k) + M (ix3 0 5 k) * f (ix2 r k)) (fun k => lg (ix2 0 k)) (fun k => lb (ix2 0 k)) e := by
  frame_out
  pointwise [pay1_at]

theorem gather_at (x : FVec Ideal S8x6x1024 .f32) (idx : IVec S64x1 32) (t : Fin 64) (j : Fin 6) (e : Fin 1024) (b : Fin 8)
    (hb : min (idx (ix2 t 0)).toInt.toNat 7 = b.val) :
    Host.gather gather_S8x6x1024_S64x1_S64x6x1024_12_0_n_n_0_1_161024 x idx (ix3 t j e) = x (ix3 b j e) := by
  unfold Host.gather
  refine congrArg x (funext fun a => Fin.ext ?_)
  match a with
  | ⟨0, _⟩ =>
    refine Eq.trans ?_ hb
    have hsi : gather_S8x6x1024_S64x1_S64x6x1024_12_0_n_n_0_1_161024.siIdx (ix3 t j e) ⟨0, by decide⟩ = ix2 t 0 := by
      funext b; refine Fin.ext ?_
      match b with
      | ⟨0, _⟩ => rfl
      | ⟨1, _⟩ => rfl
    rw [← hsi]
    rfl
  | ⟨1, _⟩ =>
    simp [GatherDims.operandIdx, GatherDims.start, GatherDims.batchCoord, GatherDims.offCoord]
    rw [dif_neg (by decide), dif_neg (by decide), if_pos (by decide)]
    rw [Nat.zero_add]
  | ⟨2, _⟩ =>
    simp [GatherDims.operandIdx, GatherDims.start, GatherDims.batchCoord, GatherDims.offCoord]
    rw [dif_neg (by decide), dif_neg (by decide), if_pos (by decide)]
    rw [Nat.zero_add]

theorem lit_row : ∀ t : Fin 64, min (lit0 t).toInt.toNat 7 = t.val / 32 := by decide +kernel

section
variable (V : Valuation τ sig (Elt Ideal))

theorem a2 (t : Fin 64) (j : Fin 6) (e : Fin 1024) : (StableHlo.after (hostOps0 (F := Ideal)) V (Proc.devRef .tc main_v4) : FVec Ideal S64x6x1024 .f32) (ix3 t j e)
    = (V (Proc.devRef .tc main_arg2) : FVec Ideal S8x6x1024 .f32) (ix3 ⟨t.val / 32, by omega⟩ j e) := by
  after_reads_simp
  refine (gather_at _ _ t j e ⟨t.val / 32, by omega⟩ ?_)
  refine Eq.trans ?_ (lit_row t)
  pointwise []
  rw [show S64.rowMajor (ix1 t) = t from Fin.ext ((by decide +kernel : ∀ t : Fin 64, (S64.rowMajor (ix1 t)).val = t.val) t)]

theorem a3 (k : Fin 1024) : (StableHlo.after (hostOps0 (F := Ideal)) V (Proc.devRef .tc main_v5) : FVec Ideal S1x1024 .f32) (ix2 0 k)
    = (V (Proc.devRef .tc main_arg3) : FVec Ideal S1024 .f32) (ix1 k) := by
  after_reads_simp; pointwise []
  all_goals blk_ext

theorem a4 (k : Fin 1024) : (StableHlo.after (hostOps0 (F := Ideal)) V (Proc.devRef .tc main_v6) : FVec Ideal S1x1024 .f32) (ix2 0 k)
    = (V (Proc.devRef .tc main_arg4) : FVec Ideal S1024 .f32) (ix1 k) := by
  after_reads_simp; pointwise []
  all_goals blk_ext

end

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![t.val, 0, 0] ∧ win0_3.index t = ![0, 0] ∧ win0_4.index t = ![0, 0] ∧ win0_5.index t = ![t.val, 0] :=
  (by decide +kernel : ∀ t : Fin grid0.N, _)

section
variable (t : Fin cfg0.N) (r : Fin 256) (R : Fin 16384) (hR : R.val = t.val * 256 + r.val) (k : Fin 1024)
include hR

theorem b0 : (iblk m c 0 t : FVec Ideal S256x1024 .f32) (ix2 r k) = (m ((c : Thread nD τ).loc main_arg0) : FVec Ideal S16384x1024 .f32) (ix2 R k) := by
  obtain ⟨e, -⟩ := idx t
  refine Eq.trans ?_ (congrFun (V_main_arg0 m c) (ix2 R k))
  blk_ext [iblk, e]

theorem b1 : (iblk m c 1 t : FVec Ideal S256x1024 .f32) (ix2 r k) = (m ((c : Thread nD τ).loc main_arg1) : FVec Ideal S16384x1024 .f32) (ix2 R k) := by
  obtain ⟨-, e, -⟩ := idx t
  refine Eq.trans ?_ (congrFun (V_main_arg1 m c) (ix2 R k))
  blk_ext [iblk, e]

theorem b2 (j : Fin 6) : (iblk m c 2 t : FVec Ideal S1x6x1024 .f32) (ix3 0 j k) =
    (m ((c : Thread nD τ).loc main_arg2) : FVec Ideal S8x6x1024 .f32) (ix3 ⟨R.val / 8192, by omega⟩ j k) := by
  obtain ⟨-, -, e, -⟩ := idx t
  have ht : t.val < 64 := t.isLt
  have hq : (⟨R.val / 8192, by omega⟩ : Fin 8) = ⟨t.val / 32, by omega⟩ := Fin.ext (by simp only; omega)
  rw [hq]
  refine Eq.trans ?_ (a2 (fun b => m (c, b)) ⟨t.val, ht⟩ j k)
  blk_ext [iblk, e]

end

theorem b3 (t : Fin cfg0.N) (k : Fin 1024) : (iblk m c 3 t : FVec Ideal S1x1024 .f32) (ix2 0 k) =
    (m ((c : Thread nD τ).loc main_arg3) : FVec Ideal S1024 .f32) (ix1 k) := by
  obtain ⟨-, -, -, e, -⟩ := idx t
  refine Eq.trans ?_ (a3 (fun b => m (c, b)) k)
  blk_ext [iblk, e]

theorem b4 (t : Fin cfg0.N) (k : Fin 1024) : (iblk m c 4 t : FVec Ideal S1x1024 .f32) (ix2 0 k) =
    (m ((c : Thread nD τ).loc main_arg4) : FVec Ideal S1024 .f32) (ix1 k) := by
  obtain ⟨-, -, -, -, e, -⟩ := idx t
  refine Eq.trans ?_ (a4 (fun b => m (c, b)) k)
  blk_ext [iblk, e]

end Cert.Mla.Last

end
-- ==== Proof.LastRef.lean ====
/- The step after the last layer's channel mixer, as the reference has it. -/
module

public import proofs.«01_k».proof.Proof.Norm
public import proofs.«01_k».proof.Proof.Gen.LastRefIdeal.Read

@[expose] public section

set_option maxRecDepth 16384
noncomputable section

open Idealize.ShloMosaic Idealize.ShloMosaic.TcCoe Idealize.SL.Sem

namespace Cert.Mla.LastRef

open Norm Cert.LastRefIdeal Cert.LastRefIdeal.Gen Cert.LastRefIdeal.Read

variable (h f : FVec Ideal S16384x1024 .f32) (M : FVec Ideal S8x6x1024 .f32) (g b : FVec Ideal S1024 .f32)

theorem v11_at (q : Fin 2) (n : Fin 8192) (e : Fin 1024) : val_main_v11 (F := Ideal) h f M (ix3 q n e) =
    keep * h (ix2 ⟨q.val * 8192 + n.val, by omega⟩ e) + M (ix3 ⟨q.val, by omega⟩ 5 e) * f (ix2 ⟨q.val * 8192 + n.val, by omega⟩ e) := by
  unfold val_main_v11 val_main_v10 val_main_v9 val_main_v8 val_main_v7 val_main_v6 val_main_v5 val_main_cst val_main_v4 val_main_v3 val_main_v2 val_main_v1 val_main_v0
  pointwise []
  try rfl

theorem v35_at (q : Fin 2) (n : Fin 8192) (e : Fin 1024) : val_main_v35 (F := Ideal) h f M g b (ix3 q n e) =
    lnorm (fun k => val_main_v11 (F := Ideal) h f M (ix3 q n k)) (fun k => g (ix1 k)) (fun k => b (ix1 k)) e := by
  unfold val_main_v35 val_main_v34 val_main_v33 val_main_v32 val_main_v31 val_main_v30 val_main_v29 val_main_v28 val_main_v27 val_main_v26 val_main_v25 val_main_cst_4 val_main_v24 val_main_v23 val_main_v22 val_main_v21 val_main_cst_3 val_main_v20 val_main_v19 val_main_cst_2 val_main_v18 val_main_v17 val_main_v16 val_main_v15 val_main_v14 val_main_cst_1 val_main_v13 val_main_v12 val_main_cst_0
  generalize val_main_v11 (F := Ideal) h f M = y
  pointwise []
  try rfl

/-- One row of the result. -/
def H (R : Fin 16384) : Fin 1024 → EReal :=
  lnorm (fun k => keep * h (ix2 R k) + M (ix3 ⟨R.val / 8192, by omega⟩ 5 k) * f (ix2 R k)) (fun k => g (ix1 k)) (fun k => b (ix1 k))

theorem v35_row (R : Fin 16384) (e : Fin 1024) :
    val_main_v35 (F := Ideal) h f M g b (ix3 ⟨R.val / 8192, by omega⟩ ⟨R.val % 8192, by omega⟩ e) = H h f M g b R e := by
  rw [v35_at]
  unfold H
  congr 1
  funext k
  rw [v11_at]
  have hr : (⟨R.val / 8192 * 8192 + R.val % 8192, by omega⟩ : Fin 16384) = R := Fin.ext (by simp only; omega)
  simp only [hr]

theorem v36_eq : val_main_v36 (F := Ideal) h f M g b = fun i => H h f M g b (i 0) (i 1) := by
  refine funext fun i => ?_
  rw [eq_ix2 (n0 := 16384) (n1 := 1024) i]
  refine Eq.trans ?_ (v35_row h f M g b (i 0) (i 1))
  unfold val_main_v36
  generalize val_main_v35 (F := Ideal) h f M g b = y
  pointwise []

end Cert.Mla.LastRef

end
-- ==== Proof.LastVal.lean ====
/- The step after the last layer's channel mixer: the kernel's array is the reference's, and the claims about the two programs. -/
module

public import proofs.«01_k».proof.Defs
public import proofs.«01_k».proof.Proof.LastPay
public import proofs.«01_k».proof.Proof.LastRef
public import proofs.«01_k».proof.Proof.Gen.Last
public import proofs.«01_k».proof.Proof.Gen.Last.Frame
public import proofs.«01_k».proof.Proof.Gen.LastIdeal
public import proofs.«01_k».proof.Proof.Gen.LastRefIdeal
public import Idealize.ShloMosaic.Lib.Claim
public import Idealize.ShloMosaic.Adequacy
public import Idealize.ShloMosaic.Init

@[expose] public section

set_option maxRecDepth 16384
noncomputable section

open Idealize.ShloMosaic Idealize.ShloMosaic.TcCoe Idealize.SL.Sem
open Idealize.ShloMosaic.Pipeline (Dat)

namespace Cert.Mla.Last

open Norm Cert.LastIdeal Cert.LastIdeal.Gen

variable (m : (ℓ : Loc nD τ sig) → Buf (Elt Ideal) ℓ) (c : Dev nD)

abbrev arg0 : FVec Ideal S16384x1024 .f32 := m ((c : Thread nD τ).loc main_arg0)
abbrev arg1 : FVec Ideal S16384x1024 .f32 := m ((c : Thread nD τ).loc main_arg1)
abbrev arg2 : FVec Ideal S8x6x1024 .f32 := m ((c : Thread nD τ).loc main_arg2)
abbrev arg3 : FVec Ideal S1024 .f32 := m ((c : Thread nD τ).loc main_arg3)
abbrev arg4 : FVec Ideal S1024 .f32 := m ((c : Thread nD τ).loc main_arg4)

theorem point5 (t : Fin cfg0.N) (r : Fin 256) (e : Fin 1024) (R : Fin 16384) (hR : R.val = t.val * 256 + r.val) :
    out0_5 (F := Ideal) (iblk m c 0 t) (iblk m c 1 t) (iblk m c 2 t) (iblk m c 3 t) (iblk m c 4 t) (ix2 r e) =
      LastRef.H (arg0 m c) (arg1 m c) (arg2 m c) (arg3 m c) (arg4 m c) R e := by
  refine (out5_at _ _ _ _ _ r e).trans ?_
  unfold LastRef.H
  refine congrFun (congr (congr (congrArg lnorm (funext fun k => ?_)) (funext (b3 m c t))) (funext (b4 m c t))) e
  rw [b0 m c t r R hR k, b1 m c t r R hR k, b2 m c t r R hR k 5]

theorem congr2 {a b : ℕ} (f : Fin a → Fin b → EReal) {i i' : Fin a} {j j' : Fin b} (hi : i.val = i'.val) (hj : j.val = j'.val) : f i j = f i' j' := by
  rw [Fin.ext hi, Fin.ext hj]

theorem final5 : (dats m 0 c).arrAt 5 cfg0.N = fun i : S16384x1024.Idx => LastRef.H (arg0 m c) (arg1 m c) (arg2 m c) (arg3 m c) (arg4 m c) (i 0) (i 1) := by
  refine (dats m 0 c).arrAt_eq_of_covers 5 _ (by decide +kernel) fun t _ y => ?_
  blk_simp
  rw [after0_5]
  have ht : t.val < 64 := t.isLt
  obtain ⟨-, -, -, -, -, e⟩ := idx t
  have hy0 : (y 0).val < 256 := (y 0).isLt
  have hy1 : (y 1).val < 1024 := (y 1).isLt
  have hy : (y : S256x1024.Idx) = ix2 ⟨(y 0).val, hy0⟩ ⟨(y 1).val, hy1⟩ := by blk_ext
  refine (congrArg _ hy).trans ((point5 m c t _ _ ⟨t.val * 256 + (y 0).val, by omega⟩ rfl).trans ?_)
  apply congr2 (LastRef.H (arg0 m c) (arg1 m c) (arg2 m c) (arg3 m c) (arg4 m c)) <;> blk_simp [e]

theorem frame_P : Cert.quiescent_Last := fun m g _ => Cert.Last.Gen.frame m g

theorem frame_PI : Cert.quiescent_LastIdeal := fun m g _ => Cert.LastIdeal.Gen.frame m g

theorem frame_RI : Cert.quiescent_LastRefIdeal := by
  intro m g _
  run_from Cert.LastRefIdeal.Value.run m g
  · exact fun c => ⟨trivial, trivial, trivial, trivial, trivial⟩
  · exact sem_eq_zero_of_no_sems (by decide) _

theorem preserves : Cert.preserves_Last_LastIdeal := by
  trivial

theorem algebraic : Cert.algebraic_LastIdeal_LastRefIdeal := by
  pair_intro
  · run_from Cert.LastIdeal.Gen.run_main m g
  · run_from Cert.LastRefIdeal.Value.run m' g'
    obtain ⟨h0, h1, h2, h3, h4⟩ := hagree c
    refine (Cert.LastRefIdeal.Read.val_main_v36_eq m' c).trans ?_
    rw [h0, h1, h2, h3, h4]
    exact (LastRef.v36_eq _ _ _ _ _).trans (final5 m c).symm

end Cert.Mla.Last

end
-- ==== Proof.FirstPay.lean ====
/- The step after the first layer's channel mixer: one program point of the kernel. -/
module

public import proofs.«01_k».proof.Proof.Norm
public import proofs.«01_k».proof.Proof.Gen.FirstIdeal.Value
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.First

open Norm Cert.FirstIdeal Cert.FirstIdeal.Gen

theorem pay1_at (h : FVec Ideal S256x1024 .f32) (gt : FVec Ideal S1x1x1024 .f32) (f : FVec Ideal S256x1024 .f32) (lg lb : FVec Ideal S1x1024 .f32)
    (r : Fin 256) (e : Fin 1024) : k0_pay1 (F := Ideal) h gt f lg lb (ix2 r e) =
      lnorm (fun k => keep * h (ix2 r k) + gt (ix3 0 0 k) * f (ix2 r k)) (fun k => lg (ix2 0 k)) (fun k => lb (ix2 0 k)) e := by
  unfold k0_pay1
  pointwise []
  rfl

theorem out5_at (h f : FVec Ideal S256x1024 .f32) (M : FVec Ideal S1x6x1024 .f32) (lg lb : FVec Ideal S1x1024 .f32)
    (r : Fin 256) (e : Fin 1024) : out0_5 (F := Ideal) h f M lg lb (ix2 r e) =
      lnorm (fun k => keep * h (ix2 r k) + M (ix3 0 5 k) * f (ix2 r k)) (fun k => lg (ix2 0 k)) (fun k => lb (ix2 0 k)) e := by
  frame_out
  pointwise [pay1_at]

theorem gather_at (x : FVec Ideal S8x6x1024 .f32) (idx : IVec S66x1 32) (t : Fin 66) (j : Fin 6) (e : Fin 1024) (b : Fin 8)
    (hb : min (idx (ix2 t 0)).toInt.toNat 7 = b.val) :
    Host.gather gather_S8x6x1024_S66x1_S66x6x1024_12_0_n_n_0_1_161024 x idx (ix3 t j e) = x (ix3 b j e) := by
  unfold Host.gather
  refine congrArg x (funext fun a => Fin.ext ?_)
  match a with
  | ⟨0, _⟩ =>
    refine Eq.trans ?_ hb
    have hsi : gather_S8x6x1024_S66x1_S66x6x1024_12_0_n_n_0_1_161024.siIdx (ix3 t j e) ⟨0, by decide⟩ = ix2 t 0 := by
      funext b; refine Fin.ext ?_
      match b with
      | ⟨0, _⟩ => rfl
      | ⟨1, _⟩ => rfl
    rw [← hsi]
    rfl
  | ⟨1, _⟩ =>
    simp [GatherDims.operandIdx, GatherDims.start, GatherDims.batchCoord, GatherDims.offCoord]
    rw [dif_neg (by decide), dif_neg (by decide), if_pos (by decide)]
    rw [Nat.zero_add]
  | ⟨2, _⟩ =>
    simp [GatherDims.operandIdx, GatherDims.start, GatherDims.batchCoord, GatherDims.offCoord]
    rw [dif_neg (by decide), dif_neg (by decide), if_pos (by decide)]
    rw [Nat.zero_add]

theorem lit_row : ∀ t : Fin 66, min (lit0 t).toInt.toNat 7 = if t.val % 33 = 0 then 2 else t.val / 33 := by decide +kernel

section
variable (V : Valuation τ sig (Elt Ideal))

theorem a2 (t : Fin 66) (j : Fin 6) (e : Fin 1024) (b : Fin 8) (hb : b.val = if t.val % 33 = 0 then 2 else t.val / 33) :
    (StableHlo.after (hostOps0 (F := Ideal)) V (Proc.devRef .tc main_v4) : FVec Ideal S66x6x1024 .f32) (ix3 t j e)
    = (V (Proc.devRef .tc main_arg2) : FVec Ideal S8x6x1024 .f32) (ix3 b j e) := by
  after_reads_simp
  refine (gather_at _ _ t j e b ?_)
  refine Eq.trans ?_ ((lit_row t).trans hb.symm)
  pointwise []
  rw [show S66.rowMajor (ix1 t) = t from Fin.ext ((by decide +kernel : ∀ t : Fin 66, (S66.rowMajor (ix1 t)).val = t.val) t)]

theorem a3 (k : Fin 1024) : (StableHlo.after (hostOps0 (F := Ideal)) V (Proc.devRef .tc main_v5) : FVec Ideal S1x1024 .f32) (ix2 0 k)
    = (V (Proc.devRef .tc main_arg3) : FVec Ideal S1024 .f32) (ix1 k) := by
  after_reads_simp; pointwise []
  all_goals blk_ext

theorem a4 (k : Fin 1024) : (StableHlo.after (hostOps0 (F := Ideal)) V (Proc.devRef .tc main_v6) : FVec Ideal S1x1024 .f32) (ix2 0 k)
    = (V (Proc.devRef .tc main_arg4) : FVec Ideal S1024 .f32) (ix1 k) := by
  after_reads_simp; pointwise []
  all_goals blk_ext

end

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![t.val, 0, 0] ∧ win0_3.index t = ![0, 0] ∧ win0_4.index t = ![0, 0] ∧ win0_5.index t = ![t.val, 0] :=
  (by decide +kernel : ∀ t : Fin grid0.N, _)

section
variable (t : Fin cfg0.N) (r : Fin 256) (R : Fin 16896) (hR : R.val = t.val * 256 + r.val) (k : Fin 1024)
include hR

theorem b0 : (iblk m c 0 t : FVec Ideal S256x1024 .f32) (ix2 r k) = (m ((c : Thread nD τ).loc main_arg0) : FVec Ideal S16896x1024 .f32) (ix2 R k) := by
  obtain ⟨e, -⟩ := idx t
  refine Eq.trans ?_ (congrFun (V_main_arg0 m c) (ix2 R k))
  blk_ext [iblk, e]

theorem b1 : (iblk m c 1 t : FVec Ideal S256x1024 .f32) (ix2 r k) = (m ((c : Thread nD τ).loc main_arg1) : FVec Ideal S16896x1024 .f32) (ix2 R k) := by
  obtain ⟨-, e, -⟩ := idx t
  refine Eq.trans ?_ (congrFun (V_main_arg1 m c) (ix2 R k))
  blk_ext [iblk, e]

theorem b2 (j : Fin 6) : (iblk m c 2 t : FVec Ideal S1x6x1024 .f32) (ix3 0 j k) =
    (m ((c : Thread nD τ).loc main_arg2) : FVec Ideal S8x6x1024 .f32) (ix3 (row R) j k) := by
  obtain ⟨-, -, e, -⟩ := idx t
  have ht : t.val < 66 := t.isLt
  have hq : (row R).val = if t.val % 33 = 0 then 2 else t.val / 33 := by
    unfold row
    simp only
    split <;> split <;> omega
  refine Eq.trans ?_ (a2 (fun b => m (c, b)) ⟨t.val, ht⟩ j k _ hq)
  blk_ext [iblk, e]

end

theorem b3 (t : Fin cfg0.N) (k : Fin 1024) : (iblk m c 3 t : FVec Ideal S1x1024 .f32) (ix2 0 k) =
    (m ((c : Thread nD τ).loc main_arg3) : FVec Ideal S1024 .f32) (ix1 k) := by
  obtain ⟨-, -, -, e, -⟩ := idx t
  refine Eq.trans ?_ (a3 (fun b => m (c, b)) k)
  blk_ext [iblk, e]

theorem b4 (t : Fin cfg0.N) (k : Fin 1024) : (iblk m c 4 t : FVec Ideal S1x1024 .f32) (ix2 0 k) =
    (m ((c : Thread nD τ).loc main_arg4) : FVec Ideal S1024 .f32) (ix1 k) := by
  obtain ⟨-, -, -, -, e, -⟩ := idx t
  refine Eq.trans ?_ (a4 (fun b => m (c, b)) k)
  blk_ext [iblk, e]

end Cert.Mla.First

end
-- ==== Proof.FirstRef.lean ====
/- The step after the first layer's channel mixer, as the reference has it. -/
module

public import proofs.«01_k».proof.Proof.Norm
public import proofs.«01_k».proof.Proof.Gen.FirstRefIdeal.Read

@[expose] public section

set_option maxRecDepth 16384
noncomputable section

open Idealize.ShloMosaic Idealize.ShloMosaic.TcCoe Idealize.SL.Sem

namespace Cert.Mla.FirstRef

open Norm Cert.FirstRefIdeal Cert.FirstRefIdeal.Gen Cert.FirstRefIdeal.Read

variable (h f : FVec Ideal S16896x1024 .f32) (M : FVec Ideal S8x6x1024 .f32) (g b : FVec Ideal S1024 .f32)

theorem v16_at (q : Fin 2) (n : Fin 8192) (e : Fin 1024) : val_main_v16 (F := Ideal) h f M (ix3 q n e) =
    keep * h (ix2 ⟨q.val * 8448 + (256 + n.val), by omega⟩ e) + M (ix3 ⟨q.val, by omega⟩ 5 e) * f (ix2 ⟨q.val * 8448 + (256 + n.val), by omega⟩ e) := by
  unfold val_main_v16 val_main_v15 val_main_v14 val_main_v13 val_main_v12 val_main_v11 val_main_v10 val_main_v9 val_main_cst val_main_v8 val_main_v4 val_main_v3 val_main_v2 val_main_v1 val_main_v0
  pointwise []
  try rfl

theorem v40_at (q : Fin 2) (n : Fin 8192) (e : Fin 1024) : val_main_v40 (F := Ideal) h f M g b (ix3 q n e) =
    lnorm (fun k => val_main_v16 (F := Ideal) h f M (ix3 q n k)) (fun k => g (ix1 k)) (fun k => b (ix1 k)) e := by
  unfold val_main_v40 val_main_v39 val_main_v38 val_main_v37 val_main_v36 val_main_v35 val_main_v34 val_main_v33 val_main_v32 val_main_v31 val_main_v30 val_main_cst_4 val_main_v29 val_main_v28 val_main_v27 val_main_v26 val_main_cst_3 val_main_v25 val_main_v24 val_main_cst_2 val_main_v23 val_main_v22 val_main_v21 val_main_v20 val_main_v19 val_main_cst_1 val_main_v18 val_main_v17 val_main_cst_0
  generalize val_main_v16 (F := Ideal) h f M = y
  pointwise []
  try rfl

theorem v49_at (q : Fin 2) (n : Fin 256) (e : Fin 1024) : val_main_v49 (F := Ideal) h f M (ix3 q n e) =
    keep * h (ix2 ⟨q.val * 8448 + n.val, by omega⟩ e) + M (ix3 2 5 e) * f (ix2 ⟨q.val * 8448 + n.val, by omega⟩ e) := by
  unfold val_main_v49 val_main_v48 val_main_v47 val_main_v46 val_main_v45 val_main_v44 val_main_v43 val_main_v42 val_main_cst_5 val_main_v41 val_main_v7 val_main_v6 val_main_v5 val_main_v1 val_main_v0
  pointwise []
  try rfl

theorem v73_at (q : Fin 2) (n : Fin 256) (e : Fin 1024) : val_main_v73 (F := Ideal) h f M g b (ix3 q n e) =
    lnorm (fun k => val_main_v49 (F := Ideal) h f M (ix3 q n k)) (fun k => g (ix1 k)) (fun k => b (ix1 k)) e := by
  unfold val_main_v73 val_main_v72 val_main_v71 val_main_v70 val_main_v69 val_main_v68 val_main_v67 val_main_v66 val_main_v65 val_main_v64 val_main_v63 val_main_cst_10 val_main_v62 val_main_v61 val_main_v60 val_main_v59 val_main_cst_9 val_main_v58 val_main_v57 val_main_cst_8 val_main_v56 val_main_v55 val_main_v54 val_main_v53 val_main_v52 val_main_cst_7 val_main_v51 val_main_v50 val_main_cst_6
  generalize val_main_v49 (F := Ideal) h f M = y
  pointwise []
  try rfl

/-- One row of the result. -/
def H (R : Fin 16896) : Fin 1024 → EReal :=
  lnorm (fun k => keep * h (ix2 R k) + M (ix3 (row R) 5 k) * f (ix2 R k)) (fun k => g (ix1 k)) (fun k => b (ix1 k))

theorem lat_H (q : Fin 2) (n : Fin 8192) (e : Fin 1024) (R : Fin 16896) (hR : R.val = q.val * 8448 + (256 + n.val)) :
    val_main_v40 (F := Ideal) h f M g b (ix3 q n e) = H h f M g b R e := by
  have h1 : (⟨q.val * 8448 + (256 + n.val), by omega⟩ : Fin 16896) = R := Fin.ext hR.symm
  have h2 : row R = ⟨q.val, by omega⟩ := Fin.ext (by unfold row; simp only; rw [if_neg (by omega)]; omega)
  unfold H
  rw [v40_at, h2]
  congr 1
  funext k
  rw [v16_at, h1]

theorem ctx_H (q : Fin 2) (n : Fin 256) (e : Fin 1024) (R : Fin 16896) (hR : R.val = q.val * 8448 + n.val) :
    val_main_v73 (F := Ideal) h f M g b (ix3 q n e) = H h f M g b R e := by
  have h1 : (⟨q.val * 8448 + n.val, by omega⟩ : Fin 16896) = R := Fin.ext hR.symm
  have h2 : row R = 2 := Fin.ext (by unfold row; simp only; rw [if_pos (by omega)]; rfl)
  unfold H
  rw [v73_at, h2]
  congr 1
  funext k
  rw [v49_at, h1]

theorem v75_eq : val_main_v75 (F := Ideal) h f M g b = fun i => H h f M g b (i 0) (i 1) := by
  refine funext fun i => ?_
  rw [eq_ix2 (n0 := 16896) (n1 := 1024) i]
  have hi : (i 0).val < 16896 := (i 0).isLt
  refine Eq.trans (b := val_main_v74 (F := Ideal) h f M g b (ix3 ⟨(i 0).val / 8448, by omega⟩ ⟨(i 0).val % 8448, by omega⟩ (i 1))) ?_ ?_
  · unfold val_main_v75
    generalize val_main_v74 (F := Ideal) h f M g b = y
    pointwise []
  · by_cases hc : (i 0).val % 8448 < 256
    · refine Eq.trans ?_ (ctx_H h f M g b ⟨(i 0).val / 8448, by omega⟩ ⟨(i 0).val % 8448, hc⟩ (i 1) (i 0) (by simp only; omega))
      unfold val_main_v74
      generalize val_main_v73 (F := Ideal) h f M g b = y
      generalize val_main_v40 (F := Ideal) h f M g b = z
      pointwise [hc]
    · refine Eq.trans ?_ (lat_H h f M g b ⟨(i 0).val / 8448, by omega⟩ ⟨(i 0).val % 8448 - 256, by omega⟩ (i 1) (i 0) (by simp only; omega))
      unfold val_main_v74
      generalize val_main_v73 (F := Ideal) h f M g b = y
      generalize val_main_v40 (F := Ideal) h f M g b = z
      pointwise [hc]

end Cert.Mla.FirstRef

end
-- ==== Proof.FirstVal.lean ====
/- The step after the first layer's channel mixer: the kernel's array is the reference's, and the claims about the two programs. -/
module

public import proofs.«01_k».proof.Defs
public import proofs.«01_k».proof.Proof.FirstPay
public import proofs.«01_k».proof.Proof.FirstRef
public import proofs.«01_k».proof.Proof.Gen.First
public import proofs.«01_k».proof.Proof.Gen.First.Frame
public import proofs.«01_k».proof.Proof.Gen.FirstIdeal
public import proofs.«01_k».proof.Proof.Gen.FirstRefIdeal
public import Idealize.ShloMosaic.Lib.Claim
public import Idealize.ShloMosaic.Adequacy
public import Idealize.ShloMosaic.Init

@[expose] public section

set_option maxRecDepth 16384
noncomputable section

open Idealize.ShloMosaic Idealize.ShloMosaic.TcCoe Idealize.SL.Sem
open Idealize.ShloMosaic.Pipeline (Dat)

namespace Cert.Mla.First

open Norm Cert.FirstIdeal Cert.FirstIdeal.Gen

variable (m : (ℓ : Loc nD τ sig) → Buf (Elt Ideal) ℓ) (c : Dev nD)

abbrev arg0 : FVec Ideal S16896x1024 .f32 := m ((c : Thread nD τ).loc main_arg0)
abbrev arg1 : FVec Ideal S16896x1024 .f32 := m ((c : Thread nD τ).loc main_arg1)
abbrev arg2 : FVec Ideal S8x6x1024 .f32 := m ((c : Thread nD τ).loc main_arg2)
abbrev arg3 : FVec Ideal S1024 .f32 := m ((c : Thread nD τ).loc main_arg3)
abbrev arg4 : FVec Ideal S1024 .f32 := m ((c : Thread nD τ).loc main_arg4)

theorem point5 (t : Fin cfg0.N) (r : Fin 256) (e : Fin 1024) (R : Fin 16896) (hR : R.val = t.val * 256 + r.val) :
    out0_5 (F := Ideal) (iblk m c 0 t) (iblk m c 1 t) (iblk m c 2 t) (iblk m c 3 t) (iblk m c 4 t) (ix2 r e) =
      FirstRef.H (arg0 m c) (arg1 m c) (arg2 m c) (arg3 m c) (arg4 m c) R e := by
  refine (out5_at _ _ _ _ _ r e).trans ?_
  unfold FirstRef.H
  refine congrFun (congr (congr (congrArg lnorm (funext fun k => ?_)) (funext (b3 m c t))) (funext (b4 m c t))) e
  rw [b0 m c t r R hR k, b1 m c t r R hR k, b2 m c t r R hR k 5]

theorem congr2 {a b : ℕ} (f : Fin a → Fin b → EReal) {i i' : Fin a} {j j' : Fin b} (hi : i.val = i'.val) (hj : j.val = j'.val) : f i j = f i' j' := by
  rw [Fin.ext hi, Fin.ext hj]

theorem final5 : (dats m 0 c).arrAt 5 cfg0.N = fun i : S16896x1024.Idx => FirstRef.H (arg0 m c) (arg1 m c) (arg2 m c) (arg3 m c) (arg4 m c) (i 0) (i 1) := by
  refine (dats m 0 c).arrAt_eq_of_covers 5 _ (by decide +kernel) fun t _ y => ?_
  blk_simp
  rw [after0_5]
  have ht : t.val < 66 := t.isLt
  obtain ⟨-, -, -, -, -, e⟩ := idx t
  have hy0 : (y 0).val < 256 := (y 0).isLt
  have hy1 : (y 1).val < 1024 := (y 1).isLt
  have hy : (y : S256x1024.Idx) = ix2 ⟨(y 0).val, hy0⟩ ⟨(y 1).val, hy1⟩ := by blk_ext
  refine (congrArg _ hy).trans ((point5 m c t _ _ ⟨t.val * 256 + (y 0).val, by omega⟩ rfl).trans ?_)
  apply congr2 (FirstRef.H (arg0 m c) (arg1 m c) (arg2 m c) (arg3 m c) (arg4 m c)) <;> blk_simp [e]

theorem frame_P : Cert.quiescent_First := fun m g _ => Cert.First.Gen.frame m g

theorem frame_PI : Cert.quiescent_FirstIdeal := fun m g _ => Cert.FirstIdeal.Gen.frame m g

theorem frame_RI : Cert.quiescent_FirstRefIdeal := by
  intro m g _
  run_from Cert.FirstRefIdeal.Value.run m g
  · exact fun c => ⟨trivial, trivial, trivial, trivial, trivial⟩
  · exact sem_eq_zero_of_no_sems (by decide) _

theorem preserves : Cert.preserves_First_FirstIdeal := by
  trivial

theorem algebraic : Cert.algebraic_FirstIdeal_FirstRefIdeal := by
  pair_intro
  · run_from Cert.FirstIdeal.Gen.run_main m g
  · run_from Cert.FirstRefIdeal.Value.run m' g'
    obtain ⟨h0, h1, h2, h3, h4⟩ := hagree c
    refine (Cert.FirstRefIdeal.Read.val_main_v75_eq m' c).trans ?_
    rw [h0, h1, h2, h3, h4]
    exact (FirstRef.v75_eq _ _ _ _ _).trans (final5 m c).symm

end Cert.Mla.First

end
-- ==== Proof.AdaAPay.lean ====
/- The first layer's modulations: one program point of the kernel. -/
module

public import proofs.«01_k».proof.Proof.Norm
public import proofs.«01_k».proof.Proof.Gen.AdaAIdeal.Value
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.AdaA

open Cert.AdaAIdeal Cert.AdaAIdeal.Gen

theorem pay1_at (x : FVec Ideal S8x1024 .f32) (w : FVec Ideal S1x1024x1024 .f32) (b : FVec Ideal S1x1x1024 .f32)
    (r : Fin 8) (e : Fin 1024) : k0_pay1 (F := Ideal) x w b (ix2 r e) =
      (∑ k : Fin 1024, x (ix2 r k) * Ideal.logistic (x (ix2 r k)) * w (ix3 0 k e)) + b (ix3 0 0 e) := by
  unfold k0_pay1
  pointwise []

theorem out3_at (x : FVec Ideal S8x1024 .f32) (w : FVec Ideal S1x1024x1024 .f32) (b : FVec Ideal S1x1x1024 .f32)
    (r : Fin 8) (e : Fin 1024) : out0_3 (F := Ideal) x w b (ix2 r e) =
      (∑ k : Fin 1024, x (ix2 r k) * Ideal.logistic (x (ix2 r k)) * w (ix3 0 k e)) + b (ix3 0 0 e) := by
  frame_out
  pointwise [pay1_at]

theorem a2 (V : Valuation τ sig (Elt Ideal)) (l : Fin 2) (k : Fin 6144) : (StableHlo.after (hostOps0 (F := Ideal)) V (Proc.devRef .tc main_v0) : FVec Ideal S2x1x6144 .f32) (ix3 l 0 k)
    = (V (Proc.devRef .tc main_arg2) : FVec Ideal S2x6144 .f32) (ix2 l k) := by
  after_reads_simp; pointwise []
  all_goals blk_ext

variable (m : (ℓ : Loc nD τ sig) → Buf (Elt Ideal) ℓ) (c : Dev nD)

theorem idx : ∀ t : Fin cfg0.N, win0_0.index t = ![0, 0] ∧ win0_1.index t = ![0, 0, t.val]
    ∧ win0_2.index t = ![0, 0, t.val] ∧ win0_3.index t = ![0, t.val] :=
  (by decide +kernel : ∀ t : Fin grid0.N, _)

theorem b0 (t : Fin cfg0.N) (r : Fin 8) (k : Fin 1024) : (iblk m c 0 t : FVec Ideal S8x1024 .f32) (ix2 r k) =
    (m ((c : Thread nD τ).loc main_arg0) : FVec Ideal S8x1024 .f32) (ix2 r k) := by
  obtain ⟨e, -⟩ := idx t
  refine Eq.trans ?_ (congrFun (V_main_arg0 m c) (ix2 r k))
  blk_ext [iblk, e]

theorem b1 (t : Fin cfg0.N) (k e : Fin 1024) (E : Fin 6144) (hE : E.val = t.val * 1024 + e.val) :
    (iblk m c 1 t : FVec Ideal S1x1024x1024 .f32) (ix3 0 k e) = (m ((c : Thread nD τ).loc main_arg1) : FVec Ideal S2x1024x6144 .f32) (ix3 0 k E) := by
  obtain ⟨-, h, -⟩ := idx t
  refine Eq.trans ?_ (congrFun (V_main_arg1 m c) (ix3 0 k E))
  blk_ext [iblk, h]

theorem b2 (t : Fin cfg0.N) (e : Fin 1024) (E : Fin 6144) (hE : E.val = t.val * 1024 + e.val) :
    (iblk m c 2 t : FVec Ideal S1x1x1024 .f32) (ix3 0 0 e) = (m ((c : Thread nD τ).loc main_arg2) : FVec Ideal S2x6144 .f32) (ix2 0 E) := by
  obtain ⟨-, -, h, -⟩ := idx t
  refine Eq.trans ?_ (a2 (fun b => m (c, b)) 0 E)
  blk_ext [iblk, h]

end Cert.Mla.AdaA

end
-- ==== Proof.AdaARef.lean ====
/- The first layer's modulations, as the reference has them. -/
module

public import proofs.«01_k».proof.Proof.Norm
public import proofs.«01_k».proof.Proof.Gen.AdaARefIdeal.Read

@[expose] public section

set_option maxRecDepth 16384
noncomputable section

open Idealize.ShloMosaic Idealize.ShloMosaic.TcCoe Idealize.SL.Sem

namespace Cert.Mla.AdaARef

open Cert.AdaARefIdeal Cert.AdaARefIdeal.Gen Cert.AdaARefIdeal.Read

variable (x : FVec Ideal S8x1024 .f32) (w : FVec Ideal S2x1024x6144 .f32) (b : FVec Ideal S2x6144 .f32)

/-- One modulation. -/
def H (r : Fin 8) (e : Fin 6144) : EReal :=
  (∑ k : Fin 1024, x (ix2 r k) * Ideal.logistic (x (ix2 r k)) * w (ix3 0 k e)) + b (ix2 0 e)

theorem v0_at (r : Fin 8) (k : Fin 1024) : val_main_v0 (F := Ideal) x (ix2 r k) = x (ix2 r k) * Ideal.logistic (x (ix2 r k)) := by
  unfold val_main_v0 val_main_call0_v5 val_main_call0_v4 val_main_call0_cst_0 val_main_call0_v3 val_main_call0_v2 val_main_call0_cst val_main_call0_v1 val_main_call0_v0
  pointwise []
  rfl

theorem v8_eq : val_main_v8 (F := Ideal) x w b = fun i => H x w b (i 0) (i 1) := by
  refine funext fun i => ?_
  rw [eq_ix2 (n0 := 8) (n1 := 6144) i]
  refine Eq.trans (b := (∑ k : Fin 1024, val_main_v0 (F := Ideal) x (ix2 (i 0) k) * w (ix3 0 k (i 1))) + b (ix2 0 (i 1))) ?_ ?_
  · unfold val_main_v8 val_main_v7 val_main_v6 val_main_v5 val_main_v4 val_main_v3 val_main_v2 val_main_v1
    generalize val_main_v0 (F := Ideal) x = y
    pointwise []
  · exact congrArg (fun s => s + b (ix2 0 (i 1))) (Finset.sum_congr rfl fun k _ => congrArg (fun s => s * w (ix3 0 k (i 1))) (v0_at x (i 0) k))

end Cert.Mla.AdaARef

end
-- ==== Proof.AdaAVal.lean ====
/- The first layer's modulations: the kernel's array is the reference's, and the claims about the two programs. -/
module

public import proofs.«01_k».proof.Defs
public import proofs.«01_k».proof.Proof.AdaAPay
public import proofs.«01_k».proof.Proof.AdaARef
public import proofs.«01_k».proof.Proof.Gen.AdaA
public import proofs.«01_k».proof.Proof.Gen.AdaA.Frame
public import proofs.«01_k».proof.Proof.Gen.AdaAIdeal
public import proofs.«01_k».proof.Proof.Gen.AdaARefIdeal
public import Idealize.ShloMosaic.Lib.Claim
public import Idealize.ShloMosaic.Adequacy
public import Idealize.ShloMosaic.Init

@[expose] public section

set_option maxRecDepth 16384
noncomputable section

open Idealize.ShloMosaic Idealize.ShloMosaic.TcCoe Idealize.SL.Sem
open Idealize.ShloMosaic.Pipeline (Dat)

namespace Cert.Mla.AdaA

open Cert.AdaAIdeal Cert.AdaAIdeal.Gen

variable (m : (ℓ : Loc nD τ sig) → Buf (Elt Ideal) ℓ) (c : Dev nD)

abbrev arg0 : FVec Ideal S8x1024 .f32 := m ((c : Thread nD τ).loc main_arg0)
abbrev arg1 : FVec Ideal S2x1024x6144 .f32 := m ((c : Thread nD τ).loc main_arg1)
abbrev arg2 : FVec Ideal S2x6144 .f32 := m ((c : Thread nD τ).loc main_arg2)

theorem point3 (t : Fin cfg0.N) (r : Fin 8) (e : Fin 1024) (E : Fin 6144) (hE : E.val = t.val * 1024 + e.val) :
    out0_3 (F := Ideal) (iblk m c 0 t) (iblk m c 1 t) (iblk m c 2 t) (ix2 r e) = AdaARef.H (arg0 m c) (arg1 m c) (arg2 m c) r E := by
  refine (out3_at _ _ _ r e).trans ?_
  unfold AdaARef.H
  refine congr (congrArg _ (Finset.sum_congr rfl fun k _ => ?_)) (b2 m c t e E hE)
  rw [b0 m c t r k, b1 m c t k e E hE]

theorem congr2 {a b : ℕ} (f : Fin a → Fin b → EReal) {i i' : Fin a} {j j' : Fin b} (hi : i.val = i'.val) (hj : j.val = j'.val) : f i j = f i' j' := by
  rw [Fin.ext hi, Fin.ext hj]

theorem final3 : (dats m 0 c).arrAt 3 cfg0.N = fun i : S8x6144.Idx => AdaARef.H (arg0 m c) (arg1 m c) (arg2 m c) (i 0) (i 1) := by
  refine (dats m 0 c).arrAt_eq_of_covers 3 _ (by decide +kernel) fun t _ y => ?_
  blk_simp
  rw [after0_3]
  have ht : t.val < 6 := t.isLt
  obtain ⟨-, -, -, e⟩ := idx t
  have hy0 : (y 0).val < 8 := (y 0).isLt
  have hy1 : (y 1).val < 1024 := (y 1).isLt
  have hy : (y : S8x1024.Idx) = ix2 ⟨(y 0).val, hy0⟩ ⟨(y 1).val, hy1⟩ := by blk_ext
  refine (congrArg _ hy).trans ((point3 m c t _ _ ⟨t.val * 1024 + (y 1).val, by omega⟩ rfl).trans ?_)
  apply congr2 (AdaARef.H (arg0 m c) (arg1 m c) (arg2 m c)) <;> blk_simp [e]

theorem frame_P : Cert.quiescent_AdaA := fun m g _ => Cert.AdaA.Gen.frame m g

theorem frame_PI : Cert.quiescent_AdaAIdeal := fun m g _ => Cert.AdaAIdeal.Gen.frame m g

theorem frame_RI : Cert.quiescent_AdaARefIdeal := by
  intro m g _
  run_from Cert.AdaARefIdeal.Value.run m g
  · exact fun c => ⟨trivial, trivial, trivial⟩
  · exact sem_eq_zero_of_no_sems (by decide) _

theorem preserves : Cert.preserves_AdaA_AdaAIdeal := by
  trivial

theorem algebraic : Cert.algebraic_AdaAIdeal_AdaARefIdeal := by
  pair_intro
  · run_from Cert.AdaAIdeal.Gen.run_main m g
  · run_from Cert.AdaARefIdeal.Value.run m' g'
    refine (Cert.AdaARefIdeal.Read.val_main_v8_eq _ _ _).trans ?_
    exact (AdaARef.v8_eq _ _ _).trans (final3 m c).symm

end Cert.Mla.AdaA

end
-- ==== Proof.AdaBPay.lean ====
/- The second layer's modulations: one program point of the kernel. -/
module

public import proofs.«01_k».proof.Proof.Norm
public import proofs.«01_k».proof.Proof.Gen.AdaBIdeal.Value
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.AdaB

open Cert.AdaBIdeal Cert.AdaBIdeal.Gen

theorem pay1_at (x : FVec Ideal S8x1024 .f32) (w : FVec Ideal S1x1024x1024 .f32) (b : FVec Ideal S1x1x1024 .f32)
    (r : Fin 8) (e : Fin 1024) : k0_pay1 (F := Ideal) x w b (ix2 r e) =
      (∑ k : Fin 1024, x (ix2 r k) * Ideal.logistic (x (ix2 r k)) * w (ix3 0 k e)) + b (ix3 0 0 e) := by
  unfold k0_pay1
  pointwise []

theorem out3_at (x : FVec Ideal S8x1024 .f32) (w : FVec Ideal S1x1024x1024 .f32) (b : FVec Ideal S1x1x1024 .f32)
    (r : Fin 8) (e : Fin 1024) : out0_3 (F := Ideal) x w b (ix2 r e) =
      (∑ k : Fin 1024, x (ix2 r k) * Ideal.logistic (x (ix2 r k)) * w (ix3 0 k e)) + b (ix3 0 0 e) := by
  frame_out
  pointwise [pay1_at]

theorem a2 (V : Valuation τ sig (Elt Ideal)) (l : Fin 2) (k : Fin 6144) : (StableHlo.after (hostOps0 (F := Ideal)) V (Proc.devRef .tc main_v0) : FVec Ideal S2x1x6144 .f32) (ix3 l 0 k)
    = (V (Proc.devRef .tc main_arg2) : FVec Ideal S2x6144 .f32) (ix2 l k) := by
  after_reads_simp; pointwise []
  all_goals blk_ext

variable (m : (ℓ : Loc nD τ sig) → Buf (Elt Ideal) ℓ) (c : Dev nD)

theorem idx : ∀ t : Fin cfg0.N, win0_0.index t = ![0, 0] ∧ win0_1.index t = ![1, 0, t.val]
    ∧ win0_2.index t = ![1, 0, t.val] ∧ win0_3.index t = ![0, t.val] :=
  (by decide +kernel : ∀ t : Fin grid0.N, _)

theorem b0 (t : Fin cfg0.N) (r : Fin 8) (k : Fin 1024) : (iblk m c 0 t : FVec Ideal S8x1024 .f32) (ix2 r k) =
    (m ((c : Thread nD τ).loc main_arg0) : FVec Ideal S8x1024 .f32) (ix2 r k) := by
  obtain ⟨e, -⟩ := idx t
  refine Eq.trans ?_ (congrFun (V_main_arg0 m c) (ix2 r k))
  blk_ext [iblk, e]

theorem b1 (t : Fin cfg0.N) (k e : Fin 1024) (E : Fin 6144) (hE : E.val = t.val * 1024 + e.val) :
    (iblk m c 1 t : FVec Ideal S1x1024x1024 .f32) (ix3 0 k e) = (m ((c : Thread nD τ).loc main_arg1) : FVec Ideal S2x1024x6144 .f32) (ix3 1 k E) := by
  obtain ⟨-, h, -⟩ := idx t
  refine Eq.trans ?_ (congrFun (V_main_arg1 m c) (ix3 1 k E))
  blk_ext [iblk, h]

theorem b2 (t : Fin cfg0.N) (e : Fin 1024) (E : Fin 6144) (hE : E.val = t.val * 1024 + e.val) :
    (iblk m c 2 t : FVec Ideal S1x1x1024 .f32) (ix3 0 0 e) = (m ((c : Thread nD τ).loc main_arg2) : FVec Ideal S2x6144 .f32) (ix2 1 E) := by
  obtain ⟨-, -, h, -⟩ := idx t
  refine Eq.trans ?_ (a2 (fun b => m (c, b)) 1 E)
  blk_ext [iblk, h]

end Cert.Mla.AdaB

end
-- ==== Proof.AdaBRef.lean ====
/- The second layer's modulations, as the reference has them. -/
module

public import proofs.«01_k».proof.Proof.Norm
public import proofs.«01_k».proof.Proof.Gen.AdaBRefIdeal.Read

@[expose] public section

set_option maxRecDepth 16384
noncomputable section

open Idealize.ShloMosaic Idealize.ShloMosaic.TcCoe Idealize.SL.Sem

namespace Cert.Mla.AdaBRef

open Cert.AdaBRefIdeal Cert.AdaBRefIdeal.Gen Cert.AdaBRefIdeal.Read

variable (x : FVec Ideal S8x1024 .f32) (w : FVec Ideal S2x1024x6144 .f32) (b : FVec Ideal S2x6144 .f32)

/-- One modulation. -/
def H (r : Fin 8) (e : Fin 6144) : EReal :=
  (∑ k : Fin 1024, x (ix2 r k) * Ideal.logistic (x (ix2 r k)) * w (ix3 1 k e)) + b (ix2 1 e)

theorem v0_at (r : Fin 8) (k : Fin 1024) : val_main_v0 (F := Ideal) x (ix2 r k) = x (ix2 r k) * Ideal.logistic (x (ix2 r k)) := by
  unfold val_main_v0 val_main_call0_v5 val_main_call0_v4 val_main_call0_cst_0 val_main_call0_v3 val_main_call0_v2 val_main_call0_cst val_main_call0_v1 val_main_call0_v0
  pointwise []
  rfl

theorem v8_eq : val_main_v8 (F := Ideal) x w b = fun i => H x w b (i 0) (i 1) := by
  refine funext fun i => ?_
  rw [eq_ix2 (n0 := 8) (n1 := 6144) i]
  refine Eq.trans (b := (∑ k : Fin 1024, val_main_v0 (F := Ideal) x (ix2 (i 0) k) * w (ix3 1 k (i 1))) + b (ix2 1 (i 1))) ?_ ?_
  · unfold val_main_v8 val_main_v7 val_main_v6 val_main_v5 val_main_v4 val_main_v3 val_main_v2 val_main_v1
    generalize val_main_v0 (F := Ideal) x = y
    pointwise []
  · exact congrArg (fun s => s + b (ix2 1 (i 1))) (Finset.sum_congr rfl fun k _ => congrArg (fun s => s * w (ix3 1 k (i 1))) (v0_at x (i 0) k))

end Cert.Mla.AdaBRef

end
-- ==== Proof.AdaBVal.lean ====
/- The second layer's modulations: the kernel's array is the reference's, and the claims about the two programs. -/
module

public import proofs.«01_k».proof.Defs
public import proofs.«01_k».proof.Proof.AdaBPay
public import proofs.«01_k».proof.Proof.AdaBRef
public import proofs.«01_k».proof.Proof.Gen.AdaB
public import proofs.«01_k».proof.Proof.Gen.AdaB.Frame
public import proofs.«01_k».proof.Proof.Gen.AdaBIdeal
public import proofs.«01_k».proof.Proof.Gen.AdaBRefIdeal
public import Idealize.ShloMosaic.Lib.Claim
public import Idealize.ShloMosaic.Adequacy
public import Idealize.ShloMosaic.Init

@[expose] public section

set_option maxRecDepth 16384
noncomputable section

open Idealize.ShloMosaic Idealize.ShloMosaic.TcCoe Idealize.SL.Sem
open Idealize.ShloMosaic.Pipeline (Dat)

namespace Cert.Mla.AdaB

open Cert.AdaBIdeal Cert.AdaBIdeal.Gen

variable (m : (ℓ : Loc nD τ sig) → Buf (Elt Ideal) ℓ) (c : Dev nD)

abbrev arg0 : FVec Ideal S8x1024 .f32 := m ((c : Thread nD τ).loc main_arg0)
abbrev arg1 : FVec Ideal S2x1024x6144 .f32 := m ((c : Thread nD τ).loc main_arg1)
abbrev arg2 : FVec Ideal S2x6144 .f32 := m ((c : Thread nD τ).loc main_arg2)

theorem point3 (t : Fin cfg0.N) (r : Fin 8) (e : Fin 1024) (E : Fin 6144) (hE : E.val = t.val * 1024 + e.val) :
    out0_3 (F := Ideal) (iblk m c 0 t) (iblk m c 1 t) (iblk m c 2 t) (ix2 r e) = AdaBRef.H (arg0 m c) (arg1 m c) (arg2 m c) r E := by
  refine (out3_at _ _ _ r e).trans ?_
  unfold AdaBRef.H
  refine congr (congrArg _ (Finset.sum_congr rfl fun k _ => ?_)) (b2 m c t e E hE)
  rw [b0 m c t r k, b1 m c t k e E hE]

theorem congr2 {a b : ℕ} (f : Fin a → Fin b → EReal) {i i' : Fin a} {j j' : Fin b} (hi : i.val = i'.val) (hj : j.val = j'.val) : f i j = f i' j' := by
  rw [Fin.ext hi, Fin.ext hj]

theorem final3 : (dats m 0 c).arrAt 3 cfg0.N = fun i : S8x6144.Idx => AdaBRef.H (arg0 m c) (arg1 m c) (arg2 m c) (i 0) (i 1) := by
  refine (dats m 0 c).arrAt_eq_of_covers 3 _ (by decide +kernel) fun t _ y => ?_
  blk_simp
  rw [after0_3]
  have ht : t.val < 6 := t.isLt
  obtain ⟨-, -, -, e⟩ := idx t
  have hy0 : (y 0).val < 8 := (y 0).isLt
  have hy1 : (y 1).val < 1024 := (y 1).isLt
  have hy : (y : S8x1024.Idx) = ix2 ⟨(y 0).val, hy0⟩ ⟨(y 1).val, hy1⟩ := by blk_ext
  refine (congrArg _ hy).trans ((point3 m c t _ _ ⟨t.val * 1024 + (y 1).val, by omega⟩ rfl).trans ?_)
  apply congr2 (AdaBRef.H (arg0 m c) (arg1 m c) (arg2 m c)) <;> blk_simp [e]

theorem frame_P : Cert.quiescent_AdaB := fun m g _ => Cert.AdaB.Gen.frame m g

theorem frame_PI : Cert.quiescent_AdaBIdeal := fun m g _ => Cert.AdaBIdeal.Gen.frame m g

theorem frame_RI : Cert.quiescent_AdaBRefIdeal := by
  intro m g _
  run_from Cert.AdaBRefIdeal.Value.run m g
  · exact fun c => ⟨trivial, trivial, trivial⟩
  · exact sem_eq_zero_of_no_sems (by decide) _

theorem preserves : Cert.preserves_AdaB_AdaBIdeal := by
  trivial

theorem algebraic : Cert.algebraic_AdaBIdeal_AdaBRefIdeal := by
  pair_intro
  · run_from Cert.AdaBIdeal.Gen.run_main m g
  · run_from Cert.AdaBRefIdeal.Value.run m' g'
    refine (Cert.AdaBRefIdeal.Read.val_main_v8_eq _ _ _).trans ?_
    exact (AdaBRef.v8_eq _ _ _).trans (final3 m c).symm

end Cert.Mla.AdaB

end
-- ==== Proof.RtSel.lean ====
/- The greatest entries, one after another: taking the greatest entry of a row, at its lowest position, and striking it out, again and
   again, visits the positions in the order a stable sort puts them in. -/
module

public import Idealize.ShloMosaic.Lib.SortPrefix
public import Mathlib.Data.EReal.Basic

@[expose] public section

noncomputable section

open Idealize.ShloMosaic

namespace Cert.Mla.Rt

/-- The greatest entry. -/
def top {n : Nat} (s : Fin n → EReal) : EReal := (Finset.univ : Finset (Fin n)).fold max ⊥ s

/-- The lowest position of the greatest entry, as a number; `N` if there is none. -/
def pos {n : Nat} (N : EReal) (s : Fin n → EReal) : EReal :=
  (Finset.univ : Finset (Fin n)).fold min ⊤ fun r => if s r = top s then ((r.val : ℝ) : EReal) else N

/-- The row with that position struck out. -/
def strike {n : Nat} (N : EReal) (s : Fin n → EReal) : Fin n → EReal := fun r => if ((r.val : ℝ) : EReal) = pos N s then ⊥ else s r

/-- Greater entries first, and of equal ones the lower position. -/
def bef {n : Nat} (x : Fin n → EReal) : Fin n → Fin n → Bool := fun k k' => decide (x k' < x k) || (decide (x k = x k') && decide (k < k'))

theorem bef_total {n : Nat} (x : Fin n → EReal) : StrictTotalBefore (bef x) :=
  StrictTotalBefore.of_key_then_position (fun a b : EReal => decide (b < a)) x (fun a => by simp)
    (fun a b c h1 h2 => by simp only [decide_eq_true_eq] at *; exact h2.trans h1)
    (fun a b => by simp only [decide_eq_true_eq]; rcases lt_trichotomy a b with h | h | h <;> simp [h])

theorem insertBefore_congr {ι : Type} (R R' : ι → ι → Bool) (a : ι) (l : List ι) (h : ∀ b ∈ l, R b a = R' b a) :
    insertBefore R a l = insertBefore R' a l := by
  induction l with
  | nil => rfl
  | cons b l ih =>
    unfold insertBefore
    rw [h b (by simp), ih fun c hc => h c (by simp [hc])]

theorem stableSort_bef {n : Nat} (x : Fin n → EReal) (l : List (Fin n)) (hl : l.Pairwise (· < ·)) :
    stableSort (fun k k' => decide (x k' < x k)) l = stableSort (bef x) l := by
  induction l with
  | nil => rfl
  | cons a l ih =>
    unfold stableSort
    rw [List.pairwise_cons] at hl
    rw [ih hl.2]
    refine insertBefore_congr _ _ _ _ fun b hb => ?_
    have h1 : a < b := hl.1 b ((perm_stableSort _ l).mem_iff.mp hb)
    simp [bef, not_lt.mpr h1.le]

theorem sortedFrom_bef {n : Nat} (x : Fin n → EReal) : sortedFrom (fun k k' => decide (x k' < x k)) = sortedFrom (bef x) := by
  have h : sortPositions n (fun k k' => decide (x k' < x k)) = sortPositions n (bef x) :=
    stableSort_bef x _ (List.pairwise_lt_finRange n)
  funext k
  unfold sortedFrom
  simp only [List.get_eq_getElem, h]
  rfl

theorem le_top {n : Nat} (s : Fin n → EReal) (r : Fin n) : s r ≤ top s :=
  ((Finset.fold_max_le (f := s) (top s)).mp le_rfl).2 r (Finset.mem_univ r)

theorem top_at {n : Nat} (s : Fin n → EReal) (h : ∃ r, ⊥ < s r) : ∃ r, s r = top s := by
  obtain ⟨r0, h0⟩ := h
  have := (Finset.le_fold_max (f := s) (s := Finset.univ) (b := ⊥) (top s)).mp le_rfl
  rcases this with h1 | ⟨r, -, hr⟩
  · exact absurd (lt_of_lt_of_le h0 (le_top s r0)) (not_lt.mpr h1)
  · exact ⟨r, le_antisymm (le_top s r) hr⟩

/-- One round. -/
theorem round {n : Nat} (N : EReal) (hN : ((n : ℝ) : EReal) ≤ N) (s : Fin n → EReal) (h : ∃ r, ⊥ < s r) :
    ∃ p : Fin n, pos N s = ((p.val : ℝ) : EReal) ∧ top s = s p ∧ ∀ q, q ≠ p → bef s q p = false := by
  obtain ⟨r0, h0⟩ := top_at s h
  let P := (Finset.univ : Finset (Fin n)).filter fun r => s r = top s
  have hP : P.Nonempty := ⟨r0, by simp [P, h0]⟩
  have hm : s (P.min' hP) = top s := (Finset.mem_filter.mp (P.min'_mem hP)).2
  refine ⟨P.min' hP, ?_, hm.symm, fun q hq => ?_⟩
  · refine le_antisymm ?_ ?_
    · refine (Finset.fold_min_le (s := Finset.univ) _).mpr (Or.inr ⟨P.min' hP, Finset.mem_univ _, ?_⟩)
      rw [if_pos hm]
    · refine (Finset.le_fold_min (s := Finset.univ) _).mpr ⟨_root_.le_top, fun r _ => ?_⟩
      split
      · rename_i hr
        have := P.min'_le r (by simp [P, hr])
        exact_mod_cast this
      · refine le_trans ?_ hN
        exact_mod_cast (P.min' hP).isLt.le
  · have h1 := le_top s q
    unfold bef
    rw [hm]
    simp only [Bool.or_eq_false_iff, decide_eq_false_iff_not, not_lt, Bool.and_eq_false_iff, h1, true_and]
    by_cases hs : s q = top s
    · right; exact P.min'_le q (by simp [P, hs])
    · left; exact hs

theorem strike_at {n : Nat} (N : EReal) (s : Fin n → EReal) (p : Fin n) (h : pos N s = ((p.val : ℝ) : EReal)) :
    strike N s = fun r => if r = p then ⊥ else s r := by
  funext r
  unfold strike
  rw [h]
  refine if_congr ?_ rfl rfl
  constructor
  · intro e; exact Fin.ext (by exact_mod_cast e)
  · rintro rfl; rfl

/-- The rounds: `k` positions, in order, and no other position before any of them. -/
theorem rounds {n : Nat} (N : EReal) (hN : ((n : ℝ) : EReal) ≤ N) (x : Fin n → EReal) (hpos : 0 < n) (k : Nat)
    (hk : k ≤ ((Finset.univ : Finset (Fin n)).filter fun r => ⊥ < x r).card) :
    ∃ σ : Nat → Fin n, (∀ t < k, ∀ u < k, σ t = σ u → t = u) ∧ (∀ t < k, ⊥ < x (σ t))
      ∧ (∀ t ≤ k, (strike N)^[t] x = fun r => if ∃ u < t, σ u = r then ⊥ else x r)
      ∧ (∀ t < k, top ((strike N)^[t] x) = x (σ t) ∧ pos N ((strike N)^[t] x) = (((σ t).val : ℝ) : EReal))
      ∧ (∀ t < k, ∀ q, (∀ u < t, σ u ≠ q) → bef x q (σ t) = false) := by
  induction k with
  | zero =>
    rcases Nat.eq_zero_or_pos n with hn | hn
    · exact absurd hpos (by omega)
    · exact ⟨fun _ => ⟨0, hn⟩, by simp, by simp, by simp, by simp, by simp⟩
  | succ k ih =>
    obtain ⟨σ, hinj, hbot, hst, hval, hord⟩ := ih (by omega)
    have hs := hst k le_rfl
    have hex : ∃ r, ⊥ < (strike N)^[k] x r := by
      by_contra hno
      simp only [not_exists, not_lt, le_bot_iff] at hno
      have hsub : ((Finset.univ : Finset (Fin n)).filter fun r => ⊥ < x r) ⊆ (Finset.range k).image σ := by
        intro r hr
        have hr' : ⊥ < x r := (Finset.mem_filter.mp hr).2
        have h1 := hno r
        rw [hs] at h1
        by_cases hu : ∃ u < k, σ u = r
        · obtain ⟨u, hu, e⟩ := hu
          exact Finset.mem_image.mpr ⟨u, Finset.mem_range.mpr hu, e⟩
        · simp only [if_neg hu] at h1
          exact absurd h1 hr'.ne'
      have h2 := Finset.card_le_card hsub
      have h3 := Finset.card_image_le (s := Finset.range k) (f := σ)
      rw [Finset.card_range] at h3
      omega
    obtain ⟨p, hp, ht, hb⟩ := round N hN _ hex
    have hnew : ∀ u < k, σ u ≠ p := by
      intro u hu e
      obtain ⟨r, hr⟩ := hex
      have h1 := lt_of_lt_of_le hr (le_top _ r)
      rw [ht, hs] at h1
      simp only [if_pos (⟨u, hu, e⟩ : ∃ u < k, σ u = p)] at h1
      exact absurd h1 (lt_irrefl _)
    have hxp : (strike N)^[k] x p = x p := by
      rw [hs]; exact if_neg (by rintro ⟨u, hu, e⟩; exact hnew u hu e)
    have hpb : ⊥ < x p := by
      obtain ⟨r, hr⟩ := hex
      rw [← hxp, ← ht]
      exact lt_of_lt_of_le hr (le_top _ r)
    have old : ∀ u, u < k → Function.update σ k p u = σ u := fun u hu => Function.update_of_ne (by omega) _ _
    have new : Function.update σ k p k = p := Function.update_self _ _ _
    refine ⟨Function.update σ k p, ?_, ?_, ?_, ?_, ?_⟩
    · intro t ht' u hu' e
      rcases Nat.lt_succ_iff_lt_or_eq.mp ht' with h1 | rfl <;> rcases Nat.lt_succ_iff_lt_or_eq.mp hu' with h2 | rfl
      · rw [old t h1, old u h2] at e; exact hinj t h1 u h2 e
      · rw [old t h1, new] at e; exact absurd e (hnew t h1)
      · rw [old u h2, new] at e; exact absurd e.symm (hnew u h2)
      · rfl
    · intro t ht'
      rcases Nat.lt_succ_iff_lt_or_eq.mp ht' with h1 | rfl
      · rw [old t h1]; exact hbot t h1
      · rw [new]; exact hpb
    · intro t ht'
      rcases Nat.le_succ_iff.mp ht' with h1 | rfl
      · rw [hst t h1]
        funext r
        refine if_congr ?_ rfl rfl
        constructor
        · rintro ⟨u, hu, e⟩; exact ⟨u, hu, (old u (by omega)).trans e⟩
        · rintro ⟨u, hu, e⟩; exact ⟨u, hu, (old u (by omega)).symm.trans e⟩
      · rw [Function.iterate_succ_apply', strike_at N _ p hp, hs]
        funext r
        by_cases e : r = p
        · subst e
          rw [if_pos rfl, if_pos ⟨k, by omega, new⟩]
        · rw [if_neg e]
          refine if_congr ?_ rfl rfl
          constructor
          · rintro ⟨u, hu, e⟩; exact ⟨u, by omega, (old u (by omega)).trans e⟩
          · rintro ⟨u, hu, e'⟩
            rcases Nat.lt_succ_iff_lt_or_eq.mp hu with h1 | rfl
            · exact ⟨u, h1, (old u h1).symm.trans e'⟩
            · rw [new] at e'; exact absurd e'.symm e
    · intro t ht'
      rcases Nat.lt_succ_iff_lt_or_eq.mp ht' with h1 | rfl
      · rw [old t h1]; exact hval t h1
      · rw [new]; exact ⟨ht.trans hxp, hp⟩
    · intro t ht' q hq
      rcases Nat.lt_succ_iff_lt_or_eq.mp ht' with h1 | rfl
      · rw [old t h1]
        exact hord t h1 q fun u hu => by rw [← old u (by omega)]; exact hq u hu
      · rw [new]
        by_cases e : q = p
        · subst e; exact (bef_total x).irrefl q
        have h1 := hb q e
        have hxq : (strike N)^[t] x q = x q := by
          rw [hs]; exact if_neg (by rintro ⟨u, hu, e'⟩; exact hq u hu ((old u hu).trans e'))
        unfold bef at h1 ⊢
        rwa [hxp, hxq] at h1

/-- So the rounds visit the positions of the stable sort. -/
theorem rounds_sorted {n : Nat} (N : EReal) (hN : ((n : ℝ) : EReal) ≤ N) (x : Fin n → EReal) (k : Nat) (hkn : k ≤ n)
    (hx : ∀ r, ⊥ < x r) (t : Fin k) :
    top ((strike N)^[t.val] x) = x (sortedFrom (fun k k' => decide (x k' < x k)) (t.castLE hkn))
      ∧ pos N ((strike N)^[t.val] x) = (((sortedFrom (fun k k' => decide (x k' < x k)) (t.castLE hkn)).val : ℝ) : EReal) := by
  have hn : 0 < n := by have := t.isLt; omega
  obtain ⟨σ, hinj, -, -, hval, hord⟩ := rounds N hN x hn k (by
    rw [Finset.filter_true_of_mem fun r _ => hx r, Finset.card_univ, Fintype.card_fin]; exact hkn)
  have h := (bef_total x).sortedFrom_eq_of_prefix hkn (fun i => σ i.val)
    (fun a b e => Fin.ext (hinj a.val a.isLt b.val b.isLt e))
    (fun i j hij => hord i.val i.isLt (σ j.val) fun u hu e => by
      have := hinj u (by omega) j.val j.isLt e
      have : i.val < j.val := hij
      omega)
    (fun i p hp => hord i.val i.isLt p fun u hu => hp ⟨u, by omega⟩) t
  rw [sortedFrom_bef, h]
  exact hval t.val t.isLt

/-- Where the `r`-th of the kept pairs lies among all pairs. -/
def emb : Fin 50 → Fin 256 := fun r => (((List.finRange 256).filter fun p : Fin 256 => decide ((p.val / 16 + 1) * (p.val % 16 + 1) ≤ 16)).get
  (r.cast (by decide +kernel)))

theorem emb_mono : ∀ r s : Fin 50, r < s → emb r < emb s := by decide +kernel

theorem emb_all : ∀ p : Fin 256, (∃ r, emb r = p)
    ∨ 16 ≤ ((Finset.univ : Finset (Fin 50)).filter fun r => (emb r).val / 16 ≤ p.val / 16 ∧ (emb r).val % 16 ≤ p.val % 16 ∧ emb r < p).card := by
  decide +kernel

/-- The sixteen greatest sums of two descending rows of sixteen are among the fifty pairs of which at most sixteen are ahead. -/
theorem pruned (N : EReal) (hN : ((56 : ℝ) : EReal) ≤ N) (D : Fin 256 → EReal) (hD : ∀ p, ⊥ < D p)
    (hmono : ∀ p q : Fin 256, q.val / 16 ≤ p.val / 16 → q.val % 16 ≤ p.val % 16 → D p ≤ D q)
    (c : Fin 56 → EReal) (hc : ∀ r : Fin 50, c (r.castLE (by decide)) = D (emb r)) (hpad : ∀ r : Fin 56, 50 ≤ r.val → c r = ⊥) (t : Fin 16) :
    ∃ r : Fin 50, sortedFrom (fun k k' => decide (D k' < D k)) (t.castLE (by decide)) = emb r
      ∧ top ((strike N)^[t.val] c) = D (emb r)
      ∧ pos N ((strike N)^[t.val] c) = ((r.val : ℝ) : EReal) := by
  obtain ⟨σ, hinj, hbot, -, hval, hord⟩ := rounds N hN c (by decide) 16 (by
    have h1 : (Finset.univ : Finset (Fin 50)).map (Fin.castLEEmb (by decide : 50 ≤ 56)) ⊆ (Finset.univ : Finset (Fin 56)).filter fun r => ⊥ < c r := by
      intro r hr
      obtain ⟨r', -, rfl⟩ := Finset.mem_map.mp hr
      refine Finset.mem_filter.mpr ⟨Finset.mem_univ _, ?_⟩
      have := hc r'
      show ⊥ < c (r'.castLE (by decide))
      rw [this]; exact hD _
    have h2 := Finset.card_le_card h1
    rw [Finset.card_map, Finset.card_univ, Fintype.card_fin] at h2
    exact le_trans (by decide) h2)
  have hlt : ∀ u < 16, (σ u).val < 50 := fun u hu => by
    by_contra hno
    have := hbot u hu
    rw [hpad (σ u) (by omega)] at this
    exact absurd this (lt_irrefl _)
  let τ : Fin 16 → Fin 50 := fun u => ⟨(σ u.val).val, hlt u.val u.isLt⟩
  have hτ : ∀ u, (τ u).castLE (by decide) = σ u.val := fun u => rfl
  have hτinj : Function.Injective τ := fun a b e => by
    have h1 : (τ a).castLE (by decide : 50 ≤ 56) = (τ b).castLE (by decide) := by rw [e]
    exact Fin.ext (hinj a.val a.isLt b.val b.isLt h1)
  have emb_inj : Function.Injective emb := fun a b e => by
    rcases lt_trichotomy a b with h | h | h
    · exact absurd e (emb_mono a b h).ne
    · exact h
    · exact absurd e.symm (emb_mono b a h).ne
  have emb_lt : ∀ a b : Fin 50, emb a < emb b ↔ a < b := fun a b => by
    refine ⟨fun h => ?_, emb_mono a b⟩
    by_contra hno
    rcases (not_lt.mp hno).lt_or_eq with h1 | h1
    · exact absurd (emb_mono b a h1) (not_lt.mpr h.le)
    · rw [h1] at h; exact absurd h (lt_irrefl _)
  have hbef : ∀ a b : Fin 50, bef D (emb a) (emb b) = bef c (a.castLE (by decide)) (b.castLE (by decide)) := fun a b => by
    unfold bef
    rw [hc, hc]
    congr 2
    exact decide_eq_decide.mpr (emb_lt a b)
  have hdom : ∀ (i : Fin 16) (r : Fin 50), (∀ u : Fin 16, u < i → τ u ≠ r) → bef D (emb r) (emb (τ i)) = false := fun i r h => by
    rw [hbef]
    exact hord i.val i.isLt _ fun u hu e => h ⟨u, by omega⟩ hu (Fin.ext (by rw [Fin.ext_iff] at e; exact e))
  have h := (bef_total D).sortedFrom_eq_of_prefix (k := 16) (by decide) (fun i => emb (τ i))
    (fun a b e => hτinj (emb_inj e))
    (fun i j hij => hdom i (τ j) fun u hu e => by
      have := hτinj e
      subst this
      exact absurd hij (not_lt.mpr hu.le))
    (fun i p hp => by
      rcases emb_all p with ⟨r, rfl⟩ | hcard
      · exact hdom i r fun u _ e => hp u (by rw [e])
      · by_contra hno
        have hyes : bef D p (emb (τ i)) = true := by simpa using hno
        have hsub : ((Finset.univ : Finset (Fin 50)).filter fun r => (emb r).val / 16 ≤ p.val / 16 ∧ (emb r).val % 16 ≤ p.val % 16 ∧ emb r < p)
            ⊆ ((Finset.univ : Finset (Fin 16)).filter fun u => u < i).image τ := by
          intro r hr
          obtain ⟨-, h1, h2, h3⟩ := Finset.mem_filter.mp hr
          have hb : bef D (emb r) p = true := by
            have h4 := hmono p (emb r) h1 h2
            unfold bef
            rcases h4.lt_or_eq with h5 | h5
            · simp [h5]
            · simp [h5, h3]
          have hb2 := (bef_total D).trans _ _ _ hb hyes
          by_contra hr2
          rw [hdom i r fun u hu e => hr2 (Finset.mem_image.mpr ⟨u, by simp [hu], e⟩)] at hb2
          exact absurd hb2 (by decide)
        have h6 := Finset.card_le_card hsub
        have h7 := Finset.card_image_le (s := (Finset.univ : Finset (Fin 16)).filter fun u => u < i) (f := τ)
        have h8 : ((Finset.univ : Finset (Fin 16)).filter fun u => u < i).card < (Finset.univ : Finset (Fin 16)).card :=
          Finset.card_lt_card (Finset.filter_ssubset.mpr ⟨i, Finset.mem_univ _, lt_irrefl _⟩)
        rw [Finset.card_univ, Fintype.card_fin] at h8
        omega) t
  refine ⟨τ t, ?_, ?_, ?_⟩
  · rw [sortedFrom_bef]; exact h
  · rw [(hval t.val t.isLt).1, ← hτ t, hc]
  · exact (hval t.val t.isLt).2

end Cert.Mla.Rt

end
-- ==== Proof.RtVec.lean ====
/- The routing kernel in arrays: one round of the selection, the rows of sums, the gates. -/
module

public import proofs.«01_k».proof.Proof.Norm
public import proofs.«01_k».proof.Proof.RtSel
public import proofs.«01_k».proof.Proof.Gen.RouteIdeal.Value
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.Rt

open Cert.RouteIdeal Cert.RouteIdeal.Gen

/-- The row numbers. -/
def ioA : FVec Ideal S128x256 .f32 := sitofp .f32 (iota .tc S128x256 32 [0] iota_S128x256_d0_w32)

/-- Each column's greatest entry. -/
def mrA (s : FVec Ideal S128x256 .f32) : FVec Ideal S256 .f32 := multiReduction .maximumf [0] S256 s 0xFF800000#32 reduces_S128x256_S256 (.inl rfl) rfl
def mxA (s : FVec Ideal S128x256 .f32) : FVec Ideal S1x256 .f32 := shapeCast S1x256 (mrA s) shapeCasts_S256_S1x256
def eqA (s : FVec Ideal S128x256 .f32) : IVec S128x256 1 := cmpf .oeq s (broadcastTo S128x256 (mxA s) broadcasts_S1x256_S128x256)
def cdA (s : FVec Ideal S128x256 .f32) : FVec Ideal S128x256 .f32 := select (eqA s) ioA (broadcast S128x256 (Scalar.ofBits .f32 0x43000000#32))

/-- Its lowest row. -/
def irA (s : FVec Ideal S128x256 .f32) : FVec Ideal S256 .f32 := multiReduction .minimumf [0] S256 (cdA s) 0x7F800000#32 reduces_S128x256_S256 (.inl rfl) rfl
def ixA (s : FVec Ideal S128x256 .f32) : FVec Ideal S1x256 .f32 := shapeCast S1x256 (irA s) shapeCasts_S256_S1x256
def htA (s : FVec Ideal S128x256 .f32) : IVec S128x256 1 := cmpf .oeq ioA (broadcastTo S128x256 (ixA s) broadcasts_S1x256_S128x256)

/-- The block with those rows struck out. -/
def stA (s : FVec Ideal S128x256 .f32) : FVec Ideal S128x256 .f32 := select (htA s) (broadcast S128x256 (Scalar.ofBits .f32 0xFF800000#32)) s

/-- The row numbers. -/
def ioB : FVec Ideal S56x256 .f32 := sitofp .f32 (iota .tc S56x256 32 [0] iota_S56x256_d0_w32)

/-- Each column's greatest entry. -/
def mrB (s : FVec Ideal S56x256 .f32) : FVec Ideal S256 .f32 := multiReduction .maximumf [0] S256 s 0xFF800000#32 reduces_S56x256_S256 (.inl rfl) rfl
def mxB (s : FVec Ideal S56x256 .f32) : FVec Ideal S1x256 .f32 := shapeCast S1x256 (mrB s) shapeCasts_S256_S1x256
def eqB (s : FVec Ideal S56x256 .f32) : IVec S56x256 1 := cmpf .oeq s (broadcastTo S56x256 (mxB s) broadcasts_S1x256_S56x256)
def cdB (s : FVec Ideal S56x256 .f32) : FVec Ideal S56x256 .f32 := select (eqB s) ioB (broadcast S56x256 (Scalar.ofBits .f32 0x42600000#32))

/-- Its lowest row. -/
def irB (s : FVec Ideal S56x256 .f32) : FVec Ideal S256 .f32 := multiReduction .minimumf [0] S256 (cdB s) 0x7F800000#32 reduces_S56x256_S256 (.inl rfl) rfl
def ixB (s : FVec Ideal S56x256 .f32) : FVec Ideal S1x256 .f32 := shapeCast S1x256 (irB s) shapeCasts_S256_S1x256
def htB (s : FVec Ideal S56x256 .f32) : IVec S56x256 1 := cmpf .oeq ioB (broadcastTo S56x256 (ixB s) broadcasts_S1x256_S56x256)

/-- The block with those rows struck out. -/
def stB (s : FVec Ideal S56x256 .f32) : FVec Ideal S56x256 .f32 := select (htB s) (broadcast S56x256 (Scalar.ofBits .f32 0xFF800000#32)) s

/-- What rides along with the greatest entry. -/
def psB (c s : FVec Ideal S56x256 .f32) : FVec Ideal S56x256 .f32 := select (htB s) c (broadcast S56x256 (Scalar.ofBits .f32 0xBF800000#32))
def prB (c s : FVec Ideal S56x256 .f32) : FVec Ideal S256 .f32 := multiReduction .maximumf [0] S256 (psB c s) 0xFF800000#32 reduces_S56x256_S256 (.inl rfl) rfl
def pyB (c s : FVec Ideal S56x256 .f32) : FVec Ideal S1x256 .f32 := shapeCast S1x256 (prB c s) shapeCasts_S256_S1x256

/-- The block after some rounds. -/
def SA (x : FVec Ideal S128x256 .f32) : Nat → FVec Ideal S128x256 .f32
  | 0 => x
  | t + 1 => stA (SA x t)

/-- Sixteen rows as one block. -/
def cat16 (f : Nat → FVec Ideal S1x256 .f32) : FVec Ideal S16x256 .f32 :=
  concatenate S16x256 0 [⟨S1x256, f 0⟩, ⟨S1x256, f 1⟩, ⟨S1x256, f 2⟩, ⟨S1x256, f 3⟩, ⟨S1x256, f 4⟩, ⟨S1x256, f 5⟩, ⟨S1x256, f 6⟩, ⟨S1x256, f 7⟩, ⟨S1x256, f 8⟩, ⟨S1x256, f 9⟩, ⟨S1x256, f 10⟩, ⟨S1x256, f 11⟩, ⟨S1x256, f 12⟩, ⟨S1x256, f 13⟩, ⟨S1x256, f 14⟩, ⟨S1x256, f 15⟩] concatenates_S1x256_S1x256_S1x256_S1x256_S1x256_S1x256_S1x256_S1x256_S1x256_S1x256_S1x256_S1x256_S1x256_S1x256_S1x256_S1x256_S16x256_d0

def V16 (y : FVec Ideal S128x256 .f32) : FVec Ideal S16x256 .f32 := cat16 fun t => mxA (SA y t)
def I16 (y : FVec Ideal S128x256 .f32) : FVec Ideal S16x256 .f32 := cat16 fun t => ixA (SA y t)

/-- The sums that may be among the sixteen greatest. -/
def cand (u : Nat → FVec Ideal S1x256 .f32) (v : FVec Ideal S16x256 .f32) (p : Ideal .f32) : FVec Ideal S56x256 .f32 :=
  concatenate S56x256 0 [⟨S16x256, addf (broadcastTo S16x256 (u 0) broadcasts_S1x256_S16x256) v⟩,
    ⟨S8x256, addf (broadcastTo S8x256 (u 1) broadcasts_S1x256_S8x256) (extractStridedSlice S8x256 ![0, 0] v slices_S16x256_o0_0_S8x256)⟩,
    ⟨S5x256, addf (broadcastTo S5x256 (u 2) broadcasts_S1x256_S5x256) (extractStridedSlice S5x256 ![0, 0] v slices_S16x256_o0_0_S5x256)⟩,
    ⟨S4x256, addf (broadcastTo S4x256 (u 3) broadcasts_S1x256_S4x256) (extractStridedSlice S4x256 ![0, 0] v slices_S16x256_o0_0_S4x256)⟩,
    ⟨S3x256, addf (broadcastTo S3x256 (u 4) broadcasts_S1x256_S3x256) (extractStridedSlice S3x256 ![0, 0] v slices_S16x256_o0_0_S3x256)⟩,
    ⟨S2x256, addf (broadcastTo S2x256 (u 5) broadcasts_S1x256_S2x256) (extractStridedSlice S2x256 ![0, 0] v slices_S16x256_o0_0_S2x256)⟩,
    ⟨S2x256, addf (broadcastTo S2x256 (u 6) broadcasts_S1x256_S2x256) (extractStridedSlice S2x256 ![0, 0] v slices_S16x256_o0_0_S2x256)⟩,
    ⟨S2x256, addf (broadcastTo S2x256 (u 7) broadcasts_S1x256_S2x256) (extractStridedSlice S2x256 ![0, 0] v slices_S16x256_o0_0_S2x256)⟩,
    ⟨S1x256, addf (u 8) (extractStridedSlice S1x256 ![0, 0] v slices_S16x256_o0_0_S1x256)⟩,
    ⟨S1x256, addf (u 9) (extractStridedSlice S1x256 ![0, 0] v slices_S16x256_o0_0_S1x256)⟩,
    ⟨S1x256, addf (u 10) (extractStridedSlice S1x256 ![0, 0] v slices_S16x256_o0_0_S1x256)⟩,
    ⟨S1x256, addf (u 11) (extractStridedSlice S1x256 ![0, 0] v slices_S16x256_o0_0_S1x256)⟩,
    ⟨S1x256, addf (u 12) (extractStridedSlice S1x256 ![0, 0] v slices_S16x256_o0_0_S1x256)⟩,
    ⟨S1x256, addf (u 13) (extractStridedSlice S1x256 ![0, 0] v slices_S16x256_o0_0_S1x256)⟩,
    ⟨S1x256, addf (u 14) (extractStridedSlice S1x256 ![0, 0] v slices_S16x256_o0_0_S1x256)⟩,
    ⟨S1x256, addf (u 15) (extractStridedSlice S1x256 ![0, 0] v slices_S16x256_o0_0_S1x256)⟩,
    ⟨S6x256, broadcast S6x256 p⟩] concatenates_S16x256_S8x256_S5x256_S4x256_S3x256_S2x256_S2x256_S2x256_S1x256_S1x256_S1x256_S1x256_S1x256_S1x256_S1x256_S1x256_S6x256_S56x256_d0

def CV (x y : FVec Ideal S128x256 .f32) : FVec Ideal S56x256 .f32 := cand (fun t => mxA (SA x t)) (V16 y) (Scalar.ofBits .f32 0xFF800000#32)
def CE (x y : FVec Ideal S128x256 .f32) : FVec Ideal S56x256 .f32 :=
  cand (fun t => mulf (ixA (SA x t)) (broadcast S1x256 (Scalar.ofBits .f32 0x43000000#32))) (I16 y) (Scalar.ofBits .f32 0xBF800000#32)

def SB (x y : FVec Ideal S128x256 .f32) : Nat → FVec Ideal S56x256 .f32
  | 0 => CV x y
  | t + 1 => stB (SB x y t)

/-- The sixteen greatest sums, their exponentials and the gates. -/
def VM (x y : FVec Ideal S128x256 .f32) : FVec Ideal S16x256 .f32 := cat16 fun t => mxB (SB x y t)
def EX (x y : FVec Ideal S128x256 .f32) : FVec Ideal S16x256 .f32 := exp (subf (VM x y) (broadcastTo S16x256 (mxB (SB x y 0)) broadcasts_S1x256_S16x256))
def SM (x y : FVec Ideal S128x256 .f32) : FVec Ideal S256 .f32 := multiReduction .add [0] S256 (EX x y) 0x00000000#32 reduces_S16x256_S256 (.inl rfl) rfl
def GT (x y : FVec Ideal S128x256 .f32) : FVec Ideal S16x256 .f32 :=
  divf (EX x y) (broadcastTo S16x256 (shapeCast S1x256 (SM x y) shapeCasts_S256_S1x256) broadcasts_S1x256_S16x256)

variable (x0 : Vec Ideal S256x1024 .f32) (x1 : Vec Ideal S1024x1024 .f32) (x2 : Vec Ideal S16x128x64 .f32)

/-- One block of queries, transposed, and one block of scores. -/
def qtd (w : FVec Ideal S1024x1024 .f32) (x : FVec Ideal S256x1024 .f32) : FVec Ideal S1024x256 .f32 :=
  matmul dot_S1024x1024_S256x1024_S1024x256_1_1_0_0_n_n (some .fp32) (shapeCast S1024x1024 w shapeCasts_S1024x1024_S1024x1024) x (constant S1024x256 .f32 0x00000000#32)
def kbd (k : FVec Ideal S1x128x64 .f32) : FVec Ideal S128x64 .f32 := shapeCast S128x64 k shapeCasts_S1x128x64_S128x64
def scd (k : FVec Ideal S1x128x64 .f32) (q : FVec Ideal S64x256 .f32) : FVec Ideal S128x256 .f32 :=
  matmul dot_S128x64_S64x256_S128x256_1_0_0_1_n_n (some .fp32) (shapeCast S128x64 k shapeCasts_S1x128x64_S128x64) q (constant S128x256 .f32 0x00000000#32)
def qt (x0 : Vec Ideal S256x1024 .f32) (x1 : Vec Ideal S1024x1024 .f32) : FVec Ideal S1024x256 .f32 := qtd (View.ld x1 r0_0) (View.ld x0 r0_1)

def sc0 : FVec Ideal S128x256 .f32 :=
  scd (View.ld x2 r0_2) (extractStridedSlice S64x256 ![0, 0] (qt x0 x1) slices_S1024x256_o0_0_S64x256)
def sc1 : FVec Ideal S128x256 .f32 :=
  scd (View.ld x2 r0_3) (extractStridedSlice S64x256 ![64, 0] (qt x0 x1) slices_S1024x256_o64_0_S64x256)
def sc2 : FVec Ideal S128x256 .f32 :=
  scd (View.ld x2 r0_4) (extractStridedSlice S64x256 ![128, 0] (qt x0 x1) slices_S1024x256_o128_0_S64x256)
def sc3 : FVec Ideal S128x256 .f32 :=
  scd (View.ld x2 r0_5) (extractStridedSlice S64x256 ![192, 0] (qt x0 x1) slices_S1024x256_o192_0_S64x256)
def sc4 : FVec Ideal S128x256 .f32 :=
  scd (View.ld x2 r0_6) (extractStridedSlice S64x256 ![256, 0] (qt x0 x1) slices_S1024x256_o256_0_S64x256)
def sc5 : FVec Ideal S128x256 .f32 :=
  scd (View.ld x2 r0_7) (extractStridedSlice S64x256 ![320, 0] (qt x0 x1) slices_S1024x256_o320_0_S64x256)
def sc6 : FVec Ideal S128x256 .f32 :=
  scd (View.ld x2 r0_8) (extractStridedSlice S64x256 ![384, 0] (qt x0 x1) slices_S1024x256_o384_0_S64x256)
def sc7 : FVec Ideal S128x256 .f32 :=
  scd (View.ld x2 r0_9) (extractStridedSlice S64x256 ![448, 0] (qt x0 x1) slices_S1024x256_o448_0_S64x256)
def sc8 : FVec Ideal S128x256 .f32 :=
  scd (View.ld x2 r0_10) (extractStridedSlice S64x256 ![512, 0] (qt x0 x1) slices_S1024x256_o512_0_S64x256)
def sc9 : FVec Ideal S128x256 .f32 :=
  scd (View.ld x2 r0_11) (extractStridedSlice S64x256 ![576, 0] (qt x0 x1) slices_S1024x256_o576_0_S64x256)
def sc10 : FVec Ideal S128x256 .f32 :=
  scd (View.ld x2 r0_12) (extractStridedSlice S64x256 ![640, 0] (qt x0 x1) slices_S1024x256_o640_0_S64x256)
def sc11 : FVec Ideal S128x256 .f32 :=
  scd (View.ld x2 r0_13) (extractStridedSlice S64x256 ![704, 0] (qt x0 x1) slices_S1024x256_o704_0_S64x256)
def sc12 : FVec Ideal S128x256 .f32 :=
  scd (View.ld x2 r0_14) (extractStridedSlice S64x256 ![768, 0] (qt x0 x1) slices_S1024x256_o768_0_S64x256)
def sc13 : FVec Ideal S128x256 .f32 :=
  scd (View.ld x2 r0_15) (extractStridedSlice S64x256 ![832, 0] (qt x0 x1) slices_S1024x256_o832_0_S64x256)
def sc14 : FVec Ideal S128x256 .f32 :=
  scd (View.ld x2 r0_16) (extractStridedSlice S64x256 ![896, 0] (qt x0 x1) slices_S1024x256_o896_0_S64x256)
def sc15 : FVec Ideal S128x256 .f32 :=
  scd (View.ld x2 r0_17) (extractStridedSlice S64x256 ![960, 0] (qt x0 x1) slices_S1024x256_o960_0_S64x256)

end Cert.Mla.Rt

end
-- ==== Proof.RtRead.lean ====
/- One column of the routing kernel's selection. -/
module

public import proofs.«01_k».proof.Proof.RtVec

@[expose] public section

set_option maxRecDepth 16384
noncomputable section

open Idealize.ShloMosaic Idealize.ShloMosaic.TcCoe Idealize.SL.Sem
open Idealize.ShloMosaic.Pipeline (Dat)

namespace Cert.Mla.Rt

open Cert.RouteIdeal Cert.RouteIdeal.Gen

theorem bot_eq : Ideal.ofBits .f32 0xFF800000#32 = ⊥ := by simp [Ideal.ofBits, Ideal.ieee]
theorem infty_eq : Ideal.ofBits .f32 0x7F800000#32 = ⊤ := by simp [Ideal.ofBits, Ideal.ieee]
theorem c128 : Ideal.ofBits .f32 0x43000000#32 = ((128 : ℝ) : EReal) := by simp [Ideal.ofBits, Ideal.ieee]; rw [← EReal.coe_mul]; norm_num
theorem c56 : Ideal.ofBits .f32 0x42600000#32 = ((56 : ℝ) : EReal) := by simp [Ideal.ofBits, Ideal.ieee]; rw [← EReal.coe_mul]; norm_num
theorem cm1 : Ideal.ofBits .f32 0xBF800000#32 = ((-1 : ℝ) : EReal) := by simp [Ideal.ofBits, Ideal.ieee]; rw [← EReal.coe_mul]; norm_num

theorem ioA_at (r : Fin 128) (c : Fin 256) : ioA (ix2 r c) = ((r.val : ℝ) : EReal) := by
  unfold ioA
  pointwise []
  change (((BitVec.ofNat 32 r.val).toInt : ℝ) : EReal) = _
  rw [BitVec.toInt_ofNat', Int.bmod_eq_of_le (by omega) (by omega)]; simp

theorem mxA_at (s : FVec Ideal S128x256 .f32) (c : Fin 256) : mxA s (ix2 0 c) = top fun r : Fin 128 => s (ix2 r c) := by
  unfold mxA mrA
  pointwise [bot_eq]
  rfl

theorem eqA_at (s : FVec Ideal S128x256 .f32) (r : Fin 128) (c : Fin 256) : eqA s (ix2 r c) = BitVec.ofBool (decide (s (ix2 r c) = top fun r : Fin 128 => s (ix2 r c))) := by
  unfold eqA
  pointwise [mxA_at]
  try rfl

theorem cdA_at (s : FVec Ideal S128x256 .f32) (r : Fin 128) (c : Fin 256) :
    cdA s (ix2 r c) = if s (ix2 r c) = top (fun r : Fin 128 => s (ix2 r c)) then ((r.val : ℝ) : EReal) else ((128 : ℝ) : EReal) := by
  unfold cdA
  pointwise [eqA_at, ioA_at, c128]
  all_goals first | rfl | (split_ifs with h <;> simp [h, Scalar.select])

theorem ixA_at (s : FVec Ideal S128x256 .f32) (c : Fin 256) : ixA s (ix2 0 c) = pos ((128 : ℝ) : EReal) fun r : Fin 128 => s (ix2 r c) := by
  unfold ixA irA
  pointwise [cdA_at, infty_eq]
  all_goals rfl

theorem stA_at (s : FVec Ideal S128x256 .f32) (r : Fin 128) (c : Fin 256) : stA s (ix2 r c) = strike ((128 : ℝ) : EReal) (fun r : Fin 128 => s (ix2 r c)) r := by
  unfold stA htA
  pointwise [ioA_at, ixA_at, bot_eq]
  rfl

theorem ioB_at (r : Fin 56) (c : Fin 256) : ioB (ix2 r c) = ((r.val : ℝ) : EReal) := by
  unfold ioB
  pointwise []
  change (((BitVec.ofNat 32 r.val).toInt : ℝ) : EReal) = _
  rw [BitVec.toInt_ofNat', Int.bmod_eq_of_le (by omega) (by omega)]; simp

theorem mxB_at (s : FVec Ideal S56x256 .f32) (c : Fin 256) : mxB s (ix2 0 c) = top fun r : Fin 56 => s (ix2 r c) := by
  unfold mxB mrB
  pointwise [bot_eq]
  rfl

theorem eqB_at (s : FVec Ideal S56x256 .f32) (r : Fin 56) (c : Fin 256) : eqB s (ix2 r c) = BitVec.ofBool (decide (s (ix2 r c) = top fun r : Fin 56 => s (ix2 r c))) := by
  unfold eqB
  pointwise [mxB_at]
  try rfl

theorem cdB_at (s : FVec Ideal S56x256 .f32) (r : Fin 56) (c : Fin 256) :
    cdB s (ix2 r c) = if s (ix2 r c) = top (fun r : Fin 56 => s (ix2 r c)) then ((r.val : ℝ) : EReal) else ((56 : ℝ) : EReal) := by
  unfold cdB
  pointwise [eqB_at, ioB_at, c56]
  all_goals first | rfl | (split_ifs with h <;> simp [h, Scalar.select])

theorem ixB_at (s : FVec Ideal S56x256 .f32) (c : Fin 256) : ixB s (ix2 0 c) = pos ((56 : ℝ) : EReal) fun r : Fin 56 => s (ix2 r c) := by
  unfold ixB irB
  pointwise [cdB_at, infty_eq]
  all_goals rfl

theorem stB_at (s : FVec Ideal S56x256 .f32) (r : Fin 56) (c : Fin 256) : stB s (ix2 r c) = strike ((56 : ℝ) : EReal) (fun r : Fin 56 => s (ix2 r c)) r := by
  unfold stB htB
  pointwise [ioB_at, ixB_at, bot_eq]
  rfl

theorem psB_at (e s : FVec Ideal S56x256 .f32) (r : Fin 56) (c : Fin 256) :
    psB e s (ix2 r c) = if ((r.val : ℝ) : EReal) = pos ((56 : ℝ) : EReal) (fun r : Fin 56 => s (ix2 r c)) then e (ix2 r c) else ((-1 : ℝ) : EReal) := by
  unfold psB htB
  pointwise [ioB_at, ixB_at, cm1]

theorem pyB_at (e s : FVec Ideal S56x256 .f32) (c : Fin 256) :
    pyB e s (ix2 0 c) = top fun r : Fin 56 => if ((r.val : ℝ) : EReal) = pos ((56 : ℝ) : EReal) (fun r : Fin 56 => s (ix2 r c)) then e (ix2 r c) else ((-1 : ℝ) : EReal) := by
  unfold pyB prB
  pointwise [bot_eq, psB_at]
  rfl

theorem SA_at (x : FVec Ideal S128x256 .f32) (t : Nat) (c : Fin 256) :
    (fun r : Fin 128 => SA x t (ix2 r c)) = (strike ((128 : ℝ) : EReal))^[t] fun r : Fin 128 => x (ix2 r c) := by
  induction t with
  | zero => rfl
  | succ t ih =>
    rw [Function.iterate_succ_apply', ← ih]
    funext r
    exact stA_at _ r c

theorem SB_at (x y : FVec Ideal S128x256 .f32) (t : Nat) (c : Fin 256) :
    (fun r : Fin 56 => SB x y t (ix2 r c)) = (strike ((56 : ℝ) : EReal))^[t] fun r : Fin 56 => CV x y (ix2 r c) := by
  induction t with
  | zero => rfl
  | succ t ih =>
    rw [Function.iterate_succ_apply', ← ih]
    funext r
    exact stB_at _ r c

theorem cat16_at (f : Nat → FVec Ideal S1x256 .f32) (t : Fin 16) (c : Fin 256) : cat16 f (ix2 t c) = f t.val (ix2 0 c) := by
  have h := concatenate_ofFn_unit_apply (t := S16x256) (s₁ := S1x256) 0 (fun j : Fin 16 => f j.val) concatenates_S1x256_S1x256_S1x256_S1x256_S1x256_S1x256_S1x256_S1x256_S1x256_S1x256_S1x256_S1x256_S1x256_S1x256_S1x256_S1x256_S16x256_d0 rfl rfl (ix2 t c) t rfl (ix2 0 c)
    (by intro b hb; match b, hb with
      | ⟨0, _⟩, hb => exact absurd rfl hb
      | ⟨1, _⟩, _ => rfl)
  exact h

theorem step {α : Type} {P : Prop} [Decidable P] {a : P → α} {b : ¬ P → α} {z : α} (h1 : ∀ h, a h = z) (h2 : ∀ h, b h = z) : dite P a b = z := by
  by_cases h : P
  · rw [dif_pos h]; exact h1 h
  · rw [dif_neg h]; exact h2 h

theorem cand_fin (u : Nat → FVec Ideal S1x256 .f32) (v : FVec Ideal S16x256 .f32) (c : Fin 256) (e a : Nat) (k : Fin 1) (q : Fin 16)
    (ha : e / 16 = a) (hq : q.val = e % 16) : u a (ix2 k c) + v (ix2 q c) = u (e / 16) (ix2 0 c) + v (ix2 ⟨e % 16, by omega⟩ c) := by
  obtain rfl : k = 0 := Subsingleton.elim _ _
  subst ha
  exact congrArg (fun z : Fin 16 => u (e / 16) (ix2 0 c) + v (ix2 z c)) (Fin.ext hq)

theorem cand_at (u : Nat → FVec Ideal S1x256 .f32) (v : FVec Ideal S16x256 .f32) (p : Ideal .f32) (r : Fin 56) (hr : r.val < 50) (c : Fin 256) :
    cand u v p (ix2 r c) = u ((emb ⟨r.val, hr⟩).val / 16) (ix2 0 c) + v (ix2 ⟨(emb ⟨r.val, hr⟩).val % 16, by omega⟩ c) := by
  unfold cand
  pointwise []
  refine step (fun h0 => ?_) (fun h0 => step (fun h1 => ?_) (fun h1 => step (fun h2 => ?_) (fun h2 => step (fun h3 => ?_) (fun h3 => step (fun h4 => ?_) (fun h4 => step (fun h5 => ?_) (fun h5 => step (fun h6 => ?_) (fun h6 => step (fun h7 => ?_) (fun h7 => step (fun h8 => ?_) (fun h8 => step (fun h9 => ?_) (fun h9 => step (fun h10 => ?_) (fun h10 => step (fun h11 => ?_) (fun h11 => step (fun h12 => ?_) (fun h12 => step (fun h13 => ?_) (fun h13 => step (fun h14 => ?_) (fun h14 => step (fun h15 => ?_) (fun h15 => ?_))))))))))))))))
  all_goals first
    | (exfalso; omega)
    | (refine cand_fin u v c _ _ _ _ ?_ ?_ <;> ((try dsimp only); revert r; decide +kernel))

theorem cand_pad (u : Nat → FVec Ideal S1x256 .f32) (v : FVec Ideal S16x256 .f32) (p : Ideal .f32) (r : Fin 56) (hr : 50 ≤ r.val) (c : Fin 256) :
    cand u v p (ix2 r c) = p := by
  unfold cand
  pointwise []
  refine step (fun h0 => ?_) (fun h0 => step (fun h1 => ?_) (fun h1 => step (fun h2 => ?_) (fun h2 => step (fun h3 => ?_) (fun h3 => step (fun h4 => ?_) (fun h4 => step (fun h5 => ?_) (fun h5 => step (fun h6 => ?_) (fun h6 => step (fun h7 => ?_) (fun h7 => step (fun h8 => ?_) (fun h8 => step (fun h9 => ?_) (fun h9 => step (fun h10 => ?_) (fun h10 => step (fun h11 => ?_) (fun h11 => step (fun h12 => ?_) (fun h12 => step (fun h13 => ?_) (fun h13 => step (fun h14 => ?_) (fun h14 => step (fun h15 => ?_) (fun h15 => ?_))))))))))))))))
  all_goals first | rfl | (exfalso; omega)

end Cert.Mla.Rt

end
-- ==== Proof.RtTop.lean ====
/- The host's greatest-first selection along the last axis, read at a point: the entry, and its position, that a stable sort puts there. -/
module

public import proofs.«01_k».proof.Proof.RtSel
public import proofs.«01_k».proof.Proof.Spec

@[expose] public section

noncomputable section

open Idealize.ShloMosaic

namespace Cert.Mla.Rt

/-- The position that a stable sort, greater first, puts at place `t`. -/
def at_ {n k : Nat} (h : k ≤ n) (x : Fin n → EReal) (t : Fin k) : Fin n := sortedFrom (fun k k' => decide (x k' < x k)) (t.castLE h)

theorem gt_eq (a b : EReal) : (FloatOps.cmpfTotal (F := Ideal) (φ := .f32) .gt a b == 1#1) = decide (b < a) := by
  show (BitVec.ofBool (decide (b < a)) == 1#1) = _
  cases decide (b < a) <;> rfl

theorem top4 (x : FVec Ideal (⟨4, ![16384, 8, 2, 128]⟩ : Shape) .f32) (h) (i : Fin 16384) (j : Fin 8) (l : Fin 2) (t : Fin 16) :
    (Host.topK (⟨4, ![16384, 8, 2, 16]⟩ : Shape) 3 (FloatOps.cmpfTotal (F := Ideal) (φ := .f32) .gt) x h).1 (ix4 i j l t)
        = x (ix4 i j l (at_ (by decide : 16 ≤ 128) (fun k => x (ix4 i j l k)) t))
      ∧ (Host.topK (⟨4, ![16384, 8, 2, 16]⟩ : Shape) 3 (FloatOps.cmpfTotal (F := Ideal) (φ := .f32) .gt) x h).2 (ix4 i j l t)
        = BitVec.ofNat 32 (at_ (by decide : 16 ≤ 128) (fun k => x (ix4 i j l k)) t).val := by
  let J : (⟨4, ![16384, 8, 2, 128]⟩ : Shape).Idx := fun a => ⟨0 + ((ix4 i j l t : (⟨4, ![16384, 8, 2, 16]⟩ : Shape).Idx) (a.cast h.1.symm)).val, Nat.lt_of_lt_of_le (Nat.add_lt_add_left ((ix4 i j l t : (⟨4, ![16384, 8, 2, 16]⟩ : Shape).Idx) _).isLt _) (h.2 a)⟩
  have eJ : J 3 = (t.castLE (by decide) : Fin 128) := Fin.ext (Nat.zero_add _)
  have eA : ∀ k : Fin 128, J.along 3 k = ix4 i j l k := fun k => by
    funext a
    fin_cases a
    · exact Fin.ext (Nat.zero_add _)
    · exact Fin.ext (Nat.zero_add _)
    · exact Fin.ext (Nat.zero_add _)
    · rfl
  have eS : sortedFrom (fun k k' : Fin 128 => FloatOps.cmpfTotal (F := Ideal) (φ := .f32) .gt (x (J.along 3 k)) (x (J.along 3 k')) == 1#1) (J 3)
      = at_ (by decide : 16 ≤ 128) (fun k => x (ix4 i j l k)) t := by
    rw [eJ]
    unfold at_
    refine congrArg (fun B => sortedFrom B _) (funext fun k => funext fun k' => ?_)
    rw [eA, eA, gt_eq]
  constructor
  · exact (congrArg (fun p : Fin 128 => x (J.along 3 p)) eS).trans (congrArg x (eA _))
  · show BitVec.ofNat 32 ((J.along 3 (sortedFrom (fun k k' : Fin 128 => FloatOps.cmpfTotal (F := Ideal) (φ := .f32) .gt (x (J.along 3 k)) (x (J.along 3 k')) == 1#1) (J 3))) 3).val = _
    have eV : ∀ p : Fin 128, (J.along 3 p 3).val = p.val := fun p => congrArg Fin.val (Function.update_self _ _ _)
    have eW : ∀ p q : Fin 128, p = q → BitVec.ofNat 32 (J.along 3 p 3).val = BitVec.ofNat 32 q.val := fun p q e => by
      subst e
      have h1 := eV p
      generalize (J.along 3 p 3).val = v at h1 ⊢
      rw [h1]
    exact eW _ _ eS

theorem top3 (x : FVec Ideal (⟨3, ![16384, 8, 256]⟩ : Shape) .f32) (h) (i : Fin 16384) (j : Fin 8) (t : Fin 16) :
    (Host.topK (⟨3, ![16384, 8, 16]⟩ : Shape) 2 (FloatOps.cmpfTotal (F := Ideal) (φ := .f32) .gt) x h).1 (ix3 i j t)
        = x (ix3 i j (at_ (by decide : 16 ≤ 256) (fun k => x (ix3 i j k)) t))
      ∧ (Host.topK (⟨3, ![16384, 8, 16]⟩ : Shape) 2 (FloatOps.cmpfTotal (F := Ideal) (φ := .f32) .gt) x h).2 (ix3 i j t)
        = BitVec.ofNat 32 (at_ (by decide : 16 ≤ 256) (fun k => x (ix3 i j k)) t).val := by
  let J : (⟨3, ![16384, 8, 256]⟩ : Shape).Idx := fun a => ⟨0 + ((ix3 i j t : (⟨3, ![16384, 8, 16]⟩ : Shape).Idx) (a.cast h.1.symm)).val, Nat.lt_of_lt_of_le (Nat.add_lt_add_left ((ix3 i j t : (⟨3, ![16384, 8, 16]⟩ : Shape).Idx) _).isLt _) (h.2 a)⟩
  have eJ : J 2 = (t.castLE (by decide) : Fin 256) := Fin.ext (Nat.zero_add _)
  have eA : ∀ k : Fin 256, J.along 2 k = ix3 i j k := fun k => by
    funext a
    fin_cases a
    · exact Fin.ext (Nat.zero_add _)
    · exact Fin.ext (Nat.zero_add _)
    · rfl
  have eS : sortedFrom (fun k k' : Fin 256 => FloatOps.cmpfTotal (F := Ideal) (φ := .f32) .gt (x (J.along 2 k)) (x (J.along 2 k')) == 1#1) (J 2)
      = at_ (by decide : 16 ≤ 256) (fun k => x (ix3 i j k)) t := by
    rw [eJ]
    unfold at_
    refine congrArg (fun B => sortedFrom B _) (funext fun k => funext fun k' => ?_)
    rw [eA, eA, gt_eq]
  constructor
  · exact (congrArg (fun p : Fin 256 => x (J.along 2 p)) eS).trans (congrArg x (eA _))
  · show BitVec.ofNat 32 ((J.along 2 (sortedFrom (fun k k' : Fin 256 => FloatOps.cmpfTotal (F := Ideal) (φ := .f32) .gt (x (J.along 2 k)) (x (J.along 2 k')) == 1#1) (J 2))) 2).val = _
    have eV : ∀ p : Fin 256, (J.along 2 p 2).val = p.val := fun p => congrArg Fin.val (Function.update_self _ _ _)
    have eW : ∀ p q : Fin 256, p = q → BitVec.ofNat 32 (J.along 2 p 2).val = BitVec.ofNat 32 q.val := fun p q e => by
      subst e
      have h1 := eV p
      generalize (J.along 2 p 2).val = v at h1 ⊢
      rw [h1]
    exact eW _ _ eS

end Cert.Mla.Rt

end
-- ==== Proof.RtCol.lean ====
/- One head of one token: the kernel's sixteen sums and ids are those of the whole sorted table of sums. -/
module

public import proofs.«01_k».proof.Proof.RtRead
public import proofs.«01_k».proof.Proof.RtTop

@[expose] public section

set_option maxRecDepth 16384
noncomputable section

open Idealize.ShloMosaic Idealize.ShloMosaic.TcCoe Idealize.SL.Sem

namespace Cert.Mla.Rt

open Cert.RouteIdeal Cert.RouteIdeal.Gen

theorem fin_bot {x : EReal} (h : Fin' x) : ⊥ < x := by
  obtain ⟨r, rfl⟩ := h; exact EReal.bot_lt_coe r

/-- The row the column's `t`-th greatest entry stands in. -/
def A (x : Fin 128 → EReal) (t : Fin 16) : Fin 128 := at_ (by decide : 16 ≤ 128) x t

/-- A place of the table as a pair. -/
def dv (p : Fin 256) : Fin 16 := ⟨p.val / 16, by omega⟩
def md (p : Fin 256) : Fin 16 := ⟨p.val % 16, by omega⟩

/-- The table of sums of two columns' sixteen greatest. -/
def D (x y : Fin 128 → EReal) : Fin 256 → EReal := fun p =>
  x (A x (dv p)) + y (A y (md p))

/-- Where its `t`-th greatest entry stands. -/
def P (x y : Fin 128 → EReal) (t : Fin 16) : Fin 256 := at_ (by decide : 16 ≤ 256) (D x y) t

theorem top_mono {n : Nat} {s s' : Fin n → EReal} (h : ∀ r, s r ≤ s' r) : top s ≤ top s' := by
  unfold top
  rw [Finset.fold_max_le]
  refine ⟨bot_le, fun r _ => (h r).trans ?_⟩
  rw [Finset.le_fold_max]
  exact Or.inr ⟨r, Finset.mem_univ _, le_rfl⟩

theorem strike_le {n : Nat} (N : EReal) (s : Fin n → EReal) (r : Fin n) : strike N s r ≤ s r := by
  unfold strike
  split_ifs
  · exact bot_le
  · exact le_rfl

theorem n128 : (((128 : ℕ) : ℝ) : EReal) ≤ ((128 : ℝ) : EReal) := EReal.coe_le_coe_iff.mpr (by norm_num)

theorem n56 : ((56 : ℝ) : EReal) ≤ ((56 : ℝ) : EReal) := le_rfl

theorem A_rounds (x : Fin 128 → EReal) (hx : ∀ r, ⊥ < x r) (t : Fin 16) :
    top ((strike ((128 : ℝ) : EReal))^[t.val] x) = x (A x t) ∧ pos ((128 : ℝ) : EReal) ((strike ((128 : ℝ) : EReal))^[t.val] x) = (((A x t).val : ℝ) : EReal) := by
  have h := rounds_sorted (n := 128) ((128 : ℝ) : EReal) n128 x 16 (by decide) hx t
  unfold A at_
  exact h

theorem A_at (x : Fin 128 → EReal) (t : Fin 16) (h : 16 ≤ 128) : at_ h x t = A x t := rfl

attribute [irreducible] A

theorem A_anti (x : Fin 128 → EReal) (hx : ∀ r, ⊥ < x r) (t t' : Fin 16) (h : t.val ≤ t'.val) : x (A x t') ≤ x (A x t) := by
  have e := fun t : Fin 16 => (A_rounds x hx t).1
  have a : ∀ k : Nat, top ((strike ((128 : ℝ) : EReal))^[t.val + k] x) ≤ top ((strike ((128 : ℝ) : EReal))^[t.val] x) := by
    intro k
    induction k with
    | zero => exact le_rfl
    | succ k ih =>
      refine le_trans ?_ ih
      rw [← Nat.add_assoc, Function.iterate_succ_apply']
      exact top_mono fun r => strike_le _ _ r
  have := a (t'.val - t.val)
  rw [Nat.add_sub_cancel' h, e, e] at this
  exact this

theorem pick (e : Fin 56 → EReal) (r : Fin 56) (n : ℕ) (hn : r.val = n) (q : ℝ) (hq : 0 ≤ q) (he : e r = (q : EReal)) :
    top (fun k : Fin 56 => if ((k.val : ℝ) : EReal) = ((n : ℝ) : EReal) then e k else ((-1 : ℝ) : EReal)) = (q : EReal) := by
  subst hn
  refine le_antisymm ?_ ?_
  · unfold top
    rw [Finset.fold_max_le]
    refine ⟨bot_le, fun k _ => ?_⟩
    split_ifs with h
    · have hk : k = r := Fin.ext (by
        have := EReal.coe_injective h
        exact_mod_cast this)
      rw [hk, he]
    · exact EReal.coe_le_coe_iff.mpr (by linarith)
  · unfold top
    rw [Finset.le_fold_max]
    refine Or.inr ⟨r, Finset.mem_univ _, ?_⟩
    rw [if_pos rfl, he]

theorem P_eq (x y : Fin 128 → EReal) (t : Fin 16) : P x y t = sortedFrom (fun k k' => decide (D x y k' < D x y k)) (t.castLE (by decide)) := rfl

theorem P_at (x y : Fin 128 → EReal) (t : Fin 16) (h : 16 ≤ 256) : at_ h (D x y) t = P x y t := rfl

attribute [irreducible] P

section
variable (x y : FVec Ideal S128x256 .f32) (c : Fin 256)

/-- A column. -/
def cl (x : FVec Ideal S128x256 .f32) (c : Fin 256) : Fin 128 → EReal := fun r => x (ix2 r c)

theorem mx_col (hx : ∀ r, ⊥ < cl x c r) (t : Nat) (ht : t < 16) : mxA (SA x t) (ix2 0 c) = cl x c (A (cl x c) ⟨t, ht⟩) := by
  rw [mxA_at, SA_at]
  exact (A_rounds (cl x c) hx ⟨t, ht⟩).1

theorem ix_col (hx : ∀ r, ⊥ < cl x c r) (t : Nat) (ht : t < 16) : ixA (SA x t) (ix2 0 c) = (((A (cl x c) ⟨t, ht⟩).val : ℝ) : EReal) := by
  rw [ixA_at, SA_at]
  exact (A_rounds (cl x c) hx ⟨t, ht⟩).2

theorem CV_at (hx : ∀ r, ⊥ < cl x c r) (hy : ∀ r, ⊥ < cl y c r) (r : Fin 56) (hr : r.val < 50) :
    CV x y (ix2 r c) = D (cl x c) (cl y c) (emb ⟨r.val, hr⟩) := by
  unfold CV V16
  rw [cand_at _ _ _ r hr, cat16_at, mx_col x c hx _ (by omega), mx_col y c hy _ (by omega)]
  rfl

theorem CV_pad (r : Fin 56) (hr : 50 ≤ r.val) : CV x y (ix2 r c) = ⊥ := by
  unfold CV
  rw [cand_pad _ _ _ r hr]
  exact bot_eq

theorem CE_at (hx : ∀ r, ⊥ < cl x c r) (hy : ∀ r, ⊥ < cl y c r) (r : Fin 56) (hr : r.val < 50) :
    CE x y (ix2 r c) = (((A (cl x c) (dv (emb ⟨r.val, hr⟩))).val * 128 + (A (cl y c) (md (emb ⟨r.val, hr⟩))).val : ℝ) : EReal) := by
  unfold CE I16
  rw [cand_at _ _ _ r hr, cat16_at, ix_col y c hy _ (by omega)]
  have e : mulf (ixA (SA x ((emb ⟨r.val, hr⟩).val / 16))) (broadcast S1x256 (Scalar.ofBits (F := Ideal) .f32 0x43000000#32)) (ix2 0 c)
      = ixA (SA x ((emb ⟨r.val, hr⟩).val / 16)) (ix2 0 c) * Ideal.ofBits .f32 0x43000000#32 := rfl
  rw [e, ix_col x c hx _ (by omega), c128]
  rw [EReal.coe_add, EReal.coe_mul]
  rfl

theorem CE_50 (hx : ∀ r, ⊥ < cl x c r) (hy : ∀ r, ⊥ < cl y c r) (r : Fin 50) :
    CE x y (ix2 (r.castLE (by decide)) c) = (((A (cl x c) (dv (emb r))).val * 128 + (A (cl y c) (md (emb r))).val : ℝ) : EReal) :=
  CE_at x y c hx hy (r.castLE (by decide)) r.isLt

theorem head0 (hx : ∀ r, Fin' (cl x c r)) (hy : ∀ r, Fin' (cl y c r)) (t : Fin 16) (p : Fin 256)
    (hp : p = sortedFrom (fun k k' => decide (D (cl x c) (cl y c) k' < D (cl x c) (cl y c) k)) (t.castLE (by decide))) :
    mxB (SB x y t.val) (ix2 0 c) = D (cl x c) (cl y c) p ∧
    pyB (CE x y) (SB x y t.val) (ix2 0 c) =
      (((A (cl x c) (dv p)).val * 128 + (A (cl y c) (md p)).val : ℝ) : EReal) := by
  have hx' : ∀ r, ⊥ < cl x c r := fun r => fin_bot (hx r)
  have hy' : ∀ r, ⊥ < cl y c r := fun r => fin_bot (hy r)
  have hD : ∀ p, ⊥ < D (cl x c) (cl y c) p := fun p => by unfold D; exact fin_bot ((hx _).add (hy _))
  have hm : ∀ p q : Fin 256, q.val / 16 ≤ p.val / 16 → q.val % 16 ≤ p.val % 16 → D (cl x c) (cl y c) p ≤ D (cl x c) (cl y c) q := fun p q h h' => by
    unfold D; exact add_le_add (A_anti _ hx' _ _ h) (A_anti _ hy' _ _ h')
  have hc : ∀ r : Fin 50, CV x y (ix2 (r.castLE (by decide)) c) = D (cl x c) (cl y c) (emb r) := fun r => CV_at x y c hx' hy' (r.castLE (by decide)) r.isLt
  obtain ⟨r, h1, h2, h3⟩ := pruned ((56 : ℝ) : EReal) n56 (D (cl x c) (cl y c)) hD hm (fun r : Fin 56 => CV x y (ix2 r c)) hc (fun r hr => CV_pad x y c r hr) t
  have hp' := hp.trans h1
  clear hp h1
  subst hp'
  constructor
  · rewrite [mxB_at, SB_at]; exact h2
  · rewrite [pyB_at, SB_at, h3]
    have hce := CE_50 x y c hx' hy' r
    refine pick (fun k => CE x y (ix2 k c)) (r.castLE (by decide)) r.val rfl _ ?_ hce
    positivity

theorem head (hx : ∀ r, Fin' (cl x c r)) (hy : ∀ r, Fin' (cl y c r)) (t : Fin 16) :
    mxB (SB x y t.val) (ix2 0 c) = D (cl x c) (cl y c) (P (cl x c) (cl y c) t) ∧
    pyB (CE x y) (SB x y t.val) (ix2 0 c) =
      (((A (cl x c) (dv (P (cl x c) (cl y c) t))).val * 128 + (A (cl y c) (md (P (cl x c) (cl y c) t))).val : ℝ) : EReal) :=
  head0 x y c hx hy t _ (P_eq _ _ t)

end

end Cert.Mla.Rt

end
-- ==== Proof.RtRef.lean ====
/- The reference's routing, entry by entry. -/
module

public import proofs.«01_k».proof.Proof.Norm
public import proofs.«01_k».proof.Proof.RtCol
public import proofs.«01_k».proof.Proof.Gen.RouteRefIdeal.Read

@[expose] public section

set_option maxRecDepth 16384
noncomputable section

open Idealize.ShloMosaic Idealize.ShloMosaic.TcCoe Idealize.SL.Sem Idealize.ShloMosaic.StableHlo

namespace Cert.Mla.RtRef

open Cert.RouteRefIdeal Cert.RouteRefIdeal.Gen Cert.RouteRefIdeal.Read Cert.Mla.Rt

variable (x0 : FVec Ideal S16384x1024 .f32) (x1 : FVec Ideal S1024x1024 .f32) (x2 : FVec Ideal S8x2x128x64 .f32)

/-- One score. -/
def S (x0 : FVec Ideal S16384x1024 .f32) (x1 : FVec Ideal S1024x1024 .f32) (x2 : FVec Ideal S8x2x128x64 .f32) (i : Fin 16384) (h : Fin 8) (l : Fin 2) (n : Fin 128) : EReal :=
  ∑ e : Fin 64, x2 (ix4 h l n e) * ∑ d : Fin 1024, x0 (ix2 i d) * x1 (ix2 d ⟨(2 * h.val + l.val) * 64 + e.val, by omega⟩)

theorem gat (y z : IVec S16384x8x16 32) (z' : IVec S16384x8x16x1 32) (i : Fin 16384) (h : Fin 8) (t q : Fin 16)
    (hq : z' (ix4 i h t 0) = BitVec.ofNat 32 q.val) :
    Host.gather gather_S16384x8x16_S16384x8x16x1_S16384x8x16_n_2_01_01_2_3_111 y z' (ix3 i h t) = y (ix3 i h q) := by
  unfold Host.gather
  have hs : (gather_S16384x8x16_S16384x8x16x1_S16384x8x16_n_2_01_01_2_3_111.siIdx (ix3 i h t : S16384x8x16.Idx) ⟨0, by decide⟩ : S16384x8x16x1.Idx) = ix4 i h t 0 := by
    funext a
    fin_cases a <;> rfl
  have hm : ∀ q : Fin 16, min (BitVec.ofNat 32 q.val).toInt.toNat (16 - 1) = q.val := by decide +kernel
  refine congrArg y (funext fun a => ?_)
  fin_cases a
  · exact Fin.ext (by show 0 + i.val + 0 = i.val; omega)
  · exact Fin.ext (by show 0 + h.val + 0 = h.val; omega)
  · refine Fin.ext ?_
    show min (z' (gather_S16384x8x16_S16384x8x16x1_S16384x8x16_n_2_01_01_2_3_111.siIdx (ix3 i h t : S16384x8x16.Idx) ⟨0, by decide⟩)).toInt.toNat (16 - 1) + 0 + 0 = q.val
    rw [hs, hq, hm]
    rfl

theorem v1_at (i : Fin 16384) (h : Fin 8) (l : Fin 2) (e : Fin 64) : val_main_v1 (F := Ideal) x0 x1 (ix4 i h l e) =
    ∑ d : Fin 1024, x0 (ix2 i d) * x1 (ix2 d ⟨(2 * h.val + l.val) * 64 + e.val, by omega⟩) := by
  unfold val_main_v1 val_main_v0
  pointwise []
  refine Finset.sum_congr rfl fun d _ => congrArg (fun k => x0 (ix2 i d) * x1 (ix2 d k)) (Fin.ext ?_)
  show h.val * 128 + l.val * 64 + e.val = (2 * h.val + l.val) * 64 + e.val
  omega

theorem v3_at (i : Fin 16384) (h : Fin 8) (l : Fin 2) (n : Fin 128) : val_main_v3 (F := Ideal) x0 x1 x2 (ix4 i h l n) = S x0 x1 x2 i h l n := by
  unfold val_main_v3 val_main_v2
  unfold S
  pointwise [v1_at]

theorem values_at (i : Fin 16384) (h : Fin 8) (l : Fin 2) (t : Fin 16) :
    val_main_values (F := Ideal) x0 x1 x2 (ix4 i h l t) = S x0 x1 x2 i h l (A (S x0 x1 x2 i h l) t)
    ∧ val_main_indices (F := Ideal) x0 x1 x2 (ix4 i h l t) = BitVec.ofNat 32 (A (S x0 x1 x2 i h l) t).val := by
  have e : (fun k => val_main_v3 (F := Ideal) x0 x1 x2 (ix4 i h l k)) = S x0 x1 x2 i h l := funext fun k => v3_at x0 x1 x2 i h l k
  have h := top4 (val_main_v3 (F := Ideal) x0 x1 x2) sliceFits_S16384x8x2x128_S16384x8x2x16 i h l t
  rw [e] at h
  rw [A_at] at h
  rw [← v3_at]
  exact h

theorem v13_at (i : Fin 16384) (h : Fin 8) (p : Fin 256) :
    val_main_v13 (F := Ideal) x0 x1 x2 (ix3 i h p) = D (S x0 x1 x2 i h 0) (S x0 x1 x2 i h 1) p := by
  refine Eq.trans (b := val_main_values (F := Ideal) x0 x1 x2 (ix4 i h 0 (dv p)) + val_main_values (F := Ideal) x0 x1 x2 (ix4 i h 1 (md p))) ?_ ?_
  · unfold val_main_v13 val_main_v12 val_main_v11 val_main_v10 val_main_v9 val_main_v8 val_main_v7 val_main_v6 val_main_v5 val_main_v4
    generalize val_main_values (F := Ideal) x0 x1 x2 = y
    pointwise []
    rfl
  · rw [(values_at x0 x1 x2 i h 0 (dv p)).1, (values_at x0 x1 x2 i h 1 (md p)).1]
    rfl

theorem sums_at (i : Fin 16384) (h : Fin 8) (t : Fin 16) :
    val_main_values_0 (F := Ideal) x0 x1 x2 (ix3 i h t) = D (S x0 x1 x2 i h 0) (S x0 x1 x2 i h 1) (P (S x0 x1 x2 i h 0) (S x0 x1 x2 i h 1) t)
    ∧ val_main_indices_1 (F := Ideal) x0 x1 x2 (ix3 i h t) = BitVec.ofNat 32 (P (S x0 x1 x2 i h 0) (S x0 x1 x2 i h 1) t).val := by
  have e : (fun k => val_main_v13 (F := Ideal) x0 x1 x2 (ix3 i h k)) = D (S x0 x1 x2 i h 0) (S x0 x1 x2 i h 1) := funext fun k => v13_at x0 x1 x2 i h k
  have h := top3 (val_main_v13 (F := Ideal) x0 x1 x2) sliceFits_S16384x8x256_S16384x8x16 i h t
  rw [e] at h
  rw [P_at] at h
  rw [← v13_at]
  exact h

theorem v16_at (i : Fin 16384) (h : Fin 8) (t : Fin 16) (p : Fin 256) (hp : val_main_indices_1 (F := Ideal) x0 x1 x2 (ix3 i h t) = BitVec.ofNat 32 p.val) :
    val_main_v16 (F := Ideal) x0 x1 x2 (ix3 i h t) = BitVec.ofNat 32 (dv p).val := by
  unfold val_main_v16 val_main_call0_v13 val_main_call0_v12 val_main_call0_c_0 val_main_call0_v11 val_main_call0_v10 val_main_call0_v9 val_main_call0_c val_main_call0_v8 val_main_call0_v7 val_main_call0_v6 val_main_call0_v5 val_main_call0_v4 val_main_call0_v3 val_main_call0_v2 val_main_call0_v1 val_main_call0_v0 val_main_c
  generalize val_main_indices_1 (F := Ideal) x0 x1 x2 = z at hp ⊢
  pointwise [hp]
  clear hp
  revert p
  decide +kernel

theorem v20_at (i : Fin 16384) (h : Fin 8) (t : Fin 16) (p : Fin 256) (hp : val_main_indices_1 (F := Ideal) x0 x1 x2 (ix3 i h t) = BitVec.ofNat 32 p.val) :
    val_main_v20 (F := Ideal) x0 x1 x2 (ix3 i h t) = BitVec.ofNat 32 (md p).val := by
  unfold val_main_v20 val_main_call2_v14 val_main_call2_v13 val_main_call2_v12 val_main_call2_v11 val_main_call2_v10 val_main_call2_v9 val_main_call2_c_3 val_main_call2_v8 val_main_call2_v7 val_main_call2_c_2 val_main_call2_v6 val_main_call2_v5 val_main_call2_c_1 val_main_call2_v4 val_main_call2_v3 val_main_call2_v2 val_main_call2_c_0 val_main_call2_v1 val_main_call2_c val_main_call2_v0 val_main_c_2
  generalize val_main_indices_1 (F := Ideal) x0 x1 x2 = z at hp ⊢
  pointwise [hp]
  clear hp
  revert p
  decide +kernel

theorem v17_at (i : Fin 16384) (h : Fin 8) (t : Fin 16) (q : Fin 16) (hq : val_main_v16 (F := Ideal) x0 x1 x2 (ix3 i h t) = BitVec.ofNat 32 q.val) :
    val_main_v17 (F := Ideal) x0 x1 x2 (ix3 i h t) = val_main_v15 (F := Ideal) x0 x1 x2 (ix3 i h q) := by
  unfold val_main_v17 val_main_call1_v14 val_main_call1_c_4 val_main_call1_v13 val_main_call1_v12 val_main_call1_c_3 val_main_call1_v11 val_main_call1_v10 val_main_call1_v9 val_main_call1_v8 val_main_call1_v7 val_main_call1_v6 val_main_call1_c_2 val_main_call1_c_1 val_main_call1_v5 val_main_call1_v4 val_main_call1_v3 val_main_call1_v2 val_main_call1_c_0 val_main_call1_v1 val_main_call1_v0 val_main_call1_c
  generalize val_main_v16 (F := Ideal) x0 x1 x2 = z at hq ⊢
  generalize val_main_v15 (F := Ideal) x0 x1 x2 = y
  pointwise [hq]
  rw [gat y z _ i h t q (by
    pointwise [hq]
    clear hq
    revert q
    decide +kernel)]
  generalize y (ix3 i h q) = w
  rw [show (Finset.univ : Finset (Fin 1)) = {0} from rfl, Finset.fold_singleton]
  have hw : ∀ q : Fin 16, IntOp.andi (IntOp.andi
            (IntOp.cmpi CmpIPredicate.sge
              (Scalar.select (IntOp.cmpi CmpIPredicate.slt (BitVec.ofNat 32 q.val) 0#32)
                (IntOp.addi (BitVec.ofNat 32 q.val) 16#32) (BitVec.ofNat 32 q.val))
              0#32)
            (IntOp.cmpi CmpIPredicate.sle
              (Scalar.select (IntOp.cmpi CmpIPredicate.slt (BitVec.ofNat 32 q.val) 0#32)
                (IntOp.addi (BitVec.ofNat 32 q.val) 16#32) (BitVec.ofNat 32 q.val))
              15#32)) 1#1 = 1#1 := by decide +kernel
  rw [hw q]
  rfl

theorem v21_at (i : Fin 16384) (h : Fin 8) (t : Fin 16) (q : Fin 16) (hq : val_main_v20 (F := Ideal) x0 x1 x2 (ix3 i h t) = BitVec.ofNat 32 q.val) :
    val_main_v21 (F := Ideal) x0 x1 x2 (ix3 i h t) = val_main_v19 (F := Ideal) x0 x1 x2 (ix3 i h q) := by
  unfold val_main_v21 val_main_call3_v14 val_main_call3_c_4 val_main_call3_v13 val_main_call3_v12 val_main_call3_c_3 val_main_call3_v11 val_main_call3_v10 val_main_call3_v9 val_main_call3_v8 val_main_call3_v7 val_main_call3_v6 val_main_call3_c_2 val_main_call3_c_1 val_main_call3_v5 val_main_call3_v4 val_main_call3_v3 val_main_call3_v2 val_main_call3_c_0 val_main_call3_v1 val_main_call3_v0 val_main_call3_c
  generalize val_main_v20 (F := Ideal) x0 x1 x2 = z at hq ⊢
  generalize val_main_v19 (F := Ideal) x0 x1 x2 = y
  pointwise [hq]
  rw [gat y z _ i h t q (by
    pointwise [hq]
    clear hq
    revert q
    decide +kernel)]
  generalize y (ix3 i h q) = w
  rw [show (Finset.univ : Finset (Fin 1)) = {0} from rfl, Finset.fold_singleton]
  have hw : ∀ q : Fin 16, IntOp.andi (IntOp.andi
            (IntOp.cmpi CmpIPredicate.sge
              (Scalar.select (IntOp.cmpi CmpIPredicate.slt (BitVec.ofNat 32 q.val) 0#32)
                (IntOp.addi (BitVec.ofNat 32 q.val) 16#32) (BitVec.ofNat 32 q.val))
              0#32)
            (IntOp.cmpi CmpIPredicate.sle
              (Scalar.select (IntOp.cmpi CmpIPredicate.slt (BitVec.ofNat 32 q.val) 0#32)
                (IntOp.addi (BitVec.ofNat 32 q.val) 16#32) (BitVec.ofNat 32 q.val))
              15#32)) 1#1 = 1#1 := by decide +kernel
  rw [hw q]
  rfl

end Cert.Mla.RtRef

end
-- ==== Proof.RtRef2.lean ====
/- The reference's two results, entry by entry. -/
module

public import proofs.«01_k».proof.Proof.RtRef

@[expose] public section

set_option maxRecDepth 16384
noncomputable section

open Idealize.ShloMosaic Idealize.ShloMosaic.TcCoe Idealize.SL.Sem Idealize.ShloMosaic.StableHlo

namespace Cert.Mla.RtRef

open Cert.RouteRefIdeal Cert.RouteRefIdeal.Gen Cert.RouteRefIdeal.Read Cert.Mla.Rt

variable (x0 : FVec Ideal S16384x1024 .f32) (x1 : FVec Ideal S1024x1024 .f32) (x2 : FVec Ideal S8x2x128x64 .f32)

theorem v15_at (i : Fin 16384) (h : Fin 8) (t : Fin 16) : val_main_v15 (F := Ideal) x0 x1 x2 (ix3 i h t) = BitVec.ofNat 32 (A (S x0 x1 x2 i h 0) t).val := by
  refine Eq.trans ?_ (values_at x0 x1 x2 i h 0 t).2
  unfold val_main_v15 val_main_v14
  generalize val_main_indices (F := Ideal) x0 x1 x2 = y
  pointwise []

theorem v19_at (i : Fin 16384) (h : Fin 8) (t : Fin 16) : val_main_v19 (F := Ideal) x0 x1 x2 (ix3 i h t) = BitVec.ofNat 32 (A (S x0 x1 x2 i h 1) t).val := by
  refine Eq.trans ?_ (values_at x0 x1 x2 i h 1 t).2
  unfold val_main_v19 val_main_v18
  generalize val_main_indices (F := Ideal) x0 x1 x2 = y
  pointwise []

/-- One identity, over the pair chosen in round `t`. -/
def ident (x y : Fin 128 → EReal) (t : Fin 16) : ℕ := (A x (dv (P x y t))).val * 128 + (A y (md (P x y t))).val

theorem v24_at (i : Fin 16384) (h : Fin 8) (t : Fin 16) :
    val_main_v24 (F := Ideal) x0 x1 x2 (ix3 i h t) = BitVec.ofNat 32 (ident (S x0 x1 x2 i h 0) (S x0 x1 x2 i h 1) t) := by
  have hp := (sums_at x0 x1 x2 i h t).2
  have e1 := (v17_at x0 x1 x2 i h t _ (v16_at x0 x1 x2 i h t _ hp)).trans (v15_at x0 x1 x2 i h _)
  have e2 := (v21_at x0 x1 x2 i h t _ (v20_at x0 x1 x2 i h t _ hp)).trans (v19_at x0 x1 x2 i h _)
  clear hp
  unfold ident
  unfold val_main_v24 val_main_v23 val_main_v22 val_main_c_3
  generalize val_main_v17 (F := Ideal) x0 x1 x2 = y at e1 ⊢
  generalize val_main_v21 (F := Ideal) x0 x1 x2 = z at e2 ⊢
  generalize (A (S x0 x1 x2 i h 0) (dv (P (S x0 x1 x2 i h 0) (S x0 x1 x2 i h 1) t))) = a at e1 ⊢
  generalize (A (S x0 x1 x2 i h 1) (md (P (S x0 x1 x2 i h 0) (S x0 x1 x2 i h 1) t))) = b at e2 ⊢
  pointwise [e1, e2]
  show BitVec.ofNat 32 a.val * 128#32 + BitVec.ofNat 32 b.val = _
  rw [BitVec.ofNat_add, BitVec.ofNat_mul]

theorem v35_at (i : Fin 16384) (h : Fin 8) (t : Fin 16) (f : Fin 16 → EReal) (M : EReal) (hf : ∀ t, val_main_values_0 (F := Ideal) x0 x1 x2 (ix3 i h t) = f t)
    (hM : M = max ⊥ (Finset.univ.fold max ⊥ f)) :
    val_main_v35 (F := Ideal) x0 x1 x2 (ix3 i h t) = Ideal.div (Ideal.exp (f t - M)) (∑ k : Fin 16, Ideal.exp (f k - M)) := by
  unfold val_main_v35 val_main_v34 val_main_v33 val_main_v32 val_main_cst_5 val_main_v31 val_main_v30 val_main_v29 val_main_v28 val_main_v27 val_main_v26 val_main_cst_4 val_main_v25 val_main_cst
  generalize val_main_values_0 (F := Ideal) x0 x1 x2 = y at hf ⊢
  pointwise [hf]
  rw [show Ideal.ofBits FTy.f32 4286578688#32 = (⊥ : EReal) from bot_eq, hM]

theorem n256 : (((256 : ℕ) : ℝ) : EReal) ≤ ((256 : ℝ) : EReal) := EReal.coe_le_coe_iff.mpr (by norm_num)

theorem D_le (x y : Fin 128 → EReal) (hD : ∀ p, ⊥ < D x y p) (p : Fin 256) : D x y p ≤ D x y (P x y 0) := by
  have h := (rounds_sorted (n := 256) ((256 : ℝ) : EReal) n256 (D x y) 16 (by decide) hD 0).1
  rw [← P_eq] at h
  rw [← h]
  show D x y p ≤ top (D x y)
  unfold top
  rw [Finset.le_fold_max]
  exact Or.inr ⟨p, Finset.mem_univ _, le_rfl⟩

theorem max_D (x y : Fin 128 → EReal) (hD : ∀ p, ⊥ < D x y p) :
    D x y (P x y 0) = max ⊥ ((Finset.univ : Finset (Fin 16)).fold max ⊥ fun t => D x y (P x y t)) := by
  refine le_antisymm ?_ ?_
  · refine le_trans ?_ (le_max_right _ _)
    rw [Finset.le_fold_max]
    exact Or.inr ⟨0, Finset.mem_univ _, le_rfl⟩
  · refine max_le bot_le ?_
    rw [Finset.fold_max_le]
    exact ⟨bot_le, fun t _ => D_le x y hD _⟩

/-- One weight: the chosen sums, exponentiated over their greatest, over their total. -/
def gate (x y : Fin 128 → EReal) (t : Fin 16) : EReal :=
  Ideal.div (Ideal.exp (D x y (P x y t) - D x y (P x y 0))) (∑ k : Fin 16, Ideal.exp (D x y (P x y k) - D x y (P x y 0)))

theorem weight_at (i : Fin 16384) (h : Fin 8) (t : Fin 16) (hD : ∀ p, ⊥ < D (S x0 x1 x2 i h 0) (S x0 x1 x2 i h 1) p) :
    val_main_v35 (F := Ideal) x0 x1 x2 (ix3 i h t) = gate (S x0 x1 x2 i h 0) (S x0 x1 x2 i h 1) t :=
  v35_at x0 x1 x2 i h t (fun t => D (S x0 x1 x2 i h 0) (S x0 x1 x2 i h 1) (P (S x0 x1 x2 i h 0) (S x0 x1 x2 i h 1) t)) _
    (fun t => (sums_at x0 x1 x2 i h t).1) (max_D _ _ hD)

theorem v36_at (i : Fin 16384) (k : Fin 128) : val_main_v36 (F := Ideal) x0 x1 x2 (ix2 i k) = val_main_v24 (F := Ideal) x0 x1 x2 (ix3 i ⟨k.val / 16, by omega⟩ ⟨k.val % 16, by omega⟩) := by
  unfold val_main_v36
  generalize val_main_v24 (F := Ideal) x0 x1 x2 = y
  pointwise []

theorem v37_at (i : Fin 16384) (k : Fin 128) : val_main_v37 (F := Ideal) x0 x1 x2 (ix2 i k) = val_main_v35 (F := Ideal) x0 x1 x2 (ix3 i ⟨k.val / 16, by omega⟩ ⟨k.val % 16, by omega⟩) := by
  unfold val_main_v37
  generalize val_main_v35 (F := Ideal) x0 x1 x2 = y
  pointwise []

end Cert.Mla.RtRef

end
-- ==== Proof.RtLink.lean ====
/- The routing kernel's values, one by one, in the arrays' terms. -/
module

public import proofs.«01_k».proof.Proof.RtVec

@[expose] public section

set_option maxRecDepth 16384
noncomputable section

open Idealize.ShloMosaic Idealize.ShloMosaic.TcCoe Idealize.SL.Sem
open Idealize.ShloMosaic.Pipeline (Dat)

namespace Cert.Mla.Rt

open Cert.RouteIdeal Cert.RouteIdeal.Gen

variable (x0 : Vec Ideal S256x1024 .f32) (x1 : Vec Ideal S1024x1024 .f32) (x2 : Vec Ideal S16x128x64 .f32)

theorem q1564 : k0_pay1564 (F := Ideal) x0 x1 x2 = qt x0 x1 := by
  rw [k0_pay1564]; rfl
theorem q1565 : k0_pay1565 (F := Ideal) x0 x1 x2 = ioA := by
  rw [k0_pay1565]; rfl
theorem q1566 : k0_pay1566 (F := Ideal) x0 x1 x2 = SA (sc0 x0 x1 x2) 2 := by
  rw [k0_pay1566]; rfl
theorem q1567 : k0_pay1567 (F := Ideal) x0 x1 x2 = cdA (SA (sc0 x0 x1 x2) 2) := by
  rw [k0_pay1567]; rfl
theorem q1568 : k0_pay1568 (F := Ideal) x0 x1 x2 = SA (sc0 x0 x1 x2) 6 := by
  rw [k0_pay1568, q1565, q1566, q1567]; rfl
theorem q1569 : k0_pay1569 (F := Ideal) x0 x1 x2 = broadcastTo S128x256 (mxA (SA (sc0 x0 x1 x2) 6)) broadcasts_S1x256_S128x256 := by
  rw [k0_pay1569, q1565, q1566, q1567]; rfl
theorem q1570 : k0_pay1570 (F := Ideal) x0 x1 x2 = SA (sc0 x0 x1 x2) 10 := by
  rw [k0_pay1570, q1565, q1568, q1569]; rfl
theorem q1571 : k0_pay1571 (F := Ideal) x0 x1 x2 = SA (sc0 x0 x1 x2) 13 := by
  rw [k0_pay1571, q1565, q1570]; rfl
theorem q1572 : k0_pay1572 (F := Ideal) x0 x1 x2 = broadcastTo S128x256 (ixA (SA (sc0 x0 x1 x2) 13)) broadcasts_S1x256_S128x256 := by
  rw [k0_pay1572, q1565, q1570]; rfl
theorem q1573 : k0_pay1573 (F := Ideal) x0 x1 x2 = ixA (SA (sc0 x0 x1 x2) 15) := by
  rw [k0_pay1573, q1565, q1571, q1572]; rfl
theorem q1574 : k0_pay1574 (F := Ideal) x0 x1 x2 = ioA := by
  rw [k0_pay1574]; rfl
theorem q1575 : k0_pay1575 (F := Ideal) x0 x1 x2 = mxA (SA (sc1 x0 x1 x2) 0) := by
  rw [k0_pay1575, q1564]; rfl
theorem q1576 : k0_pay1576 (F := Ideal) x0 x1 x2 = SA (sc1 x0 x1 x2) 1 := by
  rw [k0_pay1576, q1564]; rfl
theorem q1577 : k0_pay1577 (F := Ideal) x0 x1 x2 = mxA (SA (sc1 x0 x1 x2) 1) := by
  rw [k0_pay1577, q1564]; rfl
theorem q1578 : k0_pay1578 (F := Ideal) x0 x1 x2 = mxA (SA (sc1 x0 x1 x2) 2) := by
  rw [k0_pay1578, q1574, q1576, q1577]; rfl
theorem q1579 : k0_pay1579 (F := Ideal) x0 x1 x2 = mxA (SA (sc1 x0 x1 x2) 3) := by
  rw [k0_pay1579, q1574, q1576, q1577]; rfl
theorem q1580 : k0_pay1580 (F := Ideal) x0 x1 x2 = SA (sc1 x0 x1 x2) 4 := by
  rw [k0_pay1580, q1574, q1576, q1577]; rfl
theorem q1581 : k0_pay1581 (F := Ideal) x0 x1 x2 = mxA (SA (sc1 x0 x1 x2) 4) := by
  rw [k0_pay1581, q1574, q1576, q1577]; rfl
theorem q1582 : k0_pay1582 (F := Ideal) x0 x1 x2 = htA (SA (sc1 x0 x1 x2) 4) := by
  rw [k0_pay1582, q1574, q1576, q1577]; rfl
theorem q1583 : k0_pay1583 (F := Ideal) x0 x1 x2 = broadcast S128x256 (Scalar.ofBits .f32 0xFF800000#32) := by
  rw [k0_pay1583]; rfl
theorem q1584 : k0_pay1584 (F := Ideal) x0 x1 x2 = mxA (SA (sc1 x0 x1 x2) 5) := by
  rw [k0_pay1584, q1580, q1582, q1583]; rfl
theorem q1585 : k0_pay1585 (F := Ideal) x0 x1 x2 = mxA (SA (sc1 x0 x1 x2) 6) := by
  rw [k0_pay1585, q1574, q1580, q1582, q1583]; rfl
theorem q1586 : k0_pay1586 (F := Ideal) x0 x1 x2 = mxA (SA (sc1 x0 x1 x2) 7) := by
  rw [k0_pay1586, q1574, q1580, q1582, q1583]; rfl
theorem q1587 : k0_pay1587 (F := Ideal) x0 x1 x2 = SA (sc1 x0 x1 x2) 8 := by
  rw [k0_pay1587, q1574, q1580, q1582, q1583]; rfl
theorem q1588 : k0_pay1588 (F := Ideal) x0 x1 x2 = mxA (SA (sc1 x0 x1 x2) 8) := by
  rw [k0_pay1588, q1574, q1580, q1582, q1583]; rfl
theorem q1589 : k0_pay1589 (F := Ideal) x0 x1 x2 = ixA (SA (sc1 x0 x1 x2) 8) := by
  rw [k0_pay1589, q1574, q1580, q1582, q1583]; rfl
theorem q1590 : k0_pay1590 (F := Ideal) x0 x1 x2 = mxA (SA (sc1 x0 x1 x2) 9) := by
  rw [k0_pay1590, q1574, q1587, q1589]; rfl
theorem q1591 : k0_pay1591 (F := Ideal) x0 x1 x2 = mxA (SA (sc1 x0 x1 x2) 10) := by
  rw [k0_pay1591, q1574, q1587, q1589]; rfl
theorem q1592 : k0_pay1592 (F := Ideal) x0 x1 x2 = mxA (SA (sc1 x0 x1 x2) 11) := by
  rw [k0_pay1592, q1574, q1587, q1589]; rfl
theorem q1593 : k0_pay1593 (F := Ideal) x0 x1 x2 = SA (sc1 x0 x1 x2) 12 := by
  rw [k0_pay1593, q1574, q1587, q1589]; rfl
theorem q1594 : k0_pay1594 (F := Ideal) x0 x1 x2 = mxA (SA (sc1 x0 x1 x2) 12) := by
  rw [k0_pay1594, q1574, q1587, q1589]; rfl
theorem q1595 : k0_pay1595 (F := Ideal) x0 x1 x2 = eqA (SA (sc1 x0 x1 x2) 12) := by
  rw [k0_pay1595, q1574, q1587, q1589]; rfl
theorem q1596 : k0_pay1596 (F := Ideal) x0 x1 x2 = broadcast S128x256 (Scalar.ofBits .f32 0x43000000#32) := by
  rw [k0_pay1596]; rfl
theorem q1597 : k0_pay1597 (F := Ideal) x0 x1 x2 = I16 (sc1 x0 x1 x2) := by
  rw [k0_pay1597, q1574, q1564, q1576, q1577, q1580, q1582, q1583, q1589, q1587, q1593, q1595, q1596]; rfl
theorem q1598 : k0_pay1598 (F := Ideal) x0 x1 x2 = SB (sc0 x0 x1 x2) (sc1 x0 x1 x2) 0 := by
  rw [k0_pay1598, q1565, q1566, q1567, q1568, q1569, q1570, q1571, q1572, q1574, q1575, q1577, q1578, q1579, q1581, q1584, q1585, q1586, q1588, q1590, q1591, q1592, q1593, q1594, q1595, q1596]; rfl
theorem q1599 : k0_pay1599 (F := Ideal) x0 x1 x2 = addf (broadcastTo S16x256 (mulf (ixA (SA (sc0 x0 x1 x2) 0)) (broadcast S1x256 (Scalar.ofBits .f32 0x43000000#32))) broadcasts_S1x256_S16x256) (I16 (sc1 x0 x1 x2)) := by
  rw [k0_pay1599, q1597]; rfl
theorem q1600 : k0_pay1600 (F := Ideal) x0 x1 x2 = addf (broadcastTo S8x256 (mulf (ixA (SA (sc0 x0 x1 x2) 1)) (broadcast S1x256 (Scalar.ofBits .f32 0x43000000#32))) broadcasts_S1x256_S8x256) (extractStridedSlice S8x256 ![0, 0] (I16 (sc1 x0 x1 x2)) slices_S16x256_o0_0_S8x256) := by
  rw [k0_pay1600, q1597]; rfl
theorem q1601 : k0_pay1601 (F := Ideal) x0 x1 x2 = addf (broadcastTo S5x256 (mulf (ixA (SA (sc0 x0 x1 x2) 2)) (broadcast S1x256 (Scalar.ofBits .f32 0x43000000#32))) broadcasts_S1x256_S5x256) (extractStridedSlice S5x256 ![0, 0] (I16 (sc1 x0 x1 x2)) slices_S16x256_o0_0_S5x256) := by
  rw [k0_pay1601, q1567, q1597]; rfl
theorem q1602 : k0_pay1602 (F := Ideal) x0 x1 x2 = addf (broadcastTo S4x256 (mulf (ixA (SA (sc0 x0 x1 x2) 3)) (broadcast S1x256 (Scalar.ofBits .f32 0x43000000#32))) broadcasts_S1x256_S4x256) (extractStridedSlice S4x256 ![0, 0] (I16 (sc1 x0 x1 x2)) slices_S16x256_o0_0_S4x256) := by
  rw [k0_pay1602, q1565, q1566, q1567, q1597]; rfl
theorem q1603 : k0_pay1603 (F := Ideal) x0 x1 x2 = addf (broadcastTo S3x256 (mulf (ixA (SA (sc0 x0 x1 x2) 4)) (broadcast S1x256 (Scalar.ofBits .f32 0x43000000#32))) broadcasts_S1x256_S3x256) (extractStridedSlice S3x256 ![0, 0] (I16 (sc1 x0 x1 x2)) slices_S16x256_o0_0_S3x256) := by
  rw [k0_pay1603, q1565, q1566, q1567, q1597]; rfl
theorem q1604 : k0_pay1604 (F := Ideal) x0 x1 x2 = addf (broadcastTo S2x256 (mulf (ixA (SA (sc0 x0 x1 x2) 5)) (broadcast S1x256 (Scalar.ofBits .f32 0x43000000#32))) broadcasts_S1x256_S2x256) (extractStridedSlice S2x256 ![0, 0] (I16 (sc1 x0 x1 x2)) slices_S16x256_o0_0_S2x256) := by
  rw [k0_pay1604, q1565, q1566, q1567, q1597]; rfl
theorem q1605 : k0_pay1605 (F := Ideal) x0 x1 x2 = addf (broadcastTo S2x256 (mulf (ixA (SA (sc0 x0 x1 x2) 6)) (broadcast S1x256 (Scalar.ofBits .f32 0x43000000#32))) broadcasts_S1x256_S2x256) (extractStridedSlice S2x256 ![0, 0] (I16 (sc1 x0 x1 x2)) slices_S16x256_o0_0_S2x256) := by
  rw [k0_pay1605, q1565, q1568, q1569, q1597]; rfl
theorem q1606 : k0_pay1606 (F := Ideal) x0 x1 x2 = addf (broadcastTo S2x256 (mulf (ixA (SA (sc0 x0 x1 x2) 7)) (broadcast S1x256 (Scalar.ofBits .f32 0x43000000#32))) broadcasts_S1x256_S2x256) (extractStridedSlice S2x256 ![0, 0] (I16 (sc1 x0 x1 x2)) slices_S16x256_o0_0_S2x256) := by
  rw [k0_pay1606, q1565, q1568, q1569, q1597]; rfl
theorem q1607 : k0_pay1607 (F := Ideal) x0 x1 x2 = addf (mulf (ixA (SA (sc0 x0 x1 x2) 8)) (broadcast S1x256 (Scalar.ofBits .f32 0x43000000#32))) (extractStridedSlice S1x256 ![0, 0] (I16 (sc1 x0 x1 x2)) slices_S16x256_o0_0_S1x256) := by
  rw [k0_pay1607, q1565, q1568, q1569, q1597]; rfl
theorem q1608 : k0_pay1608 (F := Ideal) x0 x1 x2 = addf (mulf (ixA (SA (sc0 x0 x1 x2) 9)) (broadcast S1x256 (Scalar.ofBits .f32 0x43000000#32))) (extractStridedSlice S1x256 ![0, 0] (I16 (sc1 x0 x1 x2)) slices_S16x256_o0_0_S1x256) := by
  rw [k0_pay1608, q1565, q1568, q1569, q1597]; rfl
theorem q1609 : k0_pay1609 (F := Ideal) x0 x1 x2 = addf (mulf (ixA (SA (sc0 x0 x1 x2) 10)) (broadcast S1x256 (Scalar.ofBits .f32 0x43000000#32))) (extractStridedSlice S1x256 ![0, 0] (I16 (sc1 x0 x1 x2)) slices_S16x256_o0_0_S1x256) := by
  rw [k0_pay1609, q1565, q1570, q1597]; rfl
theorem q1610 : k0_pay1610 (F := Ideal) x0 x1 x2 = addf (mulf (ixA (SA (sc0 x0 x1 x2) 11)) (broadcast S1x256 (Scalar.ofBits .f32 0x43000000#32))) (extractStridedSlice S1x256 ![0, 0] (I16 (sc1 x0 x1 x2)) slices_S16x256_o0_0_S1x256) := by
  rw [k0_pay1610, q1565, q1570, q1597]; rfl
theorem q1611 : k0_pay1611 (F := Ideal) x0 x1 x2 = addf (mulf (ixA (SA (sc0 x0 x1 x2) 12)) (broadcast S1x256 (Scalar.ofBits .f32 0x43000000#32))) (extractStridedSlice S1x256 ![0, 0] (I16 (sc1 x0 x1 x2)) slices_S16x256_o0_0_S1x256) := by
  rw [k0_pay1611, q1565, q1570, q1597]; rfl
theorem q1612 : k0_pay1612 (F := Ideal) x0 x1 x2 = addf (mulf (ixA (SA (sc0 x0 x1 x2) 13)) (broadcast S1x256 (Scalar.ofBits .f32 0x43000000#32))) (extractStridedSlice S1x256 ![0, 0] (I16 (sc1 x0 x1 x2)) slices_S16x256_o0_0_S1x256) := by
  rw [k0_pay1612, q1565, q1570, q1597]; rfl
theorem q1613 : k0_pay1613 (F := Ideal) x0 x1 x2 = addf (mulf (ixA (SA (sc0 x0 x1 x2) 14)) (broadcast S1x256 (Scalar.ofBits .f32 0x43000000#32))) (extractStridedSlice S1x256 ![0, 0] (I16 (sc1 x0 x1 x2)) slices_S16x256_o0_0_S1x256) := by
  rw [k0_pay1613, q1565, q1571, q1572, q1597]; rfl
theorem q1614 : k0_pay1614 (F := Ideal) x0 x1 x2 = broadcast S1x256 (Scalar.ofBits .f32 0x43000000#32) := by
  rw [k0_pay1614]; rfl
theorem q1615 : k0_pay1615 (F := Ideal) x0 x1 x2 = CE (sc0 x0 x1 x2) (sc1 x0 x1 x2) := by
  rw [k0_pay1615, q1573, q1597, q1599, q1600, q1601, q1602, q1603, q1604, q1605, q1606, q1607, q1608, q1609, q1610, q1611, q1612, q1613, q1614]; rfl
theorem q1616 : k0_pay1616 (F := Ideal) x0 x1 x2 = ioB := by
  rw [k0_pay1616]; rfl
theorem q1617 : k0_pay1617 (F := Ideal) x0 x1 x2 = SB (sc0 x0 x1 x2) (sc1 x0 x1 x2) 2 := by
  rw [k0_pay1617, q1598]; rfl
theorem q1618 : k0_pay1618 (F := Ideal) x0 x1 x2 = cdB (SB (sc0 x0 x1 x2) (sc1 x0 x1 x2) 2) := by
  rw [k0_pay1618, q1598]; rfl
theorem q1619 : k0_pay1619 (F := Ideal) x0 x1 x2 = SB (sc0 x0 x1 x2) (sc1 x0 x1 x2) 5 := by
  rw [k0_pay1619, q1616, q1617, q1618]; rfl
theorem q1620 : k0_pay1620 (F := Ideal) x0 x1 x2 = mrB (SB (sc0 x0 x1 x2) (sc1 x0 x1 x2) 5) := by
  rw [k0_pay1620, q1616, q1617, q1618]; rfl
theorem q1621 : k0_pay1621 (F := Ideal) x0 x1 x2 = SB (sc0 x0 x1 x2) (sc1 x0 x1 x2) 7 := by
  rw [k0_pay1621, q1616, q1619, q1620]; rfl
theorem q1622 : k0_pay1622 (F := Ideal) x0 x1 x2 = htB (SB (sc0 x0 x1 x2) (sc1 x0 x1 x2) 7) := by
  rw [k0_pay1622, q1616, q1619, q1620]; rfl
theorem q1623 : k0_pay1623 (F := Ideal) x0 x1 x2 = SB (sc0 x0 x1 x2) (sc1 x0 x1 x2) 10 := by
  rw [k0_pay1623, q1616, q1621, q1622]; rfl
theorem q1624 : k0_pay1624 (F := Ideal) x0 x1 x2 = broadcastTo S56x256 (ixB (SB (sc0 x0 x1 x2) (sc1 x0 x1 x2) 10)) broadcasts_S1x256_S56x256 := by
  rw [k0_pay1624, q1616, q1621, q1622]; rfl
theorem q1625 : k0_pay1625 (F := Ideal) x0 x1 x2 = SB (sc0 x0 x1 x2) (sc1 x0 x1 x2) 13 := by
  rw [k0_pay1625, q1616, q1623, q1624]; rfl
theorem q1626 : k0_pay1626 (F := Ideal) x0 x1 x2 = eqB (SB (sc0 x0 x1 x2) (sc1 x0 x1 x2) 13) := by
  rw [k0_pay1626, q1616, q1623, q1624]; rfl
theorem q1627 : k0_pay1627 (F := Ideal) x0 x1 x2 = ioA := by
  rw [k0_pay1627]; rfl
theorem q1628 : k0_pay1628 (F := Ideal) x0 x1 x2 = SA (sc2 x0 x1 x2) 2 := by
  rw [k0_pay1628, q1564]; rfl
theorem q1629 : k0_pay1629 (F := Ideal) x0 x1 x2 = broadcastTo S128x256 (ixA (SA (sc2 x0 x1 x2) 2)) broadcasts_S1x256_S128x256 := by
  rw [k0_pay1629, q1564]; rfl
theorem q1630 : k0_pay1630 (F := Ideal) x0 x1 x2 = SA (sc2 x0 x1 x2) 6 := by
  rw [k0_pay1630, q1627, q1628, q1629]; rfl
theorem q1631 : k0_pay1631 (F := Ideal) x0 x1 x2 = cdA (SA (sc2 x0 x1 x2) 6) := by
  rw [k0_pay1631, q1627, q1628, q1629]; rfl
theorem q1632 : k0_pay1632 (F := Ideal) x0 x1 x2 = SA (sc2 x0 x1 x2) 10 := by
  rw [k0_pay1632, q1627, q1630, q1631]; rfl
theorem q1633 : k0_pay1633 (F := Ideal) x0 x1 x2 = broadcastTo S128x256 (mxA (SA (sc2 x0 x1 x2) 10)) broadcasts_S1x256_S128x256 := by
  rw [k0_pay1633, q1627, q1630, q1631]; rfl
theorem q1634 : k0_pay1634 (F := Ideal) x0 x1 x2 = SA (sc2 x0 x1 x2) 14 := by
  rw [k0_pay1634, q1627, q1632, q1633]; rfl
theorem q1635 : k0_pay1635 (F := Ideal) x0 x1 x2 = ioA := by
  rw [k0_pay1635]; rfl
theorem q1636 : k0_pay1636 (F := Ideal) x0 x1 x2 = mxA (SA (sc3 x0 x1 x2) 0) := by
  rw [k0_pay1636, q1564]; rfl
theorem q1637 : k0_pay1637 (F := Ideal) x0 x1 x2 = SA (sc3 x0 x1 x2) 1 := by
  rw [k0_pay1637, q1564]; rfl
theorem q1638 : k0_pay1638 (F := Ideal) x0 x1 x2 = mxA (SA (sc3 x0 x1 x2) 1) := by
  rw [k0_pay1638, q1564]; rfl
theorem q1639 : k0_pay1639 (F := Ideal) x0 x1 x2 = eqA (SA (sc3 x0 x1 x2) 1) := by
  rw [k0_pay1639, q1564]; rfl
theorem q1640 : k0_pay1640 (F := Ideal) x0 x1 x2 = broadcast S128x256 (Scalar.ofBits .f32 0x43000000#32) := by
  rw [k0_pay1640]; rfl
theorem q1641 : k0_pay1641 (F := Ideal) x0 x1 x2 = mxA (SA (sc3 x0 x1 x2) 2) := by
  rw [k0_pay1641, q1635, q1637, q1639, q1640]; rfl
theorem q1642 : k0_pay1642 (F := Ideal) x0 x1 x2 = mxA (SA (sc3 x0 x1 x2) 3) := by
  rw [k0_pay1642, q1635, q1637, q1639, q1640]; rfl
theorem q1643 : k0_pay1643 (F := Ideal) x0 x1 x2 = mxA (SA (sc3 x0 x1 x2) 4) := by
  rw [k0_pay1643, q1635, q1637, q1639, q1640]; rfl
theorem q1644 : k0_pay1644 (F := Ideal) x0 x1 x2 = SA (sc3 x0 x1 x2) 5 := by
  rw [k0_pay1644, q1635, q1637, q1639, q1640]; rfl
theorem q1645 : k0_pay1645 (F := Ideal) x0 x1 x2 = mxA (SA (sc3 x0 x1 x2) 5) := by
  rw [k0_pay1645, q1635, q1637, q1639, q1640]; rfl
theorem q1646 : k0_pay1646 (F := Ideal) x0 x1 x2 = mxA (SA (sc3 x0 x1 x2) 6) := by
  rw [k0_pay1646, q1635, q1644, q1645]; rfl
theorem q1647 : k0_pay1647 (F := Ideal) x0 x1 x2 = mxA (SA (sc3 x0 x1 x2) 7) := by
  rw [k0_pay1647, q1635, q1644, q1645]; rfl
theorem q1648 : k0_pay1648 (F := Ideal) x0 x1 x2 = SA (sc3 x0 x1 x2) 8 := by
  rw [k0_pay1648, q1635, q1644, q1645]; rfl
theorem q1649 : k0_pay1649 (F := Ideal) x0 x1 x2 = mxA (SA (sc3 x0 x1 x2) 8) := by
  rw [k0_pay1649, q1635, q1644, q1645]; rfl
theorem q1650 : k0_pay1650 (F := Ideal) x0 x1 x2 = htA (SA (sc3 x0 x1 x2) 8) := by
  rw [k0_pay1650, q1635, q1644, q1645]; rfl
theorem q1651 : k0_pay1651 (F := Ideal) x0 x1 x2 = broadcast S128x256 (Scalar.ofBits .f32 0xFF800000#32) := by
  rw [k0_pay1651]; rfl
theorem q1652 : k0_pay1652 (F := Ideal) x0 x1 x2 = mxA (SA (sc3 x0 x1 x2) 9) := by
  rw [k0_pay1652, q1648, q1650, q1651]; rfl
theorem q1653 : k0_pay1653 (F := Ideal) x0 x1 x2 = mxA (SA (sc3 x0 x1 x2) 10) := by
  rw [k0_pay1653, q1635, q1648, q1650, q1651]; rfl
theorem q1654 : k0_pay1654 (F := Ideal) x0 x1 x2 = mxA (SA (sc3 x0 x1 x2) 11) := by
  rw [k0_pay1654, q1635, q1648, q1650, q1651]; rfl
theorem q1655 : k0_pay1655 (F := Ideal) x0 x1 x2 = SA (sc3 x0 x1 x2) 12 := by
  rw [k0_pay1655, q1635, q1648, q1650, q1651]; rfl
theorem q1656 : k0_pay1656 (F := Ideal) x0 x1 x2 = mxA (SA (sc3 x0 x1 x2) 12) := by
  rw [k0_pay1656, q1635, q1648, q1650, q1651]; rfl
theorem q1657 : k0_pay1657 (F := Ideal) x0 x1 x2 = ixA (SA (sc3 x0 x1 x2) 12) := by
  rw [k0_pay1657, q1635, q1648, q1650, q1651]; rfl
theorem q1658 : k0_pay1658 (F := Ideal) x0 x1 x2 = I16 (sc3 x0 x1 x2) := by
  rw [k0_pay1658, q1635, q1564, q1639, q1640, q1637, q1644, q1645, q1648, q1650, q1651, q1655, q1657]; rfl
theorem q1659 : k0_pay1659 (F := Ideal) x0 x1 x2 = SB (sc2 x0 x1 x2) (sc3 x0 x1 x2) 0 := by
  rw [k0_pay1659, q1627, q1628, q1629, q1630, q1631, q1632, q1633, q1634, q1635, q1636, q1638, q1641, q1642, q1643, q1645, q1646, q1647, q1649, q1652, q1653, q1654, q1655, q1656, q1657, q1564]; rfl
theorem q1660 : k0_pay1660 (F := Ideal) x0 x1 x2 = addf (broadcastTo S16x256 (mulf (ixA (SA (sc2 x0 x1 x2) 0)) (broadcast S1x256 (Scalar.ofBits .f32 0x43000000#32))) broadcasts_S1x256_S16x256) (I16 (sc3 x0 x1 x2)) := by
  rw [k0_pay1660, q1564, q1658]; rfl
theorem q1661 : k0_pay1661 (F := Ideal) x0 x1 x2 = addf (broadcastTo S8x256 (mulf (ixA (SA (sc2 x0 x1 x2) 1)) (broadcast S1x256 (Scalar.ofBits .f32 0x43000000#32))) broadcasts_S1x256_S8x256) (extractStridedSlice S8x256 ![0, 0] (I16 (sc3 x0 x1 x2)) slices_S16x256_o0_0_S8x256) := by
  rw [k0_pay1661, q1564, q1658]; rfl
theorem q1662 : k0_pay1662 (F := Ideal) x0 x1 x2 = addf (broadcastTo S5x256 (mulf (ixA (SA (sc2 x0 x1 x2) 2)) (broadcast S1x256 (Scalar.ofBits .f32 0x43000000#32))) broadcasts_S1x256_S5x256) (extractStridedSlice S5x256 ![0, 0] (I16 (sc3 x0 x1 x2)) slices_S16x256_o0_0_S5x256) := by
  rw [k0_pay1662, q1564, q1658]; rfl
theorem q1663 : k0_pay1663 (F := Ideal) x0 x1 x2 = addf (broadcastTo S4x256 (mulf (ixA (SA (sc2 x0 x1 x2) 3)) (broadcast S1x256 (Scalar.ofBits .f32 0x43000000#32))) broadcasts_S1x256_S4x256) (extractStridedSlice S4x256 ![0, 0] (I16 (sc3 x0 x1 x2)) slices_S16x256_o0_0_S4x256) := by
  rw [k0_pay1663, q1627, q1628, q1629, q1658]; rfl
theorem q1664 : k0_pay1664 (F := Ideal) x0 x1 x2 = addf (broadcastTo S3x256 (mulf (ixA (SA (sc2 x0 x1 x2) 4)) (broadcast S1x256 (Scalar.ofBits .f32 0x43000000#32))) broadcasts_S1x256_S3x256) (extractStridedSlice S3x256 ![0, 0] (I16 (sc3 x0 x1 x2)) slices_S16x256_o0_0_S3x256) := by
  rw [k0_pay1664, q1658, q1627, q1628, q1629]; rfl
theorem q1665 : k0_pay1665 (F := Ideal) x0 x1 x2 = addf (broadcastTo S2x256 (mulf (ixA (SA (sc2 x0 x1 x2) 5)) (broadcast S1x256 (Scalar.ofBits .f32 0x43000000#32))) broadcasts_S1x256_S2x256) (extractStridedSlice S2x256 ![0, 0] (I16 (sc3 x0 x1 x2)) slices_S16x256_o0_0_S2x256) := by
  rw [k0_pay1665, q1627, q1628, q1629, q1658]; rfl
theorem q1666 : k0_pay1666 (F := Ideal) x0 x1 x2 = addf (broadcastTo S2x256 (mulf (ixA (SA (sc2 x0 x1 x2) 6)) (broadcast S1x256 (Scalar.ofBits .f32 0x43000000#32))) broadcasts_S1x256_S2x256) (extractStridedSlice S2x256 ![0, 0] (I16 (sc3 x0 x1 x2)) slices_S16x256_o0_0_S2x256) := by
  rw [k0_pay1666, q1631, q1658]; rfl
theorem q1667 : k0_pay1667 (F := Ideal) x0 x1 x2 = addf (broadcastTo S2x256 (mulf (ixA (SA (sc2 x0 x1 x2) 7)) (broadcast S1x256 (Scalar.ofBits .f32 0x43000000#32))) broadcasts_S1x256_S2x256) (extractStridedSlice S2x256 ![0, 0] (I16 (sc3 x0 x1 x2)) slices_S16x256_o0_0_S2x256) := by
  rw [k0_pay1667, q1627, q1630, q1631, q1658]; rfl
theorem q1668 : k0_pay1668 (F := Ideal) x0 x1 x2 = addf (mulf (ixA (SA (sc2 x0 x1 x2) 8)) (broadcast S1x256 (Scalar.ofBits .f32 0x43000000#32))) (extractStridedSlice S1x256 ![0, 0] (I16 (sc3 x0 x1 x2)) slices_S16x256_o0_0_S1x256) := by
  rw [k0_pay1668, q1627, q1630, q1631, q1658]; rfl
theorem q1669 : k0_pay1669 (F := Ideal) x0 x1 x2 = addf (mulf (ixA (SA (sc2 x0 x1 x2) 9)) (broadcast S1x256 (Scalar.ofBits .f32 0x43000000#32))) (extractStridedSlice S1x256 ![0, 0] (I16 (sc3 x0 x1 x2)) slices_S16x256_o0_0_S1x256) := by
  rw [k0_pay1669, q1627, q1630, q1631, q1658]; rfl
theorem q1670 : k0_pay1670 (F := Ideal) x0 x1 x2 = addf (mulf (ixA (SA (sc2 x0 x1 x2) 10)) (broadcast S1x256 (Scalar.ofBits .f32 0x43000000#32))) (extractStridedSlice S1x256 ![0, 0] (I16 (sc3 x0 x1 x2)) slices_S16x256_o0_0_S1x256) := by
  rw [k0_pay1670, q1627, q1632, q1633, q1658]; rfl
theorem q1671 : k0_pay1671 (F := Ideal) x0 x1 x2 = addf (mulf (ixA (SA (sc2 x0 x1 x2) 11)) (broadcast S1x256 (Scalar.ofBits .f32 0x43000000#32))) (extractStridedSlice S1x256 ![0, 0] (I16 (sc3 x0 x1 x2)) slices_S16x256_o0_0_S1x256) := by
  rw [k0_pay1671, q1627, q1632, q1633, q1658]; rfl
theorem q1672 : k0_pay1672 (F := Ideal) x0 x1 x2 = addf (mulf (ixA (SA (sc2 x0 x1 x2) 12)) (broadcast S1x256 (Scalar.ofBits .f32 0x43000000#32))) (extractStridedSlice S1x256 ![0, 0] (I16 (sc3 x0 x1 x2)) slices_S16x256_o0_0_S1x256) := by
  rw [k0_pay1672, q1627, q1632, q1633, q1658]; rfl
theorem q1673 : k0_pay1673 (F := Ideal) x0 x1 x2 = addf (mulf (ixA (SA (sc2 x0 x1 x2) 13)) (broadcast S1x256 (Scalar.ofBits .f32 0x43000000#32))) (extractStridedSlice S1x256 ![0, 0] (I16 (sc3 x0 x1 x2)) slices_S16x256_o0_0_S1x256) := by
  rw [k0_pay1673, q1627, q1632, q1633, q1658]; rfl
theorem q1674 : k0_pay1674 (F := Ideal) x0 x1 x2 = addf (mulf (ixA (SA (sc2 x0 x1 x2) 14)) (broadcast S1x256 (Scalar.ofBits .f32 0x43000000#32))) (extractStridedSlice S1x256 ![0, 0] (I16 (sc3 x0 x1 x2)) slices_S16x256_o0_0_S1x256) := by
  rw [k0_pay1674, q1627, q1634, q1658]; rfl
theorem q1675 : k0_pay1675 (F := Ideal) x0 x1 x2 = addf (mulf (ixA (SA (sc2 x0 x1 x2) 15)) (broadcast S1x256 (Scalar.ofBits .f32 0x43000000#32))) (extractStridedSlice S1x256 ![0, 0] (I16 (sc3 x0 x1 x2)) slices_S16x256_o0_0_S1x256) := by
  rw [k0_pay1675, q1627, q1634, q1658]; rfl
theorem q1676 : k0_pay1676 (F := Ideal) x0 x1 x2 = CE (sc2 x0 x1 x2) (sc3 x0 x1 x2) := by
  rw [k0_pay1676, q1660, q1661, q1662, q1663, q1664, q1665, q1666, q1667, q1668, q1669, q1670, q1671, q1672, q1673, q1674, q1675]; rfl
theorem q1677 : k0_pay1677 (F := Ideal) x0 x1 x2 = ioB := by
  rw [k0_pay1677]; rfl
theorem q1678 : k0_pay1678 (F := Ideal) x0 x1 x2 = mxB (SB (sc2 x0 x1 x2) (sc3 x0 x1 x2) 0) := by
  rw [k0_pay1678, q1659]; rfl
theorem q1679 : k0_pay1679 (F := Ideal) x0 x1 x2 = mxB (SB (sc2 x0 x1 x2) (sc3 x0 x1 x2) 1) := by
  rw [k0_pay1679, q1659]; rfl
theorem q1680 : k0_pay1680 (F := Ideal) x0 x1 x2 = SB (sc2 x0 x1 x2) (sc3 x0 x1 x2) 2 := by
  rw [k0_pay1680, q1659]; rfl
theorem q1681 : k0_pay1681 (F := Ideal) x0 x1 x2 = mxB (SB (sc2 x0 x1 x2) (sc3 x0 x1 x2) 2) := by
  rw [k0_pay1681, q1659]; rfl
theorem q1682 : k0_pay1682 (F := Ideal) x0 x1 x2 = broadcastTo S56x256 (ixB (SB (sc2 x0 x1 x2) (sc3 x0 x1 x2) 2)) broadcasts_S1x256_S56x256 := by
  rw [k0_pay1682, q1659]; rfl
theorem q1683 : k0_pay1683 (F := Ideal) x0 x1 x2 = mxB (SB (sc2 x0 x1 x2) (sc3 x0 x1 x2) 3) := by
  rw [k0_pay1683, q1677, q1680, q1682]; rfl
theorem q1684 : k0_pay1684 (F := Ideal) x0 x1 x2 = mxB (SB (sc2 x0 x1 x2) (sc3 x0 x1 x2) 4) := by
  rw [k0_pay1684, q1677, q1680, q1682]; rfl
theorem q1685 : k0_pay1685 (F := Ideal) x0 x1 x2 = SB (sc2 x0 x1 x2) (sc3 x0 x1 x2) 5 := by
  rw [k0_pay1685, q1677, q1680, q1682]; rfl
theorem q1686 : k0_pay1686 (F := Ideal) x0 x1 x2 = mxB (SB (sc2 x0 x1 x2) (sc3 x0 x1 x2) 5) := by
  rw [k0_pay1686, q1677, q1680, q1682]; rfl
theorem q1687 : k0_pay1687 (F := Ideal) x0 x1 x2 = eqB (SB (sc2 x0 x1 x2) (sc3 x0 x1 x2) 5) := by
  rw [k0_pay1687, q1677, q1680, q1682]; rfl
theorem q1688 : k0_pay1688 (F := Ideal) x0 x1 x2 = mxB (SB (sc2 x0 x1 x2) (sc3 x0 x1 x2) 6) := by
  rw [k0_pay1688, q1677, q1685, q1687]; rfl
theorem q1689 : k0_pay1689 (F := Ideal) x0 x1 x2 = mxB (SB (sc2 x0 x1 x2) (sc3 x0 x1 x2) 7) := by
  rw [k0_pay1689, q1677, q1685, q1687]; rfl
theorem q1690 : k0_pay1690 (F := Ideal) x0 x1 x2 = SB (sc2 x0 x1 x2) (sc3 x0 x1 x2) 8 := by
  rw [k0_pay1690, q1677, q1685, q1687]; rfl
theorem q1691 : k0_pay1691 (F := Ideal) x0 x1 x2 = mxB (SB (sc2 x0 x1 x2) (sc3 x0 x1 x2) 8) := by
  rw [k0_pay1691, q1690]; rfl
theorem q1692 : k0_pay1692 (F := Ideal) x0 x1 x2 = mxB (SB (sc2 x0 x1 x2) (sc3 x0 x1 x2) 9) := by
  rw [k0_pay1692, q1677, q1690]; rfl
theorem q1693 : k0_pay1693 (F := Ideal) x0 x1 x2 = SB (sc2 x0 x1 x2) (sc3 x0 x1 x2) 10 := by
  rw [k0_pay1693, q1677, q1690]; rfl
theorem q1694 : k0_pay1694 (F := Ideal) x0 x1 x2 = mxB (SB (sc2 x0 x1 x2) (sc3 x0 x1 x2) 10) := by
  rw [k0_pay1694, q1677, q1690]; rfl
theorem q1695 : k0_pay1695 (F := Ideal) x0 x1 x2 = htB (SB (sc2 x0 x1 x2) (sc3 x0 x1 x2) 10) := by
  rw [k0_pay1695, q1677, q1690]; rfl
theorem q1696 : k0_pay1696 (F := Ideal) x0 x1 x2 = mxB (SB (sc2 x0 x1 x2) (sc3 x0 x1 x2) 11) := by
  rw [k0_pay1696, q1693, q1695]; rfl
theorem q1697 : k0_pay1697 (F := Ideal) x0 x1 x2 = mxB (SB (sc2 x0 x1 x2) (sc3 x0 x1 x2) 12) := by
  rw [k0_pay1697, q1677, q1693, q1695]; rfl
theorem q1698 : k0_pay1698 (F := Ideal) x0 x1 x2 = SB (sc2 x0 x1 x2) (sc3 x0 x1 x2) 13 := by
  rw [k0_pay1698, q1677, q1693, q1695]; rfl
theorem q1699 : k0_pay1699 (F := Ideal) x0 x1 x2 = mxB (SB (sc2 x0 x1 x2) (sc3 x0 x1 x2) 13) := by
  rw [k0_pay1699, q1677, q1693, q1695]; rfl
theorem q1700 : k0_pay1700 (F := Ideal) x0 x1 x2 = irB (SB (sc2 x0 x1 x2) (sc3 x0 x1 x2) 13) := by
  rw [k0_pay1700, q1677, q1693, q1695]; rfl
theorem q1701 : k0_pay1701 (F := Ideal) x0 x1 x2 = ioA := by
  rw [k0_pay1701]; rfl
theorem q1702 : k0_pay1702 (F := Ideal) x0 x1 x2 = SA (sc4 x0 x1 x2) 3 := by
  rw [k0_pay1702, q1564]; rfl
theorem q1703 : k0_pay1703 (F := Ideal) x0 x1 x2 = SA (sc4 x0 x1 x2) 6 := by
  rw [k0_pay1703, q1701, q1702]; rfl
theorem q1704 : k0_pay1704 (F := Ideal) x0 x1 x2 = broadcastTo S128x256 (ixA (SA (sc4 x0 x1 x2) 6)) broadcasts_S1x256_S128x256 := by
  rw [k0_pay1704, q1701, q1702]; rfl
theorem q1705 : k0_pay1705 (F := Ideal) x0 x1 x2 = SA (sc4 x0 x1 x2) 10 := by
  rw [k0_pay1705, q1701, q1703, q1704]; rfl
theorem q1706 : k0_pay1706 (F := Ideal) x0 x1 x2 = cdA (SA (sc4 x0 x1 x2) 10) := by
  rw [k0_pay1706, q1701, q1703, q1704]; rfl
theorem q1707 : k0_pay1707 (F := Ideal) x0 x1 x2 = SA (sc4 x0 x1 x2) 14 := by
  rw [k0_pay1707, q1701, q1705, q1706]; rfl
theorem q1708 : k0_pay1708 (F := Ideal) x0 x1 x2 = broadcastTo S128x256 (mxA (SA (sc4 x0 x1 x2) 14)) broadcasts_S1x256_S128x256 := by
  rw [k0_pay1708, q1701, q1705, q1706]; rfl
theorem q1709 : k0_pay1709 (F := Ideal) x0 x1 x2 = ioA := by
  rw [k0_pay1709]; rfl
theorem q1710 : k0_pay1710 (F := Ideal) x0 x1 x2 = mxA (SA (sc5 x0 x1 x2) 0) := by
  rw [k0_pay1710, q1564]; rfl
theorem q1711 : k0_pay1711 (F := Ideal) x0 x1 x2 = SA (sc5 x0 x1 x2) 1 := by
  rw [k0_pay1711, q1564]; rfl
theorem q1712 : k0_pay1712 (F := Ideal) x0 x1 x2 = mxA (SA (sc5 x0 x1 x2) 1) := by
  rw [k0_pay1712, q1564]; rfl
theorem q1713 : k0_pay1713 (F := Ideal) x0 x1 x2 = ixA (SA (sc5 x0 x1 x2) 1) := by
  rw [k0_pay1713, q1564]; rfl
theorem q1714 : k0_pay1714 (F := Ideal) x0 x1 x2 = mxA (SA (sc5 x0 x1 x2) 2) := by
  rw [k0_pay1714, q1709, q1711, q1713]; rfl
theorem q1715 : k0_pay1715 (F := Ideal) x0 x1 x2 = mxA (SA (sc5 x0 x1 x2) 3) := by
  rw [k0_pay1715, q1709, q1711, q1713]; rfl
theorem q1716 : k0_pay1716 (F := Ideal) x0 x1 x2 = mxA (SA (sc5 x0 x1 x2) 4) := by
  rw [k0_pay1716, q1709, q1711, q1713]; rfl
theorem q1717 : k0_pay1717 (F := Ideal) x0 x1 x2 = SA (sc5 x0 x1 x2) 5 := by
  rw [k0_pay1717, q1709, q1711, q1713]; rfl
theorem q1718 : k0_pay1718 (F := Ideal) x0 x1 x2 = mxA (SA (sc5 x0 x1 x2) 5) := by
  rw [k0_pay1718, q1709, q1711, q1713]; rfl
theorem q1719 : k0_pay1719 (F := Ideal) x0 x1 x2 = eqA (SA (sc5 x0 x1 x2) 5) := by
  rw [k0_pay1719, q1709, q1711, q1713]; rfl
theorem q1720 : k0_pay1720 (F := Ideal) x0 x1 x2 = broadcast S128x256 (Scalar.ofBits .f32 0x43000000#32) := by
  rw [k0_pay1720]; rfl
theorem q1721 : k0_pay1721 (F := Ideal) x0 x1 x2 = mxA (SA (sc5 x0 x1 x2) 6) := by
  rw [k0_pay1721, q1709, q1717, q1719, q1720]; rfl
theorem q1722 : k0_pay1722 (F := Ideal) x0 x1 x2 = mxA (SA (sc5 x0 x1 x2) 7) := by
  rw [k0_pay1722, q1709, q1717, q1719, q1720]; rfl
theorem q1723 : k0_pay1723 (F := Ideal) x0 x1 x2 = mxA (SA (sc5 x0 x1 x2) 8) := by
  rw [k0_pay1723, q1709, q1717, q1719, q1720]; rfl
theorem q1724 : k0_pay1724 (F := Ideal) x0 x1 x2 = SA (sc5 x0 x1 x2) 9 := by
  rw [k0_pay1724, q1709, q1717, q1719, q1720]; rfl
theorem q1725 : k0_pay1725 (F := Ideal) x0 x1 x2 = mxA (SA (sc5 x0 x1 x2) 9) := by
  rw [k0_pay1725, q1709, q1717, q1719, q1720]; rfl
theorem q1726 : k0_pay1726 (F := Ideal) x0 x1 x2 = mxA (SA (sc5 x0 x1 x2) 10) := by
  rw [k0_pay1726, q1709, q1724, q1725]; rfl
theorem q1727 : k0_pay1727 (F := Ideal) x0 x1 x2 = mxA (SA (sc5 x0 x1 x2) 11) := by
  rw [k0_pay1727, q1709, q1724, q1725]; rfl
theorem q1728 : k0_pay1728 (F := Ideal) x0 x1 x2 = SA (sc5 x0 x1 x2) 12 := by
  rw [k0_pay1728, q1709, q1724, q1725]; rfl
theorem q1729 : k0_pay1729 (F := Ideal) x0 x1 x2 = mxA (SA (sc5 x0 x1 x2) 12) := by
  rw [k0_pay1729, q1709, q1724, q1725]; rfl
theorem q1730 : k0_pay1730 (F := Ideal) x0 x1 x2 = htA (SA (sc5 x0 x1 x2) 12) := by
  rw [k0_pay1730, q1709, q1724, q1725]; rfl
theorem q1731 : k0_pay1731 (F := Ideal) x0 x1 x2 = broadcast S128x256 (Scalar.ofBits .f32 0xFF800000#32) := by
  rw [k0_pay1731]; rfl
theorem q1732 : k0_pay1732 (F := Ideal) x0 x1 x2 = I16 (sc5 x0 x1 x2) := by
  rw [k0_pay1732, q1709, q1564, q1713, q1711, q1719, q1720, q1717, q1724, q1725, q1728, q1730, q1731]; rfl
theorem q1733 : k0_pay1733 (F := Ideal) x0 x1 x2 = SB (sc4 x0 x1 x2) (sc5 x0 x1 x2) 0 := by
  rw [k0_pay1733, q1701, q1702, q1703, q1704, q1705, q1706, q1707, q1708, q1709, q1710, q1712, q1714, q1715, q1716, q1718, q1721, q1722, q1723, q1725, q1726, q1727, q1728, q1729, q1730, q1731, q1564]; rfl
theorem q1734 : k0_pay1734 (F := Ideal) x0 x1 x2 = CE (sc4 x0 x1 x2) (sc5 x0 x1 x2) := by
  rw [k0_pay1734, q1701, q1702, q1703, q1704, q1706, q1705, q1707, q1708, q1732, q1564]; rfl
theorem q1735 : k0_pay1735 (F := Ideal) x0 x1 x2 = ioB := by
  rw [k0_pay1735]; rfl
theorem q1736 : k0_pay1736 (F := Ideal) x0 x1 x2 = SB (sc4 x0 x1 x2) (sc5 x0 x1 x2) 2 := by
  rw [k0_pay1736, q1733, q1735]; rfl
theorem q1737 : k0_pay1737 (F := Ideal) x0 x1 x2 = htB (SB (sc4 x0 x1 x2) (sc5 x0 x1 x2) 2) := by
  rw [k0_pay1737, q1733, q1735]; rfl
theorem q1738 : k0_pay1738 (F := Ideal) x0 x1 x2 = SB (sc4 x0 x1 x2) (sc5 x0 x1 x2) 5 := by
  rw [k0_pay1738, q1735, q1736, q1737]; rfl
theorem q1739 : k0_pay1739 (F := Ideal) x0 x1 x2 = irB (SB (sc4 x0 x1 x2) (sc5 x0 x1 x2) 5) := by
  rw [k0_pay1739, q1735, q1736, q1737]; rfl
theorem q1740 : k0_pay1740 (F := Ideal) x0 x1 x2 = SB (sc4 x0 x1 x2) (sc5 x0 x1 x2) 8 := by
  rw [k0_pay1740, q1735, q1738, q1739]; rfl
theorem q1741 : k0_pay1741 (F := Ideal) x0 x1 x2 = broadcastTo S56x256 (mxB (SB (sc4 x0 x1 x2) (sc5 x0 x1 x2) 8)) broadcasts_S1x256_S56x256 := by
  rw [k0_pay1741, q1735, q1738, q1739]; rfl
theorem q1742 : k0_pay1742 (F := Ideal) x0 x1 x2 = SB (sc4 x0 x1 x2) (sc5 x0 x1 x2) 10 := by
  rw [k0_pay1742, q1735, q1740, q1741]; rfl
theorem q1743 : k0_pay1743 (F := Ideal) x0 x1 x2 = htB (SB (sc4 x0 x1 x2) (sc5 x0 x1 x2) 10) := by
  rw [k0_pay1743, q1735, q1740, q1741]; rfl
theorem q1744 : k0_pay1744 (F := Ideal) x0 x1 x2 = SB (sc4 x0 x1 x2) (sc5 x0 x1 x2) 13 := by
  rw [k0_pay1744, q1735, q1742, q1743]; rfl
theorem q1745 : k0_pay1745 (F := Ideal) x0 x1 x2 = htB (SB (sc4 x0 x1 x2) (sc5 x0 x1 x2) 13) := by
  rw [k0_pay1745, q1735, q1742, q1743]; rfl
theorem q1746 : k0_pay1746 (F := Ideal) x0 x1 x2 = ioA := by
  rw [k0_pay1746]; rfl
theorem q1747 : k0_pay1747 (F := Ideal) x0 x1 x2 = SA (sc6 x0 x1 x2) 3 := by
  rw [k0_pay1747, q1564]; rfl
theorem q1748 : k0_pay1748 (F := Ideal) x0 x1 x2 = broadcastTo S128x256 (mxA (SA (sc6 x0 x1 x2) 3)) broadcasts_S1x256_S128x256 := by
  rw [k0_pay1748, q1564]; rfl
theorem q1749 : k0_pay1749 (F := Ideal) x0 x1 x2 = SA (sc6 x0 x1 x2) 7 := by
  rw [k0_pay1749, q1746, q1747, q1748]; rfl
theorem q1750 : k0_pay1750 (F := Ideal) x0 x1 x2 = SA (sc6 x0 x1 x2) 10 := by
  rw [k0_pay1750, q1746, q1749]; rfl
theorem q1751 : k0_pay1751 (F := Ideal) x0 x1 x2 = broadcastTo S128x256 (ixA (SA (sc6 x0 x1 x2) 10)) broadcasts_S1x256_S128x256 := by
  rw [k0_pay1751, q1746, q1749]; rfl
theorem q1752 : k0_pay1752 (F := Ideal) x0 x1 x2 = SA (sc6 x0 x1 x2) 14 := by
  rw [k0_pay1752, q1746, q1750, q1751]; rfl
theorem q1753 : k0_pay1753 (F := Ideal) x0 x1 x2 = cdA (SA (sc6 x0 x1 x2) 14) := by
  rw [k0_pay1753, q1746, q1750, q1751]; rfl
theorem q1754 : k0_pay1754 (F := Ideal) x0 x1 x2 = ioA := by
  rw [k0_pay1754]; rfl
theorem q1755 : k0_pay1755 (F := Ideal) x0 x1 x2 = mxA (SA (sc7 x0 x1 x2) 0) := by
  rw [k0_pay1755, q1564]; rfl
theorem q1756 : k0_pay1756 (F := Ideal) x0 x1 x2 = SA (sc7 x0 x1 x2) 1 := by
  rw [k0_pay1756, q1564]; rfl
theorem q1757 : k0_pay1757 (F := Ideal) x0 x1 x2 = mxA (SA (sc7 x0 x1 x2) 1) := by
  rw [k0_pay1757, q1564]; rfl
theorem q1758 : k0_pay1758 (F := Ideal) x0 x1 x2 = htA (SA (sc7 x0 x1 x2) 1) := by
  rw [k0_pay1758, q1564]; rfl
theorem q1759 : k0_pay1759 (F := Ideal) x0 x1 x2 = broadcast S128x256 (Scalar.ofBits .f32 0xFF800000#32) := by
  rw [k0_pay1759]; rfl
theorem q1760 : k0_pay1760 (F := Ideal) x0 x1 x2 = mxA (SA (sc7 x0 x1 x2) 2) := by
  rw [k0_pay1760, q1756, q1758, q1759]; rfl
theorem q1761 : k0_pay1761 (F := Ideal) x0 x1 x2 = mxA (SA (sc7 x0 x1 x2) 3) := by
  rw [k0_pay1761, q1754, q1756, q1758, q1759]; rfl
theorem q1762 : k0_pay1762 (F := Ideal) x0 x1 x2 = mxA (SA (sc7 x0 x1 x2) 4) := by
  rw [k0_pay1762, q1754, q1756, q1758, q1759]; rfl
theorem q1763 : k0_pay1763 (F := Ideal) x0 x1 x2 = SA (sc7 x0 x1 x2) 5 := by
  rw [k0_pay1763, q1754, q1756, q1758, q1759]; rfl
theorem q1764 : k0_pay1764 (F := Ideal) x0 x1 x2 = mxA (SA (sc7 x0 x1 x2) 5) := by
  rw [k0_pay1764, q1754, q1756, q1758, q1759]; rfl
theorem q1765 : k0_pay1765 (F := Ideal) x0 x1 x2 = ixA (SA (sc7 x0 x1 x2) 5) := by
  rw [k0_pay1765, q1754, q1756, q1758, q1759]; rfl
theorem q1766 : k0_pay1766 (F := Ideal) x0 x1 x2 = mxA (SA (sc7 x0 x1 x2) 6) := by
  rw [k0_pay1766, q1754, q1763, q1765]; rfl
theorem q1767 : k0_pay1767 (F := Ideal) x0 x1 x2 = mxA (SA (sc7 x0 x1 x2) 7) := by
  rw [k0_pay1767, q1754, q1763, q1765]; rfl
theorem q1768 : k0_pay1768 (F := Ideal) x0 x1 x2 = mxA (SA (sc7 x0 x1 x2) 8) := by
  rw [k0_pay1768, q1754, q1763, q1765]; rfl
theorem q1769 : k0_pay1769 (F := Ideal) x0 x1 x2 = SA (sc7 x0 x1 x2) 9 := by
  rw [k0_pay1769, q1754, q1763, q1765]; rfl
theorem q1770 : k0_pay1770 (F := Ideal) x0 x1 x2 = mxA (SA (sc7 x0 x1 x2) 9) := by
  rw [k0_pay1770, q1754, q1763, q1765]; rfl
theorem q1771 : k0_pay1771 (F := Ideal) x0 x1 x2 = eqA (SA (sc7 x0 x1 x2) 9) := by
  rw [k0_pay1771, q1754, q1763, q1765]; rfl
theorem q1772 : k0_pay1772 (F := Ideal) x0 x1 x2 = broadcast S128x256 (Scalar.ofBits .f32 0x43000000#32) := by
  rw [k0_pay1772]; rfl
theorem q1773 : k0_pay1773 (F := Ideal) x0 x1 x2 = mxA (SA (sc7 x0 x1 x2) 10) := by
  rw [k0_pay1773, q1754, q1769, q1771, q1772]; rfl
theorem q1774 : k0_pay1774 (F := Ideal) x0 x1 x2 = mxA (SA (sc7 x0 x1 x2) 11) := by
  rw [k0_pay1774, q1754, q1769, q1771, q1772]; rfl
theorem q1775 : k0_pay1775 (F := Ideal) x0 x1 x2 = mxA (SA (sc7 x0 x1 x2) 12) := by
  rw [k0_pay1775, q1754, q1769, q1771, q1772]; rfl
theorem q1776 : k0_pay1776 (F := Ideal) x0 x1 x2 = SA (sc7 x0 x1 x2) 13 := by
  rw [k0_pay1776, q1754, q1769, q1771, q1772]; rfl
theorem q1777 : k0_pay1777 (F := Ideal) x0 x1 x2 = mxA (SA (sc7 x0 x1 x2) 13) := by
  rw [k0_pay1777, q1754, q1769, q1771, q1772]; rfl
theorem q1778 : k0_pay1778 (F := Ideal) x0 x1 x2 = I16 (sc7 x0 x1 x2) := by
  rw [k0_pay1778, q1754, q1564, q1756, q1758, q1759, q1765, q1763, q1771, q1772, q1769, q1776, q1777]; rfl
theorem q1779 : k0_pay1779 (F := Ideal) x0 x1 x2 = SB (sc6 x0 x1 x2) (sc7 x0 x1 x2) 0 := by
  rw [k0_pay1779, q1746, q1747, q1748, q1749, q1750, q1751, q1752, q1753, q1754, q1755, q1757, q1760, q1761, q1762, q1764, q1766, q1767, q1768, q1770, q1773, q1774, q1775, q1776, q1777, q1564]; rfl
theorem q1780 : k0_pay1780 (F := Ideal) x0 x1 x2 = CE (sc6 x0 x1 x2) (sc7 x0 x1 x2) := by
  rw [k0_pay1780, q1746, q1747, q1748, q1749, q1750, q1751, q1753, q1752, q1778, q1564]; rfl
theorem q1781 : k0_pay1781 (F := Ideal) x0 x1 x2 = ioB := by
  rw [k0_pay1781]; rfl
theorem q1782 : k0_pay1782 (F := Ideal) x0 x1 x2 = broadcastTo S56x256 (mxB (SB (sc6 x0 x1 x2) (sc7 x0 x1 x2) 0)) broadcasts_S1x256_S56x256 := by
  rw [k0_pay1782, q1779]; rfl
theorem q1783 : k0_pay1783 (F := Ideal) x0 x1 x2 = SB (sc6 x0 x1 x2) (sc7 x0 x1 x2) 2 := by
  rw [k0_pay1783, q1779, q1781, q1782]; rfl
theorem q1784 : k0_pay1784 (F := Ideal) x0 x1 x2 = htB (SB (sc6 x0 x1 x2) (sc7 x0 x1 x2) 2) := by
  rw [k0_pay1784, q1779, q1781, q1782]; rfl
theorem q1785 : k0_pay1785 (F := Ideal) x0 x1 x2 = SB (sc6 x0 x1 x2) (sc7 x0 x1 x2) 5 := by
  rw [k0_pay1785, q1781, q1783, q1784]; rfl
theorem q1786 : k0_pay1786 (F := Ideal) x0 x1 x2 = htB (SB (sc6 x0 x1 x2) (sc7 x0 x1 x2) 5) := by
  rw [k0_pay1786, q1781, q1783, q1784]; rfl
theorem q1787 : k0_pay1787 (F := Ideal) x0 x1 x2 = SB (sc6 x0 x1 x2) (sc7 x0 x1 x2) 8 := by
  rw [k0_pay1787, q1781, q1785, q1786]; rfl
theorem q1788 : k0_pay1788 (F := Ideal) x0 x1 x2 = cdB (SB (sc6 x0 x1 x2) (sc7 x0 x1 x2) 8) := by
  rw [k0_pay1788, q1781, q1785, q1786]; rfl
theorem q1789 : k0_pay1789 (F := Ideal) x0 x1 x2 = SB (sc6 x0 x1 x2) (sc7 x0 x1 x2) 11 := by
  rw [k0_pay1789, q1781, q1787, q1788]; rfl
theorem q1790 : k0_pay1790 (F := Ideal) x0 x1 x2 = mrB (SB (sc6 x0 x1 x2) (sc7 x0 x1 x2) 11) := by
  rw [k0_pay1790, q1781, q1787, q1788]; rfl
theorem q1791 : k0_pay1791 (F := Ideal) x0 x1 x2 = SB (sc6 x0 x1 x2) (sc7 x0 x1 x2) 13 := by
  rw [k0_pay1791, q1781, q1789, q1790]; rfl
theorem q1792 : k0_pay1792 (F := Ideal) x0 x1 x2 = htB (SB (sc6 x0 x1 x2) (sc7 x0 x1 x2) 13) := by
  rw [k0_pay1792, q1781, q1789, q1790]; rfl
theorem q1793 : k0_pay1793 (F := Ideal) x0 x1 x2 = kbd (View.ld x2 r0_10) := by
  rw [k0_pay1793]; rfl
theorem q1794 : k0_pay1794 (F := Ideal) x0 x1 x2 = extractStridedSlice S64x256 ![512, 0] (qt x0 x1) slices_S1024x256_o512_0_S64x256 := by
  rw [k0_pay1794, q1564]; rfl
theorem q1795 : k0_pay1795 (F := Ideal) x0 x1 x2 = ioA := by
  rw [k0_pay1795]; rfl
theorem q1796 : k0_pay1796 (F := Ideal) x0 x1 x2 = SA (sc8 x0 x1 x2) 3 := by
  rw [k0_pay1796, q1793, q1794]; rfl
theorem q1797 : k0_pay1797 (F := Ideal) x0 x1 x2 = cdA (SA (sc8 x0 x1 x2) 3) := by
  rw [k0_pay1797, q1793, q1794]; rfl
theorem q1798 : k0_pay1798 (F := Ideal) x0 x1 x2 = SA (sc8 x0 x1 x2) 7 := by
  rw [k0_pay1798, q1795, q1796, q1797]; rfl
theorem q1799 : k0_pay1799 (F := Ideal) x0 x1 x2 = broadcastTo S128x256 (mxA (SA (sc8 x0 x1 x2) 7)) broadcasts_S1x256_S128x256 := by
  rw [k0_pay1799, q1795, q1796, q1797]; rfl
theorem q1800 : k0_pay1800 (F := Ideal) x0 x1 x2 = SA (sc8 x0 x1 x2) 11 := by
  rw [k0_pay1800, q1795, q1798, q1799]; rfl
theorem q1801 : k0_pay1801 (F := Ideal) x0 x1 x2 = SA (sc8 x0 x1 x2) 14 := by
  rw [k0_pay1801, q1795, q1800]; rfl
theorem q1802 : k0_pay1802 (F := Ideal) x0 x1 x2 = broadcastTo S128x256 (ixA (SA (sc8 x0 x1 x2) 14)) broadcasts_S1x256_S128x256 := by
  rw [k0_pay1802, q1795, q1800]; rfl
theorem q1803 : k0_pay1803 (F := Ideal) x0 x1 x2 = ioA := by
  rw [k0_pay1803]; rfl
theorem q1804 : k0_pay1804 (F := Ideal) x0 x1 x2 = mxA (SA (sc9 x0 x1 x2) 0) := by
  rw [k0_pay1804, q1564]; rfl
theorem q1805 : k0_pay1805 (F := Ideal) x0 x1 x2 = mxA (SA (sc9 x0 x1 x2) 1) := by
  rw [k0_pay1805, q1564]; rfl
theorem q1806 : k0_pay1806 (F := Ideal) x0 x1 x2 = SA (sc9 x0 x1 x2) 2 := by
  rw [k0_pay1806, q1564]; rfl
theorem q1807 : k0_pay1807 (F := Ideal) x0 x1 x2 = mxA (SA (sc9 x0 x1 x2) 2) := by
  rw [k0_pay1807, q1564]; rfl
theorem q1808 : k0_pay1808 (F := Ideal) x0 x1 x2 = mxA (SA (sc9 x0 x1 x2) 3) := by
  rw [k0_pay1808, q1803, q1806, q1807]; rfl
theorem q1809 : k0_pay1809 (F := Ideal) x0 x1 x2 = mxA (SA (sc9 x0 x1 x2) 4) := by
  rw [k0_pay1809, q1803, q1806, q1807]; rfl
theorem q1810 : k0_pay1810 (F := Ideal) x0 x1 x2 = SA (sc9 x0 x1 x2) 5 := by
  rw [k0_pay1810, q1803, q1806, q1807]; rfl
theorem q1811 : k0_pay1811 (F := Ideal) x0 x1 x2 = mxA (SA (sc9 x0 x1 x2) 5) := by
  rw [k0_pay1811, q1803, q1806, q1807]; rfl
theorem q1812 : k0_pay1812 (F := Ideal) x0 x1 x2 = htA (SA (sc9 x0 x1 x2) 5) := by
  rw [k0_pay1812, q1803, q1806, q1807]; rfl
theorem q1813 : k0_pay1813 (F := Ideal) x0 x1 x2 = broadcast S128x256 (Scalar.ofBits .f32 0xFF800000#32) := by
  rw [k0_pay1813]; rfl
theorem q1814 : k0_pay1814 (F := Ideal) x0 x1 x2 = mxA (SA (sc9 x0 x1 x2) 6) := by
  rw [k0_pay1814, q1810, q1812, q1813]; rfl
theorem q1815 : k0_pay1815 (F := Ideal) x0 x1 x2 = mxA (SA (sc9 x0 x1 x2) 7) := by
  rw [k0_pay1815, q1803, q1810, q1812, q1813]; rfl
theorem q1816 : k0_pay1816 (F := Ideal) x0 x1 x2 = mxA (SA (sc9 x0 x1 x2) 8) := by
  rw [k0_pay1816, q1803, q1810, q1812, q1813]; rfl
theorem q1817 : k0_pay1817 (F := Ideal) x0 x1 x2 = SA (sc9 x0 x1 x2) 9 := by
  rw [k0_pay1817, q1803, q1810, q1812, q1813]; rfl
theorem q1818 : k0_pay1818 (F := Ideal) x0 x1 x2 = mxA (SA (sc9 x0 x1 x2) 9) := by
  rw [k0_pay1818, q1803, q1810, q1812, q1813]; rfl
theorem q1819 : k0_pay1819 (F := Ideal) x0 x1 x2 = ixA (SA (sc9 x0 x1 x2) 9) := by
  rw [k0_pay1819, q1803, q1810, q1812, q1813]; rfl
theorem q1820 : k0_pay1820 (F := Ideal) x0 x1 x2 = mxA (SA (sc9 x0 x1 x2) 10) := by
  rw [k0_pay1820, q1803, q1817, q1819]; rfl
theorem q1821 : k0_pay1821 (F := Ideal) x0 x1 x2 = mxA (SA (sc9 x0 x1 x2) 11) := by
  rw [k0_pay1821, q1803, q1817, q1819]; rfl
theorem q1822 : k0_pay1822 (F := Ideal) x0 x1 x2 = mxA (SA (sc9 x0 x1 x2) 12) := by
  rw [k0_pay1822, q1803, q1817, q1819]; rfl
theorem q1823 : k0_pay1823 (F := Ideal) x0 x1 x2 = SA (sc9 x0 x1 x2) 13 := by
  rw [k0_pay1823, q1803, q1817, q1819]; rfl
theorem q1824 : k0_pay1824 (F := Ideal) x0 x1 x2 = mxA (SA (sc9 x0 x1 x2) 13) := by
  rw [k0_pay1824, q1803, q1817, q1819]; rfl
theorem q1825 : k0_pay1825 (F := Ideal) x0 x1 x2 = eqA (SA (sc9 x0 x1 x2) 13) := by
  rw [k0_pay1825, q1803, q1817, q1819]; rfl
theorem q1826 : k0_pay1826 (F := Ideal) x0 x1 x2 = broadcast S128x256 (Scalar.ofBits .f32 0x43000000#32) := by
  rw [k0_pay1826]; rfl
theorem q1827 : k0_pay1827 (F := Ideal) x0 x1 x2 = I16 (sc9 x0 x1 x2) := by
  rw [k0_pay1827, q1803, q1564, q1806, q1807, q1810, q1812, q1813, q1819, q1817, q1823, q1825, q1826]; rfl
theorem q1828 : k0_pay1828 (F := Ideal) x0 x1 x2 = SB (sc8 x0 x1 x2) (sc9 x0 x1 x2) 0 := by
  rw [k0_pay1828, q1795, q1798, q1799, q1800, q1801, q1802, q1803, q1804, q1805, q1807, q1808, q1809, q1811, q1814, q1815, q1816, q1818, q1820, q1821, q1822, q1823, q1824, q1825, q1826, q1793, q1794, q1796, q1797]; rfl
theorem q1829 : k0_pay1829 (F := Ideal) x0 x1 x2 = CE (sc8 x0 x1 x2) (sc9 x0 x1 x2) := by
  rw [k0_pay1829, q1795, q1798, q1799, q1800, q1801, q1802, q1827, q1793, q1794, q1797, q1796]; rfl
theorem q1830 : k0_pay1830 (F := Ideal) x0 x1 x2 = ioB := by
  rw [k0_pay1830]; rfl
theorem q1831 : k0_pay1831 (F := Ideal) x0 x1 x2 = cdB (SB (sc8 x0 x1 x2) (sc9 x0 x1 x2) 0) := by
  rw [k0_pay1831, q1828]; rfl
theorem q1832 : k0_pay1832 (F := Ideal) x0 x1 x2 = SB (sc8 x0 x1 x2) (sc9 x0 x1 x2) 3 := by
  rw [k0_pay1832, q1828, q1830, q1831]; rfl
theorem q1833 : k0_pay1833 (F := Ideal) x0 x1 x2 = mrB (SB (sc8 x0 x1 x2) (sc9 x0 x1 x2) 3) := by
  rw [k0_pay1833, q1828, q1830, q1831]; rfl
theorem q1834 : k0_pay1834 (F := Ideal) x0 x1 x2 = SB (sc8 x0 x1 x2) (sc9 x0 x1 x2) 5 := by
  rw [k0_pay1834, q1830, q1832, q1833]; rfl
theorem q1835 : k0_pay1835 (F := Ideal) x0 x1 x2 = htB (SB (sc8 x0 x1 x2) (sc9 x0 x1 x2) 5) := by
  rw [k0_pay1835, q1830, q1832, q1833]; rfl
theorem q1836 : k0_pay1836 (F := Ideal) x0 x1 x2 = SB (sc8 x0 x1 x2) (sc9 x0 x1 x2) 8 := by
  rw [k0_pay1836, q1830, q1834, q1835]; rfl
theorem q1837 : k0_pay1837 (F := Ideal) x0 x1 x2 = broadcastTo S56x256 (ixB (SB (sc8 x0 x1 x2) (sc9 x0 x1 x2) 8)) broadcasts_S1x256_S56x256 := by
  rw [k0_pay1837, q1830, q1834, q1835]; rfl
theorem q1838 : k0_pay1838 (F := Ideal) x0 x1 x2 = SB (sc8 x0 x1 x2) (sc9 x0 x1 x2) 11 := by
  rw [k0_pay1838, q1830, q1836, q1837]; rfl
theorem q1839 : k0_pay1839 (F := Ideal) x0 x1 x2 = eqB (SB (sc8 x0 x1 x2) (sc9 x0 x1 x2) 11) := by
  rw [k0_pay1839, q1830, q1836, q1837]; rfl
theorem q1840 : k0_pay1840 (F := Ideal) x0 x1 x2 = SB (sc8 x0 x1 x2) (sc9 x0 x1 x2) 14 := by
  rw [k0_pay1840, q1830, q1838, q1839]; rfl
theorem q1841 : k0_pay1841 (F := Ideal) x0 x1 x2 = SA (sc10 x0 x1 x2) 0 := by
  rw [k0_pay1841, q1564]; rfl
theorem q1842 : k0_pay1842 (F := Ideal) x0 x1 x2 = ioA := by
  rw [k0_pay1842]; rfl
theorem q1843 : k0_pay1843 (F := Ideal) x0 x1 x2 = SA (sc10 x0 x1 x2) 3 := by
  rw [k0_pay1843, q1841, q1842]; rfl
theorem q1844 : k0_pay1844 (F := Ideal) x0 x1 x2 = broadcastTo S128x256 (ixA (SA (sc10 x0 x1 x2) 3)) broadcasts_S1x256_S128x256 := by
  rw [k0_pay1844, q1841, q1842]; rfl
theorem q1845 : k0_pay1845 (F := Ideal) x0 x1 x2 = SA (sc10 x0 x1 x2) 7 := by
  rw [k0_pay1845, q1842, q1843, q1844]; rfl
theorem q1846 : k0_pay1846 (F := Ideal) x0 x1 x2 = cdA (SA (sc10 x0 x1 x2) 7) := by
  rw [k0_pay1846, q1842, q1843, q1844]; rfl
theorem q1847 : k0_pay1847 (F := Ideal) x0 x1 x2 = SA (sc10 x0 x1 x2) 11 := by
  rw [k0_pay1847, q1842, q1845, q1846]; rfl
theorem q1848 : k0_pay1848 (F := Ideal) x0 x1 x2 = broadcastTo S128x256 (mxA (SA (sc10 x0 x1 x2) 11)) broadcasts_S1x256_S128x256 := by
  rw [k0_pay1848, q1842, q1845, q1846]; rfl
theorem q1849 : k0_pay1849 (F := Ideal) x0 x1 x2 = SA (sc10 x0 x1 x2) 15 := by
  rw [k0_pay1849, q1842, q1847, q1848]; rfl
theorem q1850 : k0_pay1850 (F := Ideal) x0 x1 x2 = ioA := by
  rw [k0_pay1850]; rfl
theorem q1851 : k0_pay1851 (F := Ideal) x0 x1 x2 = mxA (SA (sc11 x0 x1 x2) 0) := by
  rw [k0_pay1851, q1564]; rfl
theorem q1852 : k0_pay1852 (F := Ideal) x0 x1 x2 = mxA (SA (sc11 x0 x1 x2) 1) := by
  rw [k0_pay1852, q1564]; rfl
theorem q1853 : k0_pay1853 (F := Ideal) x0 x1 x2 = SA (sc11 x0 x1 x2) 2 := by
  rw [k0_pay1853, q1564]; rfl
theorem q1854 : k0_pay1854 (F := Ideal) x0 x1 x2 = mxA (SA (sc11 x0 x1 x2) 2) := by
  rw [k0_pay1854, q1564]; rfl
theorem q1855 : k0_pay1855 (F := Ideal) x0 x1 x2 = eqA (SA (sc11 x0 x1 x2) 2) := by
  rw [k0_pay1855, q1564]; rfl
theorem q1856 : k0_pay1856 (F := Ideal) x0 x1 x2 = broadcast S128x256 (Scalar.ofBits .f32 0x43000000#32) := by
  rw [k0_pay1856]; rfl
theorem q1857 : k0_pay1857 (F := Ideal) x0 x1 x2 = mxA (SA (sc11 x0 x1 x2) 3) := by
  rw [k0_pay1857, q1850, q1853, q1855, q1856]; rfl
theorem q1858 : k0_pay1858 (F := Ideal) x0 x1 x2 = mxA (SA (sc11 x0 x1 x2) 4) := by
  rw [k0_pay1858, q1850, q1853, q1855, q1856]; rfl
theorem q1859 : k0_pay1859 (F := Ideal) x0 x1 x2 = mxA (SA (sc11 x0 x1 x2) 5) := by
  rw [k0_pay1859, q1850, q1853, q1855, q1856]; rfl
theorem q1860 : k0_pay1860 (F := Ideal) x0 x1 x2 = SA (sc11 x0 x1 x2) 6 := by
  rw [k0_pay1860, q1850, q1853, q1855, q1856]; rfl
theorem q1861 : k0_pay1861 (F := Ideal) x0 x1 x2 = mxA (SA (sc11 x0 x1 x2) 6) := by
  rw [k0_pay1861, q1850, q1853, q1855, q1856]; rfl
theorem q1862 : k0_pay1862 (F := Ideal) x0 x1 x2 = mxA (SA (sc11 x0 x1 x2) 7) := by
  rw [k0_pay1862, q1850, q1860, q1861]; rfl
theorem q1863 : k0_pay1863 (F := Ideal) x0 x1 x2 = mxA (SA (sc11 x0 x1 x2) 8) := by
  rw [k0_pay1863, q1850, q1860, q1861]; rfl
theorem q1864 : k0_pay1864 (F := Ideal) x0 x1 x2 = SA (sc11 x0 x1 x2) 9 := by
  rw [k0_pay1864, q1850, q1860, q1861]; rfl
theorem q1865 : k0_pay1865 (F := Ideal) x0 x1 x2 = mxA (SA (sc11 x0 x1 x2) 9) := by
  rw [k0_pay1865, q1850, q1860, q1861]; rfl
theorem q1866 : k0_pay1866 (F := Ideal) x0 x1 x2 = htA (SA (sc11 x0 x1 x2) 9) := by
  rw [k0_pay1866, q1850, q1860, q1861]; rfl
theorem q1867 : k0_pay1867 (F := Ideal) x0 x1 x2 = broadcast S128x256 (Scalar.ofBits .f32 0xFF800000#32) := by
  rw [k0_pay1867]; rfl
theorem q1868 : k0_pay1868 (F := Ideal) x0 x1 x2 = mxA (SA (sc11 x0 x1 x2) 10) := by
  rw [k0_pay1868, q1864, q1866, q1867]; rfl
theorem q1869 : k0_pay1869 (F := Ideal) x0 x1 x2 = mxA (SA (sc11 x0 x1 x2) 11) := by
  rw [k0_pay1869, q1850, q1864, q1866, q1867]; rfl
theorem q1870 : k0_pay1870 (F := Ideal) x0 x1 x2 = mxA (SA (sc11 x0 x1 x2) 12) := by
  rw [k0_pay1870, q1850, q1864, q1866, q1867]; rfl
theorem q1871 : k0_pay1871 (F := Ideal) x0 x1 x2 = SA (sc11 x0 x1 x2) 13 := by
  rw [k0_pay1871, q1850, q1864, q1866, q1867]; rfl
theorem q1872 : k0_pay1872 (F := Ideal) x0 x1 x2 = mxA (SA (sc11 x0 x1 x2) 13) := by
  rw [k0_pay1872, q1850, q1864, q1866, q1867]; rfl
theorem q1873 : k0_pay1873 (F := Ideal) x0 x1 x2 = ixA (SA (sc11 x0 x1 x2) 13) := by
  rw [k0_pay1873, q1850, q1864, q1866, q1867]; rfl
theorem q1874 : k0_pay1874 (F := Ideal) x0 x1 x2 = I16 (sc11 x0 x1 x2) := by
  rw [k0_pay1874, q1850, q1564, q1855, q1856, q1853, q1860, q1861, q1864, q1866, q1867, q1871, q1873]; rfl
theorem q1875 : k0_pay1875 (F := Ideal) x0 x1 x2 = SB (sc10 x0 x1 x2) (sc11 x0 x1 x2) 0 := by
  rw [k0_pay1875, q1842, q1845, q1846, q1847, q1848, q1849, q1850, q1851, q1852, q1854, q1857, q1858, q1859, q1861, q1862, q1863, q1865, q1868, q1869, q1870, q1871, q1872, q1873, q1841, q1843, q1844]; rfl
theorem q1876 : k0_pay1876 (F := Ideal) x0 x1 x2 = CE (sc10 x0 x1 x2) (sc11 x0 x1 x2) := by
  rw [k0_pay1876, q1842, q1845, q1846, q1847, q1848, q1849, q1874, q1841, q1843, q1844]; rfl
theorem q1877 : k0_pay1877 (F := Ideal) x0 x1 x2 = ioB := by
  rw [k0_pay1877]; rfl
theorem q1878 : k0_pay1878 (F := Ideal) x0 x1 x2 = broadcastTo S56x256 (ixB (SB (sc10 x0 x1 x2) (sc11 x0 x1 x2) 0)) broadcasts_S1x256_S56x256 := by
  rw [k0_pay1878, q1875]; rfl
theorem q1879 : k0_pay1879 (F := Ideal) x0 x1 x2 = SB (sc10 x0 x1 x2) (sc11 x0 x1 x2) 3 := by
  rw [k0_pay1879, q1875, q1877, q1878]; rfl
theorem q1880 : k0_pay1880 (F := Ideal) x0 x1 x2 = eqB (SB (sc10 x0 x1 x2) (sc11 x0 x1 x2) 3) := by
  rw [k0_pay1880, q1875, q1877, q1878]; rfl
theorem q1881 : k0_pay1881 (F := Ideal) x0 x1 x2 = SB (sc10 x0 x1 x2) (sc11 x0 x1 x2) 6 := by
  rw [k0_pay1881, q1877, q1879, q1880]; rfl
theorem q1882 : k0_pay1882 (F := Ideal) x0 x1 x2 = SB (sc10 x0 x1 x2) (sc11 x0 x1 x2) 8 := by
  rw [k0_pay1882, q1877, q1881]; rfl
theorem q1883 : k0_pay1883 (F := Ideal) x0 x1 x2 = htB (SB (sc10 x0 x1 x2) (sc11 x0 x1 x2) 8) := by
  rw [k0_pay1883, q1877, q1881]; rfl
theorem q1884 : k0_pay1884 (F := Ideal) x0 x1 x2 = SB (sc10 x0 x1 x2) (sc11 x0 x1 x2) 11 := by
  rw [k0_pay1884, q1877, q1882, q1883]; rfl
theorem q1885 : k0_pay1885 (F := Ideal) x0 x1 x2 = irB (SB (sc10 x0 x1 x2) (sc11 x0 x1 x2) 11) := by
  rw [k0_pay1885, q1877, q1882, q1883]; rfl
theorem q1886 : k0_pay1886 (F := Ideal) x0 x1 x2 = SB (sc10 x0 x1 x2) (sc11 x0 x1 x2) 14 := by
  rw [k0_pay1886, q1877, q1884, q1885]; rfl
theorem q1887 : k0_pay1887 (F := Ideal) x0 x1 x2 = broadcastTo S56x256 (mxB (SB (sc10 x0 x1 x2) (sc11 x0 x1 x2) 14)) broadcasts_S1x256_S56x256 := by
  rw [k0_pay1887, q1877, q1884, q1885]; rfl
theorem q1888 : k0_pay1888 (F := Ideal) x0 x1 x2 = SA (sc12 x0 x1 x2) 0 := by
  rw [k0_pay1888, q1564]; rfl
theorem q1889 : k0_pay1889 (F := Ideal) x0 x1 x2 = ioA := by
  rw [k0_pay1889]; rfl
theorem q1890 : k0_pay1890 (F := Ideal) x0 x1 x2 = broadcastTo S128x256 (mxA (SA (sc12 x0 x1 x2) 0)) broadcasts_S1x256_S128x256 := by
  rw [k0_pay1890, q1564]; rfl
theorem q1891 : k0_pay1891 (F := Ideal) x0 x1 x2 = SA (sc12 x0 x1 x2) 4 := by
  rw [k0_pay1891, q1888, q1889, q1890]; rfl
theorem q1892 : k0_pay1892 (F := Ideal) x0 x1 x2 = SA (sc12 x0 x1 x2) 7 := by
  rw [k0_pay1892, q1889, q1891]; rfl
theorem q1893 : k0_pay1893 (F := Ideal) x0 x1 x2 = broadcastTo S128x256 (ixA (SA (sc12 x0 x1 x2) 7)) broadcasts_S1x256_S128x256 := by
  rw [k0_pay1893, q1889, q1891]; rfl
theorem q1894 : k0_pay1894 (F := Ideal) x0 x1 x2 = ixA (SA (sc12 x0 x1 x2) 8) := by
  rw [k0_pay1894, q1889, q1892, q1893]; rfl
theorem q1895 : k0_pay1895 (F := Ideal) x0 x1 x2 = ixA (SA (sc12 x0 x1 x2) 9) := by
  rw [k0_pay1895, q1889, q1892, q1893]; rfl
theorem q1896 : k0_pay1896 (F := Ideal) x0 x1 x2 = ixA (SA (sc12 x0 x1 x2) 10) := by
  rw [k0_pay1896, q1889, q1892, q1893]; rfl
theorem q1897 : k0_pay1897 (F := Ideal) x0 x1 x2 = SA (sc12 x0 x1 x2) 11 := by
  rw [k0_pay1897, q1889, q1892, q1893]; rfl
theorem q1898 : k0_pay1898 (F := Ideal) x0 x1 x2 = cdA (SA (sc12 x0 x1 x2) 11) := by
  rw [k0_pay1898, q1889, q1892, q1893]; rfl
theorem q1899 : k0_pay1899 (F := Ideal) x0 x1 x2 = ixA (SA (sc12 x0 x1 x2) 11) := by
  rw [k0_pay1899, q1898]; rfl
theorem q1900 : k0_pay1900 (F := Ideal) x0 x1 x2 = ixA (SA (sc12 x0 x1 x2) 12) := by
  rw [k0_pay1900, q1889, q1897, q1898]; rfl
theorem q1901 : k0_pay1901 (F := Ideal) x0 x1 x2 = ixA (SA (sc12 x0 x1 x2) 13) := by
  rw [k0_pay1901, q1889, q1897, q1898]; rfl
theorem q1902 : k0_pay1902 (F := Ideal) x0 x1 x2 = ixA (SA (sc12 x0 x1 x2) 14) := by
  rw [k0_pay1902, q1889, q1897, q1898]; rfl
theorem q1903 : k0_pay1903 (F := Ideal) x0 x1 x2 = ixA (SA (sc12 x0 x1 x2) 15) := by
  rw [k0_pay1903, q1889, q1897, q1898]; rfl
theorem q1904 : k0_pay1904 (F := Ideal) x0 x1 x2 = ioA := by
  rw [k0_pay1904]; rfl
theorem q1905 : k0_pay1905 (F := Ideal) x0 x1 x2 = mxA (SA (sc13 x0 x1 x2) 0) := by
  rw [k0_pay1905, q1564]; rfl
theorem q1906 : k0_pay1906 (F := Ideal) x0 x1 x2 = mxA (SA (sc13 x0 x1 x2) 1) := by
  rw [k0_pay1906, q1564]; rfl
theorem q1907 : k0_pay1907 (F := Ideal) x0 x1 x2 = SA (sc13 x0 x1 x2) 2 := by
  rw [k0_pay1907, q1564]; rfl
theorem q1908 : k0_pay1908 (F := Ideal) x0 x1 x2 = mxA (SA (sc13 x0 x1 x2) 2) := by
  rw [k0_pay1908, q1564]; rfl
theorem q1909 : k0_pay1909 (F := Ideal) x0 x1 x2 = ixA (SA (sc13 x0 x1 x2) 2) := by
  rw [k0_pay1909, q1564]; rfl
theorem q1910 : k0_pay1910 (F := Ideal) x0 x1 x2 = mxA (SA (sc13 x0 x1 x2) 3) := by
  rw [k0_pay1910, q1904, q1907, q1909]; rfl
theorem q1911 : k0_pay1911 (F := Ideal) x0 x1 x2 = mxA (SA (sc13 x0 x1 x2) 4) := by
  rw [k0_pay1911, q1904, q1907, q1909]; rfl
theorem q1912 : k0_pay1912 (F := Ideal) x0 x1 x2 = mxA (SA (sc13 x0 x1 x2) 5) := by
  rw [k0_pay1912, q1904, q1907, q1909]; rfl
theorem q1913 : k0_pay1913 (F := Ideal) x0 x1 x2 = SA (sc13 x0 x1 x2) 6 := by
  rw [k0_pay1913, q1904, q1907, q1909]; rfl
theorem q1914 : k0_pay1914 (F := Ideal) x0 x1 x2 = mxA (SA (sc13 x0 x1 x2) 6) := by
  rw [k0_pay1914, q1904, q1907, q1909]; rfl
theorem q1915 : k0_pay1915 (F := Ideal) x0 x1 x2 = eqA (SA (sc13 x0 x1 x2) 6) := by
  rw [k0_pay1915, q1904, q1907, q1909]; rfl
theorem q1916 : k0_pay1916 (F := Ideal) x0 x1 x2 = broadcast S128x256 (Scalar.ofBits .f32 0x43000000#32) := by
  rw [k0_pay1916]; rfl
theorem q1917 : k0_pay1917 (F := Ideal) x0 x1 x2 = mxA (SA (sc13 x0 x1 x2) 7) := by
  rw [k0_pay1917, q1904, q1913, q1915, q1916]; rfl
theorem q1918 : k0_pay1918 (F := Ideal) x0 x1 x2 = mxA (SA (sc13 x0 x1 x2) 8) := by
  rw [k0_pay1918, q1904, q1913, q1915, q1916]; rfl
theorem q1919 : k0_pay1919 (F := Ideal) x0 x1 x2 = mxA (SA (sc13 x0 x1 x2) 9) := by
  rw [k0_pay1919, q1904, q1913, q1915, q1916]; rfl
theorem q1920 : k0_pay1920 (F := Ideal) x0 x1 x2 = SA (sc13 x0 x1 x2) 10 := by
  rw [k0_pay1920, q1904, q1913, q1915, q1916]; rfl
theorem q1921 : k0_pay1921 (F := Ideal) x0 x1 x2 = mxA (SA (sc13 x0 x1 x2) 10) := by
  rw [k0_pay1921, q1904, q1913, q1915, q1916]; rfl
theorem q1922 : k0_pay1922 (F := Ideal) x0 x1 x2 = mxA (SA (sc13 x0 x1 x2) 11) := by
  rw [k0_pay1922, q1904, q1920, q1921]; rfl
theorem q1923 : k0_pay1923 (F := Ideal) x0 x1 x2 = mxA (SA (sc13 x0 x1 x2) 12) := by
  rw [k0_pay1923, q1904, q1920, q1921]; rfl
theorem q1924 : k0_pay1924 (F := Ideal) x0 x1 x2 = SA (sc13 x0 x1 x2) 13 := by
  rw [k0_pay1924, q1904, q1920, q1921]; rfl
theorem q1925 : k0_pay1925 (F := Ideal) x0 x1 x2 = mxA (SA (sc13 x0 x1 x2) 13) := by
  rw [k0_pay1925, q1904, q1920, q1921]; rfl
theorem q1926 : k0_pay1926 (F := Ideal) x0 x1 x2 = htA (SA (sc13 x0 x1 x2) 13) := by
  rw [k0_pay1926, q1904, q1920, q1921]; rfl
theorem q1927 : k0_pay1927 (F := Ideal) x0 x1 x2 = broadcast S128x256 (Scalar.ofBits .f32 0xFF800000#32) := by
  rw [k0_pay1927]; rfl
theorem q1928 : k0_pay1928 (F := Ideal) x0 x1 x2 = I16 (sc13 x0 x1 x2) := by
  rw [k0_pay1928, q1904, q1564, q1909, q1907, q1915, q1916, q1913, q1920, q1921, q1924, q1926, q1927]; rfl
theorem q1929 : k0_pay1929 (F := Ideal) x0 x1 x2 = SB (sc12 x0 x1 x2) (sc13 x0 x1 x2) 0 := by
  rw [k0_pay1929, q1889, q1892, q1893, q1897, q1898, q1904, q1905, q1906, q1908, q1910, q1911, q1912, q1914, q1917, q1918, q1919, q1921, q1922, q1923, q1924, q1925, q1926, q1927, q1564, q1888, q1890, q1891]; rfl
theorem q1930 : k0_pay1930 (F := Ideal) x0 x1 x2 = addf (broadcastTo S16x256 (mulf (ixA (SA (sc12 x0 x1 x2) 0)) (broadcast S1x256 (Scalar.ofBits .f32 0x43000000#32))) broadcasts_S1x256_S16x256) (I16 (sc13 x0 x1 x2)) := by
  rw [k0_pay1930, q1888, q1889, q1890, q1928]; rfl
theorem q1931 : k0_pay1931 (F := Ideal) x0 x1 x2 = addf (broadcastTo S8x256 (mulf (ixA (SA (sc12 x0 x1 x2) 1)) (broadcast S1x256 (Scalar.ofBits .f32 0x43000000#32))) broadcasts_S1x256_S8x256) (extractStridedSlice S8x256 ![0, 0] (I16 (sc13 x0 x1 x2)) slices_S16x256_o0_0_S8x256) := by
  rw [k0_pay1931, q1888, q1889, q1890, q1928]; rfl
theorem q1932 : k0_pay1932 (F := Ideal) x0 x1 x2 = addf (broadcastTo S5x256 (mulf (ixA (SA (sc12 x0 x1 x2) 2)) (broadcast S1x256 (Scalar.ofBits .f32 0x43000000#32))) broadcasts_S1x256_S5x256) (extractStridedSlice S5x256 ![0, 0] (I16 (sc13 x0 x1 x2)) slices_S16x256_o0_0_S5x256) := by
  rw [k0_pay1932, q1888, q1889, q1890, q1928]; rfl
theorem q1933 : k0_pay1933 (F := Ideal) x0 x1 x2 = addf (broadcastTo S4x256 (mulf (ixA (SA (sc12 x0 x1 x2) 3)) (broadcast S1x256 (Scalar.ofBits .f32 0x43000000#32))) broadcasts_S1x256_S4x256) (extractStridedSlice S4x256 ![0, 0] (I16 (sc13 x0 x1 x2)) slices_S16x256_o0_0_S4x256) := by
  rw [k0_pay1933, q1888, q1889, q1890, q1928]; rfl
theorem q1934 : k0_pay1934 (F := Ideal) x0 x1 x2 = addf (broadcastTo S3x256 (mulf (ixA (SA (sc12 x0 x1 x2) 4)) (broadcast S1x256 (Scalar.ofBits .f32 0x43000000#32))) broadcasts_S1x256_S3x256) (extractStridedSlice S3x256 ![0, 0] (I16 (sc13 x0 x1 x2)) slices_S16x256_o0_0_S3x256) := by
  rw [k0_pay1934, q1889, q1891, q1928]; rfl
theorem q1935 : k0_pay1935 (F := Ideal) x0 x1 x2 = addf (broadcastTo S2x256 (mulf (ixA (SA (sc12 x0 x1 x2) 5)) (broadcast S1x256 (Scalar.ofBits .f32 0x43000000#32))) broadcasts_S1x256_S2x256) (extractStridedSlice S2x256 ![0, 0] (I16 (sc13 x0 x1 x2)) slices_S16x256_o0_0_S2x256) := by
  rw [k0_pay1935, q1889, q1891, q1928]; rfl
theorem q1936 : k0_pay1936 (F := Ideal) x0 x1 x2 = addf (broadcastTo S2x256 (mulf (ixA (SA (sc12 x0 x1 x2) 6)) (broadcast S1x256 (Scalar.ofBits .f32 0x43000000#32))) broadcasts_S1x256_S2x256) (extractStridedSlice S2x256 ![0, 0] (I16 (sc13 x0 x1 x2)) slices_S16x256_o0_0_S2x256) := by
  rw [k0_pay1936, q1889, q1891, q1928]; rfl
theorem q1937 : k0_pay1937 (F := Ideal) x0 x1 x2 = addf (broadcastTo S2x256 (mulf (ixA (SA (sc12 x0 x1 x2) 7)) (broadcast S1x256 (Scalar.ofBits .f32 0x43000000#32))) broadcasts_S1x256_S2x256) (extractStridedSlice S2x256 ![0, 0] (I16 (sc13 x0 x1 x2)) slices_S16x256_o0_0_S2x256) := by
  rw [k0_pay1937, q1889, q1891, q1928]; rfl
theorem q1938 : k0_pay1938 (F := Ideal) x0 x1 x2 = CE (sc12 x0 x1 x2) (sc13 x0 x1 x2) := by
  rw [k0_pay1938, q1894, q1895, q1896, q1899, q1900, q1901, q1902, q1903, q1928, q1930, q1931, q1932, q1933, q1934, q1935, q1936, q1937]; rfl
theorem q1939 : k0_pay1939 (F := Ideal) x0 x1 x2 = ioB := by
  rw [k0_pay1939]; rfl
theorem q1940 : k0_pay1940 (F := Ideal) x0 x1 x2 = htB (SB (sc12 x0 x1 x2) (sc13 x0 x1 x2) 0) := by
  rw [k0_pay1940, q1929]; rfl
theorem q1941 : k0_pay1941 (F := Ideal) x0 x1 x2 = SB (sc12 x0 x1 x2) (sc13 x0 x1 x2) 3 := by
  rw [k0_pay1941, q1929, q1939, q1940]; rfl
theorem q1942 : k0_pay1942 (F := Ideal) x0 x1 x2 = irB (SB (sc12 x0 x1 x2) (sc13 x0 x1 x2) 3) := by
  rw [k0_pay1942, q1929, q1939, q1940]; rfl
theorem q1943 : k0_pay1943 (F := Ideal) x0 x1 x2 = SB (sc12 x0 x1 x2) (sc13 x0 x1 x2) 6 := by
  rw [k0_pay1943, q1939, q1941, q1942]; rfl
theorem q1944 : k0_pay1944 (F := Ideal) x0 x1 x2 = broadcastTo S56x256 (mxB (SB (sc12 x0 x1 x2) (sc13 x0 x1 x2) 6)) broadcasts_S1x256_S56x256 := by
  rw [k0_pay1944, q1939, q1941, q1942]; rfl
theorem q1945 : k0_pay1945 (F := Ideal) x0 x1 x2 = SB (sc12 x0 x1 x2) (sc13 x0 x1 x2) 8 := by
  rw [k0_pay1945, q1939, q1943, q1944]; rfl
theorem q1946 : k0_pay1946 (F := Ideal) x0 x1 x2 = htB (SB (sc12 x0 x1 x2) (sc13 x0 x1 x2) 8) := by
  rw [k0_pay1946, q1939, q1943, q1944]; rfl
theorem q1947 : k0_pay1947 (F := Ideal) x0 x1 x2 = SB (sc12 x0 x1 x2) (sc13 x0 x1 x2) 11 := by
  rw [k0_pay1947, q1939, q1945, q1946]; rfl
theorem q1948 : k0_pay1948 (F := Ideal) x0 x1 x2 = htB (SB (sc12 x0 x1 x2) (sc13 x0 x1 x2) 11) := by
  rw [k0_pay1948, q1939, q1945, q1946]; rfl
theorem q1949 : k0_pay1949 (F := Ideal) x0 x1 x2 = SB (sc12 x0 x1 x2) (sc13 x0 x1 x2) 14 := by
  rw [k0_pay1949, q1939, q1947, q1948]; rfl
theorem q1950 : k0_pay1950 (F := Ideal) x0 x1 x2 = cdB (SB (sc12 x0 x1 x2) (sc13 x0 x1 x2) 14) := by
  rw [k0_pay1950, q1939, q1947, q1948]; rfl
theorem q1951 : k0_pay1951 (F := Ideal) x0 x1 x2 = SA (sc14 x0 x1 x2) 0 := by
  rw [k0_pay1951, q1564]; rfl
theorem q1952 : k0_pay1952 (F := Ideal) x0 x1 x2 = ioA := by
  rw [k0_pay1952]; rfl
theorem q1953 : k0_pay1953 (F := Ideal) x0 x1 x2 = cdA (SA (sc14 x0 x1 x2) 0) := by
  rw [k0_pay1953, q1564]; rfl
theorem q1954 : k0_pay1954 (F := Ideal) x0 x1 x2 = SA (sc14 x0 x1 x2) 4 := by
  rw [k0_pay1954, q1951, q1952, q1953]; rfl
theorem q1955 : k0_pay1955 (F := Ideal) x0 x1 x2 = broadcastTo S128x256 (mxA (SA (sc14 x0 x1 x2) 4)) broadcasts_S1x256_S128x256 := by
  rw [k0_pay1955, q1951, q1952, q1953]; rfl
theorem q1956 : k0_pay1956 (F := Ideal) x0 x1 x2 = SA (sc14 x0 x1 x2) 8 := by
  rw [k0_pay1956, q1952, q1954, q1955]; rfl
theorem q1957 : k0_pay1957 (F := Ideal) x0 x1 x2 = ixA (SA (sc14 x0 x1 x2) 9) := by
  rw [k0_pay1957, q1952, q1956]; rfl
theorem q1958 : k0_pay1958 (F := Ideal) x0 x1 x2 = ixA (SA (sc14 x0 x1 x2) 10) := by
  rw [k0_pay1958, q1952, q1956]; rfl
theorem q1959 : k0_pay1959 (F := Ideal) x0 x1 x2 = SA (sc14 x0 x1 x2) 11 := by
  rw [k0_pay1959, q1952, q1956]; rfl
theorem q1960 : k0_pay1960 (F := Ideal) x0 x1 x2 = ixA (SA (sc14 x0 x1 x2) 11) := by
  rw [k0_pay1960, q1952, q1956]; rfl
theorem q1961 : k0_pay1961 (F := Ideal) x0 x1 x2 = broadcastTo S128x256 (ixA (SA (sc14 x0 x1 x2) 11)) broadcasts_S1x256_S128x256 := by
  rw [k0_pay1961, q1952, q1956]; rfl
theorem q1962 : k0_pay1962 (F := Ideal) x0 x1 x2 = ixA (SA (sc14 x0 x1 x2) 12) := by
  rw [k0_pay1962, q1952, q1959, q1961]; rfl
theorem q1963 : k0_pay1963 (F := Ideal) x0 x1 x2 = ixA (SA (sc14 x0 x1 x2) 13) := by
  rw [k0_pay1963, q1952, q1959, q1961]; rfl
theorem q1964 : k0_pay1964 (F := Ideal) x0 x1 x2 = ixA (SA (sc14 x0 x1 x2) 14) := by
  rw [k0_pay1964, q1952, q1959, q1961]; rfl
theorem q1965 : k0_pay1965 (F := Ideal) x0 x1 x2 = ixA (SA (sc14 x0 x1 x2) 15) := by
  rw [k0_pay1965, q1952, q1959, q1961]; rfl
theorem q1966 : k0_pay1966 (F := Ideal) x0 x1 x2 = ioA := by
  rw [k0_pay1966]; rfl
theorem q1967 : k0_pay1967 (F := Ideal) x0 x1 x2 = mxA (SA (sc15 x0 x1 x2) 0) := by
  rw [k0_pay1967, q1564]; rfl
theorem q1968 : k0_pay1968 (F := Ideal) x0 x1 x2 = mxA (SA (sc15 x0 x1 x2) 1) := by
  rw [k0_pay1968, q1564]; rfl
theorem q1969 : k0_pay1969 (F := Ideal) x0 x1 x2 = SA (sc15 x0 x1 x2) 2 := by
  rw [k0_pay1969, q1564]; rfl
theorem q1970 : k0_pay1970 (F := Ideal) x0 x1 x2 = mxA (SA (sc15 x0 x1 x2) 2) := by
  rw [k0_pay1970, q1564]; rfl
theorem q1971 : k0_pay1971 (F := Ideal) x0 x1 x2 = htA (SA (sc15 x0 x1 x2) 2) := by
  rw [k0_pay1971, q1564]; rfl
theorem q1972 : k0_pay1972 (F := Ideal) x0 x1 x2 = broadcast S128x256 (Scalar.ofBits .f32 0xFF800000#32) := by
  rw [k0_pay1972]; rfl
theorem q1973 : k0_pay1973 (F := Ideal) x0 x1 x2 = mxA (SA (sc15 x0 x1 x2) 3) := by
  rw [k0_pay1973, q1969, q1971, q1972]; rfl
theorem q1974 : k0_pay1974 (F := Ideal) x0 x1 x2 = mxA (SA (sc15 x0 x1 x2) 4) := by
  rw [k0_pay1974, q1966, q1969, q1971, q1972]; rfl
theorem q1975 : k0_pay1975 (F := Ideal) x0 x1 x2 = mxA (SA (sc15 x0 x1 x2) 5) := by
  rw [k0_pay1975, q1966, q1969, q1971, q1972]; rfl
theorem q1976 : k0_pay1976 (F := Ideal) x0 x1 x2 = SA (sc15 x0 x1 x2) 6 := by
  rw [k0_pay1976, q1966, q1969, q1971, q1972]; rfl
theorem q1977 : k0_pay1977 (F := Ideal) x0 x1 x2 = mxA (SA (sc15 x0 x1 x2) 6) := by
  rw [k0_pay1977, q1966, q1969, q1971, q1972]; rfl
theorem q1978 : k0_pay1978 (F := Ideal) x0 x1 x2 = ixA (SA (sc15 x0 x1 x2) 6) := by
  rw [k0_pay1978, q1966, q1969, q1971, q1972]; rfl
theorem q1979 : k0_pay1979 (F := Ideal) x0 x1 x2 = mxA (SA (sc15 x0 x1 x2) 7) := by
  rw [k0_pay1979, q1966, q1976, q1978]; rfl
theorem q1980 : k0_pay1980 (F := Ideal) x0 x1 x2 = mxA (SA (sc15 x0 x1 x2) 8) := by
  rw [k0_pay1980, q1966, q1976, q1978]; rfl
theorem q1981 : k0_pay1981 (F := Ideal) x0 x1 x2 = mxA (SA (sc15 x0 x1 x2) 9) := by
  rw [k0_pay1981, q1966, q1976, q1978]; rfl
theorem q1982 : k0_pay1982 (F := Ideal) x0 x1 x2 = SA (sc15 x0 x1 x2) 10 := by
  rw [k0_pay1982, q1966, q1976, q1978]; rfl
theorem q1983 : k0_pay1983 (F := Ideal) x0 x1 x2 = mxA (SA (sc15 x0 x1 x2) 10) := by
  rw [k0_pay1983, q1966, q1976, q1978]; rfl
theorem q1984 : k0_pay1984 (F := Ideal) x0 x1 x2 = eqA (SA (sc15 x0 x1 x2) 10) := by
  rw [k0_pay1984, q1966, q1976, q1978]; rfl
theorem q1985 : k0_pay1985 (F := Ideal) x0 x1 x2 = broadcast S128x256 (Scalar.ofBits .f32 0x43000000#32) := by
  rw [k0_pay1985]; rfl
theorem q1986 : k0_pay1986 (F := Ideal) x0 x1 x2 = mxA (SA (sc15 x0 x1 x2) 11) := by
  rw [k0_pay1986, q1966, q1982, q1984, q1985]; rfl
theorem q1987 : k0_pay1987 (F := Ideal) x0 x1 x2 = mxA (SA (sc15 x0 x1 x2) 12) := by
  rw [k0_pay1987, q1966, q1982, q1984, q1985]; rfl
theorem q1988 : k0_pay1988 (F := Ideal) x0 x1 x2 = mxA (SA (sc15 x0 x1 x2) 13) := by
  rw [k0_pay1988, q1966, q1982, q1984, q1985]; rfl
theorem q1989 : k0_pay1989 (F := Ideal) x0 x1 x2 = SA (sc15 x0 x1 x2) 14 := by
  rw [k0_pay1989, q1966, q1982, q1984, q1985]; rfl
theorem q1990 : k0_pay1990 (F := Ideal) x0 x1 x2 = mxA (SA (sc15 x0 x1 x2) 14) := by
  rw [k0_pay1990, q1966, q1982, q1984, q1985]; rfl
theorem q1991 : k0_pay1991 (F := Ideal) x0 x1 x2 = I16 (sc15 x0 x1 x2) := by
  rw [k0_pay1991, q1966, q1564, q1969, q1971, q1972, q1978, q1976, q1984, q1985, q1982, q1989, q1990]; rfl
theorem q1992 : k0_pay1992 (F := Ideal) x0 x1 x2 = SB (sc14 x0 x1 x2) (sc15 x0 x1 x2) 0 := by
  rw [k0_pay1992, q1952, q1959, q1961, q1966, q1967, q1968, q1970, q1973, q1974, q1975, q1977, q1979, q1980, q1981, q1983, q1986, q1987, q1988, q1989, q1990, q1564, q1951, q1953, q1954, q1955, q1956]; rfl
theorem q1993 : k0_pay1993 (F := Ideal) x0 x1 x2 = addf (broadcastTo S16x256 (mulf (ixA (SA (sc14 x0 x1 x2) 0)) (broadcast S1x256 (Scalar.ofBits .f32 0x43000000#32))) broadcasts_S1x256_S16x256) (I16 (sc15 x0 x1 x2)) := by
  rw [k0_pay1993, q1953, q1991]; rfl
theorem q1994 : k0_pay1994 (F := Ideal) x0 x1 x2 = addf (broadcastTo S8x256 (mulf (ixA (SA (sc14 x0 x1 x2) 1)) (broadcast S1x256 (Scalar.ofBits .f32 0x43000000#32))) broadcasts_S1x256_S8x256) (extractStridedSlice S8x256 ![0, 0] (I16 (sc15 x0 x1 x2)) slices_S16x256_o0_0_S8x256) := by
  rw [k0_pay1994, q1951, q1952, q1953, q1991]; rfl
theorem q1995 : k0_pay1995 (F := Ideal) x0 x1 x2 = addf (broadcastTo S5x256 (mulf (ixA (SA (sc14 x0 x1 x2) 2)) (broadcast S1x256 (Scalar.ofBits .f32 0x43000000#32))) broadcasts_S1x256_S5x256) (extractStridedSlice S5x256 ![0, 0] (I16 (sc15 x0 x1 x2)) slices_S16x256_o0_0_S5x256) := by
  rw [k0_pay1995, q1951, q1952, q1953, q1991]; rfl
theorem q1996 : k0_pay1996 (F := Ideal) x0 x1 x2 = addf (broadcastTo S4x256 (mulf (ixA (SA (sc14 x0 x1 x2) 3)) (broadcast S1x256 (Scalar.ofBits .f32 0x43000000#32))) broadcasts_S1x256_S4x256) (extractStridedSlice S4x256 ![0, 0] (I16 (sc15 x0 x1 x2)) slices_S16x256_o0_0_S4x256) := by
  rw [k0_pay1996, q1951, q1952, q1953, q1991]; rfl
theorem q1997 : k0_pay1997 (F := Ideal) x0 x1 x2 = addf (broadcastTo S3x256 (mulf (ixA (SA (sc14 x0 x1 x2) 4)) (broadcast S1x256 (Scalar.ofBits .f32 0x43000000#32))) broadcasts_S1x256_S3x256) (extractStridedSlice S3x256 ![0, 0] (I16 (sc15 x0 x1 x2)) slices_S16x256_o0_0_S3x256) := by
  rw [k0_pay1997, q1952, q1954, q1955, q1991]; rfl
theorem q1998 : k0_pay1998 (F := Ideal) x0 x1 x2 = addf (broadcastTo S2x256 (mulf (ixA (SA (sc14 x0 x1 x2) 5)) (broadcast S1x256 (Scalar.ofBits .f32 0x43000000#32))) broadcasts_S1x256_S2x256) (extractStridedSlice S2x256 ![0, 0] (I16 (sc15 x0 x1 x2)) slices_S16x256_o0_0_S2x256) := by
  rw [k0_pay1998, q1952, q1954, q1955, q1991]; rfl
theorem q1999 : k0_pay1999 (F := Ideal) x0 x1 x2 = addf (broadcastTo S2x256 (mulf (ixA (SA (sc14 x0 x1 x2) 6)) (broadcast S1x256 (Scalar.ofBits .f32 0x43000000#32))) broadcasts_S1x256_S2x256) (extractStridedSlice S2x256 ![0, 0] (I16 (sc15 x0 x1 x2)) slices_S16x256_o0_0_S2x256) := by
  rw [k0_pay1999, q1952, q1954, q1955, q1991]; rfl
theorem q2000 : k0_pay2000 (F := Ideal) x0 x1 x2 = addf (broadcastTo S2x256 (mulf (ixA (SA (sc14 x0 x1 x2) 7)) (broadcast S1x256 (Scalar.ofBits .f32 0x43000000#32))) broadcasts_S1x256_S2x256) (extractStridedSlice S2x256 ![0, 0] (I16 (sc15 x0 x1 x2)) slices_S16x256_o0_0_S2x256) := by
  rw [k0_pay2000, q1952, q1954, q1955, q1991]; rfl
theorem q2001 : k0_pay2001 (F := Ideal) x0 x1 x2 = addf (mulf (ixA (SA (sc14 x0 x1 x2) 8)) (broadcast S1x256 (Scalar.ofBits .f32 0x43000000#32))) (extractStridedSlice S1x256 ![0, 0] (I16 (sc15 x0 x1 x2)) slices_S16x256_o0_0_S1x256) := by
  rw [k0_pay2001, q1952, q1956, q1991]; rfl
theorem q2002 : k0_pay2002 (F := Ideal) x0 x1 x2 = CE (sc14 x0 x1 x2) (sc15 x0 x1 x2) := by
  rw [k0_pay2002, q1957, q1958, q1960, q1962, q1963, q1964, q1965, q1991, q1993, q1994, q1995, q1996, q1997, q1998, q1999, q2000, q2001]; rfl
theorem q2003 : k0_pay2003 (F := Ideal) x0 x1 x2 = ioB := by
  rw [k0_pay2003]; rfl
theorem q2004 : k0_pay2004 (F := Ideal) x0 x1 x2 = htB (SB (sc14 x0 x1 x2) (sc15 x0 x1 x2) 0) := by
  rw [k0_pay2004, q1992]; rfl
theorem q2005 : k0_pay2005 (F := Ideal) x0 x1 x2 = SB (sc14 x0 x1 x2) (sc15 x0 x1 x2) 3 := by
  rw [k0_pay2005, q1992, q2003, q2004]; rfl
theorem q2006 : k0_pay2006 (F := Ideal) x0 x1 x2 = htB (SB (sc14 x0 x1 x2) (sc15 x0 x1 x2) 3) := by
  rw [k0_pay2006, q1992, q2003, q2004]; rfl
theorem q2007 : k0_pay2007 (F := Ideal) x0 x1 x2 = SB (sc14 x0 x1 x2) (sc15 x0 x1 x2) 6 := by
  rw [k0_pay2007, q2003, q2005, q2006]; rfl
theorem q2008 : k0_pay2008 (F := Ideal) x0 x1 x2 = cdB (SB (sc14 x0 x1 x2) (sc15 x0 x1 x2) 6) := by
  rw [k0_pay2008, q2003, q2005, q2006]; rfl
theorem q2009 : k0_pay2009 (F := Ideal) x0 x1 x2 = SB (sc14 x0 x1 x2) (sc15 x0 x1 x2) 9 := by
  rw [k0_pay2009, q2003, q2007, q2008]; rfl
theorem q2010 : k0_pay2010 (F := Ideal) x0 x1 x2 = mrB (SB (sc14 x0 x1 x2) (sc15 x0 x1 x2) 9) := by
  rw [k0_pay2010, q2003, q2007, q2008]; rfl
theorem q2011 : k0_pay2011 (F := Ideal) x0 x1 x2 = SB (sc14 x0 x1 x2) (sc15 x0 x1 x2) 11 := by
  rw [k0_pay2011, q2003, q2009, q2010]; rfl
theorem q2012 : k0_pay2012 (F := Ideal) x0 x1 x2 = htB (SB (sc14 x0 x1 x2) (sc15 x0 x1 x2) 11) := by
  rw [k0_pay2012, q2003, q2009, q2010]; rfl
theorem q2013 : k0_pay2013 (F := Ideal) x0 x1 x2 = htB (SB (sc14 x0 x1 x2) (sc15 x0 x1 x2) 14) := by
  rw [k0_pay2013, q2003, q2011, q2012]; rfl
theorem q2014 : k0_pay2014 (F := Ideal) x0 x1 x2 = SB (sc14 x0 x1 x2) (sc15 x0 x1 x2) 15 := by
  rw [k0_pay2014, q2003, q2011, q2012, q2013]; rfl
theorem q2015 : k0_pay2015 (F := Ideal) x0 x1 x2 = mxB (SB (sc14 x0 x1 x2) (sc15 x0 x1 x2) 15) := by
  rw [k0_pay2015, q2014]; rfl

end Cert.Mla.Rt

end
-- ==== Proof.RtOut.lean ====
/- The routing kernel's two result blocks. -/
module

public import proofs.«01_k».proof.Proof.RtLink

@[expose] public section

set_option maxRecDepth 16384
noncomputable section

open Idealize.ShloMosaic Idealize.ShloMosaic.TcCoe Idealize.SL.Sem
open Idealize.ShloMosaic.Pipeline (Dat)

namespace Cert.Mla.Rt

open Cert.RouteIdeal Cert.RouteIdeal.Gen

variable (x0 : Vec Ideal S256x1024 .f32) (x1 : Vec Ideal S1024x1024 .f32) (x2 : Vec Ideal S16x128x64 .f32)

/-- The id row of one round. -/
def pk (x y : FVec Ideal S128x256 .f32) (t : Nat) : FVec Ideal S1x256 .f32 := pyB (CE x y) (SB x y t)

/-- The sixteen score blocks: two for each head. -/
def SC (x0 : Vec Ideal S256x1024 .f32) (x1 : Vec Ideal S1024x1024 .f32) (x2 : Vec Ideal S16x128x64 .f32) : Fin 16 → FVec Ideal S128x256 .f32 :=
  ![sc0 x0 x1 x2, sc1 x0 x1 x2, sc2 x0 x1 x2, sc3 x0 x1 x2, sc4 x0 x1 x2, sc5 x0 x1 x2, sc6 x0 x1 x2, sc7 x0 x1 x2, sc8 x0 x1 x2, sc9 x0 x1 x2, sc10 x0 x1 x2, sc11 x0 x1 x2, sc12 x0 x1 x2, sc13 x0 x1 x2, sc14 x0 x1 x2, sc15 x0 x1 x2]

def lo (h : Fin 8) : Fin 16 := ⟨2 * h.val, by omega⟩
def hi (h : Fin 8) : Fin 16 := ⟨2 * h.val + 1, by omega⟩

def idL : List ((s : Shape) × (s.Idx → Ideal .f32)) := List.ofFn fun j : Fin 128 =>
  ⟨S1x256, pk (SC x0 x1 x2 (lo ⟨j.val / 16, by omega⟩)) (SC x0 x1 x2 (hi ⟨j.val / 16, by omega⟩)) (j.val % 16)⟩

def gtL : List ((s : Shape) × (s.Idx → Ideal .f32)) := List.ofFn fun h : Fin 8 => ⟨S16x256, GT (SC x0 x1 x2 (lo h)) (SC x0 x1 x2 (hi h))⟩

theorem idC : Shape.Concatenates ((idL x0 x1 x2).map (·.1)) S128x256 0 := concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S128x256_d0
theorem gtC : Shape.Concatenates ((gtL x0 x1 x2).map (·.1)) S128x256 0 := concatenates_S16x256_S16x256_S16x256_S16x256_S16x256_S16x256_S16x256_S16x256_S128x256_d0

set_option maxHeartbeats 2000000 in
theorem o3 : out0_3 (F := Ideal) x0 x1 x2 = View.canon [⟨r0_18, k0_pay1 (concatenate S128x256 0 (⟨S1x256, pk (sc0 x0 x1 x2) (sc1 x0 x1 x2) 0⟩ :: ⟨S1x256, pk (sc0 x0 x1 x2) (sc1 x0 x1 x2) 1⟩ :: ⟨S1x256, pk (sc0 x0 x1 x2) (sc1 x0 x1 x2) 2⟩ :: ⟨S1x256, pk (sc0 x0 x1 x2) (sc1 x0 x1 x2) 3⟩ :: ⟨S1x256, pk (sc0 x0 x1 x2) (sc1 x0 x1 x2) 4⟩ :: ⟨S1x256, pk (sc0 x0 x1 x2) (sc1 x0 x1 x2) 5⟩ :: ⟨S1x256, pk (sc0 x0 x1 x2) (sc1 x0 x1 x2) 6⟩ :: ⟨S1x256, pk (sc0 x0 x1 x2) (sc1 x0 x1 x2) 7⟩ :: ⟨S1x256, pk (sc0 x0 x1 x2) (sc1 x0 x1 x2) 8⟩ :: ⟨S1x256, pk (sc0 x0 x1 x2) (sc1 x0 x1 x2) 9⟩ :: ⟨S1x256, pk (sc0 x0 x1 x2) (sc1 x0 x1 x2) 10⟩ :: ⟨S1x256, pk (sc0 x0 x1 x2) (sc1 x0 x1 x2) 11⟩ :: ⟨S1x256, pk (sc0 x0 x1 x2) (sc1 x0 x1 x2) 12⟩ :: ⟨S1x256, pk (sc0 x0 x1 x2) (sc1 x0 x1 x2) 13⟩ :: ⟨S1x256, pk (sc0 x0 x1 x2) (sc1 x0 x1 x2) 14⟩ :: ⟨S1x256, pk (sc0 x0 x1 x2) (sc1 x0 x1 x2) 15⟩ :: ⟨S1x256, pk (sc2 x0 x1 x2) (sc3 x0 x1 x2) 0⟩ :: ⟨S1x256, pk (sc2 x0 x1 x2) (sc3 x0 x1 x2) 1⟩ :: ⟨S1x256, pk (sc2 x0 x1 x2) (sc3 x0 x1 x2) 2⟩ :: ⟨S1x256, pk (sc2 x0 x1 x2) (sc3 x0 x1 x2) 3⟩ :: ⟨S1x256, pk (sc2 x0 x1 x2) (sc3 x0 x1 x2) 4⟩ :: ⟨S1x256, pk (sc2 x0 x1 x2) (sc3 x0 x1 x2) 5⟩ :: ⟨S1x256, pk (sc2 x0 x1 x2) (sc3 x0 x1 x2) 6⟩ :: ⟨S1x256, pk (sc2 x0 x1 x2) (sc3 x0 x1 x2) 7⟩ :: ⟨S1x256, pk (sc2 x0 x1 x2) (sc3 x0 x1 x2) 8⟩ :: ⟨S1x256, pk (sc2 x0 x1 x2) (sc3 x0 x1 x2) 9⟩ :: ⟨S1x256, pk (sc2 x0 x1 x2) (sc3 x0 x1 x2) 10⟩ :: ⟨S1x256, pk (sc2 x0 x1 x2) (sc3 x0 x1 x2) 11⟩ :: ⟨S1x256, pk (sc2 x0 x1 x2) (sc3 x0 x1 x2) 12⟩ :: ⟨S1x256, pk (sc2 x0 x1 x2) (sc3 x0 x1 x2) 13⟩ :: ⟨S1x256, pk (sc2 x0 x1 x2) (sc3 x0 x1 x2) 14⟩ :: ⟨S1x256, pk (sc2 x0 x1 x2) (sc3 x0 x1 x2) 15⟩ :: ⟨S1x256, pk (sc4 x0 x1 x2) (sc5 x0 x1 x2) 0⟩ :: ⟨S1x256, pk (sc4 x0 x1 x2) (sc5 x0 x1 x2) 1⟩ :: ⟨S1x256, pk (sc4 x0 x1 x2) (sc5 x0 x1 x2) 2⟩ :: ⟨S1x256, pk (sc4 x0 x1 x2) (sc5 x0 x1 x2) 3⟩ :: ⟨S1x256, pk (sc4 x0 x1 x2) (sc5 x0 x1 x2) 4⟩ :: ⟨S1x256, pk (sc4 x0 x1 x2) (sc5 x0 x1 x2) 5⟩ :: ⟨S1x256, pk (sc4 x0 x1 x2) (sc5 x0 x1 x2) 6⟩ :: ⟨S1x256, pk (sc4 x0 x1 x2) (sc5 x0 x1 x2) 7⟩ :: ⟨S1x256, pk (sc4 x0 x1 x2) (sc5 x0 x1 x2) 8⟩ :: ⟨S1x256, pk (sc4 x0 x1 x2) (sc5 x0 x1 x2) 9⟩ :: ⟨S1x256, pk (sc4 x0 x1 x2) (sc5 x0 x1 x2) 10⟩ :: ⟨S1x256, pk (sc4 x0 x1 x2) (sc5 x0 x1 x2) 11⟩ :: ⟨S1x256, pk (sc4 x0 x1 x2) (sc5 x0 x1 x2) 12⟩ :: ⟨S1x256, pk (sc4 x0 x1 x2) (sc5 x0 x1 x2) 13⟩ :: ⟨S1x256, pk (sc4 x0 x1 x2) (sc5 x0 x1 x2) 14⟩ :: ⟨S1x256, pk (sc4 x0 x1 x2) (sc5 x0 x1 x2) 15⟩ :: ⟨S1x256, pk (sc6 x0 x1 x2) (sc7 x0 x1 x2) 0⟩ :: ⟨S1x256, pk (sc6 x0 x1 x2) (sc7 x0 x1 x2) 1⟩ :: ⟨S1x256, pk (sc6 x0 x1 x2) (sc7 x0 x1 x2) 2⟩ :: ⟨S1x256, pk (sc6 x0 x1 x2) (sc7 x0 x1 x2) 3⟩ :: ⟨S1x256, pk (sc6 x0 x1 x2) (sc7 x0 x1 x2) 4⟩ :: ⟨S1x256, pk (sc6 x0 x1 x2) (sc7 x0 x1 x2) 5⟩ :: ⟨S1x256, pk (sc6 x0 x1 x2) (sc7 x0 x1 x2) 6⟩ :: ⟨S1x256, pk (sc6 x0 x1 x2) (sc7 x0 x1 x2) 7⟩ :: ⟨S1x256, pk (sc6 x0 x1 x2) (sc7 x0 x1 x2) 8⟩ :: ⟨S1x256, pk (sc6 x0 x1 x2) (sc7 x0 x1 x2) 9⟩ :: ⟨S1x256, pk (sc6 x0 x1 x2) (sc7 x0 x1 x2) 10⟩ :: ⟨S1x256, pk (sc6 x0 x1 x2) (sc7 x0 x1 x2) 11⟩ :: ⟨S1x256, pk (sc6 x0 x1 x2) (sc7 x0 x1 x2) 12⟩ :: ⟨S1x256, pk (sc6 x0 x1 x2) (sc7 x0 x1 x2) 13⟩ :: ⟨S1x256, pk (sc6 x0 x1 x2) (sc7 x0 x1 x2) 14⟩ :: ⟨S1x256, pk (sc6 x0 x1 x2) (sc7 x0 x1 x2) 15⟩ :: ⟨S1x256, pk (sc8 x0 x1 x2) (sc9 x0 x1 x2) 0⟩ :: ⟨S1x256, pk (sc8 x0 x1 x2) (sc9 x0 x1 x2) 1⟩ :: ⟨S1x256, pk (sc8 x0 x1 x2) (sc9 x0 x1 x2) 2⟩ :: ⟨S1x256, pk (sc8 x0 x1 x2) (sc9 x0 x1 x2) 3⟩ :: ⟨S1x256, pk (sc8 x0 x1 x2) (sc9 x0 x1 x2) 4⟩ :: ⟨S1x256, pk (sc8 x0 x1 x2) (sc9 x0 x1 x2) 5⟩ :: ⟨S1x256, pk (sc8 x0 x1 x2) (sc9 x0 x1 x2) 6⟩ :: ⟨S1x256, pk (sc8 x0 x1 x2) (sc9 x0 x1 x2) 7⟩ :: ⟨S1x256, pk (sc8 x0 x1 x2) (sc9 x0 x1 x2) 8⟩ :: ⟨S1x256, pk (sc8 x0 x1 x2) (sc9 x0 x1 x2) 9⟩ :: ⟨S1x256, pk (sc8 x0 x1 x2) (sc9 x0 x1 x2) 10⟩ :: ⟨S1x256, pk (sc8 x0 x1 x2) (sc9 x0 x1 x2) 11⟩ :: ⟨S1x256, pk (sc8 x0 x1 x2) (sc9 x0 x1 x2) 12⟩ :: ⟨S1x256, pk (sc8 x0 x1 x2) (sc9 x0 x1 x2) 13⟩ :: ⟨S1x256, pk (sc8 x0 x1 x2) (sc9 x0 x1 x2) 14⟩ :: ⟨S1x256, pk (sc8 x0 x1 x2) (sc9 x0 x1 x2) 15⟩ :: ⟨S1x256, pk (sc10 x0 x1 x2) (sc11 x0 x1 x2) 0⟩ :: ⟨S1x256, pk (sc10 x0 x1 x2) (sc11 x0 x1 x2) 1⟩ :: ⟨S1x256, pk (sc10 x0 x1 x2) (sc11 x0 x1 x2) 2⟩ :: ⟨S1x256, pk (sc10 x0 x1 x2) (sc11 x0 x1 x2) 3⟩ :: ⟨S1x256, pk (sc10 x0 x1 x2) (sc11 x0 x1 x2) 4⟩ :: ⟨S1x256, pk (sc10 x0 x1 x2) (sc11 x0 x1 x2) 5⟩ :: ⟨S1x256, pk (sc10 x0 x1 x2) (sc11 x0 x1 x2) 6⟩ :: ⟨S1x256, pk (sc10 x0 x1 x2) (sc11 x0 x1 x2) 7⟩ :: ⟨S1x256, pk (sc10 x0 x1 x2) (sc11 x0 x1 x2) 8⟩ :: ⟨S1x256, pk (sc10 x0 x1 x2) (sc11 x0 x1 x2) 9⟩ :: ⟨S1x256, pk (sc10 x0 x1 x2) (sc11 x0 x1 x2) 10⟩ :: ⟨S1x256, pk (sc10 x0 x1 x2) (sc11 x0 x1 x2) 11⟩ :: ⟨S1x256, pk (sc10 x0 x1 x2) (sc11 x0 x1 x2) 12⟩ :: ⟨S1x256, pk (sc10 x0 x1 x2) (sc11 x0 x1 x2) 13⟩ :: ⟨S1x256, pk (sc10 x0 x1 x2) (sc11 x0 x1 x2) 14⟩ :: ⟨S1x256, pk (sc10 x0 x1 x2) (sc11 x0 x1 x2) 15⟩ :: ⟨S1x256, pk (sc12 x0 x1 x2) (sc13 x0 x1 x2) 0⟩ :: ⟨S1x256, pk (sc12 x0 x1 x2) (sc13 x0 x1 x2) 1⟩ :: ⟨S1x256, pk (sc12 x0 x1 x2) (sc13 x0 x1 x2) 2⟩ :: ⟨S1x256, pk (sc12 x0 x1 x2) (sc13 x0 x1 x2) 3⟩ :: ⟨S1x256, pk (sc12 x0 x1 x2) (sc13 x0 x1 x2) 4⟩ :: ⟨S1x256, pk (sc12 x0 x1 x2) (sc13 x0 x1 x2) 5⟩ :: ⟨S1x256, pk (sc12 x0 x1 x2) (sc13 x0 x1 x2) 6⟩ :: ⟨S1x256, pk (sc12 x0 x1 x2) (sc13 x0 x1 x2) 7⟩ :: ⟨S1x256, pk (sc12 x0 x1 x2) (sc13 x0 x1 x2) 8⟩ :: ⟨S1x256, pk (sc12 x0 x1 x2) (sc13 x0 x1 x2) 9⟩ :: ⟨S1x256, pk (sc12 x0 x1 x2) (sc13 x0 x1 x2) 10⟩ :: ⟨S1x256, pk (sc12 x0 x1 x2) (sc13 x0 x1 x2) 11⟩ :: ⟨S1x256, pk (sc12 x0 x1 x2) (sc13 x0 x1 x2) 12⟩ :: ⟨S1x256, pk (sc12 x0 x1 x2) (sc13 x0 x1 x2) 13⟩ :: ⟨S1x256, pk (sc12 x0 x1 x2) (sc13 x0 x1 x2) 14⟩ :: ⟨S1x256, pk (sc12 x0 x1 x2) (sc13 x0 x1 x2) 15⟩ :: ⟨S1x256, pk (sc14 x0 x1 x2) (sc15 x0 x1 x2) 0⟩ :: ⟨S1x256, pk (sc14 x0 x1 x2) (sc15 x0 x1 x2) 1⟩ :: ⟨S1x256, pk (sc14 x0 x1 x2) (sc15 x0 x1 x2) 2⟩ :: ⟨S1x256, pk (sc14 x0 x1 x2) (sc15 x0 x1 x2) 3⟩ :: ⟨S1x256, pk (sc14 x0 x1 x2) (sc15 x0 x1 x2) 4⟩ :: ⟨S1x256, pk (sc14 x0 x1 x2) (sc15 x0 x1 x2) 5⟩ :: ⟨S1x256, pk (sc14 x0 x1 x2) (sc15 x0 x1 x2) 6⟩ :: ⟨S1x256, pk (sc14 x0 x1 x2) (sc15 x0 x1 x2) 7⟩ :: ⟨S1x256, pk (sc14 x0 x1 x2) (sc15 x0 x1 x2) 8⟩ :: ⟨S1x256, pk (sc14 x0 x1 x2) (sc15 x0 x1 x2) 9⟩ :: ⟨S1x256, pk (sc14 x0 x1 x2) (sc15 x0 x1 x2) 10⟩ :: ⟨S1x256, pk (sc14 x0 x1 x2) (sc15 x0 x1 x2) 11⟩ :: ⟨S1x256, pk (sc14 x0 x1 x2) (sc15 x0 x1 x2) 12⟩ :: ⟨S1x256, pk (sc14 x0 x1 x2) (sc15 x0 x1 x2) 13⟩ :: ⟨S1x256, pk (sc14 x0 x1 x2) (sc15 x0 x1 x2) 14⟩ :: ⟨S1x256, pk (sc14 x0 x1 x2) (sc15 x0 x1 x2) 15⟩ :: []) concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S128x256_d0)⟩] := by
  unfold out0_3
  simp only [q1573, q1597, q1598, q1599, q1600, q1601, q1602, q1603, q1604, q1605, q1606, q1607, q1608, q1609, q1610, q1611, q1612, q1613, q1614, q1615, q1616, q1618, q1617, q1619, q1620, q1621, q1622, q1624, q1623, q1626, q1625, q1659, q1660, q1661, q1662, q1663, q1664, q1665, q1666, q1667, q1668, q1669, q1670, q1671, q1672, q1673, q1674, q1675, q1676, q1677, q1682, q1680, q1687, q1685, q1690, q1693, q1695, q1700, q1698, q1733, q1734, q1735, q1736, q1737, q1739, q1738, q1740, q1741, q1742, q1743, q1745, q1744, q1779, q1780, q1781, q1782, q1783, q1784, q1786, q1785, q1788, q1787, q1789, q1790, q1791, q1792, q1829, q1830, q1831, q1828, q1832, q1833, q1834, q1835, q1837, q1836, q1839, q1838, q1840, q1876, q1877, q1878, q1875, q1880, q1879, q1881, q1882, q1883, q1885, q1884, q1886, q1887, q1894, q1895, q1896, q1899, q1900, q1901, q1902, q1903, q1928, q1929, q1930, q1931, q1932, q1933, q1934, q1935, q1936, q1937, q1938, q1939, q1940, q1942, q1941, q1943, q1944, q1945, q1946, q1948, q1947, q1950, q1949, q1957, q1958, q1960, q1962, q1963, q1964, q1965, q1991, q1992, q1993, q1994, q1995, q1996, q1997, q1998, q1999, q2000, q2001, q2002, q2003, q2004, q2006, q2005, q2008, q2007, q2009, q2010, q2011, q2012, q2013, q2014, q2015]
  rfl

set_option maxHeartbeats 2000000 in
theorem o4 : out0_4 (F := Ideal) x0 x1 x2 = View.canon [⟨r0_18, transpose S256x128 [1, 0] (concatenate S128x256 0 [⟨S16x256, GT (sc0 x0 x1 x2) (sc1 x0 x1 x2)⟩, ⟨S16x256, GT (sc2 x0 x1 x2) (sc3 x0 x1 x2)⟩, ⟨S16x256, GT (sc4 x0 x1 x2) (sc5 x0 x1 x2)⟩, ⟨S16x256, GT (sc6 x0 x1 x2) (sc7 x0 x1 x2)⟩, ⟨S16x256, GT (sc8 x0 x1 x2) (sc9 x0 x1 x2)⟩, ⟨S16x256, GT (sc10 x0 x1 x2) (sc11 x0 x1 x2)⟩, ⟨S16x256, GT (sc12 x0 x1 x2) (sc13 x0 x1 x2)⟩, ⟨S16x256, GT (sc14 x0 x1 x2) (sc15 x0 x1 x2)⟩] concatenates_S16x256_S16x256_S16x256_S16x256_S16x256_S16x256_S16x256_S16x256_S128x256_d0) transposes_S128x256_p1_0_S256x128⟩] := by
  unfold out0_4
  simp only [q1616, q1598, q1617, q1618, q1620, q1619, q1621, q1622, q1623, q1624, q1625, q1626, q1677, q1678, q1679, q1681, q1683, q1684, q1686, q1688, q1689, q1691, q1692, q1694, q1696, q1697, q1698, q1699, q1700, q1735, q1733, q1736, q1737, q1738, q1739, q1740, q1741, q1742, q1743, q1744, q1745, q1781, q1779, q1782, q1783, q1784, q1785, q1786, q1787, q1788, q1790, q1789, q1791, q1792, q1830, q1828, q1831, q1833, q1832, q1834, q1835, q1836, q1837, q1838, q1839, q1840, q1877, q1875, q1878, q1879, q1880, q1881, q1882, q1883, q1884, q1885, q1886, q1887, q1939, q1929, q1940, q1941, q1942, q1943, q1944, q1945, q1946, q1947, q1948, q1949, q1950, q1992, q2004, q2003, q2005, q2006, q2007, q2008, q2010, q2009, q2011, q2012, q2015]
  rfl

theorem out3_eq : out0_3 (F := Ideal) x0 x1 x2 = View.canon [⟨r0_18, k0_pay1 (concatenate S128x256 0 (idL x0 x1 x2) (idC x0 x1 x2))⟩] := by
  rw [o3]; rfl

theorem out4_eq : out0_4 (F := Ideal) x0 x1 x2 =
    View.canon [⟨r0_18, transpose S256x128 [1, 0] (concatenate S128x256 0 (gtL x0 x1 x2) (gtC x0 x1 x2)) transposes_S128x256_p1_0_S256x128⟩] := by
  rw [o4]; rfl

end Cert.Mla.Rt

end
-- ==== Proof.RtBlk.lean ====
/- One block of the routing kernel's results, entry by entry. -/
module

public import proofs.«01_k».proof.Proof.RtOut
public import proofs.«01_k».proof.Proof.RtCol

@[expose] public section

set_option maxRecDepth 16384
noncomputable section

open Idealize.ShloMosaic Idealize.ShloMosaic.TcCoe Idealize.SL.Sem
open Idealize.ShloMosaic.Pipeline (Dat)

namespace Cert.Mla.Rt

open Cert.RouteIdeal Cert.RouteIdeal.Gen

variable (x0 : Vec Ideal S256x1024 .f32) (x1 : Vec Ideal S1024x1024 .f32) (x2 : Vec Ideal S16x128x64 .f32)

theorem qtd_at (w : FVec Ideal S1024x1024 .f32) (x : FVec Ideal S256x1024 .f32) (d : Fin 1024) (c : Fin 256) :
    qtd w x (ix2 d c) = ∑ e : Fin 1024, w (ix2 d e) * x (ix2 c e) := by
  unfold qtd
  pointwise []

theorem scd_at (k : FVec Ideal S1x128x64 .f32) (q : FVec Ideal S64x256 .f32) (n : Fin 128) (c : Fin 256) :
    scd k q (ix2 n c) = ∑ e : Fin 64, k (ix3 0 n e) * q (ix2 e c) := by
  unfold scd
  pointwise []

theorem qt_at (d : Fin 1024) (c : Fin 256) : qt x0 x1 (ix2 d c) = ∑ e : Fin 1024, x1 (ix2 d e) * x0 (ix2 c e) := by
  unfold qt
  rw [qtd_at]
  pointwise []

/-- The score of one row of the keys. -/
def score (J : Fin 16) (n : Fin 128) (c : Fin 256) : EReal :=
  ∑ e : Fin 64, (x2 (ix3 J n e) : EReal) * ∑ i : Fin 1024, (x1 (ix2 ⟨64 * J.val + e.val, by omega⟩ i) : EReal) * x0 (ix2 c i)

theorem sc_at (J : Fin 16) (n : Fin 128) (c : Fin 256) : SC x0 x1 x2 J (ix2 n c) = score x0 x1 x2 J n c := by
  fin_cases J
  · change sc0 x0 x1 x2 (ix2 n c) = score x0 x1 x2 0 n c
    unfold sc0 score
    rw [scd_at]
    pointwise [qt_at]
  · change sc1 x0 x1 x2 (ix2 n c) = score x0 x1 x2 1 n c
    unfold sc1 score
    rw [scd_at]
    pointwise [qt_at]
  · change sc2 x0 x1 x2 (ix2 n c) = score x0 x1 x2 2 n c
    unfold sc2 score
    rw [scd_at]
    pointwise [qt_at]
  · change sc3 x0 x1 x2 (ix2 n c) = score x0 x1 x2 3 n c
    unfold sc3 score
    rw [scd_at]
    pointwise [qt_at]
  · change sc4 x0 x1 x2 (ix2 n c) = score x0 x1 x2 4 n c
    unfold sc4 score
    rw [scd_at]
    pointwise [qt_at]
  · change sc5 x0 x1 x2 (ix2 n c) = score x0 x1 x2 5 n c
    unfold sc5 score
    rw [scd_at]
    pointwise [qt_at]
  · change sc6 x0 x1 x2 (ix2 n c) = score x0 x1 x2 6 n c
    unfold sc6 score
    rw [scd_at]
    pointwise [qt_at]
  · change sc7 x0 x1 x2 (ix2 n c) = score x0 x1 x2 7 n c
    unfold sc7 score
    rw [scd_at]
    pointwise [qt_at]
  · change sc8 x0 x1 x2 (ix2 n c) = score x0 x1 x2 8 n c
    unfold sc8 score
    rw [scd_at]
    pointwise [qt_at]
  · change sc9 x0 x1 x2 (ix2 n c) = score x0 x1 x2 9 n c
    unfold sc9 score
    rw [scd_at]
    pointwise [qt_at]
  · change sc10 x0 x1 x2 (ix2 n c) = score x0 x1 x2 10 n c
    unfold sc10 score
    rw [scd_at]
    pointwise [qt_at]
  · change sc11 x0 x1 x2 (ix2 n c) = score x0 x1 x2 11 n c
    unfold sc11 score
    rw [scd_at]
    pointwise [qt_at]
  · change sc12 x0 x1 x2 (ix2 n c) = score x0 x1 x2 12 n c
    unfold sc12 score
    rw [scd_at]
    pointwise [qt_at]
  · change sc13 x0 x1 x2 (ix2 n c) = score x0 x1 x2 13 n c
    unfold sc13 score
    rw [scd_at]
    pointwise [qt_at]
  · change sc14 x0 x1 x2 (ix2 n c) = score x0 x1 x2 14 n c
    unfold sc14 score
    rw [scd_at]
    pointwise [qt_at]
  · change sc15 x0 x1 x2 (ix2 n c) = score x0 x1 x2 15 n c
    unfold sc15 score
    rw [scd_at]
    pointwise [qt_at]

theorem canon18 {e : EltTy} (v : Vec Ideal S256x128 e) : View.canon [(⟨r0_18, v⟩ : View.Piece (Elt Ideal) S256x128 e)] = v :=
  View.canon_cons_unit_lit _ v [] (by decide)

theorem tr_at (z : FVec Ideal S128x256 .f32) (r : Fin 256) (k : Fin 128) :
    transpose S256x128 [1, 0] z transposes_S128x256_p1_0_S256x128 (ix2 r k) = z (ix2 k r) := by
  pointwise []

theorem pay1_at (z : FVec Ideal S128x256 .f32) (r : Fin 256) (k : Fin 128) :
    k0_pay1 z (ix2 r k) = FloatOps.fptosi (F := Ideal) (φ := .f32) 32 (z (ix2 k r)) := by
  unfold k0_pay1
  pointwise []

theorem o4_at (r : Fin 256) (k : Fin 128) : out0_4 (F := Ideal) x0 x1 x2 (ix2 r k) =
   GT (SC x0 x1 x2 (lo ⟨k.val / 16, by omega⟩)) (SC x0 x1 x2 (hi ⟨k.val / 16, by omega⟩)) (ix2 ⟨k.val % 16, by omega⟩ r) := by
  rw [out4_eq, canon18]
  have h := concatenate_ofFn_apply (t := S128x256) (s₁ := S16x256) 0 (fun h : Fin 8 => GT (SC x0 x1 x2 (lo h)) (SC x0 x1 x2 (hi h))) (gtC x0 x1 x2)
    rfl 16 rfl (ix2 k r) ⟨k.val / 16, by omega⟩ rfl (ix2 ⟨k.val % 16, by omega⟩ r) rfl
    (by intro b hb; match b, hb with
      | ⟨0, _⟩, hb => exact absurd rfl hb
      | ⟨1, _⟩, _ => rfl)
  exact (tr_at _ r k).trans h

theorem o3_at (r : Fin 256) (k : Fin 128) : out0_3 (F := Ideal) x0 x1 x2 (ix2 r k) =
   FloatOps.fptosi 32 (pk (SC x0 x1 x2 (lo ⟨k.val / 16, by omega⟩)) (SC x0 x1 x2 (hi ⟨k.val / 16, by omega⟩)) (k.val % 16) (ix2 0 r)) := by
  rw [out3_eq, canon18]
  have h := concatenate_ofFn_unit_apply (t := S128x256) (s₁ := S1x256) 0 (fun j : Fin 128 =>
    pk (SC x0 x1 x2 (lo ⟨j.val / 16, by omega⟩)) (SC x0 x1 x2 (hi ⟨j.val / 16, by omega⟩)) (j.val % 16)) (idC x0 x1 x2)
    rfl rfl (ix2 k r) k rfl (ix2 0 r)
    (by intro b hb; match b, hb with
      | ⟨0, _⟩, hb => exact absurd rfl hb
      | ⟨1, _⟩, _ => rfl)
  exact (pay1_at _ r k).trans (congrArg (FloatOps.fptosi (F := Ideal) (φ := .f32) 32) h)

theorem GT_at (x y : FVec Ideal S128x256 .f32) (t : Fin 16) (c : Fin 256) : GT x y (ix2 t c) =
    Ideal.div (Ideal.exp (mxB (SB x y t) (ix2 0 c) - mxB (SB x y 0) (ix2 0 c)))
      (∑ k : Fin 16, Ideal.exp (mxB (SB x y k) (ix2 0 c) - mxB (SB x y 0) (ix2 0 c))) := by
  unfold GT SM EX VM
  pointwise [cat16_at]

end Cert.Mla.Rt

end
-- ==== Proof.RtPay.lean ====
/- The routing kernel's blocks of the arguments, and its two output blocks as the reference's functions of them. -/
module

public import proofs.«01_k».proof.Proof.RtRef2
public import proofs.«01_k».proof.Proof.RtBlk
public import proofs.«01_k».proof.Proof.PreFin
public import proofs.«01_k».proof.Pre_finite_route
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.Mla.Rt

open Cert.RouteIdeal Cert.RouteIdeal.Gen

theorem a0 (V : Valuation τ sig (Elt Ideal)) (J : Fin 16) (n : Fin 128) (e : Fin 64) : (StableHlo.after (hostOps0 (F := Ideal)) V (Proc.devRef .tc main_v0) : FVec Ideal S16x128x64 .f32) (ix3 J n e)
    = (V (Proc.devRef .tc main_arg2) : FVec Ideal S8x2x128x64 .f32) (ix4 ⟨J.val / 2, by omega⟩ ⟨J.val % 2, by omega⟩ n e) := by
  after_reads_simp; pointwise []
  all_goals blk_ext

theorem a1 (V : Valuation τ sig (Elt Ideal)) (k i : Fin 1024) : (StableHlo.after (hostOps0 (F := Ideal)) V (Proc.devRef .tc main_v1) : FVec Ideal S1024x1024 .f32) (ix2 k i)
    = (V (Proc.devRef .tc main_arg1) : FVec Ideal S1024x1024 .f32) (ix2 i k) := by
  after_reads_simp; pointwise []

section
variable (m : (ℓ : Loc nD τ sig) → Buf (Elt Ideal) ℓ) (c : Dev nD)

abbrev arg0 : FVec Ideal S16384x1024 .f32 := m ((c : Thread nD τ).loc main_arg0)
abbrev arg1 : FVec Ideal S1024x1024 .f32 := m ((c : Thread nD τ).loc main_arg1)
abbrev arg2 : FVec Ideal S8x2x128x64 .f32 := m ((c : Thread nD τ).loc main_arg2)

theorem idx : ∀ t : Fin cfg0.N, win0_0.index t = ![t.val, 0] ∧ win0_1.index t = ![0, 0]
    ∧ win0_2.index t = ![0, 0, 0] ∧ win0_3.index t = ![t.val, 0] ∧ win0_4.index t = ![t.val, 0] :=
  (by decide +kernel : ∀ t : Fin grid0.N, _)

theorem b0 (t : Fin cfg0.N) (r : Fin 256) (k : Fin 1024) (R : Fin 16384) (hR : R.val = t.val * 256 + r.val) :
    (iblk m c 0 t : FVec Ideal S256x1024 .f32) (ix2 r k) = arg0 m c (ix2 R k) := by
  obtain ⟨e, -⟩ := idx t
  refine Eq.trans ?_ (congrFun (V_main_arg0 m c) (ix2 R k))
  blk_ext [iblk, e]

theorem b1 (t : Fin cfg0.N) (k i : Fin 1024) :
    (iblk m c 1 t : FVec Ideal S1024x1024 .f32) (ix2 k i) = arg1 m c (ix2 i k) := by
  obtain ⟨-, h, -⟩ := idx t
  refine Eq.trans ?_ (a1 (fun b => m (c, b)) k i)
  blk_ext [iblk, h]

theorem b2 (t : Fin cfg0.N) (J : Fin 16) (n : Fin 128) (e : Fin 64) :
    (iblk m c 2 t : FVec Ideal S16x128x64 .f32) (ix3 J n e) = arg2 m c (ix4 ⟨J.val / 2, by omega⟩ ⟨J.val % 2, by omega⟩ n e) := by
  obtain ⟨-, -, h, -⟩ := idx t
  refine Eq.trans ?_ (a0 (fun b => m (c, b)) J n e)
  blk_ext [iblk, h]

theorem score_S (t : Fin cfg0.N) (r : Fin 256) (R : Fin 16384) (hR : R.val = t.val * 256 + r.val) (J : Fin 16) (h : Fin 8) (l : Fin 2)
    (hJ : J.val = 2 * h.val + l.val) (n : Fin 128) :
    score (iblk m c 0 t) (iblk m c 1 t) (iblk m c 2 t) J n r = RtRef.S (arg0 m c) (arg1 m c) (arg2 m c) R h l n := by
  unfold score RtRef.S
  refine Finset.sum_congr rfl fun e _ => ?_
  have e1 : (⟨J.val / 2, by omega⟩ : Fin 8) = h := Fin.ext (by show J.val / 2 = h.val; omega)
  have e2 : (⟨J.val % 2, by omega⟩ : Fin 2) = l := Fin.ext (by show J.val % 2 = l.val; omega)
  refine congr (congrArg HMul.hMul ((b2 m c t J n e).trans ?_)) (Finset.sum_congr rfl fun d _ => ?_)
  · rw [e1, e2]
  · refine (congrArg₂ (fun a b : EReal => a * b) (b1 m c t _ d) (b0 m c t r d R hR)).trans ((mul_comm _ _).trans ?_)
    refine congrArg (fun k => arg0 m c (ix2 R d) * arg1 m c (ix2 d k)) (Fin.ext ?_)
    show 64 * J.val + e.val = (2 * h.val + l.val) * 64 + e.val
    omega

theorem col_lo (t : Fin cfg0.N) (r : Fin 256) (R : Fin 16384) (hR : R.val = t.val * 256 + r.val) (h : Fin 8) :
    cl (SC (iblk m c 0 t) (iblk m c 1 t) (iblk m c 2 t) (lo h)) r = RtRef.S (arg0 m c) (arg1 m c) (arg2 m c) R h 0 :=
  funext fun n => (sc_at _ _ _ (lo h) n r).trans (score_S m c t r R hR (lo h) h 0 rfl n)

theorem col_hi (t : Fin cfg0.N) (r : Fin 256) (R : Fin 16384) (hR : R.val = t.val * 256 + r.val) (h : Fin 8) :
    cl (SC (iblk m c 0 t) (iblk m c 1 t) (iblk m c 2 t) (hi h)) r = RtRef.S (arg0 m c) (arg1 m c) (arg2 m c) R h 1 :=
  funext fun n => (sc_at _ _ _ (hi h) n r).trans (score_S m c t r R hR (hi h) h 1 rfl n)
end

theorem fpt (n : ℕ) (hn : n < 32768) : (FloatOps.fptosi (F := Ideal) (φ := .f32) 32 (((n : ℝ) : EReal)) : BitVec 32) = BitVec.ofNat 32 n := by
  show BitVec.ofInt 32 (max (-(2 ^ (32 - 1) : Nat)) (min ((2 ^ (32 - 1) : Nat) - 1) (if (0 : ℝ) ≤ (n : ℝ) then ⌊(n : ℝ)⌋ else ⌈(n : ℝ)⌉))) = _
  rw [if_pos (Nat.cast_nonneg n), Int.floor_natCast, min_eq_right (by norm_num <;> omega), max_eq_right (by norm_num <;> omega)]
  exact BitVec.ofInt_natCast _ _

/-- The identities of a row, all heads side by side. -/
def ids (x0 : FVec Ideal S16384x1024 .f32) (x1 : FVec Ideal S1024x1024 .f32) (x2 : FVec Ideal S8x2x128x64 .f32) (i : Fin 16384) (k : Fin 128) : BitVec 32 :=
  BitVec.ofNat 32 (RtRef.ident (RtRef.S x0 x1 x2 i ⟨k.val / 16, by omega⟩ 0) (RtRef.S x0 x1 x2 i ⟨k.val / 16, by omega⟩ 1) ⟨k.val % 16, by omega⟩)

/-- The weights of a row, all heads side by side. -/
def gts (x0 : FVec Ideal S16384x1024 .f32) (x1 : FVec Ideal S1024x1024 .f32) (x2 : FVec Ideal S8x2x128x64 .f32) (i : Fin 16384) (k : Fin 128) : EReal :=
  RtRef.gate (RtRef.S x0 x1 x2 i ⟨k.val / 16, by omega⟩ 0) (RtRef.S x0 x1 x2 i ⟨k.val / 16, by omega⟩ 1) ⟨k.val % 16, by omega⟩

theorem pk_ident (x y : FVec Ideal S128x256 .f32) (r : Fin 256) (u v : Fin 128 → EReal) (hu : cl x r = u) (hv : cl y r = v)
    (fu : ∀ n, Fin' (u n)) (fv : ∀ n, Fin' (v n)) (t : Fin 16) :
    FloatOps.fptosi (F := Ideal) (φ := .f32) 32 (pk x y t.val (ix2 0 r)) = BitVec.ofNat 32 (RtRef.ident u v t) := by
  subst hu hv
  have h := (head x y r fu fv t).2
  unfold RtRef.ident
  unfold pk
  rw [h]
  clear h
  generalize A (cl x r) (dv (P (cl x r) (cl y r) t)) = a
  generalize A (cl y r) (md (P (cl x r) (cl y r) t)) = b
  rw [← fpt (a.val * 128 + b.val) (by omega)]
  push_cast
  rfl

theorem GT_gate (x y : FVec Ideal S128x256 .f32) (r : Fin 256) (u v : Fin 128 → EReal) (hu : cl x r = u) (hv : cl y r = v)
    (fu : ∀ n, Fin' (u n)) (fv : ∀ n, Fin' (v n)) (t : Fin 16) : GT x y (ix2 t r) = RtRef.gate u v t := by
  subst hu hv
  have h := fun t => (head x y r fu fv t).1
  rw [GT_at]
  unfold RtRef.gate
  have h0 := h 0
  rw [h t, show mxB (SB x y 0) (ix2 0 r) = _ from h0]
  refine congrArg (Ideal.div _) (Finset.sum_congr rfl fun k _ => ?_)
  rw [h k]

section
variable (m : (ℓ : Loc nD τ sig) → Buf (Elt Ideal) ℓ) (c : Dev nD)
  (hS : ∀ i h l n, Fin' (RtRef.S (arg0 m c) (arg1 m c) (arg2 m c) i h l n))

include hS

theorem point3 (t : Fin cfg0.N) (r : Fin 256) (k : Fin 128) (R : Fin 16384) (hR : R.val = t.val * 256 + r.val) :
    out0_3 (F := Ideal) (iblk m c 0 t) (iblk m c 1 t) (iblk m c 2 t) (ix2 r k) = ids (arg0 m c) (arg1 m c) (arg2 m c) R k :=
  (o3_at _ _ _ r k).trans (pk_ident _ _ r _ _ (col_lo m c t r R hR _) (col_hi m c t r R hR _) (hS R _ 0) (hS R _ 1) ⟨k.val % 16, by omega⟩)

theorem point4 (t : Fin cfg0.N) (r : Fin 256) (k : Fin 128) (R : Fin 16384) (hR : R.val = t.val * 256 + r.val) :
    out0_4 (F := Ideal) (iblk m c 0 t) (iblk m c 1 t) (iblk m c 2 t) (ix2 r k) = gts (arg0 m c) (arg1 m c) (arg2 m c) R k :=
  (o4_at _ _ _ r k).trans (GT_gate _ _ r _ _ (col_lo m c t r R hR _) (col_hi m c t r R hR _) (hS R _ 0) (hS R _ 1) ⟨k.val % 16, by omega⟩)

end

/-- The side conditions the precondition states. -/
theorem facts : Cert.Pre_finite_route.Facts := by constructor <;> decide

/-- The precondition, read: every argument entry is a real number, so every score is. -/
theorem decode [Cert.Pre_finite_route.Facts] (x0 : FVec Ideal S16384x1024 .f32) (x1 : FVec Ideal S1024x1024 .f32) (x2 : FVec Ideal S8x2x128x64 .f32)
    (H : Cert.Pre_finite_route.fn x0 x1 x2 = fun _ => 1#1) (i : Fin 16384) (h : Fin 8) (l : Fin 2) (n : Fin 128) : Fin' (RtRef.S x0 x1 x2 i h l n) := by
  have g := congrFun H ix0
  dsimp only [Cert.Pre_finite_route.fn] at g
  have e2 := Pre.all_fin _ _ _ _ _ _ (Pre.and_right g); replace g := Pre.and_left g
  have e1 := Pre.all_fin _ _ _ _ _ _ (Pre.and_right g)
  have e0 := Pre.all_fin _ _ _ _ _ _ (Pre.and_left g)
  unfold RtRef.S
  exact Fin'.sum fun e => Fin'.mul (e2 _) (Fin'.sum fun d => Fin'.mul (e0 _) (e1 _))

end Cert.Mla.Rt

end
-- ==== Proof.RtVal.lean ====
/- The routing: the kernel's two arrays are the reference's, and the claims about the two programs. -/
module

public import proofs.«01_k».proof.Defs
public import proofs.«01_k».proof.Proof.RtPay
public import proofs.«01_k».proof.Proof.Gen.Route
public import proofs.«01_k».proof.Proof.Gen.Route.Frame
public import proofs.«01_k».proof.Proof.Gen.RouteIdeal
public import proofs.«01_k».proof.Proof.Gen.RouteIdeal.Value
public import proofs.«01_k».proof.Proof.Gen.RouteRefIdeal
public import proofs.«01_k».proof.Proof.Gen.RouteRefIdeal.Run
public import Idealize.ShloMosaic.Lib.Claim
public import Idealize.ShloMosaic.Adequacy
public import Idealize.ShloMosaic.Init

@[expose] public section

set_option maxRecDepth 16384
noncomputable section

open Idealize.ShloMosaic Idealize.ShloMosaic.TcCoe Idealize.SL.Sem
open Idealize.ShloMosaic.Pipeline (Dat)

namespace Cert.Mla.Rt

open Cert.RouteIdeal Cert.RouteIdeal.Gen

theorem congr2' {β : Type} {a b : ℕ} (f : Fin a → Fin b → β) {i i' : Fin a} {j j' : Fin b} (hi : i.val = i'.val) (hj : j.val = j'.val) : f i j = f i' j' := by
  rw [Fin.ext hi, Fin.ext hj]

section
variable (m : (ℓ : Loc nD τ sig) → Buf (Elt Ideal) ℓ) (c : Dev nD)
  (hS : ∀ i h l n, Fin' (RtRef.S (arg0 m c) (arg1 m c) (arg2 m c) i h l n))

include hS

theorem final3 : (dats m 0 c).arrAt 3 cfg0.N = fun i : S16384x128.Idx => ids (arg0 m c) (arg1 m c) (arg2 m c) (i 0) (i 1) := by
  refine (dats m 0 c).arrAt_eq_of_covers 3 _ (by decide +kernel) fun t _ y => ?_
  blk_simp
  rw [after0_3]
  have ht : t.val < 64 := t.isLt
  obtain ⟨-, -, -, e, -⟩ := idx t
  have hy0 : (y 0).val < 256 := (y 0).isLt
  have hy1 : (y 1).val < 128 := (y 1).isLt
  have hy : (y : S256x128.Idx) = ix2 ⟨(y 0).val, hy0⟩ ⟨(y 1).val, hy1⟩ := by blk_ext
  refine (congrArg _ hy).trans ((point3 m c hS t _ _ ⟨t.val * 256 + (y 0).val, by omega⟩ rfl).trans ?_)
  apply congr2' (ids (arg0 m c) (arg1 m c) (arg2 m c)) <;> blk_simp [e]

theorem final4 : (dats m 0 c).arrAt 4 cfg0.N = fun i : S16384x128.Idx => gts (arg0 m c) (arg1 m c) (arg2 m c) (i 0) (i 1) := by
  refine (dats m 0 c).arrAt_eq_of_covers 4 _ (by decide +kernel) fun t _ y => ?_
  blk_simp
  rw [after0_4]
  have ht : t.val < 64 := t.isLt
  obtain ⟨-, -, -, -, e⟩ := idx t
  have hy0 : (y 0).val < 256 := (y 0).isLt
  have hy1 : (y 1).val < 128 := (y 1).isLt
  have hy : (y : S256x128.Idx) = ix2 ⟨(y 0).val, hy0⟩ ⟨(y 1).val, hy1⟩ := by blk_ext
  refine (congrArg _ hy).trans ((point4 m c hS t _ _ ⟨t.val * 256 + (y 0).val, by omega⟩ rfl).trans ?_)
  apply congr2' (gts (arg0 m c) (arg1 m c) (arg2 m c)) <;> blk_simp [e]

end

section
variable (x0 : FVec Ideal S16384x1024 .f32) (x1 : FVec Ideal S1024x1024 .f32) (x2 : FVec Ideal S8x2x128x64 .f32)

theorem ref_ids : Cert.RouteRefIdeal.Read.val_main_v36 (F := Ideal) x0 x1 x2 = fun i : S16384x128.Idx => ids x0 x1 x2 (i 0) (i 1) := by
  funext i
  rw [eq_ix2 (n0 := 16384) (n1 := 128) i]
  exact (RtRef.v36_at x0 x1 x2 _ _).trans (RtRef.v24_at x0 x1 x2 _ _ _)

theorem ref_gts (hS : ∀ i h l n, Fin' (RtRef.S x0 x1 x2 i h l n)) :
    Cert.RouteRefIdeal.Read.val_main_v37 (F := Ideal) x0 x1 x2 = fun i : S16384x128.Idx => gts x0 x1 x2 (i 0) (i 1) := by
  funext i
  rw [eq_ix2 (n0 := 16384) (n1 := 128) i]
  exact (RtRef.v37_at x0 x1 x2 _ _).trans (RtRef.weight_at x0 x1 x2 _ _ _ fun p => fin_bot (Fin'.add (hS _ _ _ _) (hS _ _ _ _)))
end

theorem frame_P : Cert.quiescent_Route := fun m g _ => Cert.Route.Gen.frame m g

theorem frame_PI : Cert.quiescent_RouteIdeal := fun m g _ => Cert.RouteIdeal.Gen.frame m g

theorem frame_PI_finite [Cert.Pre_finite_route.Facts] : Cert.quiescent_RouteIdeal_pre_finite_route := fun m g _ => Cert.RouteIdeal.Gen.frame m g

theorem frame_RI : Cert.quiescent_RouteRefIdeal := by
  intro m g _
  run_from Cert.RouteRefIdeal.Value.run m g
  · exact fun c => ⟨trivial, trivial, trivial⟩
  · exact sem_eq_zero_of_no_sems (by decide) _

theorem frame_RI_finite [Cert.Pre_finite_route.Facts] : Cert.quiescent_RouteRefIdeal_pre_finite_route := fun m g _ => frame_RI m g trivial

theorem preserves : Cert.preserves_Route_RouteIdeal := by
  trivial

/-- On finite arguments the two programs end with the same two arrays. -/
theorem algebraic [Cert.Pre_finite_route.Facts] : Cert.algebraic_RouteIdeal_RouteRefIdeal_pre_finite_route := fun m g m' g' hpre hag => by
  have hS := fun c => decode _ _ _ (hpre c)
  refine ⟨fun c => (dats m 0 c).arrAt 3 cfg0.N, fun c => (dats m 0 c).arrAt 4 cfg0.N, Cert.RouteIdeal.Value.run_blocks m g, ?_⟩
  refine θ_run_mono (Cert.RouteRefIdeal.Value.run m' g') fun r h c => ?_
  obtain ⟨e0, e1, e2⟩ := hag c
  have k : ∀ (y0 : FVec Ideal S16384x1024 .f32) (y1 : FVec Ideal S1024x1024 .f32) (y2 : FVec Ideal S8x2x128x64 .f32),
      y0 = arg0 m c → y1 = arg1 m c → y2 = arg2 m c →
      Cert.RouteRefIdeal.Read.val_main_v36 (F := Ideal) y0 y1 y2 = (dats m 0 c).arrAt 3 cfg0.N
        ∧ Cert.RouteRefIdeal.Read.val_main_v37 (F := Ideal) y0 y1 y2 = (dats m 0 c).arrAt 4 cfg0.N := by
    rintro _ _ _ rfl rfl rfl
    exact ⟨(ref_ids _ _ _).trans (final3 m c (hS c)).symm, (ref_gts _ _ _ (hS c)).trans (final4 m c (hS c)).symm⟩
  have k' := k _ _ _ e0 e1 e2
  obtain ⟨h0, h1, h2⟩ := h c
  exact ⟨h0.trans ((Cert.RouteRefIdeal.Read.val_main_v36_eq _).trans k'.1), h1.trans ((Cert.RouteRefIdeal.Read.val_main_v37_eq _).trans k'.2), h2⟩

end Cert.Mla.Rt

end
-- ==== Proof.lean ====
/- The proof of the claim: the programs' frames, the named constant's statement, equal results of the attention on finite arguments, of six further calls (the two forms of the step after the mixer, the two of the step after the channel mixer, and the two layers' modulations) on all arguments, and of the routing on finite arguments. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Mixed
public import proofs.«01_k».proof.Proof.Gen.Mixed.Frame
public import proofs.«01_k».proof.Proof.Gen.MixedIdeal
public import proofs.«01_k».proof.Proof.Gen.MixedIdeal.Frame
public import proofs.«01_k».proof.Proof.Gen.MixedIdeal.Value
public import proofs.«01_k».proof.Proof.Gen.MixedRefIdeal
public import proofs.«01_k».proof.Proof.Gen.MixedRefIdeal.Run
public import proofs.«01_k».proof.Proof.Gen.MixedRefIdeal.Read
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import proofs.«01_k».proof.Proof.Gen.AdaA
public import proofs.«01_k».proof.Proof.Gen.AdaA.Frame
public import proofs.«01_k».proof.Proof.Gen.AdaAIdeal
public import proofs.«01_k».proof.Proof.Gen.AdaAIdeal.Frame
public import proofs.«01_k».proof.Proof.Gen.AdaAIdeal.Value
public import proofs.«01_k».proof.Proof.Gen.AdaARefIdeal
public import proofs.«01_k».proof.Proof.Gen.AdaARefIdeal.Run
public import proofs.«01_k».proof.Proof.Gen.AdaARefIdeal.Read
public import proofs.«01_k».proof.Proof.Gen.AdaB
public import proofs.«01_k».proof.Proof.Gen.AdaB.Frame
public import proofs.«01_k».proof.Proof.Gen.AdaBIdeal
public import proofs.«01_k».proof.Proof.Gen.AdaBIdeal.Frame
public import proofs.«01_k».proof.Proof.Gen.AdaBIdeal.Value
public import proofs.«01_k».proof.Proof.Gen.AdaBRefIdeal
public import proofs.«01_k».proof.Proof.Gen.AdaBRefIdeal.Run
public import proofs.«01_k».proof.Proof.Gen.AdaBRefIdeal.Read
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.Gen.RouteRefIdeal.Read
public import Idealize.ShloMosaic.Adequacy
public import Idealize.ShloMosaic.Init
public import Idealize.ShloMosaic.Lib.Claim
public import proofs.«01_k».proof.Proof.KernelRun
public import proofs.«01_k».proof.Proof.KernelVal
public import proofs.«01_k».proof.Proof.RefVal
public import proofs.«01_k».proof.Proof.PreFin
public import proofs.«01_k».proof.Proof.MixVal
public import proofs.«01_k».proof.Proof.GluVal
public import proofs.«01_k».proof.Proof.LastVal
public import proofs.«01_k».proof.Proof.FirstVal
public import proofs.«01_k».proof.Proof.AdaAVal
public import proofs.«01_k».proof.Proof.AdaBVal
public import proofs.«01_k».proof.Proof.RtVal

@[expose] public section

set_option maxRecDepth 16384

noncomputable section

namespace Cert.Proof

open Idealize.ShloMosaic Idealize.ShloMosaic.TcCoe Idealize.SL.Sem Cert.Mla

theorem frame_P : Cert.quiescent_Kernel := fun m g _ => Cert.Kernel.Gen.frame m g

theorem frame_PI : Cert.quiescent_KernelIdeal := fun m g _ => Cert.KernelIdeal.Gen.frame m g

theorem frame_PI_finite [Cert.Pre_finite.Facts] : Cert.quiescent_KernelIdeal_pre_finite := fun m g _ => Cert.KernelIdeal.Gen.frame m g

theorem frame_RI : Cert.quiescent_ReferenceIdeal := fun m g _ =>
  θ_run_mono (Ref.run m g) fun r h => ⟨fun c => by
    refine ⟨?_, ?_, ?_, ?_, ?_, ?_, ?_, ?_⟩ <;> exact (h c _).trans (Ref.kept (by decide) _), Ref.sem_zero _⟩

theorem frame_RI_finite [Cert.Pre_finite.Facts] : Cert.quiescent_ReferenceIdeal_pre_finite := fun m g _ => frame_RI m g trivial

theorem preserves : Cert.preserves_Kernel_KernelIdeal :=
  IdealRules.named_const.statement _ _ _ _ _ rfl

/-- The precondition gives finite arguments; the tables are finite anyway. -/
theorem finite [Cert.Pre_finite.Facts] (m : (ℓ : Loc Cert.KernelIdeal.nD Cert.KernelIdeal.τ Cert.KernelIdeal.sig) → Buf (Elt Ideal) ℓ)
    (H : Pre_KernelIdeal_finite m) (c : Dev Cert.KernelIdeal.nD) : FinA (Host.argsOf m c) := by
  obtain ⟨h0, h1, h2, h3, h4, h5, h6, h7⟩ := Pre.decode _ _ _ _ _ _ _ _ (H c)
  exact { X := fun r e => h0 _, M := fun r j e hr hj => h1 r j e hr hj, Wdq := fun e k => h2 _, qg := fun k => h3 _,
          Wuq := fun e k => h4 _, Wdkv := fun e k => h5 _, kg := fun k => h6 _, Wk := fun k h d => h7 k h d,
          C := fun l i => Fin'.tabC l i, S := fun l i => Fin'.tabS l i }

/-- The reference's arguments, of a memory that agrees with the kernel's. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (H : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : Ref.argsV (StableHlo.launchContents m' c) = Host.argsOf m c := by
  obtain ⟨h0, h1, h2, h3, h4, h5, h6, h7⟩ := H
  unfold Ref.argsV Host.argsOf
  congr 1 <;> (repeat (funext _)) <;> first
    | exact congrFun h0 _ | exact congrFun h1 _ | exact congrFun h2 _ | exact congrFun h3 _
    | exact congrFun h4 _ | exact congrFun h5 _ | exact congrFun h6 _ | exact congrFun h7 _

/-- On finite arguments the two programs end with the same array. -/
theorem algebraic [Cert.Pre_finite.Facts] : Cert.algebraic_KernelIdeal_ReferenceIdeal_pre_finite := fun m g m' g' hpre hag => by
  refine ⟨fun c => Cert.KernelIdeal.Gen.W7 m g c (Proc.devRef .tc Cert.KernelIdeal.main_v73), ?_, ?_⟩
  · refine θ_run_mono (Ker.run m g) fun r h c => ⟨h c _ (Cert.KernelIdeal.Gen.mem_uc Cert.KernelIdeal.main_v73 (by decide)), ?_, ?_, ?_, ?_, ?_, ?_, ?_, ?_⟩
    · exact (h c _ (Cert.KernelIdeal.Gen.mem_uc Cert.KernelIdeal.main_arg0 (by decide))).trans (Cert.KernelIdeal.Gen.W7_main_arg0 m g c)
    · exact (h c _ (Cert.KernelIdeal.Gen.mem_uc Cert.KernelIdeal.main_arg1 (by decide))).trans (Cert.KernelIdeal.Gen.W7_main_arg1 m g c)
    · exact (h c _ (Cert.KernelIdeal.Gen.mem_uc Cert.KernelIdeal.main_arg2 (by decide))).trans (Cert.KernelIdeal.Gen.W7_main_arg2 m g c)
    · exact (h c _ (Cert.KernelIdeal.Gen.mem_uc Cert.KernelIdeal.main_arg3 (by decide))).trans (Cert.KernelIdeal.Gen.W7_main_arg3 m g c)
    · exact (h c _ (Cert.KernelIdeal.Gen.mem_uc Cert.KernelIdeal.main_arg4 (by decide))).trans (Cert.KernelIdeal.Gen.W7_main_arg4 m g c)
    · exact (h c _ (Cert.KernelIdeal.Gen.mem_uc Cert.KernelIdeal.main_arg5 (by decide))).trans (Cert.KernelIdeal.Gen.W7_main_arg5 m g c)
    · exact (h c _ (Cert.KernelIdeal.Gen.mem_uc Cert.KernelIdeal.main_arg6 (by decide))).trans (Cert.KernelIdeal.Gen.W7_main_arg6 m g c)
    · exact (h c _ (Cert.KernelIdeal.Gen.mem_uc Cert.KernelIdeal.main_arg7 (by decide))).trans (Cert.KernelIdeal.Gen.W7_main_arg7 m g c)
  · refine θ_run_mono (Ref.run m' g') fun r h c => ⟨(h c _).trans ?_, ?_, ?_, ?_, ?_, ?_, ?_, ?_, ?_⟩
    · have ha := same_args m m' c (hag c)
      have hf : FinA (Ref.argsV (StableHlo.launchContents m' c)) := ha ▸ finite m hpre c
      refine funext fun i => ?_
      rw [eq_ix3 (n0 := 2) (n1 := 8192) (n2 := 1024) i]
      refine (Ref.out _ hf _ _ _).trans (.trans ?_ (Ker.value m g c (finite m hpre c) _ _ _).symm)
      rw [ha]
    all_goals exact (h c _).trans (Ref.kept (by decide) _)

theorem claim : Cert.Claim := ⟨Cert.Kernel.Gen.facts, Cert.KernelIdeal.Gen.facts, Cert.ReferenceIdeal.Gen.facts,
  Cert.Mixed.Gen.facts, Cert.MixedIdeal.Gen.facts, Cert.MixedRefIdeal.Gen.facts, Cert.Glu.Gen.facts, Cert.GluIdeal.Gen.facts, Cert.GluRefIdeal.Gen.facts,
  Cert.Last.Gen.facts, Cert.LastIdeal.Gen.facts, Cert.LastRefIdeal.Gen.facts,
  Cert.First.Gen.facts, Cert.FirstIdeal.Gen.facts, Cert.FirstRefIdeal.Gen.facts,
  Cert.AdaA.Gen.facts, Cert.AdaAIdeal.Gen.facts, Cert.AdaARefIdeal.Gen.facts,
  Cert.AdaB.Gen.facts, Cert.AdaBIdeal.Gen.facts, Cert.AdaBRefIdeal.Gen.facts,
  Cert.Route.Gen.facts, Cert.RouteIdeal.Gen.facts, Cert.RouteRefIdeal.Gen.facts,
  Pre.facts, Rt.facts,
  frame_P, frame_PI, @frame_PI_finite Pre.facts, frame_RI, @frame_RI_finite Pre.facts, Mix.frame_P, Mix.frame_PI, Mix.frame_RI, Glu.frame_P, Glu.frame_PI, Glu.frame_RI,
  Last.frame_P, Last.frame_PI, Last.frame_RI, First.frame_P, First.frame_PI, First.frame_RI, AdaA.frame_P, AdaA.frame_PI, AdaA.frame_RI, AdaB.frame_P, AdaB.frame_PI, AdaB.frame_RI,
  Rt.frame_P, Rt.frame_PI, @Rt.frame_PI_finite Rt.facts, Rt.frame_RI, @Rt.frame_RI_finite Rt.facts,
  preserves, @algebraic Pre.facts, Mix.preserves, Mix.algebraic, Glu.preserves, Glu.algebraic,
  Last.preserves, Last.algebraic, First.preserves, First.algebraic, AdaA.preserves, AdaA.algebraic, AdaB.preserves, AdaB.algebraic,
  Rt.preserves, @Rt.algebraic Rt.facts⟩

end Cert.Proof

end
